-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v129)) (v2 : (c : Dev Cert.KernelIdeal.nD) → Buf (Elt Ideal) ((c.tc : Thread Cert.KernelIdeal.nD Cert.KernelIdeal.τ).loc Cert.KernelIdeal.main_v131)) (v3 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_v131) = v2 c
          ∧ r.2.mem ((c.tc : Thread Cert.KernelIdeal.nD Cert.KernelIdeal.τ).loc Cert.KernelIdeal.main_v133) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_4)) (v2 : (c : Dev Cert.Kernel2Ideal.nD) → Buf (Elt Ideal) ((c.tc : Thread Cert.Kernel2Ideal.nD Cert.Kernel2Ideal.τ).loc Cert.Kernel2Ideal.main_v10)) (v3 : (c : Dev Cert.Kernel2Ideal.nD) → Buf (Elt Ideal) ((c.tc : Thread Cert.Kernel2Ideal.nD Cert.Kernel2Ideal.τ).loc Cert.Kernel2Ideal.main_v12)) (v4 : (c : Dev Cert.Kernel2Ideal.nD) → Buf (Elt Ideal) ((c.tc : Thread Cert.Kernel2Ideal.nD Cert.Kernel2Ideal.τ).loc Cert.Kernel2Ideal.main_v14)) (v5 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_4) = v1 c
          ∧ r.2.mem ((c.tc : Thread Cert.Kernel2Ideal.nD Cert.Kernel2Ideal.τ).loc Cert.Kernel2Ideal.main_v10) = v2 c
          ∧ r.2.mem ((c.tc : Thread Cert.Kernel2Ideal.nD Cert.Kernel2Ideal.τ).loc Cert.Kernel2Ideal.main_v12) = v3 c
          ∧ r.2.mem ((c.tc : Thread Cert.Kernel2Ideal.nD Cert.Kernel2Ideal.τ).loc Cert.Kernel2Ideal.main_v14) = v4 c
          ∧ r.2.mem ((c.tc : Thread Cert.Kernel2Ideal.nD Cert.Kernel2Ideal.τ).loc Cert.Kernel2Ideal.main_v16) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v36) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v28) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v25) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)) (v2 : (c : Dev Cert.Kernel7Ideal.nD) → Buf (Elt Ideal) ((c.tc : Thread Cert.Kernel7Ideal.nD Cert.Kernel7Ideal.τ).loc Cert.Kernel7Ideal.main_v22_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_v22_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v20)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v20) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v20)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v20) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v7_0)) (v1 : (c : Dev Cert.Kernel11Ideal.nD) → Buf (Elt Ideal) ((c.tc : Thread Cert.Kernel11Ideal.nD Cert.Kernel11Ideal.τ).loc Cert.Kernel11Ideal.main_v9)) (v2 : (c : Dev Cert.Kernel11Ideal.nD) → Buf (Elt Ideal) ((c.tc : Thread Cert.Kernel11Ideal.nD Cert.Kernel11Ideal.τ).loc Cert.Kernel11Ideal.main_v11)) (v3 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_0) = v0 c
          ∧ r.2.mem ((c.tc : Thread Cert.Kernel11Ideal.nD Cert.Kernel11Ideal.τ).loc Cert.Kernel11Ideal.main_v9) = v1 c
          ∧ r.2.mem ((c.tc : Thread Cert.Kernel11Ideal.nD Cert.Kernel11Ideal.τ).loc Cert.Kernel11Ideal.main_v11) = v2 c
          ∧ r.2.mem ((c.tc : Thread Cert.Kernel11Ideal.nD Cert.Kernel11Ideal.τ).loc Cert.Kernel11Ideal.main_v13) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v72) = v0 c
          ∧ r.2.mem ((c.tc : Thread Cert.Reference11Ideal.nD Cert.Reference11Ideal.τ).loc Cert.Reference11Ideal.main_v55) = v1 c
          ∧ r.2.mem ((c.tc : Thread Cert.Reference11Ideal.nD Cert.Reference11Ideal.τ).loc Cert.Reference11Ideal.main_v50) = v2 c
          ∧ r.2.mem ((c.tc : Thread Cert.Reference11Ideal.nD Cert.Reference11Ideal.τ).loc Cert.Reference11Ideal.main_v47) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part1 {F : FTy → Type} [FloatOps F] (main_arg4 : FVec F S8192x8x64 .f32) (main_v3 : IVec S_ 1) (main_v7 : IVec S_ 1) (main_v11 : IVec S_ 1) (main_v15 : IVec S_ 1) : IVec S_ 1 :=
  let main_v16 : FVec F S8192x8x64 .f32 := Host.absf main_arg4
  let main_cst_6 : FVec F S_ .f32 := constant S_ .f32 0x7F800000#32
  let main_v17 : FVec F S8192x8x64 .f32 := broadcastInDim S8192x8x64 ![] bcast_S_S8192x8x64 main_cst_6
  let main_v18 : IVec S8192x8x64 1 := cmpf .olt main_v16 main_v17
  let main_c_7 : IVec S_ 1 := constantI S_ 1 1#1
  let main_v19 : IVec S_ 1 := (fun x v => Host.reduce IntOp.andi x v reducesTo_S8192x8x64_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x8x64 .f32 := Host.absf main_arg1
  let main_cst_0 : FVec F S_ .f32 := constant S_ .f32 0x7F800000#32
  let main_v5 : FVec F S8192x8x64 .f32 := broadcastInDim S8192x8x64 ![] bcast_S_S8192x8x64 main_cst_0
  let main_v6 : IVec S8192x8x64 1 := cmpf .olt main_v4 main_v5
  let main_c_1 : IVec S_ 1 := constantI S_ 1 1#1
  let main_v7 : IVec S_ 1 := (fun x v => Host.reduce IntOp.andi x v reducesTo_S8192x8x64_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : FVec F S8192x8 .f32 := Host.absf main_arg3
  let main_cst_4 : FVec F S_ .f32 := constant S_ .f32 0x7F800000#32
  let main_v13 : FVec F S8192x8 .f32 := broadcastInDim S8192x8 ![] bcast_S_S8192x8 main_cst_4
  let main_v14 : IVec S8192x8 1 := cmpf .olt main_v12 main_v13
  let main_c_5 : IVec S_ 1 := constantI S_ 1 1#1
  let main_v15 : IVec S_ 1 := (fun x v => Host.reduce IntOp.andi x v reducesTo_S8192x8_S_d0_1 h_S_) main_v14 main_c_5
  fn_part1 (F := F) main_arg4 main_v3 main_v7 main_v11 main_v15
-- ==== Kernel.lean ====
abbrev S8192x8x64 : Shape := ⟨3, ![8192, 8, 64]⟩
abbrev S8192x8 : Shape := ⟨2, ![8192, 8]⟩
abbrev S_ : Shape := ⟨0, ![]⟩
abbrev S8192 : Shape := ⟨1, ![8192]⟩
abbrev S8x8192 : Shape := ⟨2, ![8, 8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192x64 : Shape := ⟨3, ![8, 8192, 64]⟩
abbrev S8x8192x10 : Shape := ⟨3, ![8, 8192, 10]⟩
abbrev S8x8192x74 : Shape := ⟨3, ![8, 8192, 74]⟩
abbrev S8x8192x128 : Shape := ⟨3, ![8, 8192, 128]⟩
abbrev S8x8192x9 : Shape := ⟨3, ![8, 8192, 9]⟩
abbrev S8x8192x73 : Shape := ⟨3, ![8, 8192, 73]⟩
abbrev S8x8192x3 : Shape := ⟨3, ![8, 8192, 3]⟩
abbrev S8x8192x67 : Shape := ⟨3, ![8, 8192, 67]⟩
abbrev S1x8192x128 : Shape := ⟨3, ![1, 8192, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 166
  | .vmem => 14
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S_, .f32⟩
  | 6 => ⟨S_, .f32⟩
  | 7 => ⟨S8192x8, .f32⟩
  | 8 => ⟨S8192, .i32⟩
  | 9 => ⟨S8x8192, .f32⟩
  | 10 => ⟨S8x8192x8192, .f32⟩
  | 11 => ⟨S_, .f32⟩
  | 12 => ⟨S8x8192x8192, .f32⟩
  | 13 => ⟨S8x8192x8192, .f32⟩
  | 14 => ⟨S8x8192x1, .f32⟩
  | 15 => ⟨S8x1x8192, .f32⟩
  | 16 => ⟨S8x8192x8192, .f32⟩
  | 17 => ⟨S8x8192x8192, .f32⟩
  | 18 => ⟨S8x8192x8192, .f32⟩
  | 19 => ⟨S8x8192x8192, .f32⟩
  | 20 => ⟨S1x1x8192, .i32⟩
  | 21 => ⟨S1x8192x1, .i32⟩
  | 22 => ⟨S1x8192x8192, .i32⟩
  | 23 => ⟨S1x8192x8192, .i32⟩
  | 24 => ⟨S1x8192x8192, .i1⟩
  | 25 => ⟨S_, .f32⟩
  | 26 => ⟨S_, .f32⟩
  | 27 => ⟨S8x8192x8192, .i1⟩
  | 28 => ⟨S8x8192x8192, .f32⟩
  | 29 => ⟨S8x8192x8192, .f32⟩
  | 30 => ⟨S_, .f32⟩
  | 31 => ⟨S8x8192, .f32⟩
  | 32 => ⟨S8x8192x1, .f32⟩
  | 33 => ⟨S8x8192x8192, .f32⟩
  | 34 => ⟨S8x8192x8192, .f32⟩
  | 35 => ⟨S8x8192x8192, .f32⟩
  | 36 => ⟨S_, .f32⟩
  | 37 => ⟨S8x8192, .f32⟩
  | 38 => ⟨S8x8192x1, .f32⟩
  | 39 => ⟨S8x8192x8192, .f32⟩
  | 40 => ⟨S8x8192x8192, .f32⟩
  | 41 => ⟨S8x8192x64, .f32⟩
  | 42 => ⟨S8x8192x1, .f32⟩
  | 43 => ⟨S8x8192x1, .f32⟩
  | 44 => ⟨S8x8192, .f32⟩
  | 45 => ⟨S8x8192x64, .f32⟩
  | 46 => ⟨S8x8192x64, .f32⟩
  | 47 => ⟨S8x8192x64, .f32⟩
  | 48 => ⟨S8x8192x64, .f32⟩
  | 49 => ⟨S8x8192x64, .f32⟩
  | 50 => ⟨S_, .f32⟩
  | 51 => ⟨S8x8192, .f32⟩
  | 52 => ⟨S_, .f32⟩
  | 53 => ⟨S_, .f32⟩
  | 54 => ⟨S_, .f32⟩
  | 55 => ⟨S_, .f32⟩
  | 56 => ⟨S_, .f32⟩
  | 57 => ⟨S8x8192, .f32⟩
  | 58 => ⟨S8x8192, .f32⟩
  | 59 => ⟨S8x8192, .f32⟩
  | 60 => ⟨S8x8192, .f32⟩
  | 61 => ⟨S8x8192, .bf16⟩
  | 62 => ⟨S8x8192, .f32⟩
  | 63 => ⟨S8x8192, .f32⟩
  | 64 => ⟨S8x8192, .bf16⟩
  | 65 => ⟨S8x8192, .f32⟩
  | 66 => ⟨S8x8192, .f32⟩
  | 67 => ⟨S_, .f32⟩
  | 68 => ⟨S_, .f32⟩
  | 69 => ⟨S8x8192x64, .f32⟩
  | 70 => ⟨S8x8192x64, .f32⟩
  | 71 => ⟨S8x8192, .f32⟩
  | 72 => ⟨S8x8192, .f32⟩
  | 73 => ⟨S8x8192, .bf16⟩
  | 74 => ⟨S8x8192, .f32⟩
  | 75 => ⟨S8x8192, .f32⟩
  | 76 => ⟨S8x8192, .bf16⟩
  | 77 => ⟨S8x8192, .f32⟩
  | 78 => ⟨S8x8192, .f32⟩
  | 79 => ⟨S8x8192, .f32⟩
  | 80 => ⟨S8x8192, .f32⟩
  | 81 => ⟨S8x8192, .f32⟩
  | 82 => ⟨S8x8192x1, .f32⟩
  | 83 => ⟨S8x8192x1, .f32⟩
  | 84 => ⟨S8x8192x1, .f32⟩
  | 85 => ⟨S8x8192x1, .f32⟩
  | 86 => ⟨S8x8192x1, .f32⟩
  | 87 => ⟨S8x8192x1, .f32⟩
  | 88 => ⟨S8x8192x1, .f32⟩
  | 89 => ⟨S8x8192x1, .f32⟩
  | 90 => ⟨S8x8192x1, .f32⟩
  | 91 => ⟨S8x8192x1, .f32⟩
  | 92 => ⟨S8x8192x10, .f32⟩
  | 93 => ⟨S8x8192x74, .f32⟩
  | 94 => ⟨S_, .i32⟩
  | 95 => ⟨S_, .f32⟩
  | 96 => ⟨S8x8192x128, .f32⟩
  | 97 => ⟨S8x8192x128, .bf16⟩
  | 98 => ⟨S8x8192, .f32⟩
  | 99 => ⟨S8x8192, .f32⟩
  | 100 => ⟨S8x8192, .f32⟩
  | 101 => ⟨S8x8192x1, .f32⟩
  | 102 => ⟨S8x8192x1, .f32⟩
  | 103 => ⟨S8x8192x1, .f32⟩
  | 104 => ⟨S8x8192x1, .f32⟩
  | 105 => ⟨S8x8192x1, .f32⟩
  | 106 => ⟨S8x8192x1, .f32⟩
  | 107 => ⟨S8x8192x1, .f32⟩
  | 108 => ⟨S8x8192x1, .f32⟩
  | 109 => ⟨S8x8192x1, .f32⟩
  | 110 => ⟨S8x8192x9, .f32⟩
  | 111 => ⟨S8x8192x73, .f32⟩
  | 112 => ⟨S_, .i32⟩
  | 113 => ⟨S_, .f32⟩
  | 114 => ⟨S8x8192x128, .f32⟩
  | 115 => ⟨S8x8192x128, .bf16⟩
  | 116 => ⟨S8x8192x1, .f32⟩
  | 117 => ⟨S8x8192x1, .f32⟩
  | 118 => ⟨S8x8192x1, .f32⟩
  | 119 => ⟨S8x8192x3, .f32⟩
  | 120 => ⟨S8x8192x67, .f32⟩
  | 121 => ⟨S_, .i32⟩
  | 122 => ⟨S_, .f32⟩
  | 123 => ⟨S8x8192x128, .f32⟩
  | 124 => ⟨S8x8192x128, .bf16⟩
  | 125 => ⟨S8x8192, .bf16⟩
  | 126 => ⟨S8x8192, .f32⟩
  | 127 => ⟨S8x8192, .f32⟩
  | _ => ⟨S8192x8x64, .f32⟩

abbrev hbmTy0_1 (i : Nat) : BufTy := match i % 128 with
  | 0 => ⟨S8x8192, .bf16⟩
  | 1 => ⟨S8x8192, .f32⟩
  | 2 => ⟨S8x8192, .f32⟩
  | 3 => ⟨S8x8192, .f32⟩
  | 4 => ⟨S8x8192, .f32⟩
  | 5 => ⟨S8x8192, .f32⟩
  | 6 => ⟨S8x8192x1, .f32⟩
  | 7 => ⟨S8x8192x1, .f32⟩
  | 8 => ⟨S8x8192x1, .f32⟩
  | 9 => ⟨S8x8192x3, .f32⟩
  | 10 => ⟨S8x8192x67, .f32⟩
  | 11 => ⟨S_, .i32⟩
  | 12 => ⟨S_, .f32⟩
  | 13 => ⟨S8x8192x128, .f32⟩
  | 14 => ⟨S8x8192x128, .bf16⟩
  | 15 => ⟨S8x8192x128, .f32⟩
  | 16 => ⟨S8x8192x128, .f32⟩
  | 17 => ⟨S8x8192x128, .f32⟩
  | 18 => ⟨S8x8192x1, .f32⟩
  | 19 => ⟨S8x8192, .f32⟩
  | 20 => ⟨S8x8192x1, .f32⟩
  | 21 => ⟨S8x8192, .f32⟩
  | 22 => ⟨S8x8192, .f32⟩
  | 23 => ⟨S8x8192x64, .f32⟩
  | 24 => ⟨S8192x8x64, .f32⟩
  | 25 => ⟨S_, .f32⟩
  | 26 => ⟨S8192x8x64, .f32⟩
  | 27 => ⟨S8192x8x64, .f32⟩
  | 28 => ⟨S8x8192x64, .f32⟩
  | 29 => ⟨S8192x8x64, .f32⟩
  | 30 => ⟨S8192x8x64, .f32⟩
  | 31 => ⟨S8192x8x64, .f32⟩
  | 32 => ⟨S8x8192x64, .f32⟩
  | 33 => ⟨S8192x8x64, .f32⟩
  | 34 => ⟨S8192x8, .f32⟩
  | 35 => ⟨S_, .f32⟩
  | 36 => ⟨S_, .f32⟩
  | 37 => ⟨S8192x8, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x8192x128, .f32⟩
  | .local _ .vmem, ⟨9, _⟩ => ⟨S1x8192x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c : Ref sig .tc := ⟨.hbm, 94, rfl⟩
abbrev main_call2_v0 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_8 : Ref sig .tc := ⟨.hbm, 112, rfl⟩
abbrev main_call3_v0 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_c_9 : Ref sig .tc := ⟨.hbm, 121, rfl⟩
abbrev main_call4_v0 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_c_10 : Ref sig .tc := ⟨.hbm, 139, rfl⟩
abbrev main_call5_v0 : Ref sig .tc := ⟨.hbm, 140, rfl⟩
abbrev main_v114 : Ref sig .tc := ⟨.hbm, 141, rfl⟩
abbrev main_v115 : Ref sig .tc := ⟨.hbm, 142, rfl⟩
abbrev main_v116_0 : Ref sig .tc := ⟨.hbm, 143, rfl⟩
abbrev main_v116_1 : Ref sig .tc := ⟨.hbm, 144, rfl⟩
abbrev main_v116_2 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_11 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_call6_cst : Ref sig .tc := ⟨.hbm, 163, rfl⟩
abbrev main_call6_v0 : Ref sig .tc := ⟨.hbm, 164, rfl⟩
abbrev main_v133 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_7 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_8 : Index := 0#32
  ![0, v11.toNat, 0]
@[reducible] def k0_t1_loop (i : grid0.Coords) : Scf.Loop 32 :=
  let c0_i32_27 : BitVec 32 := 0#32
  let c16_i32 : BitVec 32 := 16#32
  let arg1 : BitVec 32 := BitVec.ofNat 32 (i 1).val
  let c1_i32 : BitVec 32 := 1#32
  let v41 : BitVec 32 := Scalar.addi arg1 c1_i32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_29 : BitVec 32 := 1#32
  ⟨c0_i32_27, v64, c1_i32_29⟩
def k0_mult2 (i : grid0.Coords) (k0_t1 : Fin (k0_t1_loop i).trips) : BitVec 32 :=
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c1_i32_29 : BitVec 32 := 1#32
  let arg9 : BitVec 32 := Scf.iv c0_i32_27 c1_i32_29 k0_t1
  let v100 : BitVec 32 := Scalar.muli c2_i32_50 arg9
  let v101 : BitVec 32 := Scalar.addi v41 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off2 (i : grid0.Coords) (k0_t1 : Fin (k0_t1_loop i).trips) (c0_i32_51 : BitVec 32) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c1_i32_29 : BitVec 32 := 1#32
  let arg9 : BitVec 32 := Scf.iv c0_i32_27 c1_i32_29 k0_t1
  let v100 : BitVec 32 := Scalar.muli c2_i32_50 arg9
  let v101 : BitVec 32 := Scalar.addi v41 v100
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
def k0_mult3 (i : grid0.Coords) (k0_t1 : Fin (k0_t1_loop i).trips) : BitVec 32 :=
  let arg1 : BitVec 32 := BitVec.ofNat 32 (i 1).val
  let c1_i32 : BitVec 32 := 1#32
  let v41 : BitVec 32 := Scalar.addi arg1 c1_i32
  let c2_i32_66 : BitVec 32 := 2#32
  let c0_i32_27 : BitVec 32 := 0#32
  let c1_i32_29 : BitVec 32 := 1#32
  let arg9 : BitVec 32 := Scf.iv c0_i32_27 c1_i32_29 k0_t1
  let v130 : BitVec 32 := Scalar.muli c2_i32_66 arg9
  let v131 : BitVec 32 := Scalar.addi v41 v130
  let c1_i32_67 : BitVec 32 := 1#32
  let v132 : BitVec 32 := Scalar.addi v131 c1_i32_67
  let c512_i32_68 : BitVec 32 := 512#32
  let v133 : BitVec 32 := Scalar.muli v132 c512_i32_68
  v133
@[reducible] def k0_t2_loop (i : grid0.Coords) : Scf.Loop 32 :=
  let c0_i32_27 : BitVec 32 := 0#32
  let c16_i32 : BitVec 32 := 16#32
  let arg1 : BitVec 32 := BitVec.ofNat 32 (i 1).val
  let c1_i32 : BitVec 32 := 1#32
  let v41 : BitVec 32 := Scalar.addi arg1 c1_i32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let v61 : BitVec 32 := Scalar.addi c0_i32_27 v60
  let c1_i32_30 : BitVec 32 := 1#32
  ⟨v64, v61, c1_i32_30⟩
def k0_mult4 (i : grid0.Coords) (k0_t2 : Fin (k0_t2_loop i).trips) : BitVec 32 :=
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg9 : BitVec 32 := Scf.iv v64 c1_i32_30 k0_t2
  let v100 : BitVec 32 := Scalar.muli c2_i32_50 arg9
  let v101 : BitVec 32 := Scalar.addi v41 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off3 (i : grid0.Coords) (k0_t2 : Fin (k0_t2_loop i).trips) (c0_i32_51 : BitVec 32) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_50 : BitVec 32 := 2#32
  let c0_i32_27 : BitVec 32 := 0#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg9 : BitVec 32 := Scf.iv v64 c1_i32_30 k0_t2
  let v100 : BitVec 32 := Scalar.muli c2_i32_50 arg9
  let v101 : BitVec 32 := Scalar.addi v41 v100
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
def k0_mult5 (i : grid0.Coords) (k0_t2 : Fin (k0_t2_loop i).trips) : BitVec 32 :=
  let arg1 : BitVec 32 := BitVec.ofNat 32 (i 1).val
  let c1_i32 : BitVec 32 := 1#32
  let v41 : BitVec 32 := Scalar.addi arg1 c1_i32
  let c2_i32_66 : BitVec 32 := 2#32
  let c0_i32_27 : BitVec 32 := 0#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v60 : BitVec 32 := Scalar.subi v59 c0_i32_27
  let c1_i32_28 : BitVec 32 := 1#32
  let v62 : BitVec 32 := Scalar.divsi v60 c1_i32_28
  let v63 : BitVec 32 := Scalar.muli v62 c1_i32_28
  let v64 : BitVec 32 := Scalar.addi c0_i32_27 v63
  let c1_i32_30 : BitVec 32 := 1#32
  let arg9 : BitVec 32 := Scf.iv v64 c1_i32_30 k0_t2
  let v130 : BitVec 32 := Scalar.muli c2_i32_66 arg9
  let v131 : BitVec 32 := Scalar.addi v41 v130
  let c1_i32_67 : BitVec 32 := 1#32
  let v132 : BitVec 32 := Scalar.addi v131 c1_i32_67
  let c512_i32_68 : BitVec 32 := 512#32
  let v133 : BitVec 32 := Scalar.muli v132 c512_i32_68
  v133
@[reducible] def k0_t3_loop (i : grid0.Coords) : Scf.Loop 32 :=
  let c0_i32_40 : BitVec 32 := 0#32
  let c16_i32_32 : BitVec 32 := 16#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_42 : BitVec 32 := 1#32
  ⟨c0_i32_40, v91, c1_i32_42⟩
def k0_mult6 (i : grid0.Coords) (k0_t3 : Fin (k0_t3_loop i).trips) : BitVec 32 :=
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c1_i32_42 : BitVec 32 := 1#32
  let arg9 : BitVec 32 := Scf.iv c0_i32_40 c1_i32_42 k0_t3
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off4 (i : grid0.Coords) (k0_t3 : Fin (k0_t3_loop i).trips) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c1_i32_42 : BitVec 32 := 1#32
  let arg9 : BitVec 32 := Scf.iv c0_i32_40 c1_i32_42 k0_t3
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
@[reducible] def k0_t4_loop (i : grid0.Coords) : Scf.Loop 32 :=
  let c0_i32_40 : BitVec 32 := 0#32
  let c16_i32_32 : BitVec 32 := 16#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let v88 : BitVec 32 := Scalar.addi c0_i32_40 v87
  let c1_i32_43 : BitVec 32 := 1#32
  ⟨v91, v88, c1_i32_43⟩
def k0_mult7 (i : grid0.Coords) (k0_t4 : Fin (k0_t4_loop i).trips) : BitVec 32 :=
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c16_i32_32 : BitVec 32 := 16#32
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg9 : BitVec 32 := Scf.iv v91 c1_i32_43 k0_t4
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  v103
def k0_off5 (i : grid0.Coords) (k0_t4 : Fin (k0_t4_loop i).trips) : Fin 3 → Nat :=
  let c0_53 : Index := 0#32
  let arg1 : BitVec 32 := BitVec.ofNat 32 (i 1).val
  let c1_i32 : BitVec 32 := 1#32
  let v41 : BitVec 32 := Scalar.addi arg1 c1_i32
  let c2_i32_31 : BitVec 32 := 2#32
  let c16_i32 : BitVec 32 := 16#32
  let v42 : BitVec 32 := Scalar.subi c16_i32 v41
  let c0_i32_21 : BitVec 32 := 0#32
  let v44 : BitVec 1 := Scalar.cmpi .sgt v42 c0_i32_21
  let v45 : BitVec 32 := Scalar.extui v44
  let c0_i32_22 : BitVec 32 := 0#32
  let v46 : BitVec 1 := Scalar.cmpi .slt v42 c0_i32_22
  let v47 : BitVec 32 := Scalar.extui v46
  let v48 : BitVec 32 := Scalar.subi v45 v47
  let c2_i32 : BitVec 32 := 2#32
  let c0_i32_23 : BitVec 32 := 0#32
  let v49 : BitVec 1 := Scalar.cmpi .sgt c2_i32 c0_i32_23
  let v50 : BitVec 32 := Scalar.extui v49
  let c0_i32_24 : BitVec 32 := 0#32
  let v51 : BitVec 1 := Scalar.cmpi .slt c2_i32 c0_i32_24
  let v52 : BitVec 32 := Scalar.extui v51
  let v53 : BitVec 32 := Scalar.subi v50 v52
  let v54 : BitVec 1 := Scalar.cmpi .ne v48 v53
  let v55 : BitVec 32 := Scalar.remsi v42 c2_i32
  let c0_i32_25 : BitVec 32 := 0#32
  let v56 : BitVec 1 := Scalar.cmpi .ne v55 c0_i32_25
  let v57 : BitVec 1 := Scalar.andi v54 v56
  let v43 : BitVec 32 := Scalar.divsi v42 c2_i32
  let c1_i32_26 : BitVec 32 := 1#32
  let v58 : BitVec 32 := Scalar.subi v43 c1_i32_26
  let v59 : BitVec 32 := Scalar.select v57 v58 v43
  let v67 : BitVec 32 := Scalar.muli c2_i32_31 v59
  let v68 : BitVec 32 := Scalar.addi v41 v67
  let c1_i32_50 : BitVec 32 := 1#32
  let c0_i32_40 : BitVec 32 := 0#32
  let c16_i32_32 : BitVec 32 := 16#32
  let v69 : BitVec 32 := Scalar.subi c16_i32_32 v68
  let c0_i32_34 : BitVec 32 := 0#32
  let v71 : BitVec 1 := Scalar.cmpi .sgt v69 c0_i32_34
  let v72 : BitVec 32 := Scalar.extui v71
  let c0_i32_35 : BitVec 32 := 0#32
  let v73 : BitVec 1 := Scalar.cmpi .slt v69 c0_i32_35
  let v74 : BitVec 32 := Scalar.extui v73
  let v75 : BitVec 32 := Scalar.subi v72 v74
  let c1_i32_33 : BitVec 32 := 1#32
  let c0_i32_36 : BitVec 32 := 0#32
  let v76 : BitVec 1 := Scalar.cmpi .sgt c1_i32_33 c0_i32_36
  let v77 : BitVec 32 := Scalar.extui v76
  let c0_i32_37 : BitVec 32 := 0#32
  let v78 : BitVec 1 := Scalar.cmpi .slt c1_i32_33 c0_i32_37
  let v79 : BitVec 32 := Scalar.extui v78
  let v80 : BitVec 32 := Scalar.subi v77 v79
  let v81 : BitVec 1 := Scalar.cmpi .ne v75 v80
  let v82 : BitVec 32 := Scalar.remsi v69 c1_i32_33
  let c0_i32_38 : BitVec 32 := 0#32
  let v83 : BitVec 1 := Scalar.cmpi .ne v82 c0_i32_38
  let v84 : BitVec 1 := Scalar.andi v81 v83
  let v70 : BitVec 32 := Scalar.divsi v69 c1_i32_33
  let c1_i32_39 : BitVec 32 := 1#32
  let v85 : BitVec 32 := Scalar.subi v70 c1_i32_39
  let v86 : BitVec 32 := Scalar.select v84 v85 v70
  let v87 : BitVec 32 := Scalar.subi v86 c0_i32_40
  let c1_i32_41 : BitVec 32 := 1#32
  let v89 : BitVec 32 := Scalar.divsi v87 c1_i32_41
  let v90 : BitVec 32 := Scalar.muli v89 c1_i32_41
  let v91 : BitVec 32 := Scalar.addi c0_i32_40 v90
  let c1_i32_43 : BitVec 32 := 1#32
  let arg9 : BitVec 32 := Scf.iv v91 c1_i32_43 k0_t4
  let v100 : BitVec 32 := Scalar.muli c1_i32_50 arg9
  let v101 : BitVec 32 := Scalar.addi v68 v100
  let c0_i32_51 : BitVec 32 := 0#32
  let v102 : BitVec 32 := Scalar.addi v101 c0_i32_51
  let c512_i32_52 : BitVec 32 := 512#32
  let v103 : BitVec 32 := Scalar.muli v102 c512_i32_52
  let v104 : BitVec 32 := v103
  let v105 : Index := Scalar.indexCast v104
  let c0_54 : Index := 0#32
  ![0, v105.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x8x64 : Shape := ⟨3, ![8192, 8, 64]⟩
abbrev S8192x8 : Shape := ⟨2, ![8192, 8]⟩
abbrev S_ : Shape := ⟨0, ![]⟩
abbrev S8192 : Shape := ⟨1, ![8192]⟩
abbrev S8x8192 : Shape := ⟨2, ![8, 8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x64x8192 : Shape := ⟨3, ![8, 64, 8192]⟩
abbrev S8x8192x64 : Shape := ⟨3, ![8, 8192, 64]⟩

abbrev nBuf : Space → Nat
  | .hbm => 116
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S_, .f32⟩
  | .hbm, ⟨6, _⟩ => ⟨S_, .f32⟩
  | .hbm, ⟨7, _⟩ => ⟨S8192x8, .f32⟩
  | .hbm, ⟨8, _⟩ => ⟨S8192, .i32⟩
  | .hbm, ⟨9, _⟩ => ⟨S8x8192, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x8192x1, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S1x1x8192, .i32⟩
  | .hbm, ⟨21, _⟩ => ⟨S1x8192x1, .i32⟩
  | .hbm, ⟨22, _⟩ => ⟨S1x8192x8192, .i32⟩
  | .hbm, ⟨23, _⟩ => ⟨S1x8192x8192, .i32⟩
  | .hbm, ⟨24, _⟩ => ⟨S1x8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x64x8192, .f32⟩
  | .hbm, ⟨71, _⟩ => ⟨S8192x8x64, .f32⟩
  | .hbm, ⟨72, _⟩ => ⟨S8x64x8192, .f32⟩
  | .hbm, ⟨73, _⟩ => ⟨S8x8192x8192, .f32⟩
  | .hbm, ⟨74, _⟩ => ⟨S8x64x8192, .f32⟩
  | .hbm, ⟨75, _⟩ => ⟨S8192x8x64, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x1, .f32⟩
  | .hbm, ⟨82, _⟩ => ⟨S8x8192x1, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192, .f32⟩
  | .hbm, ⟨95, _⟩ => ⟨S8x8192x1, .f32⟩
  | .hbm, ⟨96, _⟩ => ⟨S8x8192x8192, .f32⟩
  | .hbm, ⟨97, _⟩ => ⟨S_, .f32⟩
  | .hbm, ⟨98, _⟩ => ⟨S8x8192, .f32⟩
  | .hbm, ⟨99, _⟩ => ⟨S8x1x8192, .f32⟩
  | .hbm, ⟨100, _⟩ => ⟨S_, .f32⟩
  | .hbm, ⟨101, _⟩ => ⟨S8x8192, .f32⟩
  | .hbm, ⟨102, _⟩ => ⟨S_, .f32⟩
  | .hbm, ⟨103, _⟩ => ⟨S8x8192, .f32⟩
  | .hbm, ⟨104, _⟩ => ⟨S8x8192, .f32⟩
  | .hbm, ⟨105, _⟩ => ⟨S_, .f32⟩
  | .hbm, ⟨106, _⟩ => ⟨S8x8192x8192, .f32⟩
  | .hbm, ⟨107, _⟩ => ⟨S8x8192x8192, .f32⟩
  | .hbm, ⟨108, _⟩ => ⟨S8x8192x64, .f32⟩
  | .hbm, ⟨109, _⟩ => ⟨S8192x8x64, .f32⟩
  | .hbm, ⟨110, _⟩ => ⟨S8x8192x64, .f32⟩
  | .hbm, ⟨111, _⟩ => ⟨S8192x8x64, .f32⟩
  | .hbm, ⟨112, _⟩ => ⟨S8192x8, .f32⟩
  | .hbm, ⟨113, _⟩ => ⟨S_, .f32⟩
  | .hbm, ⟨114, _⟩ => ⟨S_, .f32⟩
  | .hbm, ⟨115, _⟩ => ⟨S8192x8, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_call1_v0 : Ref sig .tc := ⟨.hbm, 26, rfl⟩
abbrev main_v17_1 : Ref sig .tc := ⟨.hbm, 27, rfl⟩
abbrev main_call1_v2 : Ref sig .tc := ⟨.hbm, 28, rfl⟩
abbrev main_v17_0 : Ref sig .tc := ⟨.hbm, 29, rfl⟩
abbrev main_call1_cst : Ref sig .tc := ⟨.hbm, 30, rfl⟩
abbrev main_v17_2 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_cst_17 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call3_call0_cst : Ref sig .tc := ⟨.hbm, 113, rfl⟩
abbrev main_call3_call0_v0 : Ref sig .tc := ⟨.hbm, 114, rfl⟩
abbrev main_v80 : Ref sig .tc := ⟨.hbm, 115, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S8192x2816 : Shape := ⟨2, ![8192, 2816]⟩
abbrev S8x1024 : Shape := ⟨2, ![8, 1024]⟩
abbrev S512x2816 : Shape := ⟨2, ![512, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 34
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S8192x2816, .bf16⟩
  | .hbm, ⟨13, _⟩ => ⟨S8192x2816, .f32⟩
  | .hbm, ⟨14, _⟩ => ⟨S8192x2816, .bf16⟩
  | .hbm, ⟨15, _⟩ => ⟨S1024x5632, .bf16⟩
  | .hbm, ⟨16, _⟩ => ⟨S8192x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8192x1024, .bf16⟩
  | .hbm, ⟨21, _⟩ => ⟨S8x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S_, .f32⟩
  | .hbm, ⟨32, _⟩ => ⟨S1024, .f32⟩
  | .hbm, ⟨33, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S8192x1024, .f32⟩
  | .hbm, ⟨7, _⟩ => ⟨S8192x5632, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x5632, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 30
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x2816, .bf16⟩
  | .hbm, ⟨29, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1x1024 : Shape := ⟨2, ![1, 1024]⟩
abbrev S8192x2816 : Shape := ⟨2, ![8192, 2816]⟩
abbrev S_ : Shape := ⟨0, ![]⟩
abbrev S1024x2816 : Shape := ⟨2, ![1024, 2816]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x2816, .f32⟩
  | .hbm, ⟨5, _⟩ => ⟨S_, .f32⟩
  | .hbm, ⟨6, _⟩ => ⟨S1024x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2816, .f32⟩
  | .hbm, ⟨30, _⟩ => ⟨S2816x1024, .f32⟩
  | .hbm, ⟨31, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S8192x1024, .bf16⟩
  | .hbm, ⟨3, _⟩ => ⟨S2816x1024, .bf16⟩
  | .hbm, ⟨4, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | .hbm, ⟨6, _⟩ => ⟨S8192x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S8192x1536 : Shape := ⟨2, ![8192, 1536]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S1024x1024 : Shape := ⟨2, ![1024, 1024]⟩
abbrev S1024x512 : Shape := ⟨2, ![1024, 512]⟩

abbrev nBuf : Space → Nat
  | .hbm => 36
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1536, .f32⟩
  | .hbm, ⟨5, _⟩ => ⟨S8192x1024, .f32⟩
  | .hbm, ⟨6, _⟩ => ⟨S8192x512, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1536, .bf16⟩
  | .hbm, ⟨31, _⟩ => ⟨S8192x1024, .bf16⟩
  | .hbm, ⟨32, _⟩ => ⟨S8192x512, .bf16⟩
  | .hbm, ⟨33, _⟩ => ⟨S1024x1536, .f32⟩
  | .hbm, ⟨34, _⟩ => ⟨S1024x1024, .f32⟩
  | .hbm, ⟨35, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x1536, .f32⟩
  | .local _ .vmem, ⟨9, _⟩ => ⟨S1024x1024, .f32⟩
  | .local _ .vmem, ⟨10, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg0 : BitVec 32 := BitVec.ofNat 32 (i 0).val
  let c0_i32_9 : BitVec 32 := 0#32
  let v14 : BitVec 1 := Scalar.cmpi .eq arg0 c0_i32_9
  let v15 : BitVec 32 := Scalar.extui v14
  let c0_i32_10 : BitVec 32 := 0#32
  let v16 : BitVec 1 := Scalar.cmpi .ne v15 c0_i32_10
  v16

def k0_cond4 (i : grid0.Coords) : BitVec 1 :=
  let arg0 : BitVec 32 := BitVec.ofNat 32 (i 0).val
  let c0_i32_11 : BitVec 32 := 0#32
  let v17 : BitVec 1 := Scalar.cmpi .sgt arg0 c0_i32_11
  let v18 : BitVec 32 := Scalar.extui v17
  let c0_i32_12 : BitVec 32 := 0#32
  let v19 : BitVec 1 := Scalar.cmpi .ne v18 c0_i32_12
  v19

def k0_cond5 (i : grid0.Coords) : BitVec 1 :=
  let arg0 : BitVec 32 := BitVec.ofNat 32 (i 0).val
  let c0_i32_16 : BitVec 32 := 0#32
  let v23 : BitVec 1 := Scalar.cmpi .eq arg0 c0_i32_16
  let v24 : BitVec 32 := Scalar.extui v23
  let c0_i32_17 : BitVec 32 := 0#32
  let v25 : BitVec 1 := Scalar.cmpi .ne v24 c0_i32_17
  v25

def k0_cond6 (i : grid0.Coords) : BitVec 1 :=
  let arg0 : BitVec 32 := BitVec.ofNat 32 (i 0).val
  let c0_i32_18 : BitVec 32 := 0#32
  let v26 : BitVec 1 := Scalar.cmpi .sgt arg0 c0_i32_18
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8192x1024 : Shape := ⟨2, ![8192, 1024]⟩
abbrev S1x1024 : Shape := ⟨2, ![1, 1024]⟩
abbrev S8192x1536 : Shape := ⟨2, ![8192, 1536]⟩
abbrev S8192x512 : Shape := ⟨2, ![8192, 512]⟩
abbrev S_ : Shape := ⟨0, ![]⟩
abbrev S1024x1536 : Shape := ⟨2, ![1024, 1536]⟩
abbrev S1024x1024 : Shape := ⟨2, ![1024, 1024]⟩
abbrev S1024x512 : Shape := ⟨2, ![1024, 512]⟩
abbrev S8192 : Shape := ⟨1, ![8192]⟩
abbrev S8192x1 : Shape := ⟨2, ![8192, 1]⟩
abbrev S512x1024 : Shape := ⟨2, ![512, 1024]⟩
abbrev S1536x1024 : Shape := ⟨2, ![1536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1536, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S1024x1536, .f32⟩
  | .hbm, ⟨9, _⟩ => ⟨S_, .f32⟩
  | .hbm, ⟨10, _⟩ => ⟨S1024x1024, .f32⟩
  | .hbm, ⟨11, _⟩ => ⟨S_, .f32⟩
  | .hbm, ⟨12, _⟩ => ⟨S1024x512, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1536, .f32⟩
  | .hbm, ⟨36, _⟩ => ⟨S8192x1024, .f32⟩
  | .hbm, ⟨37, _⟩ => ⟨S8192x512, .f32⟩
  | .hbm, ⟨38, _⟩ => ⟨S512x1024, .f32⟩
  | .hbm, ⟨39, _⟩ => ⟨S1024x512, .f32⟩
  | .hbm, ⟨40, _⟩ => ⟨S1024x1024, .f32⟩
  | .hbm, ⟨41, _⟩ => ⟨S1024x1024, .f32⟩
  | .hbm, ⟨42, _⟩ => ⟨S1536x1024, .f32⟩
  | .hbm, ⟨43, _⟩ => ⟨S1024x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 36
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x128, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | .hbm, ⟨32, _⟩ => ⟨S8192x128, .bf16⟩
  | .hbm, ⟨33, _⟩ => ⟨S1024x1024, .f32⟩
  | .hbm, ⟨34, _⟩ => ⟨S1024x1024, .f32⟩
  | .hbm, ⟨35, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S2048x128, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg0 : BitVec 32 := BitVec.ofNat 32 (i 0).val
  let c0_i32_9 : BitVec 32 := 0#32
  let v14 : BitVec 1 := Scalar.cmpi .eq arg0 c0_i32_9
  let v15 : BitVec 32 := Scalar.extui v14
  let c0_i32_10 : BitVec 32 := 0#32
  let v16 : BitVec 1 := Scalar.cmpi .ne v15 c0_i32_10
  v16

def k0_cond4 (i : grid0.Coords) : BitVec 1 :=
  let arg0 : BitVec 32 := BitVec.ofNat 32 (i 0).val
  let c0_i32_11 : BitVec 32 := 0#32
  let v17 : BitVec 1 := Scalar.cmpi .sgt arg0 c0_i32_11
  let v18 : BitVec 32 := Scalar.extui v17
  let c0_i32_12 : BitVec 32 := 0#32
  let v19 : BitVec 1 := Scalar.cmpi .ne v18 c0_i32_12
  v19

def k0_cond5 (i : grid0.Coords) : BitVec 1 :=
  let arg0 : BitVec 32 := BitVec.ofNat 32 (i 0).val
  let c0_i32_16 : BitVec 32 := 0#32
  let v23 : BitVec 1 := Scalar.cmpi .eq arg0 c0_i32_16
  let v24 : BitVec 32 := Scalar.extui v23
  let c0_i32_17 : BitVec 32 := 0#32
  let v25 : BitVec 1 := Scalar.cmpi .ne v24 c0_i32_17
  v25

def k0_cond6 (i : grid0.Coords) : BitVec 1 :=
  let arg0 : BitVec 32 := BitVec.ofNat 32 (i 0).val
  let c0_i32_18 : BitVec 32 := 0#32
  let v26 : BitVec 1 := Scalar.cmpi .sgt arg0 c0_i32_18
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x1024 : Shape := ⟨2, ![8192, 1024]⟩
abbrev S1x1024 : Shape := ⟨2, ![1, 1024]⟩
abbrev S8192x128 : Shape := ⟨2, ![8192, 128]⟩
abbrev S_ : Shape := ⟨0, ![]⟩
abbrev S1024x1024 : Shape := ⟨2, ![1024, 1024]⟩
abbrev S1024x128 : Shape := ⟨2, ![1024, 128]⟩
abbrev S8192 : Shape := ⟨1, ![8192]⟩
abbrev S8192x1 : Shape := ⟨2, ![8192, 1]⟩
abbrev S128x1024 : Shape := ⟨2, ![128, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x128, .f32⟩
  | .hbm, ⟨7, _⟩ => ⟨S_, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S_, .f32⟩
  | .hbm, ⟨12, _⟩ => ⟨S1024x128, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x128, .f32⟩
  | .hbm, ⟨38, _⟩ => ⟨S128x1024, .f32⟩
  | .hbm, ⟨39, _⟩ => ⟨S1024x128, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 30
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x5632, .bf16⟩
  | .hbm, ⟨29, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x5376 : Shape := ⟨2, ![1024, 5376]⟩
abbrev S_ : Shape := ⟨0, ![]⟩
abbrev S8192 : Shape := ⟨1, ![8192]⟩
abbrev S8192x1 : Shape := ⟨2, ![8192, 1]⟩
abbrev S8192x5376 : Shape := ⟨2, ![8192, 5376]⟩
abbrev S1024x1024 : Shape := ⟨2, ![1024, 1024]⟩
abbrev S1024x2688 : Shape := ⟨2, ![1024, 2688]⟩

abbrev nBuf : Space → Nat
  | .hbm => 30
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5376, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x5376, .bf16⟩
  | .hbm, ⟨29, _⟩ => ⟨S8192x5376, .f32⟩
  | .local _ .vmem, ⟨0, _⟩ => ⟨S1024x1024, .bf16⟩
  | .local _ .vmem, ⟨1, _⟩ => ⟨S1024x1024, .bf16⟩
  | .local _ .vmem, ⟨2, _⟩ => ⟨S1024x2688, .bf16⟩
  | .local _ .vmem, ⟨3, _⟩ => ⟨S1024x2688, .bf16⟩
  | .local _ .vmem, ⟨4, _⟩ => ⟨S1024x2688, .f32⟩
  | .local _ .vmem, ⟨5, _⟩ => ⟨S1024x2688, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1x1024 : Shape := ⟨2, ![1, 1024]⟩
abbrev S1024x5376 : Shape := ⟨2, ![1024, 5376]⟩
abbrev S_ : Shape := ⟨0, ![]⟩
abbrev S8192 : Shape := ⟨1, ![8192]⟩
abbrev S8192x1 : Shape := ⟨2, ![8192, 1]⟩
abbrev S8192x5376 : Shape := ⟨2, ![8192, 5376]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5376, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5376, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S1024x5376 : Shape := ⟨2, ![1024, 5376]⟩
abbrev S8192x1536 : Shape := ⟨2, ![8192, 1536]⟩
abbrev S8192x512 : Shape := ⟨2, ![8192, 512]⟩
abbrev S8192x128 : Shape := ⟨2, ![8192, 128]⟩
abbrev S8x1024 : Shape := ⟨2, ![8, 1024]⟩
abbrev S512x1536 : Shape := ⟨2, ![512, 1536]⟩
abbrev S512x1024 : Shape := ⟨2, ![512, 1024]⟩
abbrev S512x512 : Shape := ⟨2, ![512, 512]⟩
abbrev S512x128 : Shape := ⟨2, ![512, 128]⟩
abbrev S1024x1536 : Shape := ⟨2, ![1024, 1536]⟩
abbrev S1024x1024 : Shape := ⟨2, ![1024, 1024]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 31
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5376, .f32⟩
  | .hbm, ⟨4, _⟩ => ⟨S8192x1024, .f32⟩
  | .hbm, ⟨5, _⟩ => ⟨S8192x1536, .f32⟩
  | .hbm, ⟨6, _⟩ => ⟨S8192x1024, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S8192x128, .f32⟩
  | .hbm, ⟨11, _⟩ => ⟨S8192x1536, .bf16⟩
  | .hbm, ⟨12, _⟩ => ⟨S8192x1024, .bf16⟩
  | .hbm, ⟨13, _⟩ => ⟨S8192x512, .bf16⟩
  | .hbm, ⟨14, _⟩ => ⟨S8192x1024, .bf16⟩
  | .hbm, ⟨15, _⟩ => ⟨S8192x1024, .bf16⟩
  | .hbm, ⟨16, _⟩ => ⟨S8192x128, .bf16⟩
  | .hbm, ⟨17, _⟩ => ⟨S1024x5376, .bf16⟩
  | .hbm, ⟨18, _⟩ => ⟨S8192x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S1024x5376, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference11Ideal.lean ====
abbrev S8192x1024 : Shape := ⟨2, ![8192, 1024]⟩
abbrev S1x1024 : Shape := ⟨2, ![1, 1024]⟩
abbrev S1024x5376 : Shape := ⟨2, ![1024, 5376]⟩
abbrev S8192x1536 : Shape := ⟨2, ![8192, 1536]⟩
abbrev S8192x512 : Shape := ⟨2, ![8192, 512]⟩
abbrev S8192x128 : Shape := ⟨2, ![8192, 128]⟩
abbrev S_ : Shape := ⟨0, ![]⟩
abbrev S1024x1536 : Shape := ⟨2, ![1024, 1536]⟩
abbrev S1024x1024 : Shape := ⟨2, ![1024, 1024]⟩
abbrev S1024x512 : Shape := ⟨2, ![1024, 512]⟩
abbrev S1024x128 : Shape := ⟨2, ![1024, 128]⟩
abbrev S8192 : Shape := ⟨1, ![8192]⟩
abbrev S8192x1 : Shape := ⟨2, ![8192, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x5376, .f32⟩
  | .hbm, ⟨4, _⟩ => ⟨S8192x1024, .f32⟩
  | .hbm, ⟨5, _⟩ => ⟨S8192x1536, .f32⟩
  | .hbm, ⟨6, _⟩ => ⟨S8192x1024, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S8192x128, .f32⟩
  | .hbm, ⟨11, _⟩ => ⟨S_, .f32⟩
  | .hbm, ⟨12, _⟩ => ⟨S1x1024, .f32⟩
  | .hbm, ⟨13, _⟩ => ⟨S1024x1536, .f32⟩
  | .hbm, ⟨14, _⟩ => ⟨S1024x1024, .f32⟩
  | .hbm, ⟨15, _⟩ => ⟨S1024x512, .f32⟩
  | .hbm, ⟨16, _⟩ => ⟨S1024x1024, .f32⟩
  | .hbm, ⟨17, _⟩ => ⟨S1024x1024, .f32⟩
  | .hbm, ⟨18, _⟩ => ⟨S1024x128, .f32⟩
  | .hbm, ⟨19, _⟩ => ⟨S1024x128, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1536, .f32⟩
  | .hbm, ⟨47, _⟩ => ⟨S8192x1024, .f32⟩
  | .hbm, ⟨48, _⟩ => ⟨S8192x512, .f32⟩
  | .hbm, ⟨49, _⟩ => ⟨S8192x1024, .f32⟩
  | .hbm, ⟨50, _⟩ => ⟨S8192x1024, .f32⟩
  | .hbm, ⟨51, _⟩ => ⟨S8192x128, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel12.lean ====
abbrev S512x1024 : Shape := ⟨2, ![512, 1024]⟩
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S8192x1024, .bf16⟩
  | .hbm, ⟨3, _⟩ => ⟨S512x1024, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S512x1024 : Shape := ⟨2, ![512, 1024]⟩
abbrev S8192x1024 : Shape := ⟨2, ![8192, 1024]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S8192x1024, .f32⟩
  | .hbm, ⟨2, _⟩ => ⟨S_, .f32⟩
  | .hbm, ⟨3, _⟩ => ⟨S8192x512, .f32⟩
  | .hbm, ⟨4, _⟩ => ⟨S8192x1024, .f32⟩
  | .hbm, ⟨5, _⟩ => ⟨S8192x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Closed.lean ====
/-
  The row offsets and trip counts of the attention gradient's sweep, in closed form.

  A grid point is a head and a block of 512 keys. The body takes the query block of the same number first and then the
  query blocks after it, two at a time and a last single one where their number is odd.
-/
module

public import proofs.«01_k».proof.Proof.Gen.KernelIdeal.Skeleton
public import Idealize.ShloMosaic.Lib.VecWindow
public import Idealize.ShloMosaic.Lib.Tactic

@[expose] public section

set_option maxRecDepth 16384

namespace Cert.Bwd

open Cert.KernelIdeal Idealize.ShloMosaic

/-- The offsets of the 512 rows of block `n`. -/
abbrev row (n : ℕ) : Fin 3 → ℕ := ![0, n * 512, 0]

theorem row_inb {n : ℕ} (h : n < 16) : ∀ a, row n a + S1x512x128.size a ≤ S1x8192x128.size a := by
  intro a
  fin_cases a
  · show 0 + 1 ≤ 1
    omega
  · show n * 512 + 512 ≤ 8192
    omega
  · show 0 + 128 ≤ 128
    omega

theorem trips1 : ∀ i : grid0.Coords, (k0_t1_loop i).trips = (15 - (i 1).val) / 2 := by decide +kernel
theorem trips2 : ∀ i : grid0.Coords, (k0_t2_loop i).trips = 0 := by decide +kernel
theorem trips3 : ∀ i : grid0.Coords, (k0_t3_loop i).trips = (15 - (i 1).val) % 2 := by decide +kernel
theorem trips4 : ∀ i : grid0.Coords, (k0_t4_loop i).trips = 0 := by decide +kernel

theorem off1 : ∀ i : grid0.Coords, k0_off1 i = row (i 1).val := by decide +kernel
theorem off2_0 : ∀ (i : grid0.Coords) (t : Fin (k0_t1_loop i).trips), k0_off2 i t 0#32 = row ((i 1).val + 1 + 2 * t.val) := by
  decide +kernel
theorem off2_1 : ∀ (i : grid0.Coords) (t : Fin (k0_t1_loop i).trips), k0_off2 i t 1#32 = row ((i 1).val + 2 + 2 * t.val) := by
  decide +kernel
theorem off4 : ∀ (i : grid0.Coords) (t : Fin (k0_t3_loop i).trips), k0_off4 i t = row 15 := by decide +kernel

instance (i : grid0.Coords) : ClosedOff (k0_off1 i) := ⟨_, off1 i⟩
instance (i : grid0.Coords) (t : Fin (k0_t1_loop i).trips) : ClosedOff (k0_off2 i t 0#32) := ⟨_, off2_0 i t⟩
instance (i : grid0.Coords) (t : Fin (k0_t1_loop i).trips) : ClosedOff (k0_off2 i t 1#32) := ⟨_, off2_1 i t⟩
instance (i : grid0.Coords) (t : Fin (k0_t3_loop i).trips) : ClosedOff (k0_off4 i t) := ⟨_, off4 i t⟩

end Cert.Bwd

end
-- ==== Proof.Steps.lean ====
/-
  The sweep of one block of keys over the query blocks, as a pure recursion.

  The state is the block's gradients of k and v, accumulated so far, and the head's whole gradient of q, whose rows every
  step of the sweep adds to.
-/
module

public import proofs.«01_k».proof.Proof.Closed

@[expose] public section

set_option maxRecDepth 16384

noncomputable section

namespace Cert.Bwd

open Cert.KernelIdeal Cert.KernelIdeal.Gen Idealize.ShloMosaic

variable {F : FTy → Type} [FloatOps F]

/-- What the sweep carries: the gradients of k and v of the block of keys, and the gradient of q of the whole head. -/
abbrev St (F : FTy → Type) : Type := (FVec F S512x128 .f32 × FVec F S512x128 .f32) × Vec F S1x8192x128 .f32

/-- The 512 rows of block `n`. -/
abbrev blk {e : EltTy} (x : Vec F S1x8192x128 e) {n : ℕ} (h : n < 16) : Vec F S1x512x128 e :=
  VecWindow.window x (row n) S1x512x128.size (row_inb h)

/-- What the head's gradient of q is set to before its first block of keys is swept. -/
def clear (ki : ℕ) (x : Vec F S1x8192x128 .f32) : Vec F S1x8192x128 .f32 := if ki = 0 then k0_pay31 else x

/-- The masked step: the query block of the same number. -/
def first {ki : ℕ} (hki : ki < 16) (K V : Vec F S1x512x128 .bf16) (Q G : Vec F S1x8192x128 .bf16) (x : Vec F S1x8192x128 .f32) : St F :=
  ((k0_pay39 K V (blk Q hki) (blk G hki), k0_pay37 K (blk Q hki) (blk G hki)),
    VecWindow.put x (row ki) S1x512x128.size (k0_pay41 (k0_pay32 K) (k0_pay38 K V (blk Q hki) (blk G hki)) (k0_pay40 (blk x hki))))

/-- A step past the mask: query block `n`. -/
def step {n : ℕ} (hn : n < 16) (K V : Vec F S1x512x128 .bf16) (Q G : Vec F S1x8192x128 .bf16) (s : St F) : St F :=
  ((k0_pay6 (k0_pay32 K) (k0_pay33 V) s.1.1 (blk Q hn) (blk G hn), k0_pay4 (k0_pay32 K) s.1.2 (blk Q hn) (blk G hn)),
    VecWindow.put s.2 (row n) S1x512x128.size (k0_pay7 (k0_pay32 K) (k0_pay33 V) (blk Q hn) (blk G hn) (blk s.2 hn)))

/-- The state after the masked step and `j` more. -/
def swept {ki : ℕ} (hki : ki < 16) (K V : Vec F S1x512x128 .bf16) (Q G : Vec F S1x8192x128 .bf16) (x : Vec F S1x8192x128 .f32) : ℕ → St F
  | 0 => first hki K V Q G (clear ki x)
  | j + 1 => if h : ki + 1 + j < 16 then step h K V Q G (swept hki K V Q G x j) else swept hki K V Q G x j

/-- What a block of keys leaves: its sweep run to the last query block. -/
def final {ki : ℕ} (hki : ki < 16) (K V : Vec F S1x512x128 .bf16) (Q G : Vec F S1x8192x128 .bf16) (x : Vec F S1x8192x128 .f32) : St F :=
  swept hki K V Q G x (15 - ki)

theorem swept_succ {ki : ℕ} (hki : ki < 16) (K V : Vec F S1x512x128 .bf16) (Q G : Vec F S1x8192x128 .bf16) (x : Vec F S1x8192x128 .f32)
    {j : ℕ} (h : ki + 1 + j < 16) : swept hki K V Q G x (j + 1) = step h K V Q G (swept hki K V Q G x j) := by
  rw [swept, dif_pos h]

end Cert.Bwd

end

end
-- ==== Proof.Body.lean ====
/-
  One execution of the attention gradient's body, from whole staging buffers to the values it leaves in them.
-/
module

public import proofs.«01_k».proof.Proof.Steps
public import Idealize.ShloMosaic.Lib.Tactic
public import Idealize.ShloMosaic.Lib.Pipeline.Kit

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's whole buffer on core `c`, at contents `f`. -/
abbrev pt (c : Dev nD) {sp : Space} {s : Shape} {e : EltTy} (M : Memref sig .tc sp s e) (f : BufTy.Contents (Elt F) M.view.ty) : sProp 𝕄 :=
  M.view.loc (c : Thread nD τ) ↦[M.view.set]{fullShare} f

section Loop

variable (c : Dev nD) (i : grid0.Coords)
    (arg2 : Memref sig .tc .vmem S1x8192x128 .bf16) (h2 : arg2.IsWhole) (arg3 : Memref sig .tc .vmem S1x8192x128 .bf16) (h3 : arg3.IsWhole)
    (arg4 : Memref sig .tc .vmem S1x512x128 .bf16) (h4 : arg4.IsWhole) (arg5 : Memref sig .tc .vmem S1x512x128 .bf16) (h5 : arg5.IsWhole)
    (arg6 : Memref sig .tc .vmem S1x8192x128 .f32) (h6 : arg6.IsWhole) (arg7 : Memref sig .tc .vmem S1x512x128 .f32) (h7 : arg7.IsWhole)
    (arg8 : Memref sig .tc .vmem S1x512x128 .f32) (h8 : arg8.IsWhole)

/-- The sweep's invariant at state `s`: the queries and the output gradient as they were, the gradient of q and the carried pair at `s`. -/
def inv (Q G : Vec F S1x8192x128 .bf16) (s : ℕ → St F) (j : ℕ) (acc : FVec F S512x128 .f32 × FVec F S512x128 .f32) : sProp 𝕄 :=
  iprop((∃ f, pt c arg2 f ∗ ⌜arg2.view.read (Elt F) f = Q⌝) ∗ (∃ f, pt c arg3 f ∗ ⌜arg3.view.read (Elt F) f = G⌝)
    ∗ (∃ f, pt c arg6 f ∗ ⌜arg6.view.read (Elt F) f = (s j).2⌝) ∗ ⌜acc = (s j).1⌝)

/-- One trip of the paired loop: two steps of the sweep. -/
theorem trip1 {ki : ℕ} (hki : ki < 16) (hi : (i 1).val = ki) (K V : Vec F S1x512x128 .bf16) (Q G : Vec F S1x8192x128 .bf16) (x : Vec F S1x8192x128 .f32)
    (a1 v10 v41 : BitVec 32) (v26 v31 v34 : FVec F S512x128 .f32) (v29 : FVec F S512x512 .bf16)
    (k : Fin (k0_t1_loop i).trips) (acc : FVec F S512x128 .f32 × FVec F S512x128 .f32) :
    inv c arg2 arg3 arg6 Q G (fun j => swept hki K V Q G x (2 * j)) k.val acc
      ⊢ wp frame (wpE (defs₀ (F := F)) Variants.none (c : Thread nD τ) none) Set.univ
          (k0_t1_body i arg2 h2 arg3 h3 arg4 h4 arg5 h5 arg6 h6 arg7 h7 arg8 h8 a1 (k0_pay32 K) (k0_pay33 V) v10 v26 v29 v31 v34 v41 k acc)
          (fun yld => inv c arg2 arg3 arg6 Q G (fun j => swept hki K V Q G x (2 * j)) (k.val + 1) yld) := by
  have hk : k.val < (15 - ki) / 2 := by have := lt_of_lt_of_eq k.isLt (trips1 i); rwa [hi] at this
  have e0 : k0_off2 i k 0#32 = row (ki + 1 + 2 * k.val) := by rw [off2_0, hi]
  have e1 : k0_off2 i k 1#32 = row (ki + 1 + (2 * k.val + 1)) := by rw [off2_1, hi, show ki + 2 + 2 * k.val = ki + 1 + (2 * k.val + 1) from by omega]
  have n0 : ki + 1 + 2 * k.val < 16 := by omega
  have n1 : ki + 1 + (2 * k.val + 1) < 16 := by omega
  unfold inv
  iintro ⟨⟨%f2, H2, %r2⟩, ⟨%f3, H3, %r3⟩, ⟨%f6, H6, %r6⟩, %ha⟩
  subst ha
  unfold k0_t1_body
  sl_exec
  sl_step
  have q0 : View.readAt (Elt F) arg2.view (Rect.unit (s := S1x8192x128) (k0_off2 i k 0#32) S1x512x128.size (k0_off2_inb i k 0)).toLoadRect f2 = blk Q n0 := by
    rw [View.readAt_unit _ _ _ e0 (row_inb n0), r2]
  have q1 : View.readAt (Elt F) arg2.view (Rect.unit (s := S1x8192x128) (k0_off2 i k 1#32) S1x512x128.size (k0_off2_inb i k 1)).toLoadRect f2 = blk Q n1 := by
    rw [View.readAt_unit _ _ _ e1 (row_inb n1), r2]
  have g0 : View.readAt (Elt F) arg3.view (Rect.unit (s := S1x8192x128) (k0_off2 i k 0#32) S1x512x128.size (k0_off2_inb i k 0)).toLoadRect f3 = blk G n0 := by
    rw [View.readAt_unit _ _ _ e0 (row_inb n0), r3]
  have g1 : View.readAt (Elt F) arg3.view (Rect.unit (s := S1x8192x128) (k0_off2 i k 1#32) S1x512x128.size (k0_off2_inb i k 1)).toLoadRect f3 = blk G n1 := by
    rw [View.readAt_unit _ _ _ e1 (row_inb n1), r3]
  have x0 : View.readAt (Elt F) arg6.view (Rect.unit (s := S1x8192x128) (k0_off2 i k 0#32) S1x512x128.size (k0_off2_inb i k 0)).toLoadRect f6
      = blk (swept hki K V Q G x (2 * k.val)).2 n0 := by
    rw [View.readAt_unit _ _ _ e0 (row_inb n0), r6]
  have x1 : View.readAt (Elt F) arg6.view (Rect.unit (s := S1x8192x128) (k0_off2 i k 1#32) S1x512x128.size (k0_off2_inb i k 1)).toLoadRect f6
      = blk (swept hki K V Q G x (2 * k.val)).2 n1 := by
    rw [View.readAt_unit _ _ _ e1 (row_inb n1), r6]
  have hs : swept hki K V Q G x (2 * (k.val + 1)) = step n1 K V Q G (step n0 K V Q G (swept hki K V Q G x (2 * k.val))) := by
    rw [show 2 * (k.val + 1) = 2 * k.val + 1 + 1 from by omega, swept_succ hki K V Q G x n1, swept_succ hki K V Q G x n0]
  isplitl [H2]
  · iexists f2; isplitl [H2]; · iexact H2
    ipureintro; exact r2
  isplitl [H3]
  · iexists f3; isplitl [H3]; · iexact H3
    ipureintro; exact r3
  isplitl [H6]
  · iexists _; isplitl [H6]; · iexact H6
    ipureintro
    have w1 : blk (step n0 K V Q G (swept hki K V Q G x (2 * k.val))).2 n1 = blk (swept hki K V Q G x (2 * k.val)).2 n1 :=
      VecWindow.window_put_of_disjoint _ _ _ _ _ _ _ 1 (Or.inr (by
        show (ki + 1 + 2 * k.val) * 512 + 512 ≤ (ki + 1 + (2 * k.val + 1)) * 512
        omega))
    show _ = (swept hki K V Q G x (2 * (k.val + 1))).2
    rw [hs, View.read_writes_cons_put _ _ _ _ _ e1, View.read_writes_cons_put _ _ _ _ _ e0, View.writes_nil, r6]
    unfold trip1.sl.r_2 trip1.sl.v152
    rw [q0, q1, g0, g1, x0, x1, ← w1]
    rfl
  ipureintro
  show _ = (swept hki K V Q G x (2 * (k.val + 1))).1
  rw [hs]
  unfold trip1.sl.r_1 trip1.sl.r trip1.sl.r_2
  rw [q0, q1, g0, g1]
  rfl

/-- The trip of the last loop, where the number of query blocks after the mask is odd: one step of the sweep. -/
theorem trip3 {ki : ℕ} (hki : ki < 16) (hi : (i 1).val = ki) (K V : Vec F S1x512x128 .bf16) (Q G : Vec F S1x8192x128 .bf16) (x : Vec F S1x8192x128 .f32)
    (k : Fin (k0_t3_loop i).trips) (acc : FVec F S512x128 .f32 × FVec F S512x128 .f32) :
    inv c arg2 arg3 arg6 Q G (fun j => swept hki K V Q G x (2 * ((15 - ki) / 2) + j)) k.val acc
      ⊢ wp frame (wpE (defs₀ (F := F)) Variants.none (c : Thread nD τ) none) Set.univ
          (k0_t3_body i arg2 h2 arg3 h3 arg4 h4 arg5 h5 arg6 h6 arg7 h7 arg8 h8 (k0_pay32 K) (k0_pay33 V) k acc)
          (fun yld => inv c arg2 arg3 arg6 Q G (fun j => swept hki K V Q G x (2 * ((15 - ki) / 2) + j)) (k.val + 1) yld) := by
  have hk : k.val < (15 - ki) % 2 := by have := lt_of_lt_of_eq k.isLt (trips3 i); rwa [hi] at this
  have hn : ki + 1 + (2 * ((15 - ki) / 2) + k.val) = 15 := by omega
  have e0 : k0_off4 i k = row (ki + 1 + (2 * ((15 - ki) / 2) + k.val)) := by rw [off4, hn]
  have n0 : ki + 1 + (2 * ((15 - ki) / 2) + k.val) < 16 := by omega
  unfold inv
  iintro ⟨⟨%f2, H2, %r2⟩, ⟨%f3, H3, %r3⟩, ⟨%f6, H6, %r6⟩, %ha⟩
  subst ha
  unfold k0_t3_body
  sl_exec
  sl_step
  have q0 : View.readAt (Elt F) arg2.view (Rect.unit (s := S1x8192x128) (k0_off4 i k) S1x512x128.size (k0_off4_inb i k)).toLoadRect f2 = blk Q n0 := by
    rw [View.readAt_unit _ _ _ e0 (row_inb n0), r2]
  have g0 : View.readAt (Elt F) arg3.view (Rect.unit (s := S1x8192x128) (k0_off4 i k) S1x512x128.size (k0_off4_inb i k)).toLoadRect f3 = blk G n0 := by
    rw [View.readAt_unit _ _ _ e0 (row_inb n0), r3]
  have x0 : View.readAt (Elt F) arg6.view (Rect.unit (s := S1x8192x128) (k0_off4 i k) S1x512x128.size (k0_off4_inb i k)).toLoadRect f6
      = blk (swept hki K V Q G x (2 * ((15 - ki) / 2) + k.val)).2 n0 := by
    rw [View.readAt_unit _ _ _ e0 (row_inb n0), r6]
  have hs := swept_succ hki K V Q G x n0
  isplitl [H2]
  · iexists f2; isplitl [H2]; · iexact H2
    ipureintro; exact r2
  isplitl [H3]
  · iexists f3; isplitl [H3]; · iexact H3
    ipureintro; exact r3
  isplitl [H6]
  · iexists _; isplitl [H6]; · iexact H6
    ipureintro
    show _ = (swept hki K V Q G x (2 * ((15 - ki) / 2) + k.val + 1)).2
    rw [hs, View.read_writes_cons_put _ _ _ _ _ e0, View.writes_nil, r6, q0, g0, x0]
    rfl
  ipureintro
  show _ = (swept hki K V Q G x (2 * ((15 - ki) / 2) + k.val + 1)).1
  rw [hs, q0, g0]
  rfl

theorem clears : ∀ i : grid0.Coords, Scalar.cmpi .ne (Scalar.extui (Scalar.cmpi .eq (BitVec.ofNat 32 (i 1).val) 0#32) : BitVec 32) 0#32 = 1#1 ↔ (i 1).val = 0 := by
  decide +kernel

theorem body {ki : ℕ} (hki : ki < 16) (hi : (i 1).val = ki) (K V : Vec F S1x512x128 .bf16) (Q G : Vec F S1x8192x128 .bf16) (x : Vec F S1x8192x128 .f32)
    (R : PUnit → sProp 𝕄) :
    iprop(owns (c : Thread nD τ) arg2 fullShare Q ∗ owns (c : Thread nD τ) arg3 fullShare G ∗ owns (c : Thread nD τ) arg4 fullShare K
        ∗ owns (c : Thread nD τ) arg5 fullShare V ∗ owns (c : Thread nD τ) arg6 fullShare x
        ∗ (∃ d, owns (c : Thread nD τ) arg7 fullShare d) ∗ (∃ d, owns (c : Thread nD τ) arg8 fullShare d)
        ∗ (iprop(owns (c : Thread nD τ) arg2 fullShare Q ∗ owns (c : Thread nD τ) arg3 fullShare G ∗ owns (c : Thread nD τ) arg4 fullShare K
            ∗ owns (c : Thread nD τ) arg5 fullShare V ∗ owns (c : Thread nD τ) arg6 fullShare (final hki K V Q G x).2
            ∗ owns (c : Thread nD τ) arg7 fullShare (k0_pay15 (final hki K V Q G x).1.1)
            ∗ owns (c : Thread nD τ) arg8 fullShare (k0_pay16 (final hki K V Q G x).1.2)) -∗ R ⟨⟩))
      ⊢ wp frame (wpE (defs₀ (F := F)) Variants.none (c : Thread nD τ) none) Set.univ
          (cc0_attn_bwd i arg2 h2 arg3 h3 arg4 h4 arg5 h5 arg6 h6 arg7 h7 arg8 h8) R := by
  unfold owns
  iintro ⟨⟨%f2, %r2, H2⟩, ⟨%f3, %r3, H3⟩, ⟨%f4, %r4, H4⟩, ⟨%f5, %r5, H5⟩, ⟨%f6, %r6, H6⟩, ⟨%d7, %f7, -, H7⟩, ⟨%d8, %f8, -, H8⟩, Hk⟩
  sl_unfold [cc0_attn_bwd]
  sl_exec
  have eK : body.sl.r c arg4 f4 = k0_pay32 K := by unfold body.sl.r; rw [View.readAt_full, r4]
  have eV : body.sl.r_1 c arg5 f5 = k0_pay33 V := by unfold body.sl.r_1; rw [View.readAt_full, r5]
  have e1 : k0_off1 i = row ki := by rw [off1, hi]
  have q0 : View.readAt (Elt F) arg2.view (Rect.unit (s := S1x8192x128) (k0_off1 i) S1x512x128.size (k0_off1_inb i)).toLoadRect f2 = blk Q hki := by
    rw [View.readAt_unit _ _ _ e1 (row_inb hki), r2]
  have g0 : View.readAt (Elt F) arg3.view (Rect.unit (s := S1x8192x128) (k0_off1 i) S1x512x128.size (k0_off1_inb i)).toLoadRect f3 = blk G hki := by
    rw [View.readAt_unit _ _ _ e1 (row_inb hki), r3]
  have e6 : View.read (Elt F) arg6.view (if hc : body.sl.v2 i = 1#1 then
        arg6.view.writes (Elt F) f6 [⟨Rect.unit (s := S1x8192x128) ![0, 0, 0] S1x8192x128.size inb_S1x8192x128_S1x8192x128_0_0_0, k0_pay31⟩]
      else f6) = clear ki x := by
    unfold clear
    have hv : body.sl.v2 i = 1#1 ↔ ki = 0 := by rw [← hi]; exact clears i
    by_cases h : ki = 0
    · rw [if_pos h, dif_pos (hv.mpr h), View.read_writes_full]
    · rw [if_neg h, dif_neg fun e => h (hv.mp e), r6]
  sl_for (inv c arg2 arg3 arg6 Q G (fun j => swept hki K V Q G x (2 * j))) $$ [H2 H3 H6]
  case region => intro k acc; unfold body.sl.prog.body_1; rw [eK, eV]; exact trip1 c i arg2 h2 arg3 h3 arg4 h4 arg5 h5 arg6 h6 arg7 h7 arg8 h8 hki hi K V Q G x _ _ _ _ _ _ _ k acc
  · unfold inv
    isplitl [H2]
    · iexists f2; isplitl [H2]; · iexact H2
      ipureintro; exact r2
    isplitl [H3]
    · iexists f3; isplitl [H3]; · iexact H3
      ipureintro; exact r3
    isplitl [H6]
    · iexists _; isplitl [H6]; · iexact H6
      ipureintro
      show _ = (first hki K V Q G (clear ki x)).2
      unfold body.sl.r_5 body.sl.r_3
      rw [View.read_writes_cons_put _ _ _ _ _ e1, View.writes_nil, e6, eK, g0, q0, View.readAt_full, View.readAt_full, r4, r5]
      unfold body.sl.v33
      rw [View.readAt_unit _ _ _ e1 (row_inb hki), e6]
      rfl
    ipureintro
    show _ = (first hki K V Q G (clear ki x)).1
    unfold body.sl.r_4 body.sl.r_2
    rw [g0, q0, View.readAt_full, View.readAt_full, r4, r5]
    rfl
  iintro %a HI
  unfold inv
  icases HI with ⟨⟨%f2', H2, %r2'⟩, ⟨%f3', H3, %r3'⟩, ⟨%f6', H6, %r6'⟩, %ha⟩
  subst ha
  sl_exec
  sl_for0 (trips2 i)
  sl_exec
  have ht : (fun j => swept hki K V Q G x (2 * j)) (k0_t1_loop i).trips = swept hki K V Q G x (2 * ((15 - ki) / 2) + 0) := by
    rw [trips1, hi]
    rfl
  sl_for (inv c arg2 arg3 arg6 Q G (fun j => swept hki K V Q G x (2 * ((15 - ki) / 2) + j))) $$ [H2 H3 H6]
  case region => intro k acc; unfold body.sl.prog.body_3; rw [eK, eV]; exact trip3 c i arg2 h2 arg3 h3 arg4 h4 arg5 h5 arg6 h6 arg7 h7 arg8 h8 hki hi K V Q G x k acc
  · unfold inv
    isplitl [H2]
    · iexists f2'; isplitl [H2]; · iexact H2
      ipureintro; exact r2'
    isplitl [H3]
    · iexists f3'; isplitl [H3]; · iexact H3
      ipureintro; exact r3'
    isplitl [H6]
    · iexists f6'; isplitl [H6]; · iexact H6
      ipureintro; exact r6'.trans (congrArg Prod.snd ht)
    ipureintro; exact congrArg Prod.fst ht
  iintro %b HI
  unfold inv
  icases HI with ⟨⟨%f2'', H2, %r2''⟩, ⟨%f3'', H3, %r3''⟩, ⟨%f6'', H6, %r6''⟩, %hb⟩
  subst hb
  sl_exec
  sl_for0 (trips4 i)
  sl_exec
  sl_step
  have hf : (fun j => swept hki K V Q G x (2 * ((15 - ki) / 2) + j)) (k0_t3_loop i).trips = final hki K V Q G x := by
    rw [trips3, hi]
    show swept hki K V Q G x _ = swept hki K V Q G x (15 - ki)
    congr 1
    omega
  have r6f : View.read (Elt F) arg6.view f6'' = (final hki K V Q G x).2 := r6''.trans (congrArg Prod.snd hf)
  iapply Hk
  isplitl [H2]
  · iexists f2''; isplitr; · ipureintro; exact r2''
    iexact H2
  isplitl [H3]
  · iexists f3''; isplitr; · ipureintro; exact r3''
    iexact H3
  isplitl [H4]
  · iexists f4; isplitr; · ipureintro; exact r4
    iexact H4
  isplitl [H5]
  · iexists f5; isplitr; · ipureintro; exact r5
    iexact H5
  isplitl [H6]
  · iexists f6''; isplitr; · ipureintro; exact r6f
    iexact H6
  isplitl [H7]
  · iexists _; isplitr; swap; · iexact H7
    ipureintro; rw [View.read_writes_full]; exact congrArg (fun s : St F => k0_pay15 s.1.1) hf
  iexists _; isplitr; swap; · iexact H8
  ipureintro; rw [View.read_writes_full]; exact congrArg (fun s : St F => k0_pay16 s.1.2) hf

end Loop

end Cert.Bwd

end

end
-- ==== Proof.Run.lean ====
/-
  The run of the program: the host lines before the attention gradient, its 128 grid points, the host lines after it.

  The grid goes over the heads and, in each head, over the 16 blocks of keys in order. The gradients of k and v are written
  back block by block. The gradient of q of a head stays in place while its blocks of keys are swept and is written back after the last.
-/
module

public import proofs.«01_k».proof.Proof.Body
public import proofs.«01_k».proof.Proof.Gen.KernelIdeal.Frame

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem point : ∀ t : Fin cfg0.N, ((grid0.coords t) 1).val = t.val % 16 := by decide +kernel

theorem key_lt (n : ℕ) : n % 16 < 16 := Nat.mod_lt _ (by decide)

/-- The block of keys of grid point `t` swept, from the head's gradient of q as `x`. -/
def sweepAt (c : Dev nD) (t : Fin cfg0.N) (x : Vec F S1x8192x128 .f32) : St F :=
  final (key_lt t.val) (iblk m c 2 t) (iblk m c 3 t) (iblk m c 0 t) (iblk m c 1 t) x

/-- The gradient of q of the current head before grid point `n`. -/
def dqBefore (c : Dev nD) : (n : ℕ) → Vec F S1x8192x128 .f32
  | 0 => k0_pay31
  | n + 1 => if h : n < cfg0.N then (sweepAt m c ⟨n, h⟩ (dqBefore c n)).2 else k0_pay31

/-- What grid point `t` leaves. -/
def after (c : Dev nD) (t : Fin cfg0.N) : St F := sweepAt m c t (dqBefore m c t.val)

theorem dqBefore_succ (c : Dev nD) (t : Fin cfg0.N) : dqBefore m c (t.val + 1) = (after m c t).2 := by
  rw [dqBefore, dif_pos t.isLt]; rfl

/-- At a head's first block of keys the sweep clears the gradient of q, whatever it was. -/
theorem swept_clear {ki : ℕ} (hki : ki < 16) (h0 : ki = 0) (K V : Vec F S1x512x128 .bf16) (Q G : Vec F S1x8192x128 .bf16)
    (x y : Vec F S1x8192x128 .f32) (j : ℕ) : swept hki K V Q G x j = swept hki K V Q G y j := by
  induction j with
  | zero => unfold swept clear; rw [if_pos h0, if_pos h0]
  | succ j ih => unfold swept; rw [ih]

theorem sweepAt_clear (c : Dev nD) (t : Fin cfg0.N) (h0 : t.val % 16 = 0) (x y : Vec F S1x8192x128 .f32) :
    sweepAt m c t x = sweepAt m c t y := swept_clear _ h0 _ _ _ _ _ _ _

/-- The proof data: each input's buffer holds its block, each result's what the sweep leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (after m c t).2
    | ⟨5, _⟩ => k0_pay15 (after m c t).1.1
    | ⟨6, _⟩ => k0_pay16 (after m c t).1.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (after m c t).2 := by dsimp only [dats]
theorem after0_5 (c : Dev nD) (t : Fin cfg0.N) : (dats m 0 c).after 5 t = k0_pay15 (after m c t).1.1 := by dsimp only [dats]
theorem after0_6 (c : Dev nD) (t : Fin cfg0.N) : (dats m 0 c).after 6 t = k0_pay16 (after m c t).1.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Past a head's first block of keys, the buffer of the gradient of q holds what the point before left. -/
theorem before0_4 (c : Dev nD) (t : Fin cfg0.N) (h0 : t.val % 16 ≠ 0) (d) : (dats m 0 c).before 4 t d = dqBefore m c t.val := by
  have hne : t.val ≠ 0 := fun e => h0 (by rw [e])
  have hfl : ¬ (cfg0.win 4).flush ⟨t.val - 1, Nat.lt_of_le_of_lt (Nat.sub_le _ _) t.isLt⟩ = true := fun e => by
    have e' : (t.val - 1) % 16 = 15 := (flush0_4 _).mp e
    omega
  rw [(dats m 0 c).before_of_pos 4 t hne rfl d, if_neg hfl]
  show (dats m 0 c).after 4 ⟨t.val - 1, _⟩ = _
  rw [after0_4, ← dqBefore_succ]
  show dqBefore m c (t.val - 1 + 1) = _
  rw [Nat.sub_add_cancel (Nat.pos_of_ne_zero hne)]

theorem after_of_before (c : Dev nD) (t : Fin cfg0.N) (d) : sweepAt m c t ((dats m 0 c).before 4 t d) = after m c t := by
  by_cases h0 : t.val % 16 = 0
  · exact sweepAt_clear m c t h0 _ _
  · rw [before0_4 m c t h0]; rfl

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4,
    after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← after_of_before m c t d4]
  iapply (body c _ _ _ _ _ _ _ _ _ _ _ _ _ _ _ (key_lt t.val) (point t) (iblk m c 2 t) (iblk m c 3 t) (iblk m c 0 t) (iblk m c 1 t)
    ((dats m 0 c).before 4 t d4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- Every weakly fair execution ends with each array of the call and each host result at its computed value, and every counter at zero. -/
theorem run_main : θ_run defs (onTc (τ := τ) (main (F := F))) (s₀ m ρ)
    (fun r => Pipeline.FramePost cfgs (dats m) 0 (Pipeline.afterTail₀ cfgs (dats m) 0 (V0 m) [hostOps1, hostOps1_1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := fun _ _ => rfl) (hΦ := fun _ _ => rfl)

theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Bwd

end

end
-- ==== Proof.Word.lean ====
/-
  The program on words and the program on extended reals have one text, so the run of the second, stated over any
  reading of the floats, is the run of the first too.
-/
module

public import proofs.«01_k».proof.Defs
public import proofs.«01_k».proof.Proof.Gen.Kernel
public import proofs.«01_k».proof.Proof.Run

@[expose] public section

set_option maxRecDepth 16384

noncomputable section

namespace Cert.Bwd

open Idealize.ShloMosaic Idealize.SL.Sem

variable {F : FTy → Type} [FloatOps F]

set_option smartUnfolding false in
theorem defs₀_eq : Cert.Kernel.defs₀ (F := F) = Cert.KernelIdeal.defs₀ (F := F) := rfl

theorem defs_eq : Cert.Kernel.defs (F := F) = Cert.KernelIdeal.defs (F := F) :=
  congrArg (Pipeline.defs (Cert.KernelIdeal.pcfgs (F := F))) defs₀_eq

set_option maxHeartbeats 4000000 in
theorem part0_eq : Cert.Kernel.main_part0 (F := F) = Cert.KernelIdeal.main_part0 (F := F) := rfl
set_option maxHeartbeats 4000000 in
theorem part1_eq : Cert.Kernel.main_part1 (F := F) = Cert.KernelIdeal.main_part1 (F := F) := rfl
set_option maxHeartbeats 4000000 in
theorem part2_eq : Cert.Kernel.main_part2 (F := F) = Cert.KernelIdeal.main_part2 (F := F) := rfl

theorem main_eq : Cert.Kernel.main (F := F) = Cert.KernelIdeal.main (F := F) := funext fun d =>
  (congrArg₂ (fun p q : Prog _ PUnit => p >>= fun _ => q) (congrFun part0_eq d)
    (congrArg₂ (fun p q : Prog _ PUnit => p >>= fun _ => q) (congrFun part1_eq d) (congrFun part2_eq d)) : _)

/-- The frame of a program that is the second one. -/
theorem frame_of_eq (ds) (hd : ds = Cert.KernelIdeal.defs (F := F)) (mn) (hm : mn = Cert.KernelIdeal.main (F := F)) (m) (ρ) :
    θ_run ds (onTc (τ := Cert.KernelIdeal.τ) mn) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  subst hd hm
  exact frame m ρ

theorem frame_kernel : Cert.quiescent_Kernel (hKernel := Cert.Kernel.Gen.facts) := fun m ρ _ => frame_of_eq _ defs_eq _ main_eq m ρ

end Cert.Bwd

end

end
-- ==== Proof.Tile.lean ====
/-
  The tiles of the attention gradient over the extended reals, as sums.

  A head's operands are read by row and lane. A tile is a block of 512 keys against a block of 512 queries. `prob` is the
  masked exponential of a key and a query and `dsc` its product with the gradient of the probability.
-/
module

public import proofs.«01_k».proof.Proof.Steps
public import Idealize.ShloMosaic.Lib.MatmulPlain
public import Idealize.ShloMosaic.Lib.ValueLayout
public import Idealize.ShloMosaic.Lib.IdealHost
public import Idealize.ShloMosaic.Lib.Pointwise.Contract
public import Idealize.ShloMosaic.Lib.WordArith

@[expose] public section

set_option maxRecDepth 16384

noncomputable section

namespace Cert.Bwd

open Cert.KernelIdeal Cert.KernelIdeal.Gen Idealize.ShloMosaic.ValueIdx
open Idealize.ShloMosaic hiding ix1 ix2 ix3 ix4
open scoped BigOperators

/-- An array of 8192 rows of 128 lanes. -/
abbrev Rows : Type := Fin 8192 → Fin 128 → EReal

/-- Row `r` of block `b`. -/
def pos (b : ℕ) (r : Fin 512) : Fin 8192 := Fin.ofNat 8192 (b * 512 + r.val)

theorem pos_val {b : ℕ} (hb : b < 16) (r : Fin 512) : (pos b r).val = b * 512 + r.val := by
  have := r.isLt
  show (b * 512 + r.val) % 8192 = _
  exact Nat.mod_eq_of_lt (by omega)

/-- The masked exponential of key `s` and query `t`. -/
def prob (K Q : Rows) (s t : Fin 8192) : EReal := if s ≤ t then Ideal.exp2 (∑ l, K s l * Q t l) else 0
/-- Its product with the gradient of the probability. -/
def dsc (K V Q G : Rows) (s t : Fin 8192) : EReal := prob K Q s t * ∑ l, V s l * G t l

/-- A block reads rows of block `b`. -/
def BlockOf (x : S1x512x128.Idx → EReal) (X : Rows) (b : ℕ) : Prop := ∀ r l, x (ix3 0 r l) = X (pos b r) l
/-- A head reads these rows. -/
def HeadOf (x : S1x8192x128.Idx → EReal) (X : Rows) : Prop := ∀ t l, x (ix3 0 t l) = X t l

theorem emb_row {n : ℕ} (hn : n < 16) (r : Fin 512) (l : Fin 128) :
    (Rect.unit (s := S1x8192x128) (row n) S1x512x128.size (row_inb hn)).emb (ix3 0 r l) = ix3 0 (pos n r) l := by
  funext a
  apply Fin.ext
  have h := pos_val hn r
  match a with
  | ⟨0, _⟩ => rfl
  | ⟨1, _⟩ =>
    show n * 512 + 1 * r.val = (pos n r).val
    omega
  | ⟨2, _⟩ =>
    show 0 + 1 * l.val = l.val
    omega

theorem blk_apply {e : EltTy} (x : Vec Ideal S1x8192x128 e) {n : ℕ} (hn : n < 16) (r : Fin 512) (l : Fin 128) :
    blk x hn (ix3 0 r l) = x (ix3 0 (pos n r) l) := congrArg x (emb_row hn r l)

theorem blockOf_blk {x : Vec Ideal S1x8192x128 .bf16} {X : Rows} (h : HeadOf x X) {n : ℕ} (hn : n < 16) :
    BlockOf (blk x hn) X n := fun r l => (blk_apply x hn r l).trans (h _ _)

/-- The rows of the block just put. -/
theorem put_apply_same (x : Vec Ideal S1x8192x128 .f32) {n : ℕ} (hn : n < 16) (w : Vec Ideal S1x512x128 .f32) (r : Fin 512) (l : Fin 128) :
    VecWindow.put x (row n) S1x512x128.size w (ix3 0 (pos n r) l) = w (ix3 0 r l) := by
  rw [← emb_row hn r l]
  exact congrFun (VecWindow.window_put_same x (row n) S1x512x128.size (row_inb hn) w) (ix3 0 r l)

/-- The rows of another block. -/
theorem put_apply_ne (x : Vec Ideal S1x8192x128 .f32) {n b : ℕ} (hb : b < 16) (hne : b ≠ n) (w : Vec Ideal S1x512x128 .f32) (r : Fin 512)
    (l : Fin 128) : VecWindow.put x (row n) S1x512x128.size w (ix3 0 (pos b r) l) = x (ix3 0 (pos b r) l) := by
  unfold VecWindow.put
  rw [dif_neg]
  intro h
  have h1 := h 1
  have e : ((ix3 (0 : Fin 1) (pos b r) l : S1x8192x128.Idx) 1).val = b * 512 + r.val := pos_val hb r
  have hr := r.isLt
  rw [e] at h1
  have h2 : n * 512 ≤ b * 512 + r.val ∧ b * 512 + r.val < n * 512 + 512 := h1
  omega

/-! ### The three products of a tile -/

theorem mm_nt (a b : FVec Ideal S512x128 .bf16) (r c : Fin 512) :
    matmul dot_S512x128_S512x128_S512x512_1_1_0_0_n_n none a b (constant S512x512 .f32 0x00000000#32) (ix2 r c)
      = ∑ l : Fin 128, a (ix2 r l) * b (ix2 c l) := by
  refine (Ideal.matmul_transposedRhs_apply (M := 512) (K := 128) (N := 512) none a b _ r c).trans ?_
  rw [constant_apply, Ideal.ofBits_zero_f32, zero_add]

theorem mm_nn (a : FVec Ideal S512x512 .bf16) (b : FVec Ideal S512x128 .bf16) (r : Fin 512) (l : Fin 128) :
    matmul dot_S512x512_S512x128_S512x128_1_0_0_1_n_n none a b (constant S512x128 .f32 0x00000000#32) (ix2 r l)
      = ∑ c : Fin 512, a (ix2 r c) * b (ix2 c l) := by
  refine (Ideal.matmul_plain_apply (M := 512) (K := 512) (N := 128) none a b _ r l).trans ?_
  rw [constant_apply, Ideal.ofBits_zero_f32, zero_add]

theorem mm_tn (a : FVec Ideal S512x512 .bf16) (b : FVec Ideal S512x128 .bf16) (c : Fin 512) (l : Fin 128) :
    matmul dot_S512x512_S512x128_S512x128_0_0_1_1_n_n none a b (constant S512x128 .f32 0x00000000#32) (ix2 c l)
      = ∑ r : Fin 512, a (ix2 r c) * b (ix2 r l) := by
  refine (Ideal.matmul_apply₁_of dot_S512x512_S512x128_S512x128_0_0_1_1_n_n (a := 0) rfl (K := 512) rfl a b _ _
    (fun r => ix2 r c) (fun r => ix2 r l) (fun r => ?_) (fun r => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem sge_nat {a b : ℕ} (ha : a < 2 ^ 31) (hb : b < 2 ^ 31) :
    IntOp.cmpi .sge (BitVec.ofNat 32 a) (BitVec.ofNat 32 b) = if b ≤ a then 1#1 else 0#1 := by
  have e : IntOp.cmpi .sge (BitVec.ofNat 32 a) (BitVec.ofNat 32 b) = BitVec.ofBool ((BitVec.ofNat 32 b).sle (BitVec.ofNat 32 a)) := rfl
  rw [e, BitVec.sle_eq_decide, WordArith.toInt_ofNat_small a ha, WordArith.toInt_ofNat_small b hb]
  by_cases h : b ≤ a
  · rw [if_pos h, decide_eq_true (by exact_mod_cast h)]; rfl
  · rw [if_neg h, decide_eq_false (by exact_mod_cast h)]; rfl

/-! ### The payloads at an index -/

section Tile
variable {K V Q G : Rows} {ki b : ℕ}

theorem drop_apply (x : S1x512x128.Idx → EReal) (r : Fin 512) (l : Fin 128) :
    shapeCast S512x128 x shapeCasts_S1x512x128_S512x128 (ix2 r l) = x (ix3 0 r l) := shapeCast_1ab_ab_apply x _ r l
theorem lift_apply (x : S512x128.Idx → EReal) (r : Fin 512) (l : Fin 128) :
    shapeCast S1x512x128 x shapeCasts_S512x128_S1x512x128 (ix3 0 r l) = x (ix2 r l) := shapeCast_ab_1ab_apply x _ 0 r l

theorem pay3_apply {k : Vec Ideal S1x512x128 .bf16} (hk : BlockOf k K ki) {q : Vec Ideal S1x512x128 .bf16} (hq : BlockOf q Q b)
    (hki : ki < 16) (hb : b < 16) (hlt : ki < b) (r c : Fin 512) :
    k0_pay3 (F := Ideal) (k0_pay32 k) q (ix2 r c) = prob K Q (pos ki r) (pos b c) := by
  have hle : pos ki r ≤ pos b c := by
    rw [Fin.le_def, pos_val hki, pos_val hb]
    have := r.isLt
    omega
  unfold prob
  rw [if_pos hle]
  show Ideal.exp2 _ = _
  refine congrArg Ideal.exp2 ((mm_nt _ _ r c).trans (Finset.sum_congr rfl fun l _ => ?_))
  rw [show k0_pay32 k (ix2 r l) = k (ix3 0 r l) from drop_apply k r l, show k0_pay1 q (ix2 c l) = q (ix3 0 c l) from drop_apply q c l, hk, hq]

theorem pay36_apply {k : Vec Ideal S1x512x128 .bf16} (hk : BlockOf k K ki) {q : Vec Ideal S1x512x128 .bf16} (hq : BlockOf q Q ki)
    (hki : ki < 16) (r c : Fin 512) : k0_pay36 (F := Ideal) k q (ix2 r c) = prob K Q (pos ki r) (pos ki c) := by
  have hmask : (cmpi .sge (iota .tc S512x512 32 [1] iota_S512x512_d1_w32) (iota .tc S512x512 32 [0] iota_S512x512_d0_w32) : IVec S512x512 1) (ix2 r c)
      = if r ≤ c then 1#1 else 0#1 := by
    show IntOp.cmpi .sge (BitVec.ofNat 32 (0 * 512 + c.val)) (BitVec.ofNat 32 (0 * 512 + r.val)) = _
    rw [Nat.zero_mul, Nat.zero_add, Nat.zero_add, sge_nat (by have := c.isLt; omega) (by have := r.isLt; omega)]
    rfl
  unfold prob
  have hiff : pos ki r ≤ pos ki c ↔ r ≤ c := by
    rw [Fin.le_def, pos_val hki, pos_val hki, Fin.le_def]
    omega
  have hsel : k0_pay36 (F := Ideal) k q (ix2 r c)
      = Scalar.select ((cmpi .sge (iota .tc S512x512 32 [1] iota_S512x512_d1_w32) (iota .tc S512x512 32 [0] iota_S512x512_d0_w32) : IVec S512x512 1) (ix2 r c))
        (Ideal.exp2 (matmul dot_S512x128_S512x128_S512x512_1_1_0_0_n_n none (k0_pay32 k) (k0_pay34 q) (constant S512x512 .f32 0x00000000#32) (ix2 r c)))
        (Ideal.ofBits .f32 0x00000000#32) := rfl
  rw [hsel, hmask, mm_nt, Ideal.ofBits_zero_f32]
  by_cases h : r ≤ c
  · rw [if_pos h, if_pos (hiff.mpr h)]
    refine congrArg Ideal.exp2 (Finset.sum_congr rfl fun l _ => ?_)
    rw [show k0_pay32 k (ix2 r l) = k (ix3 0 r l) from drop_apply k r l, show k0_pay34 q (ix2 c l) = q (ix3 0 c l) from drop_apply q c l, hk, hq]
  · rw [if_neg h, if_neg fun h' => h (hiff.mp h')]
    rfl

theorem pay5_apply {k v : Vec Ideal S1x512x128 .bf16} (hk : BlockOf k K ki) (hv : BlockOf v V ki) {q g : Vec Ideal S1x512x128 .bf16}
    (hq : BlockOf q Q b) (hg : BlockOf g G b) (hki : ki < 16) (hb : b < 16) (hlt : ki < b) (r c : Fin 512) :
    k0_pay5 (F := Ideal) (k0_pay32 k) (k0_pay33 v) q g (ix2 r c) = dsc K V Q G (pos ki r) (pos b c) := by
  show k0_pay3 (F := Ideal) (k0_pay32 k) q (ix2 r c) * _ = _
  rw [pay3_apply hk hq hki hb hlt]
  refine congrArg (prob K Q (pos ki r) (pos b c) * ·) ((mm_nt _ _ r c).trans (Finset.sum_congr rfl fun l _ => ?_))
  rw [show k0_pay33 v (ix2 r l) = v (ix3 0 r l) from drop_apply v r l, show k0_pay2 g (ix2 c l) = g (ix3 0 c l) from drop_apply g c l, hv, hg]

theorem pay38_apply {k v : Vec Ideal S1x512x128 .bf16} (hk : BlockOf k K ki) (hv : BlockOf v V ki) {q g : Vec Ideal S1x512x128 .bf16}
    (hq : BlockOf q Q ki) (hg : BlockOf g G ki) (hki : ki < 16) (r c : Fin 512) :
    k0_pay38 (F := Ideal) k v q g (ix2 r c) = dsc K V Q G (pos ki r) (pos ki c) := by
  show k0_pay36 (F := Ideal) k q (ix2 r c) * _ = _
  rw [pay36_apply hk hq hki]
  refine congrArg (prob K Q (pos ki r) (pos ki c) * ·) ((mm_nt _ _ r c).trans (Finset.sum_congr rfl fun l _ => ?_))
  rw [show k0_pay33 v (ix2 r l) = v (ix3 0 r l) from drop_apply v r l, show k0_pay35 g (ix2 c l) = g (ix3 0 c l) from drop_apply g c l, hv, hg]

end Tile

end Cert.Bwd

end

end
-- ==== Proof.Sweep.lean ====
/-
  What the sweep of a block of keys leaves, over the extended reals: full sums over the 8192 queries.
-/
module

public import proofs.«01_k».proof.Proof.Tile

@[expose] public section

set_option maxRecDepth 16384

noncomputable section

namespace Cert.Bwd

open Cert.KernelIdeal Cert.KernelIdeal.Gen Idealize.ShloMosaic.ValueIdx
open Idealize.ShloMosaic hiding ix1 ix2 ix3 ix4
open scoped BigOperators

/-! ### Sums by blocks of 512 -/

theorem sum_blocks {M : Type*} [AddCommMonoid M] (f : Fin 8192 → M) :
    ∑ t, f t = ∑ b ∈ Finset.range 16, ∑ c : Fin 512, f (pos b c) := by
  rw [Finset.sum_range (fun b => ∑ c : Fin 512, f (pos b c)), ← Fintype.sum_prod_type' (f := fun (b : Fin 16) (c : Fin 512) => f (pos b.val c))]
  refine (Fintype.sum_equiv (finProdFinEquiv (m := 16) (n := 512)) _ _ fun p => ?_).symm
  refine congrArg f (Fin.ext ?_)
  rw [pos_val p.1.isLt]
  show _ = p.2.val + 512 * p.1.val
  omega

theorem sum_blocks_from {M : Type*} [AddCommMonoid M] {ki : ℕ} (hki : ki < 16) (f : Fin 8192 → M)
    (h0 : ∀ b c, b < ki → f (pos b c) = 0) :
    ∑ b ∈ Finset.range (15 - ki + 1), ∑ c : Fin 512, f (pos (ki + b) c) = ∑ t, f t := by
  rw [sum_blocks, show 15 - ki + 1 = 16 - ki by omega, ← Finset.sum_Ico_eq_sum_range (fun b => ∑ c : Fin 512, f (pos b c)) ki 16]
  refine Finset.sum_subset (fun b hb => ?_) fun b hb hb' => ?_
  · rw [Finset.mem_Ico] at hb
    exact Finset.mem_range.mpr hb.2
  · rw [Finset.mem_range] at hb
    rw [Finset.mem_Ico] at hb'
    exact Finset.sum_eq_zero fun c _ => h0 b c (by omega)

theorem exists_pos (t : Fin 8192) : ∃ b, b < 16 ∧ ∃ c, t = pos b c := by
  have ht := t.isLt
  refine ⟨t.val / 512, by omega, ⟨t.val % 512, Nat.mod_lt _ (by decide)⟩, Fin.ext ?_⟩
  rw [pos_val (by omega)]
  show t.val = t.val / 512 * 512 + t.val % 512
  omega

theorem prob_before (K Q : Rows) {ki b : ℕ} (hki : ki < 16) (h : b < ki) (r c : Fin 512) : prob K Q (pos ki r) (pos b c) = 0 := by
  unfold prob
  rw [if_neg]
  rw [Fin.le_def, pos_val hki, pos_val (by omega)]
  have := c.isLt
  omega

theorem dsc_before (K V Q G : Rows) {ki b : ℕ} (hki : ki < 16) (h : b < ki) (r c : Fin 512) : dsc K V Q G (pos ki r) (pos b c) = 0 := by
  unfold dsc
  rw [prob_before K Q hki h, zero_mul]

theorem pay41_apply (v4 : FVec Ideal S512x128 .bf16) (v29 : FVec Ideal S512x512 .bf16) (v34 : FVec Ideal S512x128 .f32) (c : Fin 512) (l : Fin 128) :
    k0_pay41 v4 v29 v34 (ix3 0 c l)
      = v34 (ix2 c l) + matmul (F := Ideal) dot_S512x512_S512x128_S512x128_0_0_1_1_n_n none v29 v4 (constant S512x128 .f32 0x00000000#32) (ix2 c l) :=
  lift_apply (addf v34 (matmul dot_S512x512_S512x128_S512x128_0_0_1_1_n_n none v29 v4 (constant S512x128 .f32 0x00000000#32))) c l

theorem pay7_apply (v4 v6 : FVec Ideal S512x128 .bf16) (q g : Vec Ideal S1x512x128 .bf16) (y : Vec Ideal S1x512x128 .f32) (c : Fin 512) (l : Fin 128) :
    k0_pay7 v4 v6 q g y (ix3 0 c l)
      = shapeCast S512x128 y shapeCasts_S1x512x128_S512x128 (ix2 c l)
        + matmul (F := Ideal) dot_S512x512_S512x128_S512x128_0_0_1_1_n_n none (k0_pay5 v4 v6 q g) v4 (constant S512x128 .f32 0x00000000#32) (ix2 c l) :=
  lift_apply (addf (φ := .f32) (shapeCast S512x128 y shapeCasts_S1x512x128_S512x128 : FVec Ideal S512x128 .f32)
    (matmul dot_S512x512_S512x128_S512x128_0_0_1_1_n_n none (k0_pay5 v4 v6 q g) v4 (constant S512x128 .f32 0x00000000#32))) c l

/-! ### The sweep -/

section
variable {K V Q G : Rows} {ki : ℕ} (hki : ki < 16) {k v : Vec Ideal S1x512x128 .bf16} {q g : Vec Ideal S1x8192x128 .bf16}
  (hk : BlockOf k K ki) (hv : BlockOf v V ki) (hq : HeadOf q Q) (hg : HeadOf g G) (x : Vec Ideal S1x8192x128 .f32)

include hk hv hq hg in
theorem swept_value (j : ℕ) (hj : ki + j < 16) :
    (∀ r l, (swept hki k v q g x j).1.2 (ix2 r l)
      = ∑ b ∈ Finset.range (j + 1), ∑ c : Fin 512, prob K Q (pos ki r) (pos (ki + b) c) * G (pos (ki + b) c) l)
    ∧ (∀ r l, (swept hki k v q g x j).1.1 (ix2 r l)
      = ∑ b ∈ Finset.range (j + 1), ∑ c : Fin 512, dsc K V Q G (pos ki r) (pos (ki + b) c) * Q (pos (ki + b) c) l)
    ∧ ∀ b, b < 16 → ∀ c l, (swept hki k v q g x j).2 (ix3 0 (pos b c) l)
      = clear (F := Ideal) ki x (ix3 0 (pos b c) l)
        + if ki ≤ b ∧ b ≤ ki + j then ∑ r : Fin 512, dsc K V Q G (pos ki r) (pos b c) * K (pos ki r) l else 0 := by
  induction j with
  | zero =>
    have hqb := blockOf_blk hq hki
    have hgb := blockOf_blk hg hki
    refine ⟨fun r l => ?_, fun r l => ?_, fun b hb c l => ?_⟩
    · rw [Finset.sum_range_one]
      show Ideal.ofBits .f32 0x00000000#32 + matmul (F := Ideal) _ none _ _ _ (ix2 r l) = _
      rw [Ideal.ofBits_zero_f32, zero_add]
      refine (mm_nn _ _ r l).trans (Finset.sum_congr rfl fun c _ => ?_)
      rw [show k0_pay35 (F := Ideal) (blk g hki) (ix2 c l) = blk g hki (ix3 0 c l) from drop_apply (blk g hki) c l, hgb]
      exact congrArg (· * G (pos ki c) l) (pay36_apply hk hqb hki r c)
    · rw [Finset.sum_range_one]
      show Ideal.ofBits .f32 0x00000000#32 + matmul (F := Ideal) _ none _ _ _ (ix2 r l) = _
      rw [Ideal.ofBits_zero_f32, zero_add]
      refine (mm_nn _ _ r l).trans (Finset.sum_congr rfl fun c _ => ?_)
      rw [show k0_pay34 (F := Ideal) (blk q hki) (ix2 c l) = blk q hki (ix3 0 c l) from drop_apply (blk q hki) c l, hqb]
      exact congrArg (· * Q (pos ki c) l) (pay38_apply hk hv hqb hgb hki r c)
    · show VecWindow.put (clear ki x) (row ki) S1x512x128.size _ (ix3 0 (pos b c) l) = _
      by_cases hbk : b = ki
      · subst hbk
        rw [put_apply_same _ hb, if_pos ⟨le_refl _, by omega⟩]
        refine (pay41_apply _ _ _ c l).trans ?_
        show k0_pay40 (F := Ideal) (blk (clear b x) hb) (ix2 c l) + matmul (F := Ideal) _ none _ _ _ (ix2 c l) = _
        rw [show k0_pay40 (F := Ideal) (blk (clear b x) hb) (ix2 c l) = blk (clear b x) hb (ix3 0 c l) from drop_apply (blk (clear b x) hb) c l, blk_apply]
        refine congrArg (clear (F := Ideal) b x (ix3 0 (pos b c) l) + ·) ((mm_tn _ _ c l).trans (Finset.sum_congr rfl fun r _ => ?_))
        rw [pay38_apply hk hv hqb hgb hb r c, show k0_pay32 (F := Ideal) k (ix2 r l) = k (ix3 0 r l) from drop_apply k r l, hk]
      · rw [put_apply_ne _ hb hbk, if_neg (by omega), add_zero]
  | succ j ih =>
    obtain ⟨ihv, ihk, ihq⟩ := ih (by omega)
    have hn : ki + 1 + j < 16 := by omega
    have hlt : ki < ki + 1 + j := by omega
    have e : ki + (j + 1) = ki + 1 + j := by omega
    have hqb := blockOf_blk hq hn
    have hgb := blockOf_blk hg hn
    rw [swept_succ hki k v q g x hn]
    refine ⟨fun r l => ?_, fun r l => ?_, fun b hb c l => ?_⟩
    · rw [Finset.sum_range_succ, ← ihv r l, e]
      refine congrArg ((swept hki k v q g x j).1.2 (ix2 r l) + ·) ((mm_nn _ _ r l).trans (Finset.sum_congr rfl fun c _ => ?_))
      rw [show k0_pay2 (F := Ideal) (blk g hn) (ix2 c l) = blk g hn (ix3 0 c l) from drop_apply (blk g hn) c l, hgb]
      exact congrArg (· * G (pos (ki + 1 + j) c) l) (pay3_apply hk hqb hki hn hlt r c)
    · rw [Finset.sum_range_succ, ← ihk r l, e]
      refine congrArg ((swept hki k v q g x j).1.1 (ix2 r l) + ·) ((mm_nn _ _ r l).trans (Finset.sum_congr rfl fun c _ => ?_))
      rw [show k0_pay1 (F := Ideal) (blk q hn) (ix2 c l) = blk q hn (ix3 0 c l) from drop_apply (blk q hn) c l, hqb]
      exact congrArg (· * Q (pos (ki + 1 + j) c) l) (pay5_apply hk hv hqb hgb hki hn hlt r c)
    · show VecWindow.put (swept hki k v q g x j).2 (row (ki + 1 + j)) S1x512x128.size _ (ix3 0 (pos b c) l) = _
      by_cases hbk : b = ki + 1 + j
      · subst hbk
        rw [put_apply_same _ hb, if_pos ⟨by omega, by omega⟩]
        refine (pay7_apply _ _ _ _ _ c l).trans ?_
        show shapeCast S512x128 (blk (swept hki k v q g x j).2 hn) shapeCasts_S1x512x128_S512x128 (ix2 c l)
          + matmul (F := Ideal) _ none _ _ _ (ix2 c l) = _
        rw [drop_apply, blk_apply, ihq _ hb, if_neg (by omega), add_zero]
        refine congrArg (clear (F := Ideal) ki x (ix3 0 (pos (ki + 1 + j) c) l) + ·) ((mm_tn _ _ c l).trans (Finset.sum_congr rfl fun r _ => ?_))
        rw [pay5_apply hk hv hqb hgb hki hn hlt r c, show k0_pay32 (F := Ideal) k (ix2 r l) = k (ix3 0 r l) from drop_apply k r l, hk]
      · rw [put_apply_ne _ hb hbk, ihq _ hb]
        by_cases hin : ki ≤ b ∧ b ≤ ki + j
        · rw [if_pos hin, if_pos (by omega)]
        · rw [if_neg hin, if_neg (by omega)]

include hk hv hq hg in
theorem final_dv (r : Fin 512) (l : Fin 128) :
    (final hki k v q g x).1.2 (ix2 r l) = ∑ t, prob K Q (pos ki r) t * G t l := by
  refine ((swept_value hki hk hv hq hg x (15 - ki) (by omega)).1 r l).trans ?_
  exact sum_blocks_from hki (fun t => prob K Q (pos ki r) t * G t l) fun b c hb => by
    rw [prob_before K Q hki hb, zero_mul]

include hk hv hq hg in
theorem final_dk (r : Fin 512) (l : Fin 128) :
    (final hki k v q g x).1.1 (ix2 r l) = ∑ t, dsc K V Q G (pos ki r) t * Q t l := by
  refine ((swept_value hki hk hv hq hg x (15 - ki) (by omega)).2.1 r l).trans ?_
  exact sum_blocks_from hki (fun t => dsc K V Q G (pos ki r) t * Q t l) fun b c hb => by
    rw [dsc_before K V Q G hki hb, zero_mul]

include hk hv hq hg in
theorem final_dq (t : Fin 8192) (l : Fin 128) :
    (final hki k v q g x).2 (ix3 0 t l)
      = clear (F := Ideal) ki x (ix3 0 t l) + ∑ r : Fin 512, dsc K V Q G (pos ki r) t * K (pos ki r) l := by
  obtain ⟨b, hb, c, rfl⟩ := exists_pos t
  refine ((swept_value hki hk hv hq hg x (15 - ki) (by omega)).2.2 b hb c l).trans ?_
  by_cases h : ki ≤ b
  · rw [if_pos ⟨h, by omega⟩]
  · rw [if_neg fun h' => h h'.1]
    refine congrArg (clear (F := Ideal) ki x (ix3 0 (pos b c) l) + ·) (Finset.sum_eq_zero fun r _ => ?_).symm
    rw [dsc_before K V Q G hki (by omega), zero_mul]

end

end Cert.Bwd

end

end
-- ==== Proof.Array.lean ====
/-
  What the grid leaves in the three arrays of the attention gradient, over the extended reals.
-/
module

public import proofs.«01_k».proof.Proof.Sweep
public import proofs.«01_k».proof.Proof.Run
public import Idealize.ShloMosaic.Lib.Pipeline.ValueKit

@[expose] public section

set_option maxRecDepth 16384

noncomputable section

namespace Cert.Bwd

open Cert.KernelIdeal Cert.KernelIdeal.Gen Idealize.ShloMosaic.ValueIdx Idealize.ShloMosaic.TcCoe
open Idealize.ShloMosaic hiding ix1 ix2 ix3 ix4
open scoped BigOperators

variable (m : (ℓ : Loc nD τ sig) → Buf (Elt Ideal) ℓ) (c : Dev nD)

/-- The head of a grid point. -/
def head (n : ℕ) : Fin 8 := Fin.ofNat 8 (n / 16)

theorem head_val {n : ℕ} (h : n < 128) : (head n).val = n / 16 := Nat.mod_eq_of_lt (by omega)

/-- The packed queries, output gradients, keys and values of a head. -/
def Qa (h : Fin 8) : Rows := fun t l => (V m c main_v76 : S8x8192x128.Idx → EReal) (ix3 h t l)
def Ga (h : Fin 8) : Rows := fun t l => (V m c main_v115 : S8x8192x128.Idx → EReal) (ix3 h t l)
def Ka (h : Fin 8) : Rows := fun t l => (V m c main_v92 : S8x8192x128.Idx → EReal) (ix3 h t l)
def Va (h : Fin 8) : Rows := fun t l => (V m c main_v99 : S8x8192x128.Idx → EReal) (ix3 h t l)

theorem index_head : ∀ t : Fin cfg0.N, cc0_transform_0 (grid0.coords t) = ![t.val / 16, 0, 0] := by decide +kernel
theorem index_block : ∀ t : Fin cfg0.N, cc0_transform_2 (grid0.coords t) = ![t.val / 16, t.val % 16, 0] := by decide +kernel

theorem lt_N (t : Fin cfg0.N) : t.val < 128 := t.isLt

/-- The place of an element of a head in the array. -/
theorem head_place (t : Fin cfg0.N) (s : Fin 8192) (l : Fin 128) (i : S8x8192x128.Idx)
    (h : ∀ a : Fin 3, (i a).val = cc0_transform_0 (grid0.coords t) a * S1x8192x128.size a + 1 * ((ix3 (0 : Fin 1) s l : S1x8192x128.Idx) a).val) :
    i = ix3 (head t.val) s l := by
  have hh := head_val (lt_N t)
  have e := index_head t
  refine funext fun a => Fin.ext ((h a).trans ?_)
  match a with
  | ⟨0, _⟩ =>
    show cc0_transform_0 (grid0.coords t) 0 * 1 + 1 * 0 = (head t.val).val
    rw [e, hh]; show t.val / 16 * 1 + 1 * 0 = _; omega
  | ⟨1, _⟩ =>
    show cc0_transform_0 (grid0.coords t) 1 * 8192 + 1 * s.val = s.val
    rw [e]; show 0 * 8192 + 1 * s.val = _; omega
  | ⟨2, _⟩ =>
    show cc0_transform_0 (grid0.coords t) 2 * 128 + 1 * l.val = l.val
    rw [e]; show 0 * 128 + 1 * l.val = _; omega

theorem headOf_0 (t : Fin cfg0.N) : HeadOf (iblk m c 0 t) (Qa m c (head t.val)) := fun s l =>
  congrArg (V m c main_v76 : S8x8192x128.Idx → EReal) (head_place t s l _ fun a => rfl)
theorem headOf_1 (t : Fin cfg0.N) : HeadOf (iblk m c 1 t) (Ga m c (head t.val)) := fun s l =>
  congrArg (V m c main_v115 : S8x8192x128.Idx → EReal) (head_place t s l _ fun a => rfl)

/-- The place of an element of a block of 512 rows in the array. -/
theorem block_place (t : Fin cfg0.N) (r : Fin 512) (l : Fin 128) (i : S8x8192x128.Idx)
    (h : ∀ a : Fin 3, (i a).val = cc0_transform_2 (grid0.coords t) a * S1x512x128.size a + 1 * ((ix3 (0 : Fin 1) r l : S1x512x128.Idx) a).val) :
    i = ix3 (head t.val) (pos (t.val % 16) r) l := by
  have hh := head_val (lt_N t)
  have hp := pos_val (key_lt t.val) r
  have e := index_block t
  refine funext fun a => Fin.ext ((h a).trans ?_)
  match a with
  | ⟨0, _⟩ =>
    show cc0_transform_2 (grid0.coords t) 0 * 1 + 1 * 0 = (head t.val).val
    rw [e, hh]; show t.val / 16 * 1 + 1 * 0 = _; omega
  | ⟨1, _⟩ =>
    show cc0_transform_2 (grid0.coords t) 1 * 512 + 1 * r.val = (pos (t.val % 16) r).val
    rw [e, hp]; show t.val % 16 * 512 + 1 * r.val = _; omega
  | ⟨2, _⟩ =>
    show cc0_transform_2 (grid0.coords t) 2 * 128 + 1 * l.val = l.val
    rw [e]; show 0 * 128 + 1 * l.val = _; omega

theorem blockOf_2 (t : Fin cfg0.N) : BlockOf (iblk m c 2 t) (Ka m c (head t.val)) (t.val % 16) := fun r l =>
  congrArg (V m c main_v92 : S8x8192x128.Idx → EReal) (block_place t r l _ fun a => rfl)
theorem blockOf_3 (t : Fin cfg0.N) : BlockOf (iblk m c 3 t) (Va m c (head t.val)) (t.val % 16) := fun r l =>
  congrArg (V m c main_v99 : S8x8192x128.Idx → EReal) (block_place t r l _ fun a => rfl)

/-! ### The gradient of q of a head as its blocks of keys are swept -/

/-- What the key rows of block `b` add to the gradient of q. -/
def part (K V Q G : Rows) (b : ℕ) (t : Fin 8192) (l : Fin 128) : EReal := ∑ r : Fin 512, dsc K V Q G (pos b r) t * K (pos b r) l

theorem dq_at (n : ℕ) (hn : n < cfg0.N) (t : Fin 8192) (l : Fin 128) :
    (after m c ⟨n, hn⟩).2 (ix3 0 t l)
      = ∑ b ∈ Finset.range (n % 16 + 1), part (Ka m c (head n)) (Va m c (head n)) (Qa m c (head n)) (Ga m c (head n)) b t l := by
  induction n with
  | zero =>
    refine (final_dq (key_lt 0) (blockOf_2 m c ⟨0, hn⟩) (blockOf_3 m c ⟨0, hn⟩) (headOf_0 m c ⟨0, hn⟩) (headOf_1 m c ⟨0, hn⟩) _ t l).trans ?_
    show Ideal.ofBits .f32 0x00000000#32 + _ = _
    rw [Ideal.ofBits_zero_f32, zero_add]
    exact (Finset.sum_range_one (fun b => part (Ka m c (head 0)) (Va m c (head 0)) (Qa m c (head 0)) (Ga m c (head 0)) b t l)).symm
  | succ n ih =>
    refine (final_dq (key_lt (n + 1)) (blockOf_2 m c ⟨n + 1, hn⟩) (blockOf_3 m c ⟨n + 1, hn⟩) (headOf_0 m c ⟨n + 1, hn⟩)
      (headOf_1 m c ⟨n + 1, hn⟩) _ t l).trans ?_
    rw [Finset.sum_range_succ]
    refine congrArg₂ (· + ·) ?_ rfl
    unfold clear
    by_cases h0 : (n + 1) % 16 = 0
    · rw [if_pos h0, h0, Finset.sum_range_zero]
      exact Ideal.ofBits_zero_f32
    · rw [if_neg h0]
      show dqBefore m c (n + 1) (ix3 0 t l) = _
      rw [dqBefore_succ m c ⟨n, by omega⟩, ih (by omega)]
      have hh : head (n + 1) = head n := by unfold head; congr 1; omega
      rw [hh, show (n + 1) % 16 = n % 16 + 1 by omega]

/-! ### The arrays -/

/-- The gradients of the packed queries, keys and values. -/
def dqArr : S8x8192x128.Idx → EReal := fun i =>
  ∑ s, dsc (Ka m c (i 0)) (Va m c (i 0)) (Qa m c (i 0)) (Ga m c (i 0)) s (i 1) * Ka m c (i 0) s (i 2)
def dkArr : S8x8192x128.Idx → EReal := fun i =>
  ∑ t, dsc (Ka m c (i 0)) (Va m c (i 0)) (Qa m c (i 0)) (Ga m c (i 0)) (i 1) t * Qa m c (i 0) t (i 2)
def dvArr : S8x8192x128.Idx → EReal := fun i =>
  ∑ t, prob (Ka m c (i 0)) (Qa m c (i 0)) (i 1) t * Ga m c (i 0) t (i 2)

theorem arr4 : (dats m 0 c).arrAt 4 cfg0.N = dqArr m c := by
  refine (dats m 0 c).arrAt_eq_of_covers 4 _ (by decide +kernel) fun t hf y => ?_
  have h15 : t.val % 16 = 15 := (flush0_4 t).mp hf
  obtain ⟨s, l, rfl⟩ : ∃ (s : Fin 8192) (l : Fin 128), y = (ix3 (0 : Fin 1) s l : S1x8192x128.Idx) :=
    ⟨y 1, y 2, (ValueIdx.eq_ix3 (n0 := 1) (n1 := 8192) (n2 := 128) y).trans (congrArg (ix3 · (y 1) (y 2)) (Fin.ext (Nat.lt_one_iff.mp (y 0).isLt)))⟩
  have hplace : (((cfg0.win 4).blk t).view.emb (ix3 (0 : Fin 1) s l : S1x8192x128.Idx) : S8x8192x128.Idx) = ix3 (head t.val) s l :=
    head_place t s l _ fun a => rfl
  refine Eq.trans ?_ (congrArg (dqArr m c) hplace.symm)
  show (after m c t).2 (ix3 0 s l) = _
  rw [dq_at m c t.val t.isLt s l, h15]
  exact (sum_blocks (fun r => dsc (Ka m c (head t.val)) (Va m c (head t.val)) (Qa m c (head t.val)) (Ga m c (head t.val)) r s
    * Ka m c (head t.val) r l)).symm

theorem arr5 : (dats m 0 c).arrAt 5 cfg0.N = dkArr m c := by
  refine (dats m 0 c).arrAt_eq_of_covers 5 _ (by decide +kernel) fun t hf y => ?_
  obtain ⟨r, l, rfl⟩ : ∃ (r : Fin 512) (l : Fin 128), y = (ix3 (0 : Fin 1) r l : S1x512x128.Idx) :=
    ⟨y 1, y 2, (ValueIdx.eq_ix3 (n0 := 1) (n1 := 512) (n2 := 128) y).trans (congrArg (ix3 · (y 1) (y 2)) (Fin.ext (Nat.lt_one_iff.mp (y 0).isLt)))⟩
  have hplace : (((cfg0.win 5).blk t).view.emb (ix3 (0 : Fin 1) r l : S1x512x128.Idx) : S8x8192x128.Idx)
      = ix3 (head t.val) (pos (t.val % 16) r) l := block_place t r l _ fun a => rfl
  refine Eq.trans ?_ (congrArg (dkArr m c) hplace.symm)
  exact (lift_apply (after m c t).1.1 r l).trans
    (final_dk (key_lt t.val) (blockOf_2 m c t) (blockOf_3 m c t) (headOf_0 m c t) (headOf_1 m c t) _ r l)

theorem arr6 : (dats m 0 c).arrAt 6 cfg0.N = dvArr m c := by
  refine (dats m 0 c).arrAt_eq_of_covers 6 _ (by decide +kernel) fun t hf y => ?_
  obtain ⟨r, l, rfl⟩ : ∃ (r : Fin 512) (l : Fin 128), y = (ix3 (0 : Fin 1) r l : S1x512x128.Idx) :=
    ⟨y 1, y 2, (ValueIdx.eq_ix3 (n0 := 1) (n1 := 512) (n2 := 128) y).trans (congrArg (ix3 · (y 1) (y 2)) (Fin.ext (Nat.lt_one_iff.mp (y 0).isLt)))⟩
  have hplace : (((cfg0.win 6).blk t).view.emb (ix3 (0 : Fin 1) r l : S1x512x128.Idx) : S8x8192x128.Idx)
      = ix3 (head t.val) (pos (t.val % 16) r) l := block_place t r l _ fun a => rfl
  refine Eq.trans ?_ (congrArg (dvArr m c) hplace.symm)
  exact (lift_apply (after m c t).1.2 r l).trans
    (final_dv (key_lt t.val) (blockOf_2 m c t) (blockOf_3 m c t) (headOf_0 m c t) (headOf_1 m c t) _ r l)

end Cert.Bwd

end

end
-- ==== Proof.Terms.lean ====
/-
  The host arrays around the attention gradient, as functions of the arguments: scores, softmax, logarithm of its sum,
  output, and the packed arrays the grid reads.
-/
module

public import proofs.«01_k».proof.Proof.Gen.KernelIdeal.Launch

@[expose] public section

noncomputable section

namespace Cert.Bwd

open Cert.KernelIdeal Cert.KernelIdeal.Gen Idealize.ShloMosaic

variable {F : FTy → Type} [FloatOps F]

/-- The log gates summed from the first position on. -/
def cumT (a : FVec F S8192x8 .f32) : FVec F S8192x8 .f32 :=
  Host.reduceWindowAdd ![8192, 1] ![1, 1] ![8191, 0] ![0, 0] a (broadcastInDim S_ ![] bcast_S_S_ (constant S_ .f32 0x00000000#32))
    reduceWindows_S8192x8_S8192x8_w8192s1p8191_0_w1s1p0_0 h_S_

/-- The same sum from the last position on. -/
def revT (a : FVec F S8192x8 .f32) : FVec F S8192x8 .f32 :=
  Host.reduceWindowAdd ![8192, 1] ![1, 1] ![0, 0] ![8191, 0] a (broadcastInDim S_ ![] bcast_S_S_ (constant S_ .f32 0x00000000#32))
    reduceWindows_S8192x8_S8192x8_w8192s1p0_8191_w1s1p0_0 h_S_

def headsT (f : FVec F S8192x8 .f32) : FVec F S8x8192 .f32 := transpose S8x8192 [1, 0] f transposes_S8192x8_S8x8192_1_0

def maskT : IVec S8x8192x8192 1 :=
  broadcastInDim S8x8192x8192 ![0, 1, 2] bcast_S1x8192x8192_S8x8192x8192_0_1_2
    (cmpi .sle (broadcastInDim S1x8192x8192 ![0, 1, 2] bcast_S1x1x8192_S1x8192x8192_0_1_2 (broadcastInDim S1x1x8192 ![2] bcast_S8192_S1x1x8192_2 (iotaInDim S8192 32 0)))
      (broadcastInDim S1x8192x8192 ![0, 1, 2] bcast_S1x8192x1_S1x8192x8192_0_1_2 (broadcastInDim S1x8192x1 ![1] bcast_S8192_S1x8192x1_1 (iotaInDim S8192 32 0))))

/-- The scores, at −∞ past the query's position. -/
def scoreT (q k : FVec F S8192x8x64 .f32) (f : FVec F S8192x8 .f32) : FVec F S8x8192x8192 .f32 :=
  select maskT
    (addf (mulf (Host.dotGeneral dot_S8192x8x64_S8192x8x64_S8x8192x8192_2_2_0_0_1_1 none q k) (broadcastInDim S8x8192x8192 ![] bcast_S_S8x8192x8192 (constant S_ .f32 0x3E000000#32)))
      (subf (broadcastInDim S8x8192x8192 ![0, 1, 2] bcast_S8x8192x1_S8x8192x8192_0_1_2 (broadcastInDim S8x8192x1 ![0, 1] bcast_S8x8192_S8x8192x1_0_1 (headsT f)))
        (broadcastInDim S8x8192x8192 ![0, 1, 2] bcast_S8x1x8192_S8x8192x8192_0_1_2 (broadcastInDim S8x1x8192 ![0, 2] bcast_S8x8192_S8x1x8192_0_2 (headsT f)))))
    (broadcastInDim S8x8192x8192 ![] bcast_S_S8x8192x8192 (constant S_ .f32 0xFF800000#32))

def maxT (s : FVec F S8x8192x8192 .f32) : FVec F S8x8192 .f32 :=
  Host.reduce FloatOps.maximumf s (constant S_ .f32 0xFF800000#32) reducesTo_S8x8192x8192_S8x8192_d2 h_S_

def colT (x : FVec F S8x8192 .f32) : FVec F S8x8192x1 .f32 := broadcastInDim S8x8192x1 ![0, 1] bcast_S8x8192_S8x8192x1_0_1 x

def wideT (x : FVec F S8x8192x1 .f32) : FVec F S8x8192x8192 .f32 :=
  broadcastInDim S8x8192x8192 ![0, 1, 2] bcast_S8x8192x1_S8x8192x8192_0_1_2 x

/-- The exponentials of the scores against `x`. -/
def expT (s : FVec F S8x8192x8192 .f32) (x : FVec F S8x8192 .f32) : FVec F S8x8192x8192 .f32 := Host.exp (subf s (wideT (colT x)))

def sumT (e : FVec F S8x8192x8192 .f32) : FVec F S8x8192 .f32 :=
  Host.reduceAdd e (constant S_ .f32 0x00000000#32) reducesTo_S8x8192x8192_S8x8192_d2 h_S_

def softT (e : FVec F S8x8192x8192 .f32) : FVec F S8x8192x8192 .f32 := Host.divf e (wideT (colT (sumT e)))

def lseT (s : FVec F S8x8192x8192 .f32) : FVec F S8x8192 .f32 :=
  shapeCast S8x8192 (addf (colT (maxT s)) (Host.log (colT (sumT (expT s (maxT s)))))) shapeCasts_S8x8192x1_S8x8192

def rowsT (x : FVec F S8192x8x64 .f32) : FVec F S8x8192x64 .f32 := transpose S8x8192x64 [1, 0, 2] x transposes_S8192x8x64_S8x8192x64_1_0_2

/-- The products of the output with its gradient, summed over the features. -/
def deltaT (s : FVec F S8x8192x8192 .f32) (v g : FVec F S8192x8x64 .f32) : FVec F S8x8192 .f32 :=
  Host.reduceAdd (mulf (rowsT g) (Host.dotGeneral dot_S8x8192x8192_S8192x8x64_S8x8192x64_2_0_1_2_0_1 none (softT (expT s (maxT s))) v))
    (constant S_ .f32 0x00000000#32) reducesTo_S8x8192x64_S8x8192_d2 h_S_

def ln2T : FVec F S_ .f32 := Host.log (constant S_ .f32 0x40000000#32)
def log2eT : FVec F S_ .f32 := Host.divf (constant S_ .f32 0x3F800000#32) ln2T
def oneT : FVec F S8x8192 .f32 := broadcastInDim S8x8192 ![] bcast_S_S8x8192 (constant S_ .f32 0x3F800000#32)

/-- The three parts of a number. -/
def hiT (x : FVec F S8x8192 .f32) : FVec F S8x8192 .f32 := extf .f32 (truncf .bf16 x bitsLt_bf16_f32) bitsLt_bf16_f32
def midT (x : FVec F S8x8192 .f32) : FVec F S8x8192 .f32 := hiT (subf x (hiT x))
def lowT (x : FVec F S8x8192 .f32) : FVec F S8x8192 .f32 := subf (subf x (hiT x)) (midT x)

def gateT (f : FVec F S8192x8 .f32) : FVec F S8x8192 .f32 := mulf (headsT f) (broadcastInDim S8x8192 ![] bcast_S_S8x8192 log2eT)
def levelT (x : FVec F S8x8192 .f32) : FVec F S8x8192 .f32 := mulf x (broadcastInDim S8x8192 ![] bcast_S_S8x8192 log2eT)

def zeroT : FVec F S_ .f32 := sitofp .f32 (constantI S_ 32 0#32)

/-- The packed queries. -/
def queryT (q : FVec F S8192x8x64 .f32) (f : FVec F S8192x8 .f32) (x : FVec F S8x8192 .f32) : FVec F S8x8192x128 .bf16 :=
  truncf .bf16 (pad S8x8192x128 ![0, 0, 0] ![0, 0, 54] ![0, 0, 0]
    (concatenate S8x8192x74 2 [⟨S8x8192x64, mulf (rowsT q) (broadcastInDim S8x8192x64 ![] bcast_S_S8x8192x64 (Host.divf log2eT (constant S_ .f32 0x41000000#32)))⟩,
      ⟨S8x8192x10, concatenate S8x8192x10 2 [⟨S8x8192x1, colT oneT⟩, ⟨S8x8192x1, colT oneT⟩, ⟨S8x8192x1, colT oneT⟩,
        ⟨S8x8192x1, colT (hiT (gateT f))⟩, ⟨S8x8192x1, colT (midT (gateT f))⟩, ⟨S8x8192x1, colT (lowT (gateT f))⟩,
        ⟨S8x8192x1, colT (Host.negf (hiT (levelT x)))⟩, ⟨S8x8192x1, colT (Host.negf (midT (levelT x)))⟩, ⟨S8x8192x1, colT (Host.negf (lowT (levelT x)))⟩,
        ⟨S8x8192x1, colT oneT⟩] concatenates_S8x8192x1_S8x8192x1_S8x8192x1_S8x8192x1_S8x8192x1_S8x8192x1_S8x8192x1_S8x8192x1_S8x8192x1_S8x8192x1_S8x8192x10_d2⟩]
      concatenates_S8x8192x64_S8x8192x10_S8x8192x74_d2) zeroT pads_S8x8192x74_S8x8192x128_000_000_0540 h_S_) bitsLt_bf16_f32

/-- The packed keys. -/
def keyT (k : FVec F S8192x8x64 .f32) (f : FVec F S8192x8 .f32) : FVec F S8x8192x128 .bf16 :=
  truncf .bf16 (pad S8x8192x128 ![0, 0, 0] ![0, 0, 55] ![0, 0, 0]
    (concatenate S8x8192x73 2 [⟨S8x8192x64, rowsT k⟩,
      ⟨S8x8192x9, concatenate S8x8192x9 2 [⟨S8x8192x1, colT (Host.negf (hiT (gateT f)))⟩, ⟨S8x8192x1, colT (Host.negf (midT (gateT f)))⟩, ⟨S8x8192x1, colT (Host.negf (lowT (gateT f)))⟩,
        ⟨S8x8192x1, colT oneT⟩, ⟨S8x8192x1, colT oneT⟩, ⟨S8x8192x1, colT oneT⟩, ⟨S8x8192x1, colT oneT⟩, ⟨S8x8192x1, colT oneT⟩, ⟨S8x8192x1, colT oneT⟩]
        concatenates_S8x8192x1_S8x8192x1_S8x8192x1_S8x8192x1_S8x8192x1_S8x8192x1_S8x8192x1_S8x8192x1_S8x8192x1_S8x8192x9_d2⟩]
      concatenates_S8x8192x64_S8x8192x9_S8x8192x73_d2) zeroT pads_S8x8192x73_S8x8192x128_000_000_0550 h_S_) bitsLt_bf16_f32

/-- The packed values (`x = y = z` the ones) and output gradients (the parts of the sums above, negated). -/
def packT (v : FVec F S8192x8x64 .f32) (x y z : FVec F S8x8192 .f32) : FVec F S8x8192x128 .bf16 :=
  truncf .bf16 (pad S8x8192x128 ![0, 0, 0] ![0, 0, 61] ![0, 0, 0]
    (concatenate S8x8192x67 2 [⟨S8x8192x64, rowsT v⟩,
      ⟨S8x8192x3, concatenate S8x8192x3 2 [⟨S8x8192x1, colT x⟩, ⟨S8x8192x1, colT y⟩, ⟨S8x8192x1, colT z⟩]
        concatenates_S8x8192x1_S8x8192x1_S8x8192x1_S8x8192x3_d2⟩]
      concatenates_S8x8192x64_S8x8192x3_S8x8192x67_d2) zeroT pads_S8x8192x67_S8x8192x128_000_000_0610 h_S_) bitsLt_bf16_f32

/-- The gradient of an argument of 64 features, of a packed one, unscaled. -/
def outT (a : FVec F S8x8192x128 .f32) : FVec F S8192x8x64 .f32 :=
  transpose S8192x8x64 [1, 0, 2] (extractStridedSlice S8x8192x64 ![0, 0, 0] a slices_S8x8192x128_S8x8192x64_0_0_0) transposes_S8x8192x64_S8192x8x64_1_0_2

def scaleT (a : FVec F S8192x8x64 .f32) (r : FVec F S_ .f32) : FVec F S8192x8x64 .f32 := mulf a (broadcastInDim S8192x8x64 ![] bcast_S_S8192x8x64 r)

/-- The gradient of the summed log gates, of the packed gradients of the queries and the keys. -/
def gradT (a b : FVec F S8x8192x128 .f32) : FVec F S8192x8 .f32 :=
  transpose S8192x8 [1, 0] (subf (shapeCast S8x8192 (extractStridedSlice S8x8192x1 ![0, 0, 67] a slices_S8x8192x128_S8x8192x1_0_0_67) shapeCasts_S8x8192x1_S8x8192)
    (shapeCast S8x8192 (extractStridedSlice S8x8192x1 ![0, 0, 73] b slices_S8x8192x128_S8x8192x1_0_0_73) shapeCasts_S8x8192x1_S8x8192)) transposes_S8x8192_S8192x8_1_0

end Cert.Bwd

end

end
-- ==== Proof.Host.lean ====
/-
  What the host lines leave: before the grid the packed arrays, after it the gradients, each of the arguments.
-/
module

public import proofs.«01_k».proof.Proof.Terms
public import Idealize.ShloMosaic.Lib.Pipeline.Frame

@[expose] public section

set_option maxRecDepth 16384

noncomputable section

namespace Cert.Bwd

open Cert.KernelIdeal Cert.KernelIdeal.Gen Idealize.ShloMosaic Idealize.ShloMosaic.TcCoe Idealize.ShloMosaic.StableHlo

variable {F : FTy → Type} [FloatOps F] (W : Valuation τ sig (Elt F))

section
variable {α : Type} {t s r : Shape} (d : Fin t.rank)

theorem cat2 {a a' : s.Idx → α} {b b' : r.Idx → α} (h) (ha : a = a') (hb : b = b') :
    concatenate t d [⟨s, a⟩, ⟨r, b⟩] h = concatenate t d [⟨s, a'⟩, ⟨r, b'⟩] h := by subst ha hb; rfl

theorem cat3 {a a' b b' c c' : s.Idx → α} (h) (ha : a = a') (hb : b = b') (hc : c = c') :
    concatenate t d [⟨s, a⟩, ⟨s, b⟩, ⟨s, c⟩] h = concatenate t d [⟨s, a'⟩, ⟨s, b'⟩, ⟨s, c'⟩] h := by subst ha hb hc; rfl

theorem cat9 {a0 b0 a1 b1 a2 b2 a3 b3 a4 b4 a5 b5 a6 b6 a7 b7 a8 b8 : s.Idx → α} (h) (h0 : a0 = b0) (h1 : a1 = b1) (h2 : a2 = b2)
    (h3 : a3 = b3) (h4 : a4 = b4) (h5 : a5 = b5) (h6 : a6 = b6) (h7 : a7 = b7) (h8 : a8 = b8) :
    concatenate t d [⟨s, a0⟩, ⟨s, a1⟩, ⟨s, a2⟩, ⟨s, a3⟩, ⟨s, a4⟩, ⟨s, a5⟩, ⟨s, a6⟩, ⟨s, a7⟩, ⟨s, a8⟩] h
      = concatenate t d [⟨s, b0⟩, ⟨s, b1⟩, ⟨s, b2⟩, ⟨s, b3⟩, ⟨s, b4⟩, ⟨s, b5⟩, ⟨s, b6⟩, ⟨s, b7⟩, ⟨s, b8⟩] h := by
  subst h0 h1 h2 h3 h4 h5 h6 h7 h8; rfl

theorem cat10 {a0 b0 a1 b1 a2 b2 a3 b3 a4 b4 a5 b5 a6 b6 a7 b7 a8 b8 a9 b9 : s.Idx → α} (h) (h0 : a0 = b0) (h1 : a1 = b1) (h2 : a2 = b2)
    (h3 : a3 = b3) (h4 : a4 = b4) (h5 : a5 = b5) (h6 : a6 = b6) (h7 : a7 = b7) (h8 : a8 = b8) (h9 : a9 = b9) :
    concatenate t d [⟨s, a0⟩, ⟨s, a1⟩, ⟨s, a2⟩, ⟨s, a3⟩, ⟨s, a4⟩, ⟨s, a5⟩, ⟨s, a6⟩, ⟨s, a7⟩, ⟨s, a8⟩, ⟨s, a9⟩] h
      = concatenate t d [⟨s, b0⟩, ⟨s, b1⟩, ⟨s, b2⟩, ⟨s, b3⟩, ⟨s, b4⟩, ⟨s, b5⟩, ⟨s, b6⟩, ⟨s, b7⟩, ⟨s, b8⟩, ⟨s, b9⟩] h := by
  subst h0 h1 h2 h3 h4 h5 h6 h7 h8 h9; rfl

end

theorem pack_congr {s t u : Shape} {lo hi mid : Fin s.rank → ℕ} {x x' : FVec F s .f32} {z : FVec F u .f32} {h : s.Pads lo hi mid t} {hu : 0 < u.numel}
    {hb : FTy.bits .bf16 < FTy.bits .f32} (hx : x = x') :
    truncf (F := F) .bf16 (pad t lo hi mid x z h hu) hb = truncf .bf16 (pad t lo hi mid x' z h hu) hb := by subst hx; rfl

theorem head0_v0 : StableHlo.after hostOps0 W (Proc.devRef .tc main_v0) = cumT (W (Proc.devRef .tc main_arg3)) := by
  simp only [hostOps0, TRef.binary, TRef.nullary, TRef.ternary, TRef.unary, TRef.toBuf, TRef.ofBuf, cast_eq]
  after_results_simp <;> rfl

set_option maxHeartbeats 4000000 in
theorem head1_v17 : StableHlo.after (hostOps0_1 ++ hostOps0_2) W (Proc.devRef .tc main_v17)
    = scoreT (W (Proc.devRef .tc main_arg0)) (W (Proc.devRef .tc main_arg1)) (W (Proc.devRef .tc main_v0)) := by
  simp only [hostOps0_1, hostOps0_2, List.cons_append, List.nil_append, TRef.binary, TRef.nullary, TRef.ternary, TRef.unary, TRef.toBuf, TRef.ofBuf, cast_eq]
  after_results_simp <;> rfl

set_option maxHeartbeats 40000000 in
theorem head3_v74 : StableHlo.after hostOps0_3 W (Proc.devRef .tc main_v74)
    = concatenate S8x8192x74 2 [⟨S8x8192x64, mulf (rowsT (W (Proc.devRef .tc main_arg0))) (broadcastInDim S8x8192x64 ![] bcast_S_S8x8192x64 (Host.divf log2eT (constant S_ .f32 0x41000000#32)))⟩,
      ⟨S8x8192x10, concatenate S8x8192x10 2 [⟨S8x8192x1, colT oneT⟩, ⟨S8x8192x1, colT oneT⟩, ⟨S8x8192x1, colT oneT⟩,
        ⟨S8x8192x1, colT (hiT (gateT (W (Proc.devRef .tc main_v0))))⟩, ⟨S8x8192x1, colT (midT (gateT (W (Proc.devRef .tc main_v0))))⟩, ⟨S8x8192x1, colT (lowT (gateT (W (Proc.devRef .tc main_v0))))⟩,
        ⟨S8x8192x1, colT (Host.negf (hiT (levelT (lseT (W (Proc.devRef .tc main_v17))))))⟩, ⟨S8x8192x1, colT (Host.negf (midT (levelT (lseT (W (Proc.devRef .tc main_v17))))))⟩, ⟨S8x8192x1, colT (Host.negf (lowT (levelT (lseT (W (Proc.devRef .tc main_v17))))))⟩,
        ⟨S8x8192x1, colT oneT⟩] concatenates_S8x8192x1_S8x8192x1_S8x8192x1_S8x8192x1_S8x8192x1_S8x8192x1_S8x8192x1_S8x8192x1_S8x8192x1_S8x8192x1_S8x8192x10_d2⟩]
      concatenates_S8x8192x64_S8x8192x10_S8x8192x74_d2 := by
  simp only [hostOps0_3]
  after_results_simp
  refine cat2 _ _ ?_ ?_
  · after_results_simp <;> rfl
  · after_results_simp
    refine cat10 _ _ ?_ ?_ ?_ ?_ ?_ ?_ ?_ ?_ ?_ ?_ <;> (try simp only [Matrix.cons_val]) <;> first | (after_results_simp <;> rfl) | after_results_simp

theorem head3_v32 : StableHlo.after hostOps0_3 W (Proc.devRef .tc main_v32)
    = rowsT (W (Proc.devRef .tc main_arg1)) := by
  simp only [hostOps0_3]
  after_results_simp <;> rfl

theorem head3_v33 : StableHlo.after hostOps0_3 W (Proc.devRef .tc main_v33)
    = rowsT (W (Proc.devRef .tc main_arg2)) := by
  simp only [hostOps0_3]
  after_results_simp <;> rfl

theorem head3_v34 : StableHlo.after hostOps0_3 W (Proc.devRef .tc main_v34)
    = rowsT (W (Proc.devRef .tc main_arg4)) := by
  simp only [hostOps0_3]
  after_results_simp <;> rfl

theorem head3_v36 : StableHlo.after hostOps0_3 W (Proc.devRef .tc main_v36)
    = deltaT (W (Proc.devRef .tc main_v17)) (W (Proc.devRef .tc main_arg2)) (W (Proc.devRef .tc main_arg4)) := by
  simp only [hostOps0_3]
  after_results_simp <;> rfl

theorem head3_v37 : StableHlo.after hostOps0_3 W (Proc.devRef .tc main_v37)
    = ln2T := by
  simp only [hostOps0_3]
  after_results_simp <;> rfl

theorem head3_c : StableHlo.after hostOps0_3 W (Proc.devRef .tc main_c) = constantI S_ 32 0#32 := by
  simp only [hostOps0_3]
  after_results_simp <;> rfl

theorem head3_v39 : StableHlo.after hostOps0_3 W (Proc.devRef .tc main_v39)
    = oneT := by
  simp only [hostOps0_3]
  after_results_simp <;> rfl

theorem head3_v44 : StableHlo.after hostOps0_3 W (Proc.devRef .tc main_v44)
    = hiT (gateT (W (Proc.devRef .tc main_v0))) := by
  simp only [hostOps0_3]
  after_results_simp <;> rfl

theorem head3_v47 : StableHlo.after hostOps0_3 W (Proc.devRef .tc main_v47)
    = midT (gateT (W (Proc.devRef .tc main_v0))) := by
  simp only [hostOps0_3]
  after_results_simp <;> rfl

theorem head3_v48 : StableHlo.after hostOps0_3 W (Proc.devRef .tc main_v48)
    = lowT (gateT (W (Proc.devRef .tc main_v0))) := by
  simp only [hostOps0_3]
  after_results_simp <;> rfl

/-- The host lines that pad and round the packed arrays. -/
abbrev packOps : List (HloOp τ sig (Elt F)) :=
  hostOps0_4 ++ hostOps0_5 ++ hostOps0_6 ++ hostOps0_7 ++ hostOps0_8 ++ hostOps0_9 ++ hostOps0_10 ++ hostOps0_11

theorem pack_v76 : StableHlo.after packOps W (Proc.devRef .tc main_v76)
    = (truncf .bf16 (pad S8x8192x128 ![0, 0, 0] ![0, 0, 54] ![0, 0, 0] (W (Proc.devRef .tc main_v74) : FVec F S8x8192x74 .f32) (sitofp .f32 (W (Proc.devRef .tc main_c) : IVec S_ 32))
      pads_S8x8192x74_S8x8192x128_000_000_0540 h_S_) bitsLt_bf16_f32 : FVec F S8x8192x128 .bf16) := by
  simp only [packOps, hostOps0_4, hostOps0_5, hostOps0_6, hostOps0_7, hostOps0_8, hostOps0_9, hostOps0_10, hostOps0_11, List.cons_append, List.nil_append,
    TRef.binary, TRef.nullary, TRef.ternary, TRef.unary, TRef.toBuf, TRef.ofBuf, cast_eq]
  after_results_simp <;> rfl

theorem pack_v92 : StableHlo.after packOps W (Proc.devRef .tc main_v92)
    = (truncf .bf16 (pad S8x8192x128 ![0, 0, 0] ![0, 0, 55] ![0, 0, 0]
    (concatenate S8x8192x73 2 [⟨S8x8192x64, (W (Proc.devRef .tc main_v32))⟩,
      ⟨S8x8192x9, concatenate S8x8192x9 2 [⟨S8x8192x1, colT (Host.negf (W (Proc.devRef .tc main_v44)))⟩, ⟨S8x8192x1, colT (Host.negf (W (Proc.devRef .tc main_v47)))⟩, ⟨S8x8192x1, colT (Host.negf (W (Proc.devRef .tc main_v48)))⟩,
        ⟨S8x8192x1, colT (W (Proc.devRef .tc main_v39))⟩, ⟨S8x8192x1, colT (W (Proc.devRef .tc main_v39))⟩, ⟨S8x8192x1, colT (W (Proc.devRef .tc main_v39))⟩, ⟨S8x8192x1, colT (W (Proc.devRef .tc main_v39))⟩, ⟨S8x8192x1, colT (W (Proc.devRef .tc main_v39))⟩, ⟨S8x8192x1, colT (W (Proc.devRef .tc main_v39))⟩]
        concatenates_S8x8192x1_S8x8192x1_S8x8192x1_S8x8192x1_S8x8192x1_S8x8192x1_S8x8192x1_S8x8192x1_S8x8192x1_S8x8192x9_d2⟩]
      concatenates_S8x8192x64_S8x8192x9_S8x8192x73_d2) zeroT pads_S8x8192x73_S8x8192x128_000_000_0550 h_S_) bitsLt_bf16_f32 : FVec F S8x8192x128 .bf16) := by
  simp only [packOps, hostOps0_4, hostOps0_5, hostOps0_6, hostOps0_7, hostOps0_8, hostOps0_9, hostOps0_10, hostOps0_11, List.cons_append, List.nil_append,
    TRef.binary, TRef.nullary, TRef.ternary, TRef.unary, TRef.toBuf, TRef.ofBuf, cast_eq]
  after_results_simp
  refine pack_congr ?_
  refine cat2 _ _ ?_ ?_
  · after_results_simp
  · after_results_simp
    refine cat9 _ _ ?_ ?_ ?_ ?_ ?_ ?_ ?_ ?_ ?_ <;> first | (after_results_simp <;> rfl) | rfl

theorem pack_v99 : StableHlo.after packOps W (Proc.devRef .tc main_v99)
    = (truncf .bf16 (pad S8x8192x128 ![0, 0, 0] ![0, 0, 61] ![0, 0, 0]
    (concatenate S8x8192x67 2 [⟨S8x8192x64, (W (Proc.devRef .tc main_v33))⟩,
      ⟨S8x8192x3, concatenate S8x8192x3 2 [⟨S8x8192x1, colT (W (Proc.devRef .tc main_v39))⟩, ⟨S8x8192x1, colT (W (Proc.devRef .tc main_v39))⟩, ⟨S8x8192x1, colT (W (Proc.devRef .tc main_v39))⟩]
        concatenates_S8x8192x1_S8x8192x1_S8x8192x1_S8x8192x3_d2⟩]
      concatenates_S8x8192x64_S8x8192x3_S8x8192x67_d2) zeroT pads_S8x8192x67_S8x8192x128_000_000_0610 h_S_) bitsLt_bf16_f32 : FVec F S8x8192x128 .bf16) := by
  simp only [packOps, hostOps0_4, hostOps0_5, hostOps0_6, hostOps0_7, hostOps0_8, hostOps0_9, hostOps0_10, hostOps0_11, List.cons_append, List.nil_append,
    TRef.binary, TRef.nullary, TRef.ternary, TRef.unary, TRef.toBuf, TRef.ofBuf, cast_eq]
  after_results_simp
  refine pack_congr ?_
  refine cat2 _ _ ?_ ?_
  · after_results_simp
  · after_results_simp
    refine cat3 _ _ ?_ ?_ ?_ <;> first | (after_results_simp <;> rfl) | rfl

theorem pack_v115 : StableHlo.after packOps W (Proc.devRef .tc main_v115)
    = (truncf .bf16 (pad S8x8192x128 ![0, 0, 0] ![0, 0, 61] ![0, 0, 0]
    (concatenate S8x8192x67 2 [⟨S8x8192x64, (W (Proc.devRef .tc main_v34))⟩,
      ⟨S8x8192x3, concatenate S8x8192x3 2 [⟨S8x8192x1, colT (Host.negf (hiT (W (Proc.devRef .tc main_v36))))⟩, ⟨S8x8192x1, colT (Host.negf (midT (W (Proc.devRef .tc main_v36))))⟩, ⟨S8x8192x1, colT (Host.negf (lowT (W (Proc.devRef .tc main_v36))))⟩]
        concatenates_S8x8192x1_S8x8192x1_S8x8192x1_S8x8192x3_d2⟩]
      concatenates_S8x8192x64_S8x8192x3_S8x8192x67_d2) zeroT pads_S8x8192x67_S8x8192x128_000_000_0610 h_S_) bitsLt_bf16_f32 : FVec F S8x8192x128 .bf16) := by
  simp only [packOps, hostOps0_4, hostOps0_5, hostOps0_6, hostOps0_7, hostOps0_8, hostOps0_9, hostOps0_10, hostOps0_11, List.cons_append, List.nil_append,
    TRef.binary, TRef.nullary, TRef.ternary, TRef.unary, TRef.toBuf, TRef.ofBuf, cast_eq]
  after_results_simp
  refine pack_congr ?_
  refine cat2 _ _ ?_ ?_
  · after_results_simp
  · after_results_simp
    refine cat3 _ _ ?_ ?_ ?_ <;> first | (after_results_simp <;> rfl) | rfl

theorem pack_v37 : StableHlo.after packOps W (Proc.devRef .tc main_v37) = W (Proc.devRef .tc main_v37) := by
  simp only [packOps, hostOps0_4, hostOps0_5, hostOps0_6, hostOps0_7, hostOps0_8, hostOps0_9, hostOps0_10, hostOps0_11, List.cons_append, List.nil_append,
    TRef.binary, TRef.nullary, TRef.ternary, TRef.unary, TRef.toBuf, TRef.ofBuf, cast_eq]
  after_results_simp

theorem head0_arg0 : StableHlo.after hostOps0 W (Proc.devRef .tc main_arg0) = W (Proc.devRef .tc main_arg0) := by
  simp only [hostOps0, TRef.binary, TRef.nullary, TRef.ternary, TRef.unary, TRef.toBuf, TRef.ofBuf, cast_eq]
  after_results_simp

theorem head0_arg1 : StableHlo.after hostOps0 W (Proc.devRef .tc main_arg1) = W (Proc.devRef .tc main_arg1) := by
  simp only [hostOps0, TRef.binary, TRef.nullary, TRef.ternary, TRef.unary, TRef.toBuf, TRef.ofBuf, cast_eq]
  after_results_simp

theorem head0_arg2 : StableHlo.after hostOps0 W (Proc.devRef .tc main_arg2) = W (Proc.devRef .tc main_arg2) := by
  simp only [hostOps0, TRef.binary, TRef.nullary, TRef.ternary, TRef.unary, TRef.toBuf, TRef.ofBuf, cast_eq]
  after_results_simp

theorem head0_arg4 : StableHlo.after hostOps0 W (Proc.devRef .tc main_arg4) = W (Proc.devRef .tc main_arg4) := by
  simp only [hostOps0, TRef.binary, TRef.nullary, TRef.ternary, TRef.unary, TRef.toBuf, TRef.ofBuf, cast_eq]
  after_results_simp

theorem head1_arg0 : StableHlo.after (hostOps0_1 ++ hostOps0_2) W (Proc.devRef .tc main_arg0) = W (Proc.devRef .tc main_arg0) := by
  simp only [hostOps0_1, hostOps0_2, List.cons_append, List.nil_append, TRef.binary, TRef.nullary, TRef.ternary, TRef.unary, TRef.toBuf, TRef.ofBuf, cast_eq]
  after_results_simp

theorem head1_arg1 : StableHlo.after (hostOps0_1 ++ hostOps0_2) W (Proc.devRef .tc main_arg1) = W (Proc.devRef .tc main_arg1) := by
  simp only [hostOps0_1, hostOps0_2, List.cons_append, List.nil_append, TRef.binary, TRef.nullary, TRef.ternary, TRef.unary, TRef.toBuf, TRef.ofBuf, cast_eq]
  after_results_simp

theorem head1_arg2 : StableHlo.after (hostOps0_1 ++ hostOps0_2) W (Proc.devRef .tc main_arg2) = W (Proc.devRef .tc main_arg2) := by
  simp only [hostOps0_1, hostOps0_2, List.cons_append, List.nil_append, TRef.binary, TRef.nullary, TRef.ternary, TRef.unary, TRef.toBuf, TRef.ofBuf, cast_eq]
  after_results_simp

theorem head1_arg4 : StableHlo.after (hostOps0_1 ++ hostOps0_2) W (Proc.devRef .tc main_arg4) = W (Proc.devRef .tc main_arg4) := by
  simp only [hostOps0_1, hostOps0_2, List.cons_append, List.nil_append, TRef.binary, TRef.nullary, TRef.ternary, TRef.unary, TRef.toBuf, TRef.ofBuf, cast_eq]
  after_results_simp

theorem head1_v0 : StableHlo.after (hostOps0_1 ++ hostOps0_2) W (Proc.devRef .tc main_v0) = W (Proc.devRef .tc main_v0) := by
  simp only [hostOps0_1, hostOps0_2, List.cons_append, List.nil_append, TRef.binary, TRef.nullary, TRef.ternary, TRef.unary, TRef.toBuf, TRef.ofBuf, cast_eq]
  after_results_simp

theorem tail_v125 : StableHlo.after (hostOps1 ++ hostOps1_1) W (Proc.devRef .tc main_v125) = scaleT (outT (W (Proc.devRef .tc main_v116_0))) (constant S_ .f32 0x3E000000#32) := by
  simp only [hostOps1, hostOps1_1, List.cons_append, List.nil_append, TRef.binary, TRef.nullary, TRef.ternary, TRef.unary, TRef.toBuf, TRef.ofBuf, cast_eq]
  after_results_simp <;> rfl

theorem tail_v129 : StableHlo.after (hostOps1 ++ hostOps1_1) W (Proc.devRef .tc main_v129) = scaleT (outT (W (Proc.devRef .tc main_v116_1))) (W (Proc.devRef .tc main_v37)) := by
  simp only [hostOps1, hostOps1_1, List.cons_append, List.nil_append, TRef.binary, TRef.nullary, TRef.ternary, TRef.unary, TRef.toBuf, TRef.ofBuf, cast_eq]
  after_results_simp <;> rfl

theorem tail_v131 : StableHlo.after (hostOps1 ++ hostOps1_1) W (Proc.devRef .tc main_v131) = outT (W (Proc.devRef .tc main_v116_2)) := by
  simp only [hostOps1, hostOps1_1, List.cons_append, List.nil_append, TRef.binary, TRef.nullary, TRef.ternary, TRef.unary, TRef.toBuf, TRef.ofBuf, cast_eq]
  after_results_simp <;> rfl

theorem tail_v133 : StableHlo.after (hostOps1 ++ hostOps1_1) W (Proc.devRef .tc main_v133) = revT (gradT (W (Proc.devRef .tc main_v116_0)) (W (Proc.devRef .tc main_v116_1))) := by
  simp only [hostOps1, hostOps1_1, List.cons_append, List.nil_append, TRef.binary, TRef.nullary, TRef.ternary, TRef.unary, TRef.toBuf, TRef.ofBuf, cast_eq]
  after_results_simp <;> rfl

/-- The host lines before the grid, in four stretches. -/
theorem heads_split : StableHlo.after (List.flatten [hostOps0, hostOps0_1, hostOps0_2, hostOps0_3, hostOps0_4, hostOps0_5, hostOps0_6, hostOps0_7, hostOps0_8, hostOps0_9, hostOps0_10, hostOps0_11]) W
    = StableHlo.after packOps (StableHlo.after hostOps0_3 (StableHlo.after (hostOps0_1 ++ hostOps0_2) (StableHlo.after hostOps0 W))) := by
  rw [← StableHlo.after_append, ← StableHlo.after_append, ← StableHlo.after_append]
  exact congrArg (StableHlo.after · W) rfl

section
variable (q k v g : FVec F S8192x8x64 .f32) (a : FVec F S8192x8 .f32)
  (hq : W (Proc.devRef .tc main_arg0) = q) (hk : W (Proc.devRef .tc main_arg1) = k) (hv : W (Proc.devRef .tc main_arg2) = v)
  (ha : W (Proc.devRef .tc main_arg3) = a) (hg : W (Proc.devRef .tc main_arg4) = g)

include hq hk ha in
theorem packed_v76 : StableHlo.after (List.flatten [hostOps0, hostOps0_1, hostOps0_2, hostOps0_3, hostOps0_4, hostOps0_5, hostOps0_6, hostOps0_7, hostOps0_8, hostOps0_9, hostOps0_10, hostOps0_11]) W (Proc.devRef .tc main_v76) = queryT q (cumT a) (lseT (scoreT q k (cumT a))) := by
  rw [heads_split, pack_v76, head3_v74, head3_c, head1_v17, head1_arg0, head1_v0, head0_arg0, head0_arg1, head0_v0, hq, hk, ha]
  rfl

include hk ha in
theorem packed_v92 : StableHlo.after (List.flatten [hostOps0, hostOps0_1, hostOps0_2, hostOps0_3, hostOps0_4, hostOps0_5, hostOps0_6, hostOps0_7, hostOps0_8, hostOps0_9, hostOps0_10, hostOps0_11]) W (Proc.devRef .tc main_v92) = keyT k (cumT a) := by
  rw [heads_split, pack_v92, head3_v32, head3_v44, head3_v47, head3_v48, head3_v39, head1_arg1, head1_v0, head0_arg1, head0_v0, hk, ha]
  rfl

include hv in
theorem packed_v99 : StableHlo.after (List.flatten [hostOps0, hostOps0_1, hostOps0_2, hostOps0_3, hostOps0_4, hostOps0_5, hostOps0_6, hostOps0_7, hostOps0_8, hostOps0_9, hostOps0_10, hostOps0_11]) W (Proc.devRef .tc main_v99) = packT v oneT oneT oneT := by
  rw [heads_split, pack_v99, head3_v33, head3_v39, head1_arg2, head0_arg2, hv]
  rfl

include hq hk hv ha hg in
theorem packed_v115 : StableHlo.after (List.flatten [hostOps0, hostOps0_1, hostOps0_2, hostOps0_3, hostOps0_4, hostOps0_5, hostOps0_6, hostOps0_7, hostOps0_8, hostOps0_9, hostOps0_10, hostOps0_11]) W (Proc.devRef .tc main_v115) = packT g (Host.negf (hiT (deltaT (scoreT q k (cumT a)) v g))) (Host.negf (midT (deltaT (scoreT q k (cumT a)) v g))) (Host.negf (lowT (deltaT (scoreT q k (cumT a)) v g))) := by
  rw [heads_split, pack_v115, head3_v34, head3_v36, head1_v17, head1_arg2, head1_arg4, head0_arg0, head0_arg1, head0_arg2, head0_arg4, head0_v0, hq, hk, hv, ha, hg]
  rfl

theorem packed_v37 : StableHlo.after (List.flatten [hostOps0, hostOps0_1, hostOps0_2, hostOps0_3, hostOps0_4, hostOps0_5, hostOps0_6, hostOps0_7, hostOps0_8, hostOps0_9, hostOps0_10, hostOps0_11]) W (Proc.devRef .tc main_v37) = ln2T := by
  rw [heads_split, pack_v37, head3_v37]

end

end Cert.Bwd

end

end
-- ==== Proof.RefTerms.lean ====
/-
  The results of the plain gradient of attention, as functions of the arguments.
-/
module

public import proofs.«01_k».proof.Proof.Terms
public import proofs.«01_k».proof.Proof.Gen.ReferenceIdeal.Run

@[expose] public section

set_option maxRecDepth 16384

noncomputable section

namespace Cert.Bwd

open Cert.ReferenceIdeal Cert.ReferenceIdeal.Gen Idealize.ShloMosaic Idealize.ShloMosaic.TcCoe

variable {F : FTy → Type} [FloatOps F]

/-- The greatest score of a row, by a second maximum with −∞. -/
def topT (s : FVec F S8x8192x8192 .f32) : FVec F S8x8192 .f32 :=
  maximumf (broadcastInDim S8x8192 ![] bcast_S_S8x8192 (constant S_ .f32 0xFF800000#32)) (maxT s)

def featT (g : FVec F S8192x8x64 .f32) : FVec F S8x64x8192 .f32 := transpose S8x64x8192 [1, 2, 0] g transposes_S8192x8x64_S8x64x8192_1_2_0

/-- The gradient of the softmax. -/
def dpT (v g : FVec F S8192x8x64 .f32) : FVec F S8x8192x8192 .f32 :=
  Host.dotGeneral dot_S8x64x8192_S8192x8x64_S8x8192x8192_1_2_2_0_0_1 none (featT g) v

/-- The part of the gradient that goes through the softmax's sum. -/
def backT (v g : FVec F S8192x8x64 .f32) (e : FVec F S8x8192x8192 .f32) : FVec F S8x8192 .f32 :=
  Host.reduceAdd (Host.negf (shapeCast S8x8192x1 (Host.reduceAdd (mulf (mulf (dpT v g) (wideT (Host.divf
    (broadcastInDim S8x8192x1 ![] bcast_S_S8x8192x1 (constant S_ .f32 0x3F800000#32)) (mulf (colT (sumT e)) (colT (sumT e)))))) e)
    (constant S_ .f32 0x00000000#32) reducesTo_S8x8192x8192_S8x8192_d2 h_S_) shapeCasts_S8x8192_S8x8192x1))
    (constant S_ .f32 0x00000000#32) reducesTo_S8x8192x1_S8x8192_d2 h_S_

/-- The gradient of the scores. -/
def dsT (v g : FVec F S8192x8x64 .f32) (e : FVec F S8x8192x8192 .f32) : FVec F S8x8192x8192 .f32 :=
  select maskT (mulf (addf (Host.divf (dpT v g) (wideT (colT (sumT e))))
    (broadcastInDim S8x8192x8192 ![0, 1] bcast_S8x8192_S8x8192x8192_0_1 (backT v g e))) e)
    (broadcastInDim S8x8192x8192 ![] bcast_S_S8x8192x8192 (constant S_ .f32 0x00000000#32))

def dvT (g : FVec F S8192x8x64 .f32) (e : FVec F S8x8192x8192 .f32) : FVec F S8192x8x64 .f32 :=
  transpose S8192x8x64 [2, 0, 1] (Host.dotGeneral dot_S8x64x8192_S8x8192x8192_S8x64x8192_2_1_1_2_0_0 none (featT g) (softT e)) transposes_S8x64x8192_S8192x8x64_2_0_1

def eighthT (d : FVec F S8x8192x8192 .f32) : FVec F S8x8192x8192 .f32 := mulf d (broadcastInDim S8x8192x8192 ![] bcast_S_S8x8192x8192 (constant S_ .f32 0x3E000000#32))

def dkT (q : FVec F S8192x8x64 .f32) (d : FVec F S8x8192x8192 .f32) : FVec F S8192x8x64 .f32 :=
  transpose S8192x8x64 [1, 0, 2] (Host.dotGeneral dot_S8x8192x8192_S8192x8x64_S8x8192x64_1_0_2_2_0_1 none (eighthT d) q) transposes_S8x8192x64_S8192x8x64_1_0_2

def dqT (k : FVec F S8192x8x64 .f32) (d : FVec F S8x8192x8192 .f32) : FVec F S8192x8x64 .f32 :=
  transpose S8192x8x64 [1, 0, 2] (Host.dotGeneral dot_S8x8192x8192_S8192x8x64_S8x8192x64_2_0_1_2_0_1 none (eighthT d) k) transposes_S8x8192x64_S8192x8x64_1_0_2

/-- The gradient of the summed log gates. -/
def dgT (d : FVec F S8x8192x8192 .f32) : FVec F S8192x8 .f32 :=
  transpose S8192x8 [1, 0] (addf
    (Host.reduceAdd (shapeCast S8x1x8192 (Host.reduceAdd (Host.negf d) (constant S_ .f32 0x00000000#32) reducesTo_S8x8192x8192_S8x8192_d1 h_S_) shapeCasts_S8x8192_S8x1x8192)
      (constant S_ .f32 0x00000000#32) reducesTo_S8x1x8192_S8x8192_d1 h_S_)
    (Host.reduceAdd (shapeCast S8x8192x1 (Host.reduceAdd d (constant S_ .f32 0x00000000#32) reducesTo_S8x8192x8192_S8x8192_d2 h_S_) shapeCasts_S8x8192_S8x8192x1)
      (constant S_ .f32 0x00000000#32) reducesTo_S8x8192x1_S8x8192_d2 h_S_)) transposes_S8x8192_S8192x8_1_0

/-- The exponentials. -/
def topExpT (q k : FVec F S8192x8x64 .f32) (a : FVec F S8192x8 .f32) : FVec F S8x8192x8192 .f32 :=
  expT (scoreT q k (cumT a)) (topT (scoreT q k (cumT a)))

variable (m : (ℓ : Loc nD τ sig) → Buf (Elt F) ℓ) (c : Dev nD)
  (q k v g : FVec F S8192x8x64 .f32) (a : FVec F S8192x8 .f32)
  (hq : m ((c.tc : Thread nD τ).loc main_arg0) = q) (hk : m ((c.tc : Thread nD τ).loc main_arg1) = k) (hv : m ((c.tc : Thread nD τ).loc main_arg2) = v)
  (ha : m ((c.tc : Thread nD τ).loc main_arg3) = a) (hg : m ((c.tc : Thread nD τ).loc main_arg4) = g)

include hq hk hv ha hg

theorem res_dv : Cert.ReferenceIdeal.Value.res_out2 m c = dvT g (topExpT q k a) := by
  subst hq hk hv ha hg
  delta Cert.ReferenceIdeal.Value.res_out2 Cert.ReferenceIdeal.Value.res_main_v51
  rfl

theorem res_dk : Cert.ReferenceIdeal.Value.res_out1 m c = dkT q (dsT v g (topExpT q k a)) := by
  subst hq hk hv ha hg
  delta Cert.ReferenceIdeal.Value.res_out1 Cert.ReferenceIdeal.Value.res_main_v76
  rfl

theorem res_dq : Cert.ReferenceIdeal.Value.res_out0 m c = dqT k (dsT v g (topExpT q k a)) := by
  subst hq hk hv ha hg
  delta Cert.ReferenceIdeal.Value.res_out0 Cert.ReferenceIdeal.Value.res_main_v78
  rfl

theorem res_da : Cert.ReferenceIdeal.Value.res_out3 m c = revT (dgT (dsT v g (topExpT q k a))) := by
  subst hq hk hv ha hg
  delta Cert.ReferenceIdeal.Value.res_out3 Cert.ReferenceIdeal.Value.res_main_v80
  rfl

end Cert.Bwd

end

end
-- ==== Proof.Real.lean ====
/-
  Attention's gradient over the reals, for one head of 8192 positions and 64 features.

  `M` is any number per row: the gradients do not depend on which is taken out of the exponent.
-/
module

public import Idealize.ShloMosaic.PureOps.Ideal
public import Mathlib.Analysis.SpecialFunctions.Log.Basic
public import Mathlib.Analysis.SpecialFunctions.Pow.Real

@[expose] public section

noncomputable section

namespace Cert.Bwd

open Idealize.ShloMosaic
open scoped BigOperators

/-! ### Sums and operations of extended reals that are real -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl
theorem exp_bot : Ideal.exp (⊥ : EReal) = 0 := rfl
theorem exp2_coe (r : ℝ) : Ideal.exp2 (r : EReal) = (((2 : ℝ) ^ r : ℝ) : EReal) := rfl
theorem log_coe {r : ℝ} (h : 0 < r) : Ideal.log (r : EReal) = ((Real.log r : ℝ) : EReal) := if_neg (not_le.mpr h)

theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-! ### The gradient -/

variable (Q K V G : Fin 8192 → Fin 64 → ℝ) (f M : Fin 8192 → ℝ)

/-- The score of query `t` against key `s`. -/
def rS (t s : Fin 8192) : ℝ := (∑ d, Q t d * K s d) * (1 / 8) + (f t - f s)
/-- Its exponential against the row's `M`, nothing past the query. -/
def rE (t s : Fin 8192) : ℝ := if s ≤ t then Real.exp (rS Q K f t s - M t) else 0
def rL (t : Fin 8192) : ℝ := ∑ s, rE Q K f M t s
/-- The softmax. -/
def rP (t s : Fin 8192) : ℝ := rE Q K f M t s / rL Q K f M t
/-- The logarithm of the sum of the exponentials of a row's scores. -/
def rLse (t : Fin 8192) : ℝ := M t + Real.log (rL Q K f M t)
/-- The gradient of the softmax. -/
def rDp (t s : Fin 8192) : ℝ := ∑ d, V s d * G t d
/-- The output times its gradient, over the features. -/
def rDelta (t : Fin 8192) : ℝ := ∑ d, G t d * ∑ s, rP Q K f M t s * V s d
/-- The gradient of the scores. -/
def rD (t s : Fin 8192) : ℝ := rP Q K f M t s * (rDp V G t s - rDelta Q K V G f M t)

theorem rE_nonneg (t s : Fin 8192) : 0 ≤ rE Q K f M t s := by
  unfold rE
  split
  · exact (Real.exp_pos _).le
  · exact le_rfl

theorem rL_pos (t : Fin 8192) : 0 < rL Q K f M t := by
  refine Finset.sum_pos' (fun s _ => rE_nonneg Q K f M t s) ⟨t, Finset.mem_univ _, ?_⟩
  unfold rE
  rw [if_pos le_rfl]
  exact Real.exp_pos _

/-- The softmax by the logarithm of the sum, as a power of two. -/
theorem rP_eq_pow {t s : Fin 8192} (h : s ≤ t) :
    rP Q K f M t s = (2 : ℝ) ^ ((rS Q K f t s - rLse Q K f M t) * (1 / Real.log 2)) := by
  have h2 : Real.log 2 ≠ 0 := (Real.log_pos (by norm_num)).ne'
  rw [Real.rpow_def_of_pos (by norm_num)]
  unfold rP rE rLse
  rw [if_pos h, show Real.log 2 * ((rS Q K f t s - (M t + Real.log (rL Q K f M t))) * (1 / Real.log 2))
    = rS Q K f t s - M t - Real.log (rL Q K f M t) by field_simp; ring, Real.exp_sub (rS Q K f t s - M t), Real.exp_log (rL_pos Q K f M t)]

theorem rP_eq_zero {t s : Fin 8192} (h : ¬ s ≤ t) : rP Q K f M t s = 0 := by
  unfold rP rE
  rw [if_neg h, zero_div]

theorem rD_eq_zero {t s : Fin 8192} (h : ¬ s ≤ t) : rD Q K V G f M t s = 0 := by
  unfold rD
  rw [rP_eq_zero Q K f M h, zero_mul]

/-- The sum of the softmax's gradient against the softmax, by rows of the gradient. -/
theorem rDelta_eq (t : Fin 8192) : rDelta Q K V G f M t = ∑ s, rP Q K f M t s * rDp V G t s := by
  unfold rDelta rDp
  simp only [Finset.mul_sum]
  rw [Finset.sum_comm]
  refine Finset.sum_congr rfl fun s _ => Finset.sum_congr rfl fun d _ => ?_
  ring

/-- The part of the gradient that goes through the softmax's sum. -/
theorem back_eq (t : Fin 8192) :
    ∑ s, rDp V G t s * (1 / (rL Q K f M t * rL Q K f M t)) * rE Q K f M t s = rDelta Q K V G f M t / rL Q K f M t := by
  have h := (rL_pos Q K f M t).ne'
  rw [rDelta_eq, Finset.sum_div]
  refine Finset.sum_congr rfl fun s _ => ?_
  unfold rP
  field_simp

theorem rD_eq (t s : Fin 8192) :
    (rDp V G t s / rL Q K f M t + -(rDelta Q K V G f M t / rL Q K f M t)) * rE Q K f M t s = rD Q K V G f M t s := by
  unfold rD rP
  ring

end Cert.Bwd

end

end
-- ==== Proof.Read.lean ====
/-
  The host arrays at an index, over the extended reals.
-/
module

public import proofs.«01_k».proof.Proof.RefTerms
public import proofs.«01_k».proof.Proof.Real
public import Idealize.ShloMosaic.Lib.Pointwise
public import Idealize.ShloMosaic.Lib.Pipeline.Value
public import Idealize.ShloMosaic.Lib.WordArith
public import Idealize.ShloMosaic.Lib.IdealHost

@[expose] public section

set_option maxRecDepth 16384

noncomputable section

namespace Cert.Bwd

open Cert.KernelIdeal Cert.KernelIdeal.Gen
open Idealize.ShloMosaic
open scoped BigOperators

/-! ### Constants -/

theorem bits_eighth : Ideal.ofBits .f32 0x3E000000#32 = (((1 : ℝ) / 8 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_bot : Ideal.ofBits .f32 0xFF800000#32 = ⊥ := by
  simp [Ideal.ofBits, Ideal.ieee]

/-! ### Signed order of positions -/

theorem sle_nat {a b : ℕ} (ha : a < 2 ^ 31) (hb : b < 2 ^ 31) :
    IntOp.cmpi .sle (BitVec.ofNat 32 a) (BitVec.ofNat 32 b) = if a ≤ b then 1#1 else 0#1 := by
  have e : IntOp.cmpi .sle (BitVec.ofNat 32 a) (BitVec.ofNat 32 b) = BitVec.ofBool ((BitVec.ofNat 32 a).sle (BitVec.ofNat 32 b)) := rfl
  rw [e, BitVec.sle_eq_decide, WordArith.toInt_ofNat_small a ha, WordArith.toInt_ofNat_small b hb]
  by_cases h : a ≤ b
  · rw [if_pos h, decide_eq_true (by exact_mod_cast h)]; rfl
  · rw [if_neg h, decide_eq_false (by exact_mod_cast h)]; rfl

/-! ### Reshapes that drop or add an axis of one -/

section
variable {α : Type} {a b : ℕ}

theorem cast_ab1_ab (x : (⟨3, ![a, b, 1]⟩ : Shape).Idx → α) (h : (⟨3, ![a, b, 1]⟩ : Shape).ShapeCasts ⟨2, ![a, b]⟩) (i : Fin a) (j : Fin b) :
    shapeCast ⟨2, ![a, b]⟩ x h (ix2 i j) = x (ix3 i j 0) :=
  shapeCast_apply x h _ _ (by
    rw [Shape.rowMajor_val_three, Shape.rowMajor_val_two]
    show (i.val * b + j.val) * 1 + 0 = i.val * b + j.val
    omega)

theorem cast_ab_ab1 (x : (⟨2, ![a, b]⟩ : Shape).Idx → α) (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

theorem cast_ab_a1b (x : (⟨2, ![a, b]⟩ : Shape).Idx → α) (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end

/-! ### Arrays of the softmax -/

variable (q k v g : FVec Ideal S8192x8x64 .f32) (f : FVec Ideal S8192x8 .f32) (h : Fin 8) (t s : Fin 8192) (d : Fin 64)

theorem headsT_apply : headsT f (ix2 h t) = f (ix2 t h) := by
  pointwise [headsT]

theorem rowsT_apply : rowsT q (ix3 h t d) = q (ix3 t h d) := by
  pointwise [rowsT]

theorem scoreT_apply : scoreT q k f (ix3 h t s)
    = if s ≤ t then (∑ x, q (ix3 t h x) * k (ix3 s h x)) * (((1 : ℝ) / 8 : ℝ) : EReal) + (f (ix2 t h) - f (ix2 s h)) else ⊥ := by
  pointwise [scoreT, maskT, headsT]
  rw [sle_nat (by have := s.isLt; omega) (by have := t.isLt; omega), bits_eighth, bits_bot]
  by_cases hle : s ≤ t
  · rw [if_pos (Fin.le_def.mp hle), if_pos hle]; rfl
  · rw [if_neg (fun h' => hle (Fin.le_def.mpr h')), if_neg hle]; rfl

theorem colT_apply (x : FVec Ideal S8x8192 .f32) (i : Fin 1) : colT x (ix3 h t i) = x (ix2 h t) := by
  pointwise [colT]

theorem wideT_apply (x : FVec Ideal S8x8192x1 .f32) : wideT x (ix3 h t s) = x (ix3 h t 0) := by
  pointwise [wideT]

theorem expT_apply (x : FVec Ideal S8x8192x8192 .f32) (y : FVec Ideal S8x8192 .f32) :
    expT x y (ix3 h t s) = Ideal.exp (x (ix3 h t s) - y (ix2 h t)) := by
  pointwise [expT, wideT, colT]

theorem sumT_apply (x : FVec Ideal S8x8192x8192 .f32) : sumT x (ix2 h t) = ∑ s : Fin 8192, x (ix3 h t s) := by
  pointwise [sumT]

theorem maxT_apply (x : FVec Ideal S8x8192x8192 .f32) :
    maxT x (ix2 h t) = Finset.fold max ⊥ (fun s : Fin 8192 => x (ix3 h t s)) Finset.univ := by
  pointwise [maxT]
  rw [bits_bot]

theorem maximumf_at {s : Shape} (x y : FVec Ideal s .f32) (i : s.Idx) : maximumf x y i = max (x i) (y i) := rfl

theorem topT_apply (x : FVec Ideal S8x8192x8192 .f32) : topT x (ix2 h t) = maxT x (ix2 h t) := by
  unfold topT
  generalize maxT x = y
  rw [maximumf_at]
  pointwise []
  rw [bits_bot]
  exact bot_sup_eq _

theorem softT_apply (x : FVec Ideal S8x8192x8192 .f32) : softT x (ix3 h t s) = Ideal.div (x (ix3 h t s)) (sumT x (ix2 h t)) := by
  pointwise [softT, wideT, colT]

theorem deltaT_apply (x : FVec Ideal S8x8192x8192 .f32) :
    deltaT x v g (ix2 h t) = ∑ d : Fin 64, g (ix3 t h d) * ∑ s : Fin 8192, softT (expT x (maxT x)) (ix3 h t s) * v (ix3 s h d) := by
  pointwise [deltaT, rowsT]

/-! ### Arrays of the plain gradient -/

theorem dpT_apply : dpT v g (ix3 h t s) = ∑ d : Fin 64, g (ix3 t h d) * v (ix3 s h d) := by
  pointwise [dpT, featT]

theorem negf_at {s : Shape} (x : FVec Ideal s .f32) (i : s.Idx) : Host.negf x i = -x i := rfl

theorem dsT_apply (e : FVec Ideal S8x8192x8192 .f32) :
    dsT v g e (ix3 h t s) = if s ≤ t then (Ideal.div (dpT v g (ix3 h t s)) (sumT e (ix2 h t)) + backT v g e (ix2 h t)) * e (ix3 h t s) else 0 := by
  pointwise [dsT, maskT, wideT, colT]
  rw [sle_nat (by have := s.isLt; omega) (by have := t.isLt; omega)]
  by_cases hle : s ≤ t
  · rw [if_pos (Fin.le_def.mp hle), if_pos hle]; rfl
  · rw [if_neg (fun h' => hle (Fin.le_def.mpr h')), if_neg hle]; rfl

theorem dvT_apply (e : FVec Ideal S8x8192x8192 .f32) : dvT g e (ix3 s h d) = ∑ t : Fin 8192, g (ix3 t h d) * softT e (ix3 h t s) := by
  pointwise [dvT, featT]

theorem dkT_apply (x : FVec Ideal S8x8192x8192 .f32) :
    dkT q x (ix3 s h d) = ∑ t : Fin 8192, x (ix3 h t s) * (((1 : ℝ) / 8 : ℝ) : EReal) * q (ix3 t h d) := by
  rw [← bits_eighth]
  pointwise [dkT, eighthT]

theorem dqT_apply (x : FVec Ideal S8x8192x8192 .f32) :
    dqT k x (ix3 t h d) = ∑ s : Fin 8192, x (ix3 h t s) * (((1 : ℝ) / 8 : ℝ) : EReal) * k (ix3 s h d) := by
  rw [← bits_eighth]
  pointwise [dqT, eighthT]

/-! ### Results -/

theorem outT_apply (x : FVec Ideal S8x8192x128 .f32) : outT x (ix3 t h d) = x (ix3 h t ⟨d.val, by omega⟩) := by
  pointwise [outT]

theorem scaleT_apply (x : FVec Ideal S8192x8x64 .f32) (r : FVec Ideal S_ .f32) : scaleT x r (ix3 t h d) = x (ix3 t h d) * r ix0 := by
  pointwise [scaleT]

end Cert.Bwd

end

end
-- ==== Proof.Reshaped.lean ====
/-
  The host arrays reshaped on their way, at an index, over the extended reals.
-/
module

public import proofs.«01_k».proof.Proof.Read
public import Idealize.ShloMosaic.Lib.Pointwise
public import Idealize.ShloMosaic.Lib.Pipeline.Value
public import Idealize.ShloMosaic.Lib.WordArith
public import Idealize.ShloMosaic.Lib.IdealHost

@[expose] public section

set_option maxRecDepth 16384

noncomputable section

namespace Cert.Bwd

open Cert.KernelIdeal Cert.KernelIdeal.Gen
open Idealize.ShloMosaic
open scoped BigOperators

variable (q k v g : FVec Ideal S8192x8x64 .f32) (f : FVec Ideal S8192x8 .f32) (h : Fin 8) (t s : Fin 8192) (d : Fin 64)

/-! ### A column of a row -/

theorem drop_unit (x : FVec Ideal S8x8192x1 .f32) : shapeCast S8x8192 x shapeCasts_S8x8192x1_S8x8192 (ix2 h t) = x (ix3 h t 0) :=
  cast_ab1_ab x shapeCasts_S8x8192x1_S8x8192 h t

theorem add_unit (x : FVec Ideal S8x8192 .f32) :
    shapeCast ReferenceIdeal.S8x8192x1 x ReferenceIdeal.Gen.shapeCasts_S8x8192_S8x8192x1 (ix3 h t 0) = x (ix2 h t) :=
  cast_ab_ab1 x ReferenceIdeal.Gen.shapeCasts_S8x8192_S8x8192x1 h t 0

theorem add_unit' (x : FVec Ideal S8x8192 .f32) :
    shapeCast ReferenceIdeal.S8x1x8192 x ReferenceIdeal.Gen.shapeCasts_S8x8192_S8x1x8192 (ix3 h 0 t) = x (ix2 h t) :=
  cast_ab_a1b x ReferenceIdeal.Gen.shapeCasts_S8x8192_S8x1x8192 h 0 t

theorem unit_sum (y : FVec Ideal S8x8192x1 .f32) :
    Host.reduceAdd y (constant (F := Ideal) S_ .f32 0x00000000#32) ReferenceIdeal.Gen.reducesTo_S8x8192x1_S8x8192_d2 h_S_ (ix2 h t) = y (ix3 h t 0) := by
  pointwise []
  exact Fin.sum_univ_one _

theorem unit_sum' (y : FVec Ideal ReferenceIdeal.S8x1x8192 .f32) :
    Host.reduceAdd y (constant (F := Ideal) S_ .f32 0x00000000#32) ReferenceIdeal.Gen.reducesTo_S8x1x8192_S8x8192_d1 h_S_ (ix2 h t) = y (ix3 h 0 t) := by
  pointwise []
  exact Fin.sum_univ_one _

theorem swap_apply (z : FVec Ideal S8x8192 .f32) : transpose S8192x8 [1, 0] z transposes_S8x8192_S8192x8_1_0 (ix2 t h) = z (ix2 h t) := by
  pointwise []

/-! ### The logarithm of the sum of the exponentials -/

theorem col_log (y z : FVec Ideal S8x8192 .f32) : addf (colT y) (Host.log (colT z)) (ix3 h t 0) = y (ix2 h t) + Ideal.log (z (ix2 h t)) := by
  pointwise [colT]

theorem drop_log (y z : FVec Ideal S8x8192 .f32) :
    shapeCast S8x8192 (addf (colT y) (Host.log (colT z))) shapeCasts_S8x8192x1_S8x8192 (ix2 h t) = y (ix2 h t) + Ideal.log (z (ix2 h t)) :=
  (drop_unit h t _).trans (col_log h t y z)

theorem lseT_apply (x : FVec Ideal S8x8192x8192 .f32) :
    lseT x (ix2 h t) = maxT x (ix2 h t) + Ideal.log (sumT (expT x (maxT x)) (ix2 h t)) := drop_log h t _ _

/-! ### The softmax's gradient through its sum -/

/-- The summed products, with the exponentials' sums `z` and the softmax's gradient `y`. -/
def rowBack (y : FVec Ideal S8x8192x8192 .f32) (z : FVec Ideal S8x8192 .f32) (e : FVec Ideal S8x8192x8192 .f32) : FVec Ideal S8x8192 .f32 :=
  Host.reduceAdd (mulf (mulf y (wideT (Host.divf
    (broadcastInDim ReferenceIdeal.S8x8192x1 ![] ReferenceIdeal.Gen.bcast_S_S8x8192x1 (constant S_ .f32 0x3F800000#32)) (mulf (colT z) (colT z))))) e)
    (constant S_ .f32 0x00000000#32) ReferenceIdeal.Gen.reducesTo_S8x8192x8192_S8x8192_d2 h_S_

theorem rowBack_apply (y : FVec Ideal S8x8192x8192 .f32) (z : FVec Ideal S8x8192 .f32) (e : FVec Ideal S8x8192x8192 .f32) :
    rowBack y z e (ix2 h t) = ∑ s : Fin 8192, y (ix3 h t s) * Ideal.div (Ideal.ofBits .f32 0x3F800000#32) (z (ix2 h t) * z (ix2 h t)) * e (ix3 h t s) := by
  pointwise [rowBack, wideT, colT]

def colBack (x : FVec Ideal S8x8192x1 .f32) : FVec Ideal S8x8192 .f32 :=
  Host.reduceAdd (Host.negf x) (constant S_ .f32 0x00000000#32) ReferenceIdeal.Gen.reducesTo_S8x8192x1_S8x8192_d2 h_S_

theorem colBack_apply (x : FVec Ideal S8x8192x1 .f32) : colBack x (ix2 h t) = -x (ix3 h t 0) := unit_sum h t _

theorem colBack_add (x : FVec Ideal S8x8192 .f32) :
    colBack (shapeCast ReferenceIdeal.S8x8192x1 x ReferenceIdeal.Gen.shapeCasts_S8x8192_S8x8192x1) (ix2 h t) = -x (ix2 h t) :=
  (colBack_apply h t _).trans (congrArg (fun r : EReal => -r) (add_unit h t x))

theorem backT_apply (e : FVec Ideal S8x8192x8192 .f32) :
    backT v g e (ix2 h t) = -∑ s : Fin 8192, dpT v g (ix3 h t s) * Ideal.div ((1 : ℝ) : EReal) (sumT e (ix2 h t) * sumT e (ix2 h t)) * e (ix3 h t s) := by
  rw [← bits_one]
  exact (colBack_add h t (rowBack (dpT v g) (sumT e) e)).trans (congrArg (fun r : EReal => -r) (rowBack_apply h t _ _ _))

/-! ### The gradient of the summed log gates -/

def colSum (x : FVec Ideal S8x8192x8192 .f32) : FVec Ideal S8x8192 .f32 :=
  Host.reduceAdd (Host.negf x) (constant S_ .f32 0x00000000#32) ReferenceIdeal.Gen.reducesTo_S8x8192x8192_S8x8192_d1 h_S_

theorem colSum_apply (x : FVec Ideal S8x8192x8192 .f32) : colSum x (ix2 h t) = ∑ u : Fin 8192, -x (ix3 h u t) := by
  pointwise [colSum]

def rowGate (x : FVec Ideal S8x8192 .f32) : FVec Ideal S8x8192 .f32 :=
  Host.reduceAdd (shapeCast ReferenceIdeal.S8x8192x1 x ReferenceIdeal.Gen.shapeCasts_S8x8192_S8x8192x1) (constant S_ .f32 0x00000000#32)
    ReferenceIdeal.Gen.reducesTo_S8x8192x1_S8x8192_d2 h_S_

theorem rowGate_apply (x : FVec Ideal S8x8192 .f32) : rowGate x (ix2 h t) = x (ix2 h t) := (unit_sum h t _).trans (add_unit h t x)

def colGate (x : FVec Ideal S8x8192 .f32) : FVec Ideal S8x8192 .f32 :=
  Host.reduceAdd (shapeCast ReferenceIdeal.S8x1x8192 x ReferenceIdeal.Gen.shapeCasts_S8x8192_S8x1x8192) (constant S_ .f32 0x00000000#32)
    ReferenceIdeal.Gen.reducesTo_S8x1x8192_S8x8192_d1 h_S_

theorem colGate_apply (x : FVec Ideal S8x8192 .f32) : colGate x (ix2 h t) = x (ix2 h t) := (unit_sum' h t _).trans (add_unit' h t x)

theorem swap_add (x y : FVec Ideal S8x8192 .f32) :
    transpose S8192x8 [1, 0] (addf x y) transposes_S8x8192_S8192x8_1_0 (ix2 t h) = x (ix2 h t) + y (ix2 h t) := swap_apply h t _

theorem dgT_swap (x : FVec Ideal S8x8192x8192 .f32) : dgT x (ix2 t h) = colGate (colSum x) (ix2 h t) + rowGate (sumT x) (ix2 h t) :=
  swap_add h t (colGate (colSum x)) (rowGate (sumT x))

theorem dgT_apply (x : FVec Ideal S8x8192x8192 .f32) :
    dgT x (ix2 t h) = (∑ u : Fin 8192, -x (ix3 h u t)) + ∑ s : Fin 8192, x (ix3 h t s) := by
  rw [dgT_swap, colGate_apply, rowGate_apply, colSum_apply, sumT_apply]

/-! ### The result from the packed gradients -/

theorem slice_row (x : FVec Ideal S8x8192x128 .f32) :
    extractStridedSlice S8x8192x1 ![0, 0, 67] x slices_S8x8192x128_S8x8192x1_0_0_67 (ix3 h t 0) = x (ix3 h t 67) := by
  pointwise []

theorem slice_col (x : FVec Ideal S8x8192x128 .f32) :
    extractStridedSlice S8x8192x1 ![0, 0, 73] x slices_S8x8192x128_S8x8192x1_0_0_73 (ix3 h t 0) = x (ix3 h t 73) := by
  pointwise []

def rowLane (x : FVec Ideal S8x8192x128 .f32) : FVec Ideal S8x8192 .f32 :=
  shapeCast S8x8192 (extractStridedSlice S8x8192x1 ![0, 0, 67] x slices_S8x8192x128_S8x8192x1_0_0_67) shapeCasts_S8x8192x1_S8x8192
def colLane (x : FVec Ideal S8x8192x128 .f32) : FVec Ideal S8x8192 .f32 :=
  shapeCast S8x8192 (extractStridedSlice S8x8192x1 ![0, 0, 73] x slices_S8x8192x128_S8x8192x1_0_0_73) shapeCasts_S8x8192x1_S8x8192

theorem rowLane_apply (x : FVec Ideal S8x8192x128 .f32) : rowLane x (ix2 h t) = x (ix3 h t 67) := (drop_unit h t _).trans (slice_row h t x)
theorem colLane_apply (x : FVec Ideal S8x8192x128 .f32) : colLane x (ix2 h t) = x (ix3 h t 73) := (drop_unit h t _).trans (slice_col h t x)

theorem swap_sub (x y : FVec Ideal S8x8192 .f32) :
    transpose S8192x8 [1, 0] (subf x y) transposes_S8x8192_S8192x8_1_0 (ix2 t h) = x (ix2 h t) - y (ix2 h t) := swap_apply h t _

theorem gradT_apply (x y : FVec Ideal S8x8192x128 .f32) : gradT x y (ix2 t h) = x (ix3 h t 67) - y (ix3 h t 73) :=
  (swap_sub h t (rowLane x) (colLane y)).trans (congrArg₂ (fun r w : EReal => r - w) (rowLane_apply h t x) (colLane_apply h t y))

end Cert.Bwd

end

end
-- ==== Proof.Softmax.lean ====
/-
  The softmax and its gradient, of real arguments, as real numbers.
-/
module

public import proofs.«01_k».proof.Proof.Reshaped

@[expose] public section

set_option maxRecDepth 16384

noncomputable section

namespace Cert.Bwd

open Cert.KernelIdeal Cert.KernelIdeal.Gen
open Idealize.ShloMosaic
open scoped BigOperators

/-! ### Sums over a window -/

theorem foldl_real {ι : Type} (f : ι → EReal) (hf : ∀ n, ∃ r : ℝ, f n = (r : EReal)) :
    ∀ (l : List ι) (x : EReal), (∃ r : ℝ, x = (r : EReal)) → ∃ r : ℝ, l.foldl (fun y n => y + f n) x = (r : EReal)
  | [], _, h => h
  | a :: l, x, ⟨r, h⟩ => by
    obtain ⟨w, hw⟩ := hf a
    exact foldl_real f hf l _ ⟨r + w, by show x + f a = _; rw [h, hw, EReal.coe_add]⟩

theorem window_real {s t : Shape} (window strides lo hi : Fin s.rank → Nat) (h : s.ReduceWindows window strides lo hi t)
    (x : s.Idx → EReal) (init : EReal) (hx : ∀ i, ∃ r : ℝ, x i = (r : EReal)) (hi' : ∃ r : ℝ, init = (r : EReal)) (j : t.Idx) :
    ∃ r : ℝ, Ideal.hostReduceWindowAdd window strides lo hi h x init j = (r : EReal) := by
  refine foldl_real _ (fun n => ?_) _ _ hi'
  split
  · exact hx _
  · exact hi'

theorem windowAdd_real {s t u : Shape} (window strides lo hi : Fin s.rank → Nat) (x : FVec Ideal s .f32) (init : FVec Ideal u .f32)
    (h : s.ReduceWindows window strides lo hi t) (hu : 0 < u.numel) (hx : ∀ i, ∃ r : ℝ, x i = (r : EReal))
    (hi' : ∃ r : ℝ, init (Shape.Idx.first hu) = (r : EReal)) (j : t.Idx) :
    ∃ r : ℝ, Host.reduceWindowAdd window strides lo hi x init h hu j = (r : EReal) :=
  window_real window strides lo hi h x _ hx hi' j

theorem zero_init : ∃ r : ℝ, (broadcastInDim S_ ![] bcast_S_S_ (constant (F := Ideal) S_ .f32 0x00000000#32)) (Shape.Idx.first h_S_) = (r : EReal) :=
  ⟨0, by pointwise []; rfl⟩

theorem cumT_real (a : FVec Ideal S8192x8 .f32) (ha : ∀ i, ∃ r : ℝ, a i = (r : EReal)) (i : S8192x8.Idx) :
    ∃ r : ℝ, cumT a i = (r : EReal) := by
  unfold cumT
  exact windowAdd_real _ _ _ _ _ _ _ _ ha zero_init i

/-! ### The largest score of a row -/

theorem fold_max_real (x : Fin 8192 → EReal) (hx : ∀ i, x i ≠ ⊤) (j : Fin 8192) (hj : x j ≠ ⊥) :
    ∃ r : ℝ, Finset.fold max ⊥ x Finset.univ = (r : EReal) := by
  have h1 : Finset.fold max ⊥ x Finset.univ ≠ ⊤ :=
    ((Finset.fold_max_lt _).mpr ⟨bot_lt_top, fun i _ => lt_top_iff_ne_top.mpr (hx i)⟩).ne
  have h2 : Finset.fold max ⊥ x Finset.univ ≠ ⊥ :=
    ((Finset.lt_fold_max _).mpr (Or.inr ⟨j, Finset.mem_univ _, bot_lt_iff_ne_bot.mpr hj⟩)).ne'
  exact ⟨_, (EReal.coe_toReal h1 h2).symm⟩

variable {q k v g : FVec Ideal S8192x8x64 .f32} {f : FVec Ideal S8192x8 .f32} {y : FVec Ideal S8x8192 .f32} (h : Fin 8) (t s : Fin 8192) (d : Fin 64)
variable {Q K V G : Fin 8192 → Fin 64 → ℝ} {fr M : Fin 8192 → ℝ}

section
variable (hq : ∀ t d, q (ix3 t h d) = ((Q t d : ℝ) : EReal)) (hk : ∀ t d, k (ix3 t h d) = ((K t d : ℝ) : EReal))
  (hf : ∀ t, f (ix2 t h) = ((fr t : ℝ) : EReal))
include hq hk hf

theorem score_real : scoreT q k f (ix3 h t s) = if s ≤ t then ((rS Q K fr t s : ℝ) : EReal) else ⊥ := by
  rw [scoreT_apply]
  simp only [hq, hk, hf, ← EReal.coe_mul, ← EReal.coe_sub, ← EReal.coe_add, coe_sum]
  rfl

theorem max_real : ∃ M : Fin 8192 → ℝ, ∀ t, maxT (scoreT q k f) (ix2 h t) = ((M t : ℝ) : EReal) := by
  have H : ∀ t, ∃ r : ℝ, maxT (scoreT q k f) (ix2 h t) = (r : EReal) := by
    intro t
    rw [maxT_apply]
    refine fold_max_real _ (fun s => ?_) t ?_
    · rw [score_real h t s hq hk hf]
      split
      · exact EReal.coe_ne_top _
      · exact bot_ne_top
    · rw [score_real h t t hq hk hf, if_pos le_rfl]
      exact EReal.coe_ne_bot _
  exact ⟨fun t => (H t).choose, fun t => (H t).choose_spec⟩

theorem exp_real (hy : ∀ t, y (ix2 h t) = ((M t : ℝ) : EReal)) : expT (scoreT q k f) y (ix3 h t s) = ((rE Q K fr M t s : ℝ) : EReal) := by
  rw [expT_apply, score_real h t s hq hk hf, hy]
  unfold rE
  by_cases hle : s ≤ t
  · rw [if_pos hle, if_pos hle, ← EReal.coe_sub, exp_coe]
  · rw [if_neg hle, if_neg hle, EReal.bot_sub, exp_bot, EReal.coe_zero]

end

section
variable {e : FVec Ideal S8x8192x8192 .f32} (he : ∀ t s, e (ix3 h t s) = ((rE Q K fr M t s : ℝ) : EReal))
  (hv : ∀ t d, v (ix3 t h d) = ((V t d : ℝ) : EReal)) (hg : ∀ t d, g (ix3 t h d) = ((G t d : ℝ) : EReal))

include he in
theorem sum_real : sumT e (ix2 h t) = ((rL Q K fr M t : ℝ) : EReal) := by
  rw [sumT_apply]
  simp only [he, coe_sum]
  rfl

include he in
theorem soft_real : softT e (ix3 h t s) = ((rP Q K fr M t s : ℝ) : EReal) := by
  rw [softT_apply, sum_real h t he, he, div_coe _ (rL_pos Q K fr M t).ne']
  rfl

include hv hg in
theorem dp_real : dpT v g (ix3 h t s) = ((rDp V G t s : ℝ) : EReal) := by
  rw [dpT_apply]
  simp only [hv, hg, ← EReal.coe_mul, coe_sum]
  refine congrArg _ (Finset.sum_congr rfl fun d _ => mul_comm _ _)

include he hv hg in
theorem back_real : backT v g e (ix2 h t) = ((-(rDelta Q K V G fr M t / rL Q K fr M t) : ℝ) : EReal) := by
  have hl := (rL_pos Q K fr M t).ne'
  rw [backT_apply, sum_real h t he, ← EReal.coe_mul, div_coe _ (mul_ne_zero hl hl)]
  simp only [dp_real h _ _ hv hg, he, ← EReal.coe_mul, coe_sum]
  rw [back_eq, ← EReal.coe_neg]

include he hv hg in
theorem ds_real : dsT v g e (ix3 h t s) = ((rD Q K V G fr M t s : ℝ) : EReal) := by
  rw [dsT_apply, sum_real h t he, dp_real h t s hv hg, back_real h t he hv hg, he, div_coe _ (rL_pos Q K fr M t).ne', ← EReal.coe_add, ← EReal.coe_mul, rD_eq]
  by_cases hle : s ≤ t
  · rw [if_pos hle]
  · rw [if_neg hle, rD_eq_zero Q K V G fr M hle, EReal.coe_zero]

include he hg in
theorem dv_real : dvT g e (ix3 s h d) = ((∑ t, G t d * rP Q K fr M t s : ℝ) : EReal) := by
  rw [dvT_apply]
  simp only [soft_real h _ _ he, hg, ← EReal.coe_mul, coe_sum]

end

section
variable {x : FVec Ideal S8x8192x8192 .f32} {D : Fin 8192 → Fin 8192 → ℝ} (hx : ∀ t s, x (ix3 h t s) = ((D t s : ℝ) : EReal))
include hx

theorem dk_real (hq : ∀ t d, q (ix3 t h d) = ((Q t d : ℝ) : EReal)) :
    dkT q x (ix3 s h d) = ((∑ t, D t s * (1 / 8) * Q t d : ℝ) : EReal) := by
  rw [dkT_apply]
  simp only [hx, hq, ← EReal.coe_mul, coe_sum]

theorem dq_real (hk : ∀ t d, k (ix3 t h d) = ((K t d : ℝ) : EReal)) :
    dqT k x (ix3 t h d) = ((∑ s, D t s * (1 / 8) * K s d : ℝ) : EReal) := by
  rw [dqT_apply]
  simp only [hx, hk, ← EReal.coe_mul, coe_sum]

theorem dg_real : dgT x (ix2 t h) = (((∑ u, -D u t) + ∑ s, D t s : ℝ) : EReal) := by
  rw [dgT_apply]
  simp only [hx, ← EReal.coe_neg, coe_sum, ← EReal.coe_add]

end

/-! ### What the packed arrays take of the softmax -/

section
variable (hq : ∀ t d, q (ix3 t h d) = ((Q t d : ℝ) : EReal)) (hk : ∀ t d, k (ix3 t h d) = ((K t d : ℝ) : EReal))
  (hf : ∀ t, f (ix2 t h) = ((fr t : ℝ) : EReal)) (hM : ∀ t, maxT (scoreT q k f) (ix2 h t) = ((M t : ℝ) : EReal))
include hq hk hf hM

theorem lse_real : lseT (scoreT q k f) (ix2 h t) = ((rLse Q K fr M t : ℝ) : EReal) := by
  rw [lseT_apply, hM, sum_real h t fun t s => exp_real h t s hq hk hf hM, log_coe (rL_pos Q K fr M t), ← EReal.coe_add]
  rfl

theorem delta_real (hv : ∀ t d, v (ix3 t h d) = ((V t d : ℝ) : EReal)) (hg : ∀ t d, g (ix3 t h d) = ((G t d : ℝ) : EReal)) :
    deltaT (scoreT q k f) v g (ix2 h t) = ((rDelta Q K V G fr M t : ℝ) : EReal) := by
  rw [deltaT_apply]
  simp only [soft_real h _ _ fun t s => exp_real h t s hq hk hf hM, hv, hg, ← EReal.coe_mul, coe_sum]
  rfl

end

end Cert.Bwd

end

end
-- ==== Proof.Lanes.lean ====
/-
  The packed arrays lane by lane, over the extended reals.
-/
module

public import proofs.«01_k».proof.Proof.Reshaped

@[expose] public section

set_option maxRecDepth 16384

noncomputable section

namespace Cert.Bwd

open Cert.KernelIdeal Cert.KernelIdeal.Gen
open Idealize.ShloMosaic
open scoped BigOperators

/-! ### Sums over the lanes in use -/

theorem sum_73 (F : Fin 128 → EReal) (hz : ∀ l : Fin 128, 73 ≤ l.val → F l = 0) :
    ∑ l, F l = (∑ d : Fin 64, F ⟨d.val, by omega⟩) + (F 64 + (F 65 + (F 66 + (F 67 + (F 68 + (F 69 + (F 70 + (F 71 + F 72)))))))) := by
  have e : ∑ l, F l = (∑ d : Fin 64, F (Fin.castAdd 64 d)) + ∑ i : Fin (9 + 55), F (Fin.natAdd 64 i) := Fin.sum_univ_add (a := 64) (b := 64) F
  rw [e, Fin.sum_univ_add, Finset.sum_eq_zero (s := (Finset.univ : Finset (Fin 55))) (fun i _ => hz _ (by simp only [Fin.val_natAdd]; omega)), add_zero]
  refine congrArg₂ _ rfl ?_
  simp only [Fin.sum_univ_succ, Fin.sum_univ_zero, add_zero]
  rfl

theorem sum_67 (F : Fin 128 → EReal) (hz : ∀ l : Fin 128, 67 ≤ l.val → F l = 0) :
    ∑ l, F l = (∑ d : Fin 64, F ⟨d.val, by omega⟩) + (F 64 + (F 65 + F 66)) := by
  have e : ∑ l, F l = (∑ d : Fin 64, F (Fin.castAdd 64 d)) + ∑ i : Fin (3 + 61), F (Fin.natAdd 64 i) := Fin.sum_univ_add (a := 64) (b := 64) F
  rw [e, Fin.sum_univ_add, Finset.sum_eq_zero (s := (Finset.univ : Finset (Fin 61))) (fun i _ => hz _ (by simp only [Fin.val_natAdd]; omega)), add_zero]
  refine congrArg₂ _ rfl ?_
  simp only [Fin.sum_univ_succ, Fin.sum_univ_zero, add_zero]
  rfl

/-! ### Parts of a number -/

variable (q k v g : FVec Ideal S8192x8x64 .f32) (f : FVec Ideal S8192x8 .f32) (x y z : FVec Ideal S8x8192 .f32)
  (h : Fin 8) (t s : Fin 8192) (d : Fin 64)

theorem hiT_apply : hiT x (ix2 h t) = x (ix2 h t) := rfl
theorem midT_apply : midT x (ix2 h t) = x (ix2 h t) - x (ix2 h t) := rfl
theorem lowT_apply : lowT x (ix2 h t) = x (ix2 h t) - x (ix2 h t) - (x (ix2 h t) - x (ix2 h t)) := rfl
theorem oneT_apply : oneT (F := Ideal) (ix2 h t) = ((1 : ℝ) : EReal) := by
  rw [← bits_one]; pointwise [oneT]
theorem neg_hi : Host.negf (hiT x) (ix2 h t) = -x (ix2 h t) := rfl
theorem neg_mid : Host.negf (midT x) (ix2 h t) = -(x (ix2 h t) - x (ix2 h t)) := rfl
theorem neg_low : Host.negf (lowT x) (ix2 h t) = -(x (ix2 h t) - x (ix2 h t) - (x (ix2 h t) - x (ix2 h t))) := rfl

theorem ln2T_apply : ln2T (F := Ideal) ix0 = ((Real.log 2 : ℝ) : EReal) := by
  rw [← log_coe (by norm_num : (0 : ℝ) < 2), ← bits_two]; pointwise [ln2T]

theorem log2eT_apply : log2eT (F := Ideal) ix0 = ((1 / Real.log 2 : ℝ) : EReal) := by
  rw [← div_coe 1 (Real.log_pos (by norm_num : (1 : ℝ) < 2)).ne', ← ln2T_apply, ← bits_one]; pointwise [log2eT]

theorem gateT_apply : gateT f (ix2 h t) = f (ix2 t h) * ((1 / Real.log 2 : ℝ) : EReal) := by
  rw [← log2eT_apply]; pointwise [gateT, headsT]

theorem levelT_apply : levelT x (ix2 h t) = x (ix2 h t) * ((1 / Real.log 2 : ℝ) : EReal) := by
  rw [← log2eT_apply]; pointwise [levelT]

/-! ### Lanes -/

theorem zeroT_apply (i : S_.Idx) : zeroT (F := Ideal) i = 0 := by
  show (((0#32 : BitVec 32).toInt : ℝ) : EReal) = 0
  simp

theorem key_feat : (keyT k f (ix3 h s ⟨d.val, by omega⟩) : EReal) = k (ix3 s h d) := by
  pointwise [keyT]
  rw [dif_pos (by omega)]
  exact rowsT_apply _ _ _ _

theorem key_zero (l : Fin 128) (hl : 73 ≤ l.val) : (keyT k f (ix3 h s l) : EReal) = 0 := by
  pointwise [keyT]
  rw [dif_neg (by omega)]
  exact zeroT_apply _

theorem pack_feat : (packT v x y z (ix3 h s ⟨d.val, by omega⟩) : EReal) = v (ix3 s h d) := by
  pointwise [packT]
  rw [dif_pos (by omega)]
  exact rowsT_apply _ _ _ _

theorem pack_zero (l : Fin 128) (hl : 67 ≤ l.val) : (packT v x y z (ix3 h s l) : EReal) = 0 := by
  pointwise [packT]
  rw [dif_neg (by omega)]
  exact zeroT_apply _

theorem query_feat : (queryT q f x (ix3 h s ⟨d.val, by omega⟩) : EReal) = q (ix3 s h d) * ((1 / Real.log 2 / 8 : ℝ) : EReal) := by
  pointwise [queryT]
  rw [dif_pos (by omega), rowsT_apply, log2eT_apply, bits_eight, div_coe _ (by norm_num)]

theorem key_64 : (keyT k f (ix3 h s 64) : EReal) = Host.negf (hiT (gateT f)) (ix2 h s) := by
  pointwise [keyT]
  exact colT_apply _ _ _ _

theorem key_65 : (keyT k f (ix3 h s 65) : EReal) = Host.negf (midT (gateT f)) (ix2 h s) := by
  pointwise [keyT]
  exact colT_apply _ _ _ _

theorem key_66 : (keyT k f (ix3 h s 66) : EReal) = Host.negf (lowT (gateT f)) (ix2 h s) := by
  pointwise [keyT]
  exact colT_apply _ _ _ _

theorem key_67 : (keyT k f (ix3 h s 67) : EReal) = (oneT : FVec Ideal S8x8192 .f32) (ix2 h s) := by
  pointwise [keyT]
  exact colT_apply _ _ _ _

theorem key_68 : (keyT k f (ix3 h s 68) : EReal) = (oneT : FVec Ideal S8x8192 .f32) (ix2 h s) := by
  pointwise [keyT]
  exact colT_apply _ _ _ _

theorem key_69 : (keyT k f (ix3 h s 69) : EReal) = (oneT : FVec Ideal S8x8192 .f32) (ix2 h s) := by
  pointwise [keyT]
  exact colT_apply _ _ _ _

theorem key_70 : (keyT k f (ix3 h s 70) : EReal) = (oneT : FVec Ideal S8x8192 .f32) (ix2 h s) := by
  pointwise [keyT]
  exact colT_apply _ _ _ _

theorem key_71 : (keyT k f (ix3 h s 71) : EReal) = (oneT : FVec Ideal S8x8192 .f32) (ix2 h s) := by
  pointwise [keyT]
  exact colT_apply _ _ _ _

theorem key_72 : (keyT k f (ix3 h s 72) : EReal) = (oneT : FVec Ideal S8x8192 .f32) (ix2 h s) := by
  pointwise [keyT]
  exact colT_apply _ _ _ _

theorem query_64 : (queryT q f x (ix3 h s 64) : EReal) = (oneT : FVec Ideal S8x8192 .f32) (ix2 h s) := by
  pointwise [queryT]
  exact colT_apply _ _ _ _

theorem query_65 : (queryT q f x (ix3 h s 65) : EReal) = (oneT : FVec Ideal S8x8192 .f32) (ix2 h s) := by
  pointwise [queryT]
  exact colT_apply _ _ _ _

theorem query_66 : (queryT q f x (ix3 h s 66) : EReal) = (oneT : FVec Ideal S8x8192 .f32) (ix2 h s) := by
  pointwise [queryT]
  exact colT_apply _ _ _ _

theorem query_67 : (queryT q f x (ix3 h s 67) : EReal) = hiT (gateT f) (ix2 h s) := by
  pointwise [queryT]
  exact colT_apply _ _ _ _

theorem query_68 : (queryT q f x (ix3 h s 68) : EReal) = midT (gateT f) (ix2 h s) := by
  pointwise [queryT]
  exact colT_apply _ _ _ _

theorem query_69 : (queryT q f x (ix3 h s 69) : EReal) = lowT (gateT f) (ix2 h s) := by
  pointwise [queryT]
  exact colT_apply _ _ _ _

theorem query_70 : (queryT q f x (ix3 h s 70) : EReal) = Host.negf (hiT (levelT x)) (ix2 h s) := by
  pointwise [queryT]
  exact colT_apply _ _ _ _

theorem query_71 : (queryT q f x (ix3 h s 71) : EReal) = Host.negf (midT (levelT x)) (ix2 h s) := by
  pointwise [queryT]
  exact colT_apply _ _ _ _

theorem query_72 : (queryT q f x (ix3 h s 72) : EReal) = Host.negf (lowT (levelT x)) (ix2 h s) := by
  pointwise [queryT]
  exact colT_apply _ _ _ _

theorem query_73 : (queryT q f x (ix3 h s 73) : EReal) = (oneT : FVec Ideal S8x8192 .f32) (ix2 h s) := by
  pointwise [queryT]
  exact colT_apply _ _ _ _

theorem pack_64 : (packT v x y z (ix3 h s 64) : EReal) = x (ix2 h s) := by
  pointwise [packT]
  exact colT_apply _ _ _ _

theorem pack_65 : (packT v x y z (ix3 h s 65) : EReal) = y (ix2 h s) := by
  pointwise [packT]
  exact colT_apply _ _ _ _

theorem pack_66 : (packT v x y z (ix3 h s 66) : EReal) = z (ix2 h s) := by
  pointwise [packT]
  exact colT_apply _ _ _ _

/-! ### The products over the lanes -/

variable {q k v g f x}
variable {Q K V G : Fin 8192 → Fin 64 → ℝ} {fr w : Fin 8192 → ℝ}

theorem coe_sub_self (r : ℝ) : (r : EReal) - (r : EReal) = ((0 : ℝ) : EReal) := by rw [← EReal.coe_sub, sub_self]

/-- The packed queries against the packed keys: the score less the row's `w`, to base two. -/
theorem pair_query (hq : ∀ t d, q (ix3 t h d) = ((Q t d : ℝ) : EReal)) (hk : ∀ t d, k (ix3 t h d) = ((K t d : ℝ) : EReal))
    (hf : ∀ t, f (ix2 t h) = ((fr t : ℝ) : EReal)) (hx : ∀ t, x (ix2 h t) = ((w t : ℝ) : EReal)) :
    (∑ l : Fin 128, (keyT k f (ix3 h s l) : EReal) * (queryT q f x (ix3 h t l) : EReal))
      = (((rS Q K fr t s - w t) * (1 / Real.log 2) : ℝ) : EReal) := by
  rw [sum_73 _ fun l hl => by rw [key_zero k f h s l hl, zero_mul]]
  simp only [key_feat, query_feat, key_64, key_65, key_66, key_67, key_68, key_69, key_70, key_71, key_72,
    query_64, query_65, query_66, query_67, query_68, query_69, query_70, query_71, query_72,
    hiT_apply, midT_apply, lowT_apply, neg_hi, neg_mid, neg_low, oneT_apply, gateT_apply, levelT_apply, hq, hk, hf, hx,
    ← EReal.coe_mul, ← EReal.coe_sub, ← EReal.coe_neg, ← EReal.coe_add, coe_sum]
  refine congrArg _ ?_
  have e : (∑ d, K s d * (Q t d * (1 / Real.log 2 / 8))) = (∑ d, Q t d * K s d) * (1 / Real.log 2 / 8) := by
    rw [Finset.sum_mul]
    exact Finset.sum_congr rfl fun d _ => by ring
  rw [e]
  unfold rS
  ring

/-- The packed output gradients against the packed values: the softmax's gradient less the row's `w`. -/
theorem pair_grad (hv : ∀ t d, v (ix3 t h d) = ((V t d : ℝ) : EReal)) (hg : ∀ t d, g (ix3 t h d) = ((G t d : ℝ) : EReal))
    (hx : ∀ t, x (ix2 h t) = ((w t : ℝ) : EReal)) :
    (∑ l : Fin 128, (packT v oneT oneT oneT (ix3 h s l) : EReal)
        * (packT g (Host.negf (hiT x)) (Host.negf (midT x)) (Host.negf (lowT x)) (ix3 h t l) : EReal))
      = ((rDp V G t s - w t : ℝ) : EReal) := by
  rw [sum_67 _ fun l hl => by rw [pack_zero v _ _ _ h s l hl, zero_mul]]
  simp only [pack_feat, pack_64, pack_65, pack_66, neg_hi, neg_mid, neg_low, oneT_apply, hv, hg, hx,
    ← EReal.coe_mul, ← EReal.coe_sub, ← EReal.coe_neg, ← EReal.coe_add, coe_sum]
  refine congrArg _ ?_
  unfold rDp
  ring

end Cert.Bwd

end

end
-- ==== Proof.Value.lean ====
/-
  The results of the two programs, of real arguments, element by element.
-/
module

public import proofs.«01_k».proof.Proof.Array
public import proofs.«01_k».proof.Proof.Host
public import proofs.«01_k».proof.Proof.Softmax
public import proofs.«01_k».proof.Proof.Lanes

@[expose] public section

set_option maxRecDepth 16384

noncomputable section

namespace Cert.Bwd

open Cert.KernelIdeal Cert.KernelIdeal.Gen Idealize.ShloMosaic.TcCoe
open Idealize.ShloMosaic
open scoped BigOperators

/-! ### A head of the grid -/

section
variable {q k v g : FVec Ideal S8192x8x64 .f32} {f : FVec Ideal S8192x8 .f32} (h : Fin 8) (t s : Fin 8192)
variable {Q K V G : Fin 8192 → Fin 64 → ℝ} {fr M : Fin 8192 → ℝ}

/-- The packed rows of a head. -/
def keyRows (k : FVec Ideal S8192x8x64 .f32) (f : FVec Ideal S8192x8 .f32) (h : Fin 8) : Rows := fun s l => keyT k f (ix3 h s l)
def valueRows (v : FVec Ideal S8192x8x64 .f32) (h : Fin 8) : Rows := fun s l => packT v oneT oneT oneT (ix3 h s l)
def queryRows (q k : FVec Ideal S8192x8x64 .f32) (f : FVec Ideal S8192x8 .f32) (h : Fin 8) : Rows :=
  fun t l => queryT q f (lseT (scoreT q k f)) (ix3 h t l)
def gradRows (q k v g : FVec Ideal S8192x8x64 .f32) (f : FVec Ideal S8192x8 .f32) (h : Fin 8) : Rows := fun t l =>
  packT g (Host.negf (hiT (deltaT (scoreT q k f) v g))) (Host.negf (midT (deltaT (scoreT q k f) v g))) (Host.negf (lowT (deltaT (scoreT q k f) v g))) (ix3 h t l)

variable (hq : ∀ t d, q (ix3 t h d) = ((Q t d : ℝ) : EReal)) (hk : ∀ t d, k (ix3 t h d) = ((K t d : ℝ) : EReal))
  (hf : ∀ t, f (ix2 t h) = ((fr t : ℝ) : EReal)) (hM : ∀ t, maxT (scoreT q k f) (ix2 h t) = ((M t : ℝ) : EReal))
include hq hk hf hM

/-- The grid's probability is the softmax. -/
theorem prob_real : prob (keyRows k f h) (queryRows q k f h) s t = ((rP Q K fr M t s : ℝ) : EReal) := by
  unfold prob
  by_cases hle : s ≤ t
  · rw [if_pos hle, rP_eq_pow Q K fr M hle, ← exp2_coe]
    exact congrArg Ideal.exp2 (pair_query h t s hq hk hf fun t => lse_real h t hq hk hf hM)
  · rw [if_neg hle, rP_eq_zero Q K fr M hle, EReal.coe_zero]

/-- The grid's gradient of the scores is the softmax's. -/
theorem dsc_real (hv : ∀ t d, v (ix3 t h d) = ((V t d : ℝ) : EReal)) (hg : ∀ t d, g (ix3 t h d) = ((G t d : ℝ) : EReal)) :
    dsc (keyRows k f h) (valueRows v h) (queryRows q k f h) (gradRows q k v g f h) s t = ((rD Q K V G fr M t s : ℝ) : EReal) := by
  unfold dsc rD
  rw [prob_real h t s hq hk hf hM, EReal.coe_mul]
  exact congrArg _ (pair_grad h t s hv hg fun t => delta_real h t hq hk hf hM hv hg)

end

/-! ### The whole arrays -/

/-- An array of real numbers. -/
def Reals {s : Shape} (x : s.Idx → EReal) : Prop := ∀ i, ∃ r : ℝ, x i = (r : EReal)

theorem Reals.coe {s : Shape} {x : s.Idx → EReal} (h : Reals x) (i : s.Idx) : x i = ((x i).toReal : EReal) := by
  obtain ⟨r, hr⟩ := h i
  rw [hr, EReal.toReal_coe]

variable (m : (ℓ : Loc nD τ sig) → Buf (Elt Ideal) ℓ) (c : Dev nD) (q k v g : FVec Ideal S8192x8x64 .f32) (a : FVec Ideal S8192x8 .f32)

section
variable (hq : m ((c.tc : Thread nD τ).loc main_arg0) = q) (hk : m ((c.tc : Thread nD τ).loc main_arg1) = k)
  (hv : m ((c.tc : Thread nD τ).loc main_arg2) = v) (ha : m ((c.tc : Thread nD τ).loc main_arg3) = a) (hg : m ((c.tc : Thread nD τ).loc main_arg4) = g)

include hq hk ha in
theorem Qa_eq (h : Fin 8) : Qa m c h = queryRows q k (cumT a) h :=
  funext fun t => funext fun l => congrFun (packed_v76 (fun b => m (c, b)) q k a hq hk ha) (ix3 h t l)

include hk ha in
theorem Ka_eq (h : Fin 8) : Ka m c h = keyRows k (cumT a) h :=
  funext fun t => funext fun l => congrFun (packed_v92 (fun b => m (c, b)) k a hk ha) (ix3 h t l)

include hv in
theorem Va_eq (h : Fin 8) : Va m c h = valueRows v h :=
  funext fun t => funext fun l => congrFun (packed_v99 (fun b => m (c, b)) v hv) (ix3 h t l)

include hq hk hv ha hg in
theorem Ga_eq (h : Fin 8) : Ga m c h = gradRows q k v g (cumT a) h :=
  funext fun t => funext fun l => congrFun (packed_v115 (fun b => m (c, b)) q k v g a hq hk hv ha hg) (ix3 h t l)

end

/-- The three arrays of the grid, of the packed rows. -/
def dqRows (f : FVec Ideal S8192x8 .f32) (h : Fin 8) (t : Fin 8192) (l : Fin 128) : EReal :=
  ∑ s, dsc (keyRows k f h) (valueRows v h) (queryRows q k f h) (gradRows q k v g f h) s t * keyRows k f h s l
def dkRows (f : FVec Ideal S8192x8 .f32) (h : Fin 8) (s : Fin 8192) (l : Fin 128) : EReal :=
  ∑ t, dsc (keyRows k f h) (valueRows v h) (queryRows q k f h) (gradRows q k v g f h) s t * queryRows q k f h t l
def dvRows (f : FVec Ideal S8192x8 .f32) (h : Fin 8) (s : Fin 8192) (l : Fin 128) : EReal :=
  ∑ t, prob (keyRows k f h) (queryRows q k f h) s t * gradRows q k v g f h t l

section
variable (hq : Reals q) (hk : Reals k) (hv : Reals v) (hg : Reals g) (f : FVec Ideal S8192x8 .f32) (hf : Reals f)
  (h : Fin 8) (t s : Fin 8192) (d : Fin 64)
include hq hk hv hg hf

/-- A head as real numbers: the two programs' gradients of the scores, and softmaxes, agree and are real. -/
theorem head_real : ∃ P D : Fin 8192 → Fin 8192 → ℝ,
    (∀ t s, prob (keyRows k f h) (queryRows q k f h) s t = ((P t s : ℝ) : EReal))
    ∧ (∀ t s, dsc (keyRows k f h) (valueRows v h) (queryRows q k f h) (gradRows q k v g f h) s t = ((D t s : ℝ) : EReal))
    ∧ (∀ t s, dsT v g (expT (scoreT q k f) (topT (scoreT q k f))) (ix3 h t s) = ((D t s : ℝ) : EReal))
    ∧ ∀ s d, dvT g (expT (scoreT q k f) (topT (scoreT q k f))) (ix3 s h d) = ((∑ t, (g (ix3 t h d)).toReal * P t s : ℝ) : EReal) := by
  have hq' : ∀ t d, q (ix3 t h d) = (((q (ix3 t h d)).toReal : ℝ) : EReal) := fun t d => hq.coe _
  have hk' : ∀ t d, k (ix3 t h d) = (((k (ix3 t h d)).toReal : ℝ) : EReal) := fun t d => hk.coe _
  have hv' : ∀ t d, v (ix3 t h d) = (((v (ix3 t h d)).toReal : ℝ) : EReal) := fun t d => hv.coe _
  have hg' : ∀ t d, g (ix3 t h d) = (((g (ix3 t h d)).toReal : ℝ) : EReal) := fun t d => hg.coe _
  have hf' : ∀ t, f (ix2 t h) = (((f (ix2 t h)).toReal : ℝ) : EReal) := fun t => hf.coe _
  obtain ⟨M, hM⟩ := max_real h hq' hk' hf'
  have he := fun t s => exp_real h t s hq' hk' hf' (y := topT (scoreT q k f)) (M := M) fun t => (topT_apply h t _).trans (hM t)
  exact ⟨_, _, fun t s => prob_real h t s hq' hk' hf' hM, fun t s => dsc_real h t s hq' hk' hf' hM hv' hg',
    fun t s => ds_real h t s he hv' hg', fun s d => dv_real h s d he hg'⟩

theorem dq_eq : dqRows q k v g f h t ⟨d.val, by omega⟩ * (((1 : ℝ) / 8 : ℝ) : EReal)
    = dqT k (dsT v g (expT (scoreT q k f) (topT (scoreT q k f)))) (ix3 t h d) := by
  obtain ⟨P, D, -, hD, hD', -⟩ := head_real q k v g hq hk hv hg f hf h
  have hk' : ∀ t d, k (ix3 t h d) = (((k (ix3 t h d)).toReal : ℝ) : EReal) := fun t d => hk.coe _
  rw [dq_real h t d hD' hk']
  have e : ∀ s, keyRows k f h s ⟨d.val, by omega⟩ = (((k (ix3 s h d)).toReal : ℝ) : EReal) := fun s => (key_feat k f h s d).trans (hk' s d)
  unfold dqRows
  simp only [hD, e, ← EReal.coe_mul, coe_sum]
  refine congrArg _ ?_
  rw [Finset.sum_mul]
  exact Finset.sum_congr rfl fun s _ => by ring

theorem dk_eq : dkRows q k v g f h s ⟨d.val, by omega⟩ * ((Real.log 2 : ℝ) : EReal)
    = dkT q (dsT v g (expT (scoreT q k f) (topT (scoreT q k f)))) (ix3 s h d) := by
  obtain ⟨P, D, -, hD, hD', -⟩ := head_real q k v g hq hk hv hg f hf h
  have hq' : ∀ t d, q (ix3 t h d) = (((q (ix3 t h d)).toReal : ℝ) : EReal) := fun t d => hq.coe _
  rw [dk_real h s d hD' hq']
  have e : ∀ t, queryRows q k f h t ⟨d.val, by omega⟩ = (((q (ix3 t h d)).toReal * (1 / Real.log 2 / 8) : ℝ) : EReal) := fun t => by
    rw [EReal.coe_mul, ← hq' t d]
    exact query_feat q f _ h t d
  unfold dkRows
  simp only [hD, e, ← EReal.coe_mul, coe_sum]
  refine congrArg _ ?_
  have h2 : Real.log 2 ≠ 0 := (Real.log_pos (by norm_num)).ne'
  rw [Finset.sum_mul]
  exact Finset.sum_congr rfl fun t _ => by field_simp

theorem dv_eq : dvRows q k v g f h s ⟨d.val, by omega⟩ = dvT g (expT (scoreT q k f) (topT (scoreT q k f))) (ix3 s h d) := by
  obtain ⟨P, D, hP, -, -, hv''⟩ := head_real q k v g hq hk hv hg f hf h
  rw [hv'']
  have e : ∀ t, gradRows q k v g f h t ⟨d.val, by omega⟩ = (((g (ix3 t h d)).toReal : ℝ) : EReal) := fun t =>
    (pack_feat g _ _ _ h t d).trans (hg.coe _)
  unfold dvRows
  simp only [hP, e, ← EReal.coe_mul, coe_sum]
  exact congrArg _ (Finset.sum_congr rfl fun t _ => mul_comm _ _)

theorem df_eq : dqRows q k v g f h t 67 - dkRows q k v g f h t 73 = dgT (dsT v g (expT (scoreT q k f) (topT (scoreT q k f)))) (ix2 t h) := by
  obtain ⟨P, D, -, hD, hD', -⟩ := head_real q k v g hq hk hv hg f hf h
  rw [dg_real h t hD']
  have e1 : ∀ s, keyRows k f h s 67 = ((1 : ℝ) : EReal) := fun s => (key_67 k f h s).trans (oneT_apply h s)
  have e2 : ∀ t, queryRows q k f h t 73 = ((1 : ℝ) : EReal) := fun t => (query_73 q f _ h t).trans (oneT_apply h t)
  unfold dqRows dkRows
  simp only [hD, e1, e2, ← EReal.coe_mul, coe_sum, ← EReal.coe_sub, mul_one]
  refine congrArg _ ?_
  rw [Finset.sum_neg_distrib]
  ring

end

/-! ### The results -/

section
variable (hq : m ((c.tc : Thread nD τ).loc main_arg0) = q) (hk : m ((c.tc : Thread nD τ).loc main_arg1) = k)
  (hv : m ((c.tc : Thread nD τ).loc main_arg2) = v) (ha : m ((c.tc : Thread nD τ).loc main_arg3) = a) (hg : m ((c.tc : Thread nD τ).loc main_arg4) = g)
include hq hk hv ha hg

theorem dqArr_apply (h : Fin 8) (t : Fin 8192) (l : Fin 128) : dqArr m c (ix3 h t l) = dqRows q k v g (cumT a) h t l := by
  unfold dqRows
  rw [← Qa_eq m c q k a hq hk ha, ← Ka_eq m c k a hk ha, ← Va_eq m c v hv, ← Ga_eq m c q k v g a hq hk hv ha hg]
  rfl

theorem dkArr_apply (h : Fin 8) (t : Fin 8192) (l : Fin 128) : dkArr m c (ix3 h t l) = dkRows q k v g (cumT a) h t l := by
  unfold dkRows
  rw [← Qa_eq m c q k a hq hk ha, ← Ka_eq m c k a hk ha, ← Va_eq m c v hv, ← Ga_eq m c q k v g a hq hk hv ha hg]
  rfl

theorem dvArr_apply (h : Fin 8) (t : Fin 8192) (l : Fin 128) : dvArr m c (ix3 h t l) = dvRows q k v g (cumT a) h t l := by
  unfold dvRows
  rw [← Qa_eq m c q k a hq hk ha, ← Ka_eq m c k a hk ha, ← Ga_eq m c q k v g a hq hk hv ha hg]
  rfl

variable (rq : Reals q) (rk : Reals k) (rv : Reals v) (ra : Reals a) (rg : Reals g)
include rq rk rv ra rg

theorem out_dq : scaleT (outT (dqArr m c)) (constant S_ .f32 0x3E000000#32) = dqT k (dsT v g (topExpT q k a)) := by
  funext i
  obtain ⟨t, h, d, rfl⟩ : ∃ (t : Fin 8192) (h : Fin 8) (d : Fin 64), i = ix3 t h d := ⟨i 0, i 1, i 2, ValueIdx.eq_ix3 (n0 := 8192) (n1 := 8) (n2 := 64) i⟩
  rw [scaleT_apply, outT_apply, dqArr_apply m c q k v g a hq hk hv ha hg]
  exact (congrArg _ bits_eighth).trans (dq_eq q k v g rq rk rv rg (cumT a) (cumT_real a ra) h t d)

theorem out_dk : scaleT (outT (dkArr m c)) ln2T = dkT q (dsT v g (topExpT q k a)) := by
  funext i
  obtain ⟨t, h, d, rfl⟩ : ∃ (t : Fin 8192) (h : Fin 8) (d : Fin 64), i = ix3 t h d := ⟨i 0, i 1, i 2, ValueIdx.eq_ix3 (n0 := 8192) (n1 := 8) (n2 := 64) i⟩
  rw [scaleT_apply, outT_apply, dkArr_apply m c q k v g a hq hk hv ha hg, ln2T_apply]
  exact dk_eq q k v g rq rk rv rg (cumT a) (cumT_real a ra) h t d

theorem out_dv : outT (dvArr m c) = dvT g (topExpT q k a) := by
  funext i
  obtain ⟨t, h, d, rfl⟩ : ∃ (t : Fin 8192) (h : Fin 8) (d : Fin 64), i = ix3 t h d := ⟨i 0, i 1, i 2, ValueIdx.eq_ix3 (n0 := 8192) (n1 := 8) (n2 := 64) i⟩
  rw [outT_apply, dvArr_apply m c q k v g a hq hk hv ha hg]
  exact dv_eq q k v g rq rk rv rg (cumT a) (cumT_real a ra) h t d

theorem out_df : gradT (dqArr m c) (dkArr m c) = dgT (dsT v g (topExpT q k a)) := by
  funext i
  obtain ⟨t, h, rfl⟩ : ∃ (t : Fin 8192) (h : Fin 8), i = ix2 t h := ⟨i 0, i 1, ValueIdx.eq_ix2 (n0 := 8192) (n1 := 8) i⟩
  rw [gradT_apply, dqArr_apply m c q k v g a hq hk hv ha hg, dkArr_apply m c q k v g a hq hk hv ha hg]
  exact df_eq q k v g rq rk rv rg (cumT a) (cumT_real a ra) h t

end

end Cert.Bwd

end

end
-- ==== Proof.Finish.lean ====
/-
  The two programs' results are equal where the arguments are finite.
-/
module

public import proofs.«01_k».proof.Defs
public import proofs.«01_k».proof.Proof.Value
public import Idealize.ShloMosaic.Lib.ReduceAll

@[expose] public section

set_option maxRecDepth 16384

noncomputable section

namespace Cert.Bwd

open Cert.KernelIdeal Cert.KernelIdeal.Gen Idealize.ShloMosaic.TcCoe
open Idealize.ShloMosaic Idealize.SL.Sem

/-! ### Finite arguments are real -/

instance : Subsingleton (⟨0, ![]⟩ : Shape).Idx := ⟨fun _ _ => funext fun i => i.elim0⟩

theorem bits_top : Ideal.ofBits .f32 0x7F800000#32 = ⊤ := by
  simp [Ideal.ofBits, Ideal.ieee]

theorem real_of_abs (x : EReal) (h : Ideal.cmp .olt (max x (-x)) ⊤ = 1#1) : ∃ r : ℝ, x = (r : EReal) := by
  have hlt : max x (-x) < ⊤ := by
    by_contra hn
    have : Ideal.cmp .olt (max x (-x)) ⊤ = BitVec.ofBool (decide (max x (-x) < ⊤)) := rfl
    rw [this, decide_eq_false hn] at h
    exact absurd h (by decide)
  have h1 : x ≠ ⊤ := (lt_of_le_of_lt (le_max_left _ _) hlt).ne
  have h2 : x ≠ ⊥ := fun e => (lt_of_le_of_lt (le_max_right x (-x)) hlt).ne (by rw [e, EReal.neg_bot])
  exact ⟨_, (EReal.coe_toReal h1 h2).symm⟩

theorem all_real {s : Shape} (x : FVec Ideal s .f32) {axes : List (Fin s.rank)} (hr : s.ReducesTo axes ⟨0, ![]⟩)
    (hb : (⟨0, ![]⟩ : Shape).BroadcastsInDim s ![]) (hu : 0 < (⟨0, ![]⟩ : Shape).numel) (j : (⟨0, ![]⟩ : Shape).Idx)
    (h : Host.reduce IntOp.andi (cmpf .olt (Host.absf x) (broadcastInDim s ![] hb (constant (F := Ideal) ⟨0, ![]⟩ .f32 0x7F800000#32)))
      (constantI ⟨0, ![]⟩ 1 1#1) hr hu j = 1#1) : Reals x := by
  intro i
  have e := Host.reduce_andi_all _ _ _ _ j h i
  have e' : Ideal.cmp .olt (max (x i) (-x i)) (Ideal.ofBits .f32 0x7F800000#32) = 1#1 := e
  rw [bits_top] at e'
  exact real_of_abs _ e'

theorem args_real [Cert.Pre_finite.Facts] (q k v g : FVec Ideal S8192x8x64 .f32) (a : FVec Ideal S8192x8 .f32)
    (h : Cert.Pre_finite.fn q k v a g = fun _ => 1#1) : Reals q ∧ Reals k ∧ Reals v ∧ Reals a ∧ Reals g := by
  have e := congrFun h (fun i => i.elim0)
  unfold Cert.Pre_finite.fn Cert.Pre_finite.fn_part1 at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real q _ _ _ _ h0, all_real k _ _ _ _ h1, all_real v _ _ _ _ h2, all_real a _ _ _ _ h3, all_real g _ _ _ _ h4⟩

/-! ### The arrays after the host's last lines -/

theorem arrays_inj : Function.Injective (Pipeline.arrRef spec0) := by decide

variable (m : (ℓ : Loc nD τ sig) → Buf (Elt Ideal) ℓ) (c : Dev nD)

/-- What the grid leaves, with its three arrays filled. -/
abbrev left : Valuation τ sig (Elt Ideal) :=
  Pipeline.withArrays (cfgs 0).spec c (V0 m c) fun w => (dats m 0 c).arrAt w cfg0.N

theorem left_0 : left m c (Proc.devRef .tc main_v116_0) = dqArr m c := (Pipeline.withArrays_arr spec0 arrays_inj c _ _ 4).trans (arr4 m c)
theorem left_1 : left m c (Proc.devRef .tc main_v116_1) = dkArr m c := (Pipeline.withArrays_arr spec0 arrays_inj c _ _ 5).trans (arr5 m c)
theorem left_2 : left m c (Proc.devRef .tc main_v116_2) = dvArr m c := (Pipeline.withArrays_arr spec0 arrays_inj c _ _ 6).trans (arr6 m c)
theorem left_37 : left m c (Proc.devRef .tc main_v37) = (ln2T (F := Ideal)) :=
  (Pipeline.withArrays_of_ne _ c (V0 m c) _ main_v37 (by exact (by decide : ∀ w, Pipeline.arrRef spec0 w ≠ main_v37))).trans (packed_v37 fun b => m (c, b))

theorem flatten_two {α : Type} (x y : List α) : List.flatten [x, y] = x ++ y := by
  rw [List.flatten_cons, List.flatten_cons, List.flatten_nil, List.append_nil]

theorem tail_split (b : Ref sig .tc) : Pipeline.afterTail₀ cfgs (dats m) 0 (V0 m) [hostOps1, hostOps1_1] c b
    = StableHlo.after (hostOps1 ++ hostOps1_1) (left m c) (Proc.devRef .tc b) :=
  congrArg (fun l => StableHlo.after l (left m c) (Proc.devRef .tc b)) (flatten_two hostOps1 hostOps1_1)

/-! ### The results -/

variable (m' : (ℓ : Loc Cert.ReferenceIdeal.nD Cert.ReferenceIdeal.τ Cert.ReferenceIdeal.sig) → Buf (Elt Ideal) ℓ)
  (q k v g : FVec Ideal S8192x8x64 .f32) (a : FVec Ideal S8192x8 .f32)

section
variable (hq : m ((c.tc : Thread nD τ).loc main_arg0) = q) (hk : m ((c.tc : Thread nD τ).loc main_arg1) = k)
  (hv : m ((c.tc : Thread nD τ).loc main_arg2) = v) (ha : m ((c.tc : Thread nD τ).loc main_arg3) = a) (hg : m ((c.tc : Thread nD τ).loc main_arg4) = g)
  (rq : Reals q) (rk : Reals k) (rv : Reals v) (ra : Reals a) (rg : Reals g)
include hq hk hv ha hg rq rk rv ra rg

theorem tail_dq : Pipeline.afterTail₀ cfgs (dats m) 0 (V0 m) [hostOps1, hostOps1_1] c main_v125 = dqT k (dsT v g (topExpT q k a)) :=
  (tail_split m c main_v125).trans ((tail_v125 (left m c)).trans
    ((congrArg (fun x => scaleT (outT x) (constant S_ .f32 0x3E000000#32)) (left_0 m c)).trans (out_dq m c q k v g a hq hk hv ha hg rq rk rv ra rg)))

theorem tail_dk : Pipeline.afterTail₀ cfgs (dats m) 0 (V0 m) [hostOps1, hostOps1_1] c main_v129 = dkT q (dsT v g (topExpT q k a)) :=
  (tail_split m c main_v129).trans ((tail_v129 (left m c)).trans
    ((congrArg₂ (fun x y => scaleT (outT x) y) (left_1 m c) (left_37 m c)).trans (out_dk m c q k v g a hq hk hv ha hg rq rk rv ra rg)))

theorem tail_dv : Pipeline.afterTail₀ cfgs (dats m) 0 (V0 m) [hostOps1, hostOps1_1] c main_v131 = dvT g (topExpT q k a) :=
  (tail_split m c main_v131).trans ((tail_v131 (left m c)).trans
    ((congrArg (fun x => outT x) (left_2 m c)).trans (out_dv m c q k v g a hq hk hv ha hg rq rk rv ra rg)))

theorem tail_da : Pipeline.afterTail₀ cfgs (dats m) 0 (V0 m) [hostOps1, hostOps1_1] c main_v133 = revT (dgT (dsT v g (topExpT q k a))) :=
  (tail_split m c main_v133).trans ((tail_v133 (left m c)).trans
    ((congrArg₂ (fun x y => revT (gradT x y)) (left_0 m c) (left_1 m c)).trans (congrArg revT (out_df m c q k v g a hq hk hv ha hg rq rk rv ra rg))))

end

/-- Where the arguments are finite both programs end with the same four gradients. -/
theorem algebraic [hF : Cert.Pre_finite.Facts] : Cert.algebraic_KernelIdeal_ReferenceIdeal_pre_finite := by
  intro m ρ m' ρ' hpre hargs
  refine ⟨fun c => Cert.ReferenceIdeal.Value.res_main_v78 m' c, fun c => Cert.ReferenceIdeal.Value.res_main_v76 m' c,
    fun c => Cert.ReferenceIdeal.Value.res_main_v51 m' c, fun c => Cert.ReferenceIdeal.Value.res_main_v80 m' c, ?_, Cert.ReferenceIdeal.Value.run (F := Ideal) m' ρ'⟩
  refine (θ_run defs _ _).mono (fun r h c => ?_) (run_main (F := Ideal) m ρ)
  obtain ⟨rq, rk, rv, ra, rg⟩ := args_real _ _ _ _ _ (hpre c)
  obtain ⟨e0, e1, e2, e3, e4⟩ := hargs c
  have rest := (h.1 c).2
  refine ⟨(rest main_v125 (Pipeline.mem_restRefs_of main_v125 (by decide) (by decide))).trans
      ((tail_dq m c _ _ _ _ _ rfl rfl rfl rfl rfl rq rk rv ra rg).trans (res_dq m' c _ _ _ _ _ e0 e1 e2 e3 e4).symm),
    (rest main_v129 (Pipeline.mem_restRefs_of main_v129 (by decide) (by decide))).trans
      ((tail_dk m c _ _ _ _ _ rfl rfl rfl rfl rfl rq rk rv ra rg).trans (res_dk m' c _ _ _ _ _ e0 e1 e2 e3 e4).symm),
    (rest main_v131 (Pipeline.mem_restRefs_of main_v131 (by decide) (by decide))).trans
      ((tail_dv m c _ _ _ _ _ rfl rfl rfl rfl rfl rq rk rv ra rg).trans (res_dv m' c _ _ _ _ _ e0 e1 e2 e3 e4).symm),
    (rest main_v133 (Pipeline.mem_restRefs_of main_v133 (by decide) (by decide))).trans
      ((tail_da m c _ _ _ _ _ rfl rfl rfl rfl rfl rq rk rv ra rg).trans (res_da m' c _ _ _ _ _ e0 e1 e2 e3 e4).symm),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    (rest main_arg3 (Pipeline.mem_restRefs_of main_arg3 (by decide) (by decide))).trans (W_main_arg3 m (dats m) c),
    (rest main_arg4 (Pipeline.mem_restRefs_of main_arg4 (by decide) (by decide))).trans (W_main_arg4 m (dats m) c)⟩

theorem facts_finite : Cert.Pre_finite.Facts where
  bcast_S_S8192x8x64 := bcast_S_S8192x8x64
  reducesTo_S8192x8x64_S_d0_1_2 := by decide
  h_S_ := h_S_
  bcast_S_S8192x8 := by decide
  reducesTo_S8192x8_S_d0_1 := by decide

end Cert.Bwd

end

end
-- ==== Proof.UpWord.lean ====
/-
  The second program on words has the text of the one on extended reals, so its frame comes from the same run.
-/
module

public import proofs.«01_k».proof.Defs
public import proofs.«01_k».proof.Proof.Gen.Kernel2
public import proofs.«01_k».proof.Proof.Gen.Kernel2Ideal.Frame

@[expose] public section

set_option maxRecDepth 16384

noncomputable section

namespace Cert.Up

open Idealize.ShloMosaic Idealize.SL.Sem

variable {F : FTy → Type} [FloatOps F]

set_option smartUnfolding false in
theorem defs₀_eq : Cert.Kernel2.defs₀ (F := F) = Cert.Kernel2Ideal.defs₀ (F := F) := rfl

theorem defs_eq : Cert.Kernel2.defs (F := F) = Cert.Kernel2Ideal.defs (F := F) :=
  congrArg (Pipeline.defs (Cert.Kernel2Ideal.pcfgs (F := F))) defs₀_eq

set_option maxHeartbeats 4000000 in
theorem main_eq : Cert.Kernel2.main (F := F) = Cert.Kernel2Ideal.main (F := F) := rfl

/-- The frame of a program that is the second one. -/
theorem frame_of_eq (ds) (hd : ds = Cert.Kernel2Ideal.defs (F := F)) (mn) (hm : mn = Cert.Kernel2Ideal.main (F := F)) (m) (ρ) :
    θ_run ds (onTc (τ := Cert.Kernel2Ideal.τ) mn) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0) := by
  subst hd hm
  exact Cert.Kernel2Ideal.Gen.frame m ρ

theorem frame_kernel : Cert.quiescent_Kernel2 (hKernel2 := Cert.Kernel2.Gen.facts) := fun m ρ _ => frame_of_eq _ defs_eq _ main_eq m ρ

end Cert.Up

end

end
-- ==== Proof.UpBody.lean ====
/-
  What the body of the gradient of the up projection leaves in its six blocks at a point of the grid: at the first point
  from zero, at a later one from the sums so far.
-/
module

public import proofs.«01_k».proof.Proof.Finish
public import proofs.«01_k».proof.Proof.Gen.Kernel2Ideal.Frame
public import Idealize.ShloMosaic.Lib.Pipeline.Value

@[expose] public section

set_option maxRecDepth 16384

noncomputable section

namespace Cert.Up

open Cert.Kernel2Ideal Cert.Kernel2Ideal.Gen Idealize.ShloMosaic Idealize.ShloMosaic.TcCoe

variable {F : FTy → Type} [FloatOps F]

theorem nil2 : (![0, 0] : Fin 2 → Nat) = fun _ => 0 := funext fun a => by fin_cases a <;> rfl

/-- The half of the weights for the gate, and the half for the value. -/
abbrev wl (w : Vec F S1024x5632 .bf16) : Vec F S1024x2816 .bf16 :=
  View.ld w (Rect.unit (s := S1024x5632) ![0, 0] S1024x2816.size inb_S1024x5632_S1024x2816_0_0)
abbrev wr (w : Vec F S1024x5632 .bf16) : Vec F S1024x2816 .bf16 :=
  View.ld w (Rect.unit (s := S1024x5632) ![0, 2816] S1024x2816.size inb_S1024x5632_S1024x2816_0_2816)

/-- The gradient of the modulated norm, and of the stream before it, in a block of 512 rows. -/
abbrev dhB (a b : Vec F S512x2816 .bf16) (w : Vec F S1024x5632 .bf16) : Vec F S512x1024 .f32 := k0_pay3 a (wl w) b (wr w)
abbrev dxB (a b : Vec F S512x2816 .bf16) (w : Vec F S1024x5632 .bf16) (x y : Vec F S512x1024 .f32) (g s : Vec F S1x1024 .f32) : Vec F S512x1024 .f32 :=
  k0_pay13 (k0_pay10 x) (k0_pay11 x) (k0_pay12 a (wl w) b (wr w) g s) y
section
variable (c : Dev nD) (i : grid0.Coords)
  (a1 : Memref sig .tc .vmem S512x2816 .bf16) (h1 : a1.IsWhole)
  (a2 : Memref sig .tc .vmem S512x2816 .bf16) (h2 : a2.IsWhole)
  (a3 : Memref sig .tc .vmem S1024x5632 .bf16) (h3 : a3.IsWhole)
  (a4 : Memref sig .tc .vmem S512x1024 .f32) (h4 : a4.IsWhole)
  (a5 : Memref sig .tc .vmem S512x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S512x1024 .f32) (h8 : a8.IsWhole)
  (a9 : Memref sig .tc .vmem S1x1024 .f32) (h9 : a9.IsWhole)
  (a10 : Memref sig .tc .vmem S512x1024 .f32) (h10 : a10.IsWhole)
  (a11 : Memref sig .tc .vmem S8x1024 .f32) (h11 : a11.IsWhole)
  (a12 : Memref sig .tc .vmem S8x1024 .f32) (h12 : a12.IsWhole)
  (a13 : Memref sig .tc .vmem S8x1024 .f32) (h13 : a13.IsWhole)
  (a14 : Memref sig .tc .vmem S512x1024 .bf16) (h14 : a14.IsWhole)
  (a15 : Memref sig .tc .vmem S8x1024 .f32) (h15 : a15.IsWhole)
   (x0 : Vec F S512x2816 .bf16) (x1 : Vec F S512x2816 .bf16) (x2 : Vec F S1024x5632 .bf16) (x3 : Vec F S512x1024 .f32) (x4 : Vec F S512x1024 .f32) (x5 : Vec F S1x1024 .f32) (x6 : Vec F S1x1024 .f32) (x7 : Vec F S512x1024 .f32) (x8 : Vec F S1x1024 .f32) (y10 y11 y12 y14 : Vec F S8x1024 .f32)

theorem out_A_9 (hc : cond0_0 i) : out0_A_9 c i a1 h1 a2 h2 a3 h3 a4 h4 a5 h5 a6 h6 a7 h7 a8 h8 a9 h9 a10 h10 a11 h11 a12 h12 a13 h13 a14 h14 a15 h15 hc x0 x1 x2 x3 x4 x5 x6 x7 x8 = dxB x0 x1 x2 x3 x4 x5 x6 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S512x1024) nil2]
  simp only [View.readAt_eq_ld, h1.read_unread, h2.read_unread, h3.read_unread, h4.read_unread, h5.read_unread, h6.read_unread, h7.read_unread, h8.read_unread, h9.read_unread, View.ld_unit_zero (S := S512x2816) nil2, View.ld_unit_zero (S := S512x1024) nil2,
    View.ld_unit_zero (S := S1x1024) nil2, View.ld_unit_zero (S := S8x1024) nil2]

theorem out_A_10 (hc : cond0_0 i) : out0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay15 (dhB x0 x1 x2) k0_pay4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, View.ld_unit_zero (S := S512x2816) nil2, View.ld_unit_zero (S := S512x1024) nil2,
    View.ld_unit_zero (S := S1x1024) nil2, View.ld_unit_zero (S := S8x1024) nil2]

theorem out_A_11 (hc : cond0_0 i) : out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay16 (dhB x0 x1 x2) x5 (k0_pay11 x3) k0_pay5 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, View.ld_unit_zero (S := S512x2816) nil2, View.ld_unit_zero (S := S512x1024) nil2,
    View.ld_unit_zero (S := S1x1024) nil2, View.ld_unit_zero (S := S8x1024) nil2]

theorem out_A_12 (hc : cond0_0 i) : out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay17 (dhB x0 x1 x2) (k0_pay9 x6) (k0_pay11 x3) k0_pay6 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, View.ld_unit_zero (S := S512x2816) nil2, View.ld_unit_zero (S := S512x1024) nil2,
    View.ld_unit_zero (S := S1x1024) nil2, View.ld_unit_zero (S := S8x1024) nil2]

theorem out_A_13 (hc : cond0_0 i) : out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay1 (dxB x0 x1 x2 x3 x4 x5 x6) x8 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_unit_zero (S := S512x1024) nil2]
  simp only [View.readAt_eq_ld, h1.read_unread, h2.read_unread, h3.read_unread, h4.read_unread, h5.read_unread, h6.read_unread, h7.read_unread, h8.read_unread, h9.read_unread, View.ld_unit_zero (S := S512x2816) nil2, View.ld_unit_zero (S := S512x1024) nil2,
    View.ld_unit_zero (S := S1x1024) nil2, View.ld_unit_zero (S := S8x1024) nil2]

theorem out_A_14 (hc : cond0_0 i) : out0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 = k0_pay2 (dxB x0 x1 x2 x3 x4 x5 x6) k0_pay7 x7 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, View.ld_unit_zero (S := S512x2816) nil2, View.ld_unit_zero (S := S512x1024) nil2,
    View.ld_unit_zero (S := S1x1024) nil2, View.ld_unit_zero (S := S8x1024) nil2]

theorem out_B_9 (hc : ¬cond0_0 i) : out0_B_9 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14 = dxB x0 x1 x2 x3 x4 x5 x6 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14)]
  unfold kernelRun0_B
  dsimp only
  sl_unfold_words
  rw [View.canon_unit_zero (S := S512x1024) nil2]
  simp only [View.readAt_eq_ld, h1.read_unread, h2.read_unread, h3.read_unread, h4.read_unread, h5.read_unread, h6.read_unread, h7.read_unread, h8.read_unread, h9.read_unread, h11.read_unread, h12.read_unread, h13.read_unread, h15.read_unread, View.ld_unit_zero (S := S512x2816) nil2, View.ld_unit_zero (S := S512x1024) nil2,
    View.ld_unit_zero (S := S1x1024) nil2, View.ld_unit_zero (S := S8x1024) nil2]

theorem out_B_10 (hc : ¬cond0_0 i) : out0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14 = k0_pay15 (dhB x0 x1 x2) y10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h11.read_unread, h12.read_unread, h13.read_unread, h15.read_unread, View.ld_unit_zero (S := S512x2816) nil2, View.ld_unit_zero (S := S512x1024) nil2,
    View.ld_unit_zero (S := S1x1024) nil2, View.ld_unit_zero (S := S8x1024) nil2]

theorem out_B_11 (hc : ¬cond0_0 i) : out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14 = k0_pay16 (dhB x0 x1 x2) x5 (k0_pay11 x3) y11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h11.read_unread, h12.read_unread, h13.read_unread, h15.read_unread, View.ld_unit_zero (S := S512x2816) nil2, View.ld_unit_zero (S := S512x1024) nil2,
    View.ld_unit_zero (S := S1x1024) nil2, View.ld_unit_zero (S := S8x1024) nil2]

theorem out_B_12 (hc : ¬cond0_0 i) : out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14 = k0_pay17 (dhB x0 x1 x2) (k0_pay9 x6) (k0_pay11 x3) y12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h11.read_unread, h12.read_unread, h13.read_unread, h15.read_unread, View.ld_unit_zero (S := S512x2816) nil2, View.ld_unit_zero (S := S512x1024) nil2,
    View.ld_unit_zero (S := S1x1024) nil2, View.ld_unit_zero (S := S8x1024) nil2]

theorem out_B_13 (hc : ¬cond0_0 i) : out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14 = k0_pay1 (dxB x0 x1 x2 x3 x4 x5 x6) x8 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14)]
  unfold kernelRun0_B
  dsimp only
  sl_unfold_words
  rw [View.canon_unit_zero (S := S512x1024) nil2]
  simp only [View.readAt_eq_ld, h1.read_unread, h2.read_unread, h3.read_unread, h4.read_unread, h5.read_unread, h6.read_unread, h7.read_unread, h8.read_unread, h9.read_unread, h11.read_unread, h12.read_unread, h13.read_unread, h15.read_unread, View.ld_unit_zero (S := S512x2816) nil2, View.ld_unit_zero (S := S512x1024) nil2,
    View.ld_unit_zero (S := S1x1024) nil2, View.ld_unit_zero (S := S8x1024) nil2]

theorem out_B_14 (hc : ¬cond0_0 i) : out0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14 = k0_pay2 (dxB x0 x1 x2 x3 x4 x5 x6) y14 x7 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 y10 y11 y12 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h11.read_unread, h12.read_unread, h13.read_unread, h15.read_unread, View.ld_unit_zero (S := S512x2816) nil2, View.ld_unit_zero (S := S512x1024) nil2,
    View.ld_unit_zero (S := S1x1024) nil2, View.ld_unit_zero (S := S8x1024) nil2]

end

end Cert.Up

end

end
-- ==== Proof.UpTile.lean ====
/-
  What the body of the gradient of the up projection computes of a row, and of the rows of a block, over the extended reals.
-/
module

public import proofs.«01_k».proof.Proof.UpBody
public import Idealize.ShloMosaic.PureOps.Ideal.Laws
public import Idealize.ShloMosaic.Lib.MatmulPlain
public import Idealize.ShloMosaic.Lib.Pointwise
public import Idealize.ShloMosaic.Lib.ValueLayout
public import Idealize.ShloMosaic.Lib.ValueLayoutCasts

@[expose] public section

set_option maxRecDepth 16384

noncomputable section

namespace Cert.Up

open Cert.Kernel2Ideal Cert.Kernel2Ideal.Gen Idealize.ShloMosaic.ValueIdx
open Idealize.ShloMosaic hiding ix1 ix2 ix3 ix4
open scoped BigOperators

/-- The three constants. -/
abbrev eps : EReal := Ideal.ofBits .f32 0x358637BD#32
abbrev width : EReal := Ideal.ofBits .f32 0x44800000#32
abbrev unit : EReal := Ideal.ofBits .f32 0x3F800000#32

/-- A row's reciprocal root of the mean square, and the normalised row. -/
def inv (x : Fin 1024 → EReal) : EReal := Ideal.rsqrt (Ideal.div (∑ l, x l * x l) width + eps)
def normed (x : Fin 1024 → EReal) (j : Fin 1024) : EReal := x j * inv x

/-- The row's gradient of the modulated norm, from the gradients of gate and value. -/
def dh (a b : Fin 2816 → EReal) (w : Fin 1024 → Fin 5632 → EReal) (j : Fin 1024) : EReal :=
  (∑ l : Fin 2816, a l * w j ⟨l.val, by omega⟩) + ∑ l : Fin 2816, b l * w j ⟨2816 + l.val, by omega⟩
/-- Its product with the weights of the norm, and the gradient of the row. -/
def dnorm (d g s : Fin 1024 → EReal) (j : Fin 1024) : EReal := d j * (g j * (unit + s j))
def drow (d x y g s : Fin 1024 → EReal) (j : Fin 1024) : EReal :=
  y j + inv x * (dnorm d g s j - normed x j * Ideal.div (∑ l, dnorm d g s l * normed x l) width)

/-- A row of a block. -/
abbrev rowOf {n : ℕ} (x : (⟨2, ![512, n]⟩ : Shape).Idx → EReal) (r : Fin 512) : Fin n → EReal := fun l => x (ix2 r l)
abbrev lineOf {n : ℕ} (x : (⟨2, ![1, n]⟩ : Shape).Idx → EReal) : Fin n → EReal := fun l => x (ix2 0 l)

theorem mm_nt (a : FVec Ideal S512x2816 .bf16) (b : FVec Ideal S1024x2816 .bf16) (r : Fin 512) (c : Fin 1024) :
    matmul dot_S512x2816_S1024x2816_S512x1024_1_1_0_0_n_n none a b (constant S512x1024 .f32 0x00000000#32) (ix2 r c)
      = ∑ l : Fin 2816, a (ix2 r l) * b (ix2 c l) := by
  refine (Ideal.matmul_transposedRhs_apply (M := 512) (K := 2816) (N := 1024) none a b _ r c).trans ?_
  rw [constant_apply, Ideal.ofBits_zero_f32, zero_add]

theorem wl_apply (w : Vec Ideal S1024x5632 .bf16) (j : Fin 1024) (l : Fin 2816) : wl w (ix2 j l) = w (ix2 j ⟨l.val, by omega⟩) := by
  refine congrArg w (funext fun a => Fin.ext ?_)
  match a with
  | ⟨0, _⟩ => show 0 + 1 * j.val = j.val; omega
  | ⟨1, _⟩ => show 0 + 1 * l.val = l.val; omega
theorem wr_apply (w : Vec Ideal S1024x5632 .bf16) (j : Fin 1024) (l : Fin 2816) : wr w (ix2 j l) = w (ix2 j ⟨2816 + l.val, by omega⟩) := by
  refine congrArg w (funext fun a => Fin.ext ?_)
  match a with
  | ⟨0, _⟩ => show 0 + 1 * j.val = j.val; omega
  | ⟨1, _⟩ => show 2816 + 1 * l.val = 2816 + l.val; omega

theorem dhB_apply (a b : Vec Ideal S512x2816 .bf16) (w : Vec Ideal S1024x5632 .bf16) (r : Fin 512) (j : Fin 1024) :
    dhB a b w (ix2 r j) = dh (rowOf a r) (rowOf b r) (fun i l => w (ix2 i l)) j := by
  unfold dhB k0_pay3 dh
  simp only [shapeCast_self]
  refine congrArg₂ (· + ·) ((mm_nt _ _ r j).trans ?_) ((mm_nt _ _ r j).trans ?_)
  · exact Finset.sum_congr rfl fun l _ => by rw [wl_apply]
  · exact Finset.sum_congr rfl fun l _ => by rw [wr_apply]

/-! ### The norm -/

theorem pay8_apply (x : Vec Ideal S512x1024 .f32) : k0_pay8 (F := Ideal) x = x := shapeCast_self _ _

theorem meansq_apply (v : FVec Ideal S512x1024 .f32) (r : Fin 512) :
    shapeCast S512x1 (multiReduction .add [1] S512 v 0x00000000#32 reduces_S512x1024_S512 (.inl rfl) rfl) shapeCasts_S512_S512x1 (ix2 r 0)
      = ∑ l, v (ix2 r l) := by
  refine (shapeCast_a_a1_apply _ _ r 0).trans ?_
  pointwise
  rfl

theorem pay10_apply (x : Vec Ideal S512x1024 .f32) (r : Fin 512) : k0_pay10 (F := Ideal) x (ix2 r 0) = inv (rowOf x r) := by
  unfold k0_pay10 inv
  rw [pay8_apply]
  show Ideal.rsqrt (Ideal.div (shapeCast S512x1 (multiReduction (F := Ideal) .add [1] S512 (mulf x x) 0x00000000#32 reduces_S512x1024_S512 (.inl rfl) rfl)
    shapeCasts_S512_S512x1 (ix2 r 0)) width + eps) = _
  rw [meansq_apply]
  rfl

theorem col_apply (v : FVec Ideal S512x1 .f32) (r : Fin 512) (j : Fin 1024) :
    broadcastTo S512x1024 v broadcasts_S512x1_S512x1024 (ix2 r j) = v (ix2 r 0) := by
  pointwise
  rfl
theorem lane_apply (v : FVec Ideal S1x1024 .f32) (r : Fin 512) (j : Fin 1024) :
    broadcastTo S512x1024 v broadcasts_S1x1024_S512x1024 (ix2 r j) = v (ix2 0 j) := by
  pointwise
  rfl

theorem pay11_apply (x : Vec Ideal S512x1024 .f32) (r : Fin 512) (j : Fin 1024) :
    k0_pay11 (F := Ideal) x (ix2 r j) = normed (rowOf x r) j := by
  unfold k0_pay11 normed
  rw [pay8_apply]
  refine congrArg (x (ix2 r j) * ·) ((col_apply _ r j).trans (pay10_apply x r))

theorem pay12_apply (a b : Vec Ideal S512x2816 .bf16) (w : Vec Ideal S1024x5632 .bf16) (g s : Vec Ideal S1x1024 .f32) (r : Fin 512) (j : Fin 1024) :
    k0_pay12 (F := Ideal) a (wl w) b (wr w) g s (ix2 r j)
      = dnorm (dh (rowOf a r) (rowOf b r) fun i l => w (ix2 i l)) (lineOf g) (lineOf s) j :=
  congrArg₂ (· * ·) (dhB_apply a b w r j) (lane_apply _ r j)

theorem dxB_apply (a b : Vec Ideal S512x2816 .bf16) (w : Vec Ideal S1024x5632 .bf16) (x y : Vec Ideal S512x1024 .f32) (g s : Vec Ideal S1x1024 .f32)
    (r : Fin 512) (j : Fin 1024) :
    dxB a b w x y g s (ix2 r j)
      = drow (dh (rowOf a r) (rowOf b r) fun i l => w (ix2 i l)) (rowOf x r) (rowOf y r) (lineOf g) (lineOf s) j := by
  have h12 := pay12_apply a b w g s r
  have h11 := pay11_apply x r
  have hm : (∑ l : Fin 1024, mulf (k0_pay12 (F := Ideal) a (wl w) b (wr w) g s) (k0_pay11 x) (ix2 r l))
      = ∑ l, dnorm (dh (rowOf a r) (rowOf b r) fun i l => w (ix2 i l)) (lineOf g) (lineOf s) l * normed (rowOf x r) l :=
    Finset.sum_congr rfl fun l _ => congrArg₂ (· * ·) (h12 l) (h11 l)
  unfold dxB k0_pay13 drow
  refine congrArg (y (ix2 r j) + ·) (congrArg₂ (· * ·) ((col_apply _ r j).trans (pay10_apply x r)) (congrArg₂ (· - ·) (h12 j)
    (congrArg₂ (· * ·) (h11 j) ((col_apply _ r j).trans ?_))))
  show Ideal.div (shapeCast S512x1 _ shapeCasts_S512_S512x1 (ix2 r 0)) width = _
  rw [meansq_apply, hm]

/-! ### The sums of eight rows -/

/-- Row `k` of the eight, of group `i` of the 64. -/
def sub (i : Fin 64) (k : Fin 8) : Fin 512 := ⟨i.val * 8 + k.val, by omega⟩

theorem groups_apply (v : FVec Ideal S512x1024 .f32) (k : Fin 8) (j : Fin 1024) :
    multiReduction .add [0] S8x1024 (shapeCast S64x8x1024 v shapeCasts_S512x1024_S64x8x1024) 0x00000000#32 reduces_S64x8x1024_S8x1024 (.inl rfl) rfl (ix2 k j)
      = ∑ i : Fin 64, v (ix2 (sub i k) j) := by
  have h : ∀ i : Fin 64, shapeCast S64x8x1024 v shapeCasts_S512x1024_S64x8x1024 (ix3 i k j) = v (ix2 (sub i k) j) := fun i =>
    shapeCast_apply v _ _ _ (by
      rw [Shape.rowMajor_val_three, Shape.rowMajor_val_two]
      show (i.val * 8 + k.val) * 1024 + j.val = (i.val * 8 + k.val) * 1024 + j.val
      rfl)
  refine Eq.trans ?_ (Finset.sum_congr rfl fun i _ => h i)
  generalize shapeCast S64x8x1024 v shapeCasts_S512x1024_S64x8x1024 = u
  pointwise
  rfl

theorem pay15_apply (d : FVec Ideal S512x1024 .f32) (z : Vec Ideal S8x1024 .f32) (k : Fin 8) (j : Fin 1024) :
    k0_pay15 (F := Ideal) d z (ix2 k j) = z (ix2 k j) + ∑ i : Fin 64, d (ix2 (sub i k) j) := by
  unfold k0_pay15
  simp only [shapeCast_self]
  exact congrArg (z (ix2 k j) + ·) (groups_apply _ k j)

theorem pay16_apply (d u : FVec Ideal S512x1024 .f32) (g : Vec Ideal S1x1024 .f32) (z : Vec Ideal S8x1024 .f32) (k : Fin 8) (j : Fin 1024) :
    k0_pay16 (F := Ideal) d g u z (ix2 k j) = z (ix2 k j) + ∑ i : Fin 64, d (ix2 (sub i k) j) * u (ix2 (sub i k) j) * g (ix2 0 j) := by
  unfold k0_pay16
  simp only [shapeCast_self]
  exact congrArg (z (ix2 k j) + ·) ((groups_apply _ k j).trans (Finset.sum_congr rfl fun i _ => congrArg (d (ix2 (sub i k) j) * u (ix2 (sub i k) j) * ·) (lane_apply g _ j)))

theorem pay17_apply (d u : FVec Ideal S512x1024 .f32) (g : FVec Ideal S1x1024 .f32) (z : Vec Ideal S8x1024 .f32) (k : Fin 8) (j : Fin 1024) :
    k0_pay17 (F := Ideal) d g u z (ix2 k j) = z (ix2 k j) + ∑ i : Fin 64, d (ix2 (sub i k) j) * u (ix2 (sub i k) j) * g (ix2 0 j) := by
  unfold k0_pay17
  simp only [shapeCast_self]
  exact congrArg (z (ix2 k j) + ·) ((groups_apply _ k j).trans (Finset.sum_congr rfl fun i _ => congrArg (d (ix2 (sub i k) j) * u (ix2 (sub i k) j) * ·) (lane_apply g _ j)))

theorem pay2_apply (d x : FVec Ideal S512x1024 .f32) (z : Vec Ideal S8x1024 .f32) (k : Fin 8) (j : Fin 1024) :
    k0_pay2 (F := Ideal) d z x (ix2 k j) = z (ix2 k j) + ∑ i : Fin 64, d (ix2 (sub i k) j) * x (ix2 (sub i k) j) := by
  unfold k0_pay2
  simp only [shapeCast_self]
  exact congrArg (z (ix2 k j) + ·) (groups_apply _ k j)

theorem pay1_apply (d : FVec Ideal S512x1024 .f32) (g : Vec Ideal S1x1024 .f32) (r : Fin 512) (j : Fin 1024) :
    k0_pay1 (F := Ideal) d g (ix2 r j) = d (ix2 r j) * g (ix2 0 j) := congrArg (d (ix2 r j) * ·) (lane_apply g r j)

theorem zero_apply (y : S8x1024.Idx) : k0_pay4 (F := Ideal) y = 0 := Ideal.ofBits_zero_f32

end Cert.Up

end

end
-- ==== Proof.UpPoint.lean ====
/-
  What the grid's points leave in the six blocks of the gradient of the up projection, over any float values.
-/
module

public import proofs.«01_k».proof.Proof.UpBody

@[expose] public section

set_option maxRecDepth 16384

noncomputable section

namespace Cert.Up

open Cert.Kernel2Ideal Cert.Kernel2Ideal.Gen Idealize.ShloMosaic Idealize.ShloMosaic.TcCoe

variable {F : FTy → Type} [FloatOps F] (m : (ℓ : Loc nD τ sig) → Buf (Elt F) ℓ) (c : Dev nD) (t : Fin cfg0.N)

theorem point_A (h0 : t.val % 16 = 0) : outsAt0 m c t.val t.isLt
    = (dxB (iblk m c 0 t) (iblk m c 1 t) (iblk m c 2 t) (iblk m c 3 t) (iblk m c 4 t) (iblk m c 5 t) (iblk m c 6 t),
      k0_pay15 (dhB (iblk m c 0 t) (iblk m c 1 t) (iblk m c 2 t)) k0_pay4,
      k0_pay16 (dhB (iblk m c 0 t) (iblk m c 1 t) (iblk m c 2 t)) (iblk m c 5 t) (k0_pay11 (iblk m c 3 t)) k0_pay5,
      k0_pay17 (dhB (iblk m c 0 t) (iblk m c 1 t) (iblk m c 2 t)) (k0_pay9 (iblk m c 6 t)) (k0_pay11 (iblk m c 3 t)) k0_pay6,
      k0_pay1 (dxB (iblk m c 0 t) (iblk m c 1 t) (iblk m c 2 t) (iblk m c 3 t) (iblk m c 4 t) (iblk m c 5 t) (iblk m c 6 t)) (iblk m c 8 t),
      k0_pay2 (dxB (iblk m c 0 t) (iblk m c 1 t) (iblk m c 2 t) (iblk m c 3 t) (iblk m c 4 t) (iblk m c 5 t) (iblk m c 6 t)) k0_pay7 (iblk m c 7 t)) :=
  (outsAt0_A m c t h0).trans (congrArg₂ Prod.mk (out_A_9 ..) (congrArg₂ Prod.mk (out_A_10 ..) (congrArg₂ Prod.mk (out_A_11 ..) (congrArg₂ Prod.mk (out_A_12 ..) (congrArg₂ Prod.mk (out_A_13 ..) (out_A_14 ..))))))

theorem point_B (h0 : ¬t.val % 16 = 0) : outsAt0 m c t.val t.isLt
    = (dxB (iblk m c 0 t) (iblk m c 1 t) (iblk m c 2 t) (iblk m c 3 t) (iblk m c 4 t) (iblk m c 5 t) (iblk m c 6 t),
      k0_pay15 (dhB (iblk m c 0 t) (iblk m c 1 t) (iblk m c 2 t)) (outsAt0 m c (t.val - 1) (Nat.lt_of_le_of_lt (Nat.sub_le _ _) t.isLt)).2.1,
      k0_pay16 (dhB (iblk m c 0 t) (iblk m c 1 t) (iblk m c 2 t)) (iblk m c 5 t) (k0_pay11 (iblk m c 3 t)) (outsAt0 m c (t.val - 1) (Nat.lt_of_le_of_lt (Nat.sub_le _ _) t.isLt)).2.2.1,
      k0_pay17 (dhB (iblk m c 0 t) (iblk m c 1 t) (iblk m c 2 t)) (k0_pay9 (iblk m c 6 t)) (k0_pay11 (iblk m c 3 t)) (outsAt0 m c (t.val - 1) (Nat.lt_of_le_of_lt (Nat.sub_le _ _) t.isLt)).2.2.2.1,
      k0_pay1 (dxB (iblk m c 0 t) (iblk m c 1 t) (iblk m c 2 t) (iblk m c 3 t) (iblk m c 4 t) (iblk m c 5 t) (iblk m c 6 t)) (iblk m c 8 t),
      k0_pay2 (dxB (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2 (iblk m c 7 t)) :=
  (outsAt0_B m c t h0).trans (congrArg₂ Prod.mk (out_B_9 ..) (congrArg₂ Prod.mk (out_B_10 ..) (congrArg₂ Prod.mk (out_B_11 ..) (congrArg₂ Prod.mk (out_B_12 ..) (congrArg₂ Prod.mk (out_B_13 ..) (out_B_14 ..))))))

theorem point_9 : (outsAt0 m c t.val t.isLt).1 = dxB (iblk m c 0 t) (iblk m c 1 t) (iblk m c 2 t) (iblk m c 3 t) (iblk m c 4 t) (iblk m c 5 t) (iblk m c 6 t) := by
  by_cases h0 : t.val % 16 = 0
  · rw [point_A m c t h0]
  · rw [point_B m c t h0]

theorem point_13 : (outsAt0 m c t.val t.isLt).2.2.2.2.1 = k0_pay1 (dxB (iblk m c 0 t) (iblk m c 1 t) (iblk m c 2 t) (iblk m c 3 t) (iblk m c 4 t) (iblk m c 5 t) (iblk m c 6 t)) (iblk m c 8 t) := by
  by_cases h0 : t.val % 16 = 0
  · rw [point_A m c t h0]
  · rw [point_B m c t h0]

theorem first_10 (h0 : t.val % 16 = 0) : (outsAt0 m c t.val t.isLt).2.1 = k0_pay15 (dhB (iblk m c 0 t) (iblk m c 1 t) (iblk m c 2 t)) k0_pay4 := by
  rw [point_A m c t h0]

theorem later_10 (h0 : ¬t.val % 16 = 0) : (outsAt0 m c t.val t.isLt).2.1 = k0_pay15 (dhB (iblk m c 0 t) (iblk m c 1 t) (iblk m c 2 t)) (outsAt0 m c (t.val - 1) (Nat.lt_of_le_of_lt (Nat.sub_le _ _) t.isLt)).2.1 := by
  rw [point_B m c t h0]

theorem first_11 (h0 : t.val % 16 = 0) : (outsAt0 m c t.val t.isLt).2.2.1 = k0_pay16 (dhB (iblk m c 0 t) (iblk m c 1 t) (iblk m c 2 t)) (iblk m c 5 t) (k0_pay11 (iblk m c 3 t)) k0_pay5 := by
  rw [point_A m c t h0]

theorem later_11 (h0 : ¬t.val % 16 = 0) : (outsAt0 m c t.val t.isLt).2.2.1 = k0_pay16 (dhB (iblk m c 0 t) (iblk m c 1 t) (iblk m c 2 t)) (iblk m c 5 t) (k0_pay11 (iblk m c 3 t)) (outsAt0 m c (t.val - 1) (Nat.lt_of_le_of_lt (Nat.sub_le _ _) t.isLt)).2.2.1 := by
  rw [point_B m c t h0]

theorem first_12 (h0 : t.val % 16 = 0) : (outsAt0 m c t.val t.isLt).2.2.2.1 = k0_pay17 (dhB (iblk m c 0 t) (iblk m c 1 t) (iblk m c 2 t)) (k0_pay9 (iblk m c 6 t)) (k0_pay11 (iblk m c 3 t)) k0_pay6 := by
  rw [point_A m c t h0]

theorem later_12 (h0 : ¬t.val % 16 = 0) : (outsAt0 m c t.val t.isLt).2.2.2.1 = k0_pay17 (dhB (iblk m c 0 t) (iblk m c 1 t) (iblk m c 2 t)) (k0_pay9 (iblk m c 6 t)) (k0_pay11 (iblk m c 3 t)) (outsAt0 m c (t.val - 1) (Nat.lt_of_le_of_lt (Nat.sub_le _ _) t.isLt)).2.2.2.1 := by
  rw [point_B m c t h0]

theorem first_14 (h0 : t.val % 16 = 0) : (outsAt0 m c t.val t.isLt).2.2.2.2.2 = k0_pay2 (dxB (iblk m c 0 t) (iblk m c 1 t) (iblk m c 2 t) (iblk m c 3 t) (iblk m c 4 t) (iblk m c 5 t) (iblk m c 6 t)) k0_pay7 (iblk m c 7 t) := by
  rw [point_A m c t h0]

theorem later_14 (h0 : ¬t.val % 16 = 0) : (outsAt0 m c t.val t.isLt).2.2.2.2.2 = k0_pay2 (dxB (iblk m c 0 t) (iblk m c 1 t) (iblk m c 2 t) (iblk m c 3 t) (iblk m c 4 t) (iblk m c 5 t) (iblk m c 6 t)) (outsAt0 m c (t.val - 1) (Nat.lt_of_le_of_lt (Nat.sub_le _ _) t.isLt)).2.2.2.2.2 (iblk m c 7 t) := by
  rw [point_B m c t h0]

end Cert.Up

end

end
-- ==== Proof.UpArray.lean ====
/-
  What the grid leaves in the six arrays of the gradient of the up projection, over the extended reals.
-/
module

public import proofs.«01_k».proof.Proof.UpTile
public import proofs.«01_k».proof.Proof.UpPoint
public import Idealize.ShloMosaic.Lib.Pipeline.ValueKit

@[expose] public section

set_option maxRecDepth 16384

noncomputable section

namespace Cert.Up

open Cert.Kernel2Ideal Cert.Kernel2Ideal.Gen Idealize.ShloMosaic.ValueIdx Idealize.ShloMosaic.TcCoe
open Idealize.ShloMosaic hiding ix1 ix2 ix3 ix4
open Cert.Bwd (pos pos_val sum_blocks)
open scoped BigOperators

variable (m : (ℓ : Loc nD τ sig) → Buf (Elt Ideal) ℓ) (c : Dev nD)

/-- The operands by rows: the gradients of gate and value, the weights, the stream, its gradient, the branch's output, and
    the weights of the norm, its scale and the branch's gate. -/
def gateR (t : Fin 8192) (l : Fin 2816) : EReal := (V m c main_v4 : S8192x2816.Idx → EReal) (ix2 t l)
def valR (t : Fin 8192) (l : Fin 2816) : EReal := (V m c main_v6 : S8192x2816.Idx → EReal) (ix2 t l)
def wgtR (j : Fin 1024) (l : Fin 5632) : EReal := (V m c main_v7 : S1024x5632.Idx → EReal) (ix2 j l)
def strR (t : Fin 8192) (j : Fin 1024) : EReal := (V m c main_v2 : S8192x1024.Idx → EReal) (ix2 t j)
def gradR (t : Fin 8192) (j : Fin 1024) : EReal := (V m c main_arg6 : S8192x1024.Idx → EReal) (ix2 t j)
def mixR (t : Fin 8192) (j : Fin 1024) : EReal := (V m c main_arg1 : S8192x1024.Idx → EReal) (ix2 t j)
def normR (j : Fin 1024) : EReal := (V m c main_arg3 : S1x1024.Idx → EReal) (ix2 0 j)
def scaleR (j : Fin 1024) : EReal := (V m c main_arg4 : S1x1024.Idx → EReal) (ix2 0 j)
def branchR (j : Fin 1024) : EReal := (V m c main_arg2 : S1x1024.Idx → EReal) (ix2 0 j)

theorem index_row : ∀ t : Fin cfg0.N, cc0_transform_0 (grid0.coords t) = ![t.val, 0] := by decide +kernel
theorem index_all : ∀ t : Fin cfg0.N, cc0_transform_2 (grid0.coords t) = ![0, 0] := by decide +kernel

/-- The place of an element of a block of 512 rows. -/
theorem row_place {n : ℕ} (t : Fin cfg0.N) (r : Fin 512) (l : Fin n) (i : (⟨2, ![8192, n]⟩ : Shape).Idx)
    (h : ∀ a : Fin 2, (i a).val = cc0_transform_0 (grid0.coords t) a * ![512, n] a + 1 * ((ix2 r l : (⟨2, ![512, n]⟩ : Shape).Idx) a).val) :
    i = ix2 (pos t.val r) l := by
  have hp := pos_val (show t.val < 16 from t.isLt) r
  have e := index_row t
  refine funext fun a => Fin.ext ((h a).trans ?_)
  match a with
  | ⟨0, _⟩ =>
    show cc0_transform_0 (grid0.coords t) 0 * 512 + 1 * r.val = (pos t.val r).val
    rw [e, hp]; show t.val * 512 + 1 * r.val = _; omega
  | ⟨1, _⟩ =>
    show cc0_transform_0 (grid0.coords t) 1 * n + 1 * l.val = l.val
    rw [e]; show 0 * n + 1 * l.val = _; omega

/-- The place of an element of an array taken whole. -/
theorem all_place {n k : ℕ} (t : Fin cfg0.N) (r : Fin k) (l : Fin n) (i : (⟨2, ![k, n]⟩ : Shape).Idx)
    (h : ∀ a : Fin 2, (i a).val = cc0_transform_2 (grid0.coords t) a * ![k, n] a + 1 * ((ix2 r l : (⟨2, ![k, n]⟩ : Shape).Idx) a).val) :
    i = ix2 r l := by
  have e := index_all t
  refine funext fun a => Fin.ext ((h a).trans ?_)
  match a with
  | ⟨0, _⟩ =>
    show cc0_transform_2 (grid0.coords t) 0 * k + 1 * r.val = r.val
    rw [e]; show 0 * k + 1 * r.val = _; omega
  | ⟨1, _⟩ =>
    show cc0_transform_2 (grid0.coords t) 1 * n + 1 * l.val = l.val
    rw [e]; show 0 * n + 1 * l.val = _; omega

variable (t : Fin cfg0.N) (r : Fin 512)

theorem blk_0 : rowOf (n := 2816) (iblk m c 0 t) r = gateR m c (pos t.val r) :=
  funext fun l => congrArg (V m c main_v4 : S8192x2816.Idx → EReal) (row_place t r l _ fun a => by fin_cases a <;> rfl)
theorem blk_1 : rowOf (n := 2816) (iblk m c 1 t) r = valR m c (pos t.val r) :=
  funext fun l => congrArg (V m c main_v6 : S8192x2816.Idx → EReal) (row_place t r l _ fun a => by fin_cases a <;> rfl)
theorem blk_2 : (fun i l => (iblk m c 2 t : S1024x5632.Idx → EReal) (ix2 i l)) = wgtR m c :=
  funext fun i => funext fun l => congrArg (V m c main_v7 : S1024x5632.Idx → EReal) (all_place t i l _ fun a => by fin_cases a <;> rfl)
theorem blk_3 : rowOf (n := 1024) (iblk m c 3 t) r = strR m c (pos t.val r) :=
  funext fun l => congrArg (V m c main_v2 : S8192x1024.Idx → EReal) (row_place t r l _ fun a => by fin_cases a <;> rfl)
theorem blk_4 : rowOf (n := 1024) (iblk m c 4 t) r = gradR m c (pos t.val r) :=
  funext fun l => congrArg (V m c main_arg6 : S8192x1024.Idx → EReal) (row_place t r l _ fun a => by fin_cases a <;> rfl)
theorem blk_5 : lineOf (n := 1024) (iblk m c 5 t) = normR m c :=
  funext fun l => congrArg (V m c main_arg3 : S1x1024.Idx → EReal) (all_place t 0 l _ fun a => by fin_cases a <;> rfl)
theorem blk_6 : lineOf (n := 1024) (iblk m c 6 t) = scaleR m c :=
  funext fun l => congrArg (V m c main_arg4 : S1x1024.Idx → EReal) (all_place t 0 l _ fun a => by fin_cases a <;> rfl)
theorem blk_7 : rowOf (n := 1024) (iblk m c 7 t) r = mixR m c (pos t.val r) :=
  funext fun l => congrArg (V m c main_arg1 : S8192x1024.Idx → EReal) (row_place t r l _ fun a => by fin_cases a <;> rfl)
theorem blk_8 : lineOf (n := 1024) (iblk m c 8 t) = branchR m c :=
  funext fun l => congrArg (V m c main_arg2 : S1x1024.Idx → EReal) (all_place t 0 l _ fun a => by fin_cases a <;> rfl)

/-- By rows: the gradient of the modulated norm, and of the stream. -/
def dhR (t : Fin 8192) : Fin 1024 → EReal := dh (gateR m c t) (valR m c t) (wgtR m c)
def dxR (t : Fin 8192) : Fin 1024 → EReal := drow (dhR m c t) (strR m c t) (gradR m c t) (normR m c) (scaleR m c)

theorem dh_at (j : Fin 1024) : dhB (iblk m c 0 t) (iblk m c 1 t) (iblk m c 2 t) (ix2 r j) = dhR m c (pos t.val r) j := by
  refine (dhB_apply _ _ _ r j).trans ?_
  rw [blk_0, blk_1, blk_2]
  rfl

theorem dx_at (j : Fin 1024) : dxB (iblk m c 0 t) (iblk m c 1 t) (iblk m c 2 t) (iblk m c 3 t) (iblk m c 4 t) (iblk m c 5 t) (iblk m c 6 t) (ix2 r j)
    = dxR m c (pos t.val r) j := by
  refine (dxB_apply _ _ _ _ _ _ _ r j).trans ?_
  rw [blk_0, blk_1, blk_2, blk_3, blk_4, blk_5, blk_6]
  rfl

theorem normed_at (j : Fin 1024) : k0_pay11 (F := Ideal) (iblk m c 3 t) (ix2 r j) = normed (strR m c (pos t.val r)) j :=
  (pay11_apply _ r j).trans (congrArg (fun x => normed x j) (blk_3 m c t r))

/-! ### The blocks at a point -/

/-- What a row adds to the four sums. -/
def addsh (t : Fin 8192) (j : Fin 1024) : EReal := dhR m c t j
def addsc (t : Fin 8192) (j : Fin 1024) : EReal := dhR m c t j * normed (strR m c t) j * normR m c j
def addn (t : Fin 8192) (j : Fin 1024) : EReal := dhR m c t j * normed (strR m c t) j * (unit + scaleR m c j)
def addg (t : Fin 8192) (j : Fin 1024) : EReal := dxR m c t j * mixR m c t j

theorem at_9 (j : Fin 1024) : (outsAt0 m c t.val t.isLt).1 (ix2 r j) = dxR m c (pos t.val r) j := by
  rw [point_9 m c t]
  exact dx_at m c t r j

theorem at_13 (j : Fin 1024) : (outsAt0 m c t.val t.isLt).2.2.2.2.1 (ix2 r j) = dxR m c (pos t.val r) j * branchR m c j := by
  rw [point_13 m c t]
  exact (pay1_apply _ _ r j).trans (congrArg₂ (· * ·) (dx_at m c t r j) (congrFun (blk_8 m c t) j))

/-- The sums at a point, by the eight rows they are kept in. -/
def eight (f : Fin 8192 → Fin 1024 → EReal) (n : ℕ) (k : Fin 8) (j : Fin 1024) : EReal :=
  ∑ b ∈ Finset.range (n + 1), ∑ i : Fin 64, f (pos b (sub i k)) j

variable (n : ℕ) (hn : n < cfg0.N) (k : Fin 8) (j : Fin 1024)

/-- A sum carried over the points of the grid. -/
theorem point_carried (o : (n : ℕ) → n < cfg0.N → Vec Ideal S8x1024 .f32) (f : Fin 8192 → Fin 1024 → EReal)
    (h0 : o 0 (by decide) (ix2 k j) = 0 + ∑ i : Fin 64, f (pos 0 (sub i k)) j)
    (hs : ∀ (n : ℕ) (h : n + 1 < cfg0.N), o (n + 1) h (ix2 k j) = o n (Nat.lt_of_succ_lt h) (ix2 k j) + ∑ i : Fin 64, f (pos (n + 1) (sub i k)) j) :
    o n hn (ix2 k j) = eight f n k j := by
  induction n with
  | zero => rw [h0, zero_add]; exact (Finset.sum_range_one (fun b => ∑ i : Fin 64, f (pos b (sub i k)) j)).symm
  | succ n ih =>
    rw [hs n hn, ih (Nat.lt_of_succ_lt hn)]
    exact (Finset.sum_range_succ (fun b => ∑ i : Fin 64, f (pos b (sub i k)) j) (n + 1)).symm

theorem later {n : ℕ} (h : n + 1 < cfg0.N) : ¬(⟨n + 1, h⟩ : Fin cfg0.N).val % 16 = 0 := by
  have : n + 1 < 16 := h
  show ¬(n + 1) % 16 = 0
  omega

theorem step_10 (t : Fin cfg0.N) (z : Vec Ideal S8x1024 .f32) : k0_pay15 (dhB (iblk m c 0 t) (iblk m c 1 t) (iblk m c 2 t)) z (ix2 k j)
    = z (ix2 k j) + ∑ i : Fin 64, addsh m c (pos t.val (sub i k)) j :=
  (pay15_apply _ _ k j).trans (congrArg (z (ix2 k j) + ·) (Finset.sum_congr rfl fun i _ => dh_at m c t (sub i k) j))

theorem step_11 (t : Fin cfg0.N) (z : Vec Ideal S8x1024 .f32) :
    k0_pay16 (dhB (iblk m c 0 t) (iblk m c 1 t) (iblk m c 2 t)) (iblk m c 5 t) (k0_pay11 (iblk m c 3 t)) z (ix2 k j)
    = z (ix2 k j) + ∑ i : Fin 64, addsc m c (pos t.val (sub i k)) j :=
  (pay16_apply _ _ _ _ k j).trans (congrArg (z (ix2 k j) + ·) (Finset.sum_congr rfl fun i _ =>
    congrArg₂ (· * ·) (congrArg₂ (· * ·) (dh_at m c t (sub i k) j) (normed_at m c t (sub i k) j)) (congrFun (blk_5 m c t) j)))

theorem step_12 (t : Fin cfg0.N) (z : Vec Ideal S8x1024 .f32) :
    k0_pay17 (dhB (iblk m c 0 t) (iblk m c 1 t) (iblk m c 2 t)) (k0_pay9 (iblk m c 6 t)) (k0_pay11 (iblk m c 3 t)) z (ix2 k j)
    = z (ix2 k j) + ∑ i : Fin 64, addn m c (pos t.val (sub i k)) j :=
  (pay17_apply _ _ _ _ k j).trans (congrArg (z (ix2 k j) + ·) (Finset.sum_congr rfl fun i _ =>
    congrArg₂ (· * ·) (congrArg₂ (· * ·) (dh_at m c t (sub i k) j) (normed_at m c t (sub i k) j)) (congrArg (unit + ·) (congrFun (blk_6 m c t) j))))

theorem step_14 (t : Fin cfg0.N) (z : Vec Ideal S8x1024 .f32) :
    k0_pay2 (dxB (iblk m c 0 t) (iblk m c 1 t) (iblk m c 2 t) (iblk m c 3 t) (iblk m c 4 t) (iblk m c 5 t) (iblk m c 6 t)) z (iblk m c 7 t) (ix2 k j)
    = z (ix2 k j) + ∑ i : Fin 64, addg m c (pos t.val (sub i k)) j :=
  (pay2_apply _ _ _ k j).trans (congrArg (z (ix2 k j) + ·) (Finset.sum_congr rfl fun i _ =>
    congrArg₂ (· * ·) (dx_at m c t (sub i k) j) (congrFun (blk_7 m c t (sub i k)) j)))

theorem at_10 : (outsAt0 m c n hn).2.1 (ix2 k j) = eight (addsh m c) n k j := by
  refine point_carried n hn k j (fun n h => (outsAt0 m c n h).2.1) (addsh m c) ?_ fun n h => ?_
  · show (outsAt0 m c 0 _).2.1 (ix2 k j) = _
    rw [first_10 m c ⟨0, by decide⟩ rfl, step_10 m c k j ⟨0, by decide⟩]
    exact congrArg (· + _) (zero_apply _)
  · show (outsAt0 m c (n + 1) _).2.1 (ix2 k j) = (outsAt0 m c n _).2.1 (ix2 k j) + _
    rw [later_10 m c ⟨n + 1, h⟩ (later h), step_10 m c k j ⟨n + 1, h⟩]
    rfl

theorem at_11 : (outsAt0 m c n hn).2.2.1 (ix2 k j) = eight (addsc m c) n k j := by
  refine point_carried n hn k j (fun n h => (outsAt0 m c n h).2.2.1) (addsc m c) ?_ fun n h => ?_
  · show (outsAt0 m c 0 _).2.2.1 (ix2 k j) = _
    rw [first_11 m c ⟨0, by decide⟩ rfl, step_11 m c k j ⟨0, by decide⟩]
    exact congrArg (· + _) (zero_apply _)
  · show (outsAt0 m c (n + 1) _).2.2.1 (ix2 k j) = (outsAt0 m c n _).2.2.1 (ix2 k j) + _
    rw [later_11 m c ⟨n + 1, h⟩ (later h), step_11 m c k j ⟨n + 1, h⟩]
    rfl

theorem at_12 : (outsAt0 m c n hn).2.2.2.1 (ix2 k j) = eight (addn m c) n k j := by
  refine point_carried n hn k j (fun n h => (outsAt0 m c n h).2.2.2.1) (addn m c) ?_ fun n h => ?_
  · show (outsAt0 m c 0 _).2.2.2.1 (ix2 k j) = _
    rw [first_12 m c ⟨0, by decide⟩ rfl, step_12 m c k j ⟨0, by decide⟩]
    exact congrArg (· + _) (zero_apply _)
  · show (outsAt0 m c (n + 1) _).2.2.2.1 (ix2 k j) = (outsAt0 m c n _).2.2.2.1 (ix2 k j) + _
    rw [later_12 m c ⟨n + 1, h⟩ (later h), step_12 m c k j ⟨n + 1, h⟩]
    rfl

theorem at_14 : (outsAt0 m c n hn).2.2.2.2.2 (ix2 k j) = eight (addg m c) n k j := by
  refine point_carried n hn k j (fun n h => (outsAt0 m c n h).2.2.2.2.2) (addg m c) ?_ fun n h => ?_
  · show (outsAt0 m c 0 _).2.2.2.2.2 (ix2 k j) = _
    rw [first_14 m c ⟨0, by decide⟩ rfl, step_14 m c k j ⟨0, by decide⟩]
    exact congrArg (· + _) (zero_apply _)
  · show (outsAt0 m c (n + 1) _).2.2.2.2.2 (ix2 k j) = (outsAt0 m c n _).2.2.2.2.2 (ix2 k j) + _
    rw [later_14 m c ⟨n + 1, h⟩ (later h), step_14 m c k j ⟨n + 1, h⟩]
    rfl

/-! ### The arrays -/

def dxArr : S8192x1024.Idx → EReal := fun i => dxR m c (i 0) (i 1)
def dmixArr : S8192x1024.Idx → EReal := fun i => dxR m c (i 0) (i 1) * branchR m c (i 1)
def sumArr (f : Fin 8192 → Fin 1024 → EReal) : S8x1024.Idx → EReal := fun i => eight f 15 (i 0) (i 1)

theorem last {t : Fin cfg0.N} (h : t.val % 16 = 15) : t.val = 15 := by
  have : t.val < 16 := t.isLt
  omega

theorem dxArr_at (t : Fin 8192) (j : Fin 1024) : dxArr m c (ix2 t j) = dxR m c t j := rfl
theorem dmixArr_at (t : Fin 8192) (j : Fin 1024) : dmixArr m c (ix2 t j) = dxR m c t j * branchR m c j := rfl
theorem sumArr_at (f : Fin 8192 → Fin 1024 → EReal) (k : Fin 8) (j : Fin 1024) : sumArr f (ix2 k j) = eight f 15 k j := rfl

theorem arr9 : (dats m 0 c).arrAt 9 cfg0.N = dxArr m c := by
  refine (dats m 0 c).arrAt_eq_of_covers 9 _ (by decide +kernel) fun t hf y => ?_
  obtain ⟨r, l, rfl⟩ : ∃ (r : Fin 512) (l : Fin 1024), y = (ix2 r l : S512x1024.Idx) := ⟨y 0, y 1, ValueIdx.eq_ix2 (n0 := 512) (n1 := 1024) y⟩
  have hplace : (((cfg0.win 9).blk t).view.emb (ix2 r l : S512x1024.Idx) : S8192x1024.Idx) = ix2 (pos t.val r) l :=
    row_place t r l _ fun a => by fin_cases a <;> rfl
  refine Eq.trans ?_ (congrArg (dxArr m c) hplace.symm)
  rw [dxArr_at, ← at_9 m c t r l]
  exact congrFun (after0_9 m c t) (ix2 r l)

theorem arr13 : (dats m 0 c).arrAt 13 cfg0.N = dmixArr m c := by
  refine (dats m 0 c).arrAt_eq_of_covers 13 _ (by decide +kernel) fun t hf y => ?_
  obtain ⟨r, l, rfl⟩ : ∃ (r : Fin 512) (l : Fin 1024), y = (ix2 r l : S512x1024.Idx) := ⟨y 0, y 1, ValueIdx.eq_ix2 (n0 := 512) (n1 := 1024) y⟩
  have hplace : (((cfg0.win 13).blk t).view.emb (ix2 r l : S512x1024.Idx) : S8192x1024.Idx) = ix2 (pos t.val r) l :=
    row_place t r l _ fun a => by fin_cases a <;> rfl
  refine Eq.trans ?_ (congrArg (dmixArr m c) hplace.symm)
  rw [dmixArr_at, ← at_13 m c t r l]
  exact congrFun (after0_13 m c t) (ix2 r l)

theorem arr10 : (dats m 0 c).arrAt 10 cfg0.N = sumArr (addsh m c) := by
  refine (dats m 0 c).arrAt_eq_of_covers 10 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 10).blk t).view.emb (ix2 k l : S8x1024.Idx) : S8x1024.Idx) = ix2 k l := all_place t k l _ fun a => by fin_cases a <;> rfl
  have h15 : t.val = 15 := last ((flush0_10 t).mp hf)
  refine Eq.trans ?_ (congrArg (sumArr (addsh m c)) hplace.symm)
  rw [sumArr_at, ← h15, ← at_10 m c t.val t.isLt k l]
  exact congrFun (after0_10 m c t) (ix2 k l)

theorem arr11 : (dats m 0 c).arrAt 11 cfg0.N = sumArr (addsc m c) := by
  refine (dats m 0 c).arrAt_eq_of_covers 11 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 11).blk t).view.emb (ix2 k l : S8x1024.Idx) : S8x1024.Idx) = ix2 k l := all_place t k l _ fun a => by fin_cases a <;> rfl
  have h15 : t.val = 15 := last ((flush0_11 t).mp hf)
  refine Eq.trans ?_ (congrArg (sumArr (addsc m c)) hplace.symm)
  rw [sumArr_at, ← h15, ← at_11 m c t.val t.isLt k l]
  exact congrFun (after0_11 m c t) (ix2 k l)

theorem arr12 : (dats m 0 c).arrAt 12 cfg0.N = sumArr (addn m c) := by
  refine (dats m 0 c).arrAt_eq_of_covers 12 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 12).blk t).view.emb (ix2 k l : S8x1024.Idx) : S8x1024.Idx) = ix2 k l := all_place t k l _ fun a => by fin_cases a <;> rfl
  have h15 : t.val = 15 := last ((flush0_12 t).mp hf)
  refine Eq.trans ?_ (congrArg (sumArr (addn m c)) hplace.symm)
  rw [sumArr_at, ← h15, ← at_12 m c t.val t.isLt k l]
  exact congrFun (after0_12 m c t) (ix2 k l)

theorem arr14 : (dats m 0 c).arrAt 14 cfg0.N = sumArr (addg m c) := by
  refine (dats m 0 c).arrAt_eq_of_covers 14 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 14).blk t).view.emb (ix2 k l : S8x1024.Idx) : S8x1024.Idx) = ix2 k l := all_place t k l _ fun a => by fin_cases a <;> rfl
  have h15 : t.val = 15 := last ((flush0_14 t).mp hf)
  refine Eq.trans ?_ (congrArg (sumArr (addg m c)) hplace.symm)
  rw [sumArr_at, ← h15, ← at_14 m c t.val t.isLt k l]
  exact congrFun (after0_14 m c t) (ix2 k l)

/-! ### The eight rows added up -/

theorem sum_subs {M : Type} [AddCommMonoid M] (f : Fin 512 → M) : ∑ r, f r = ∑ k : Fin 8, ∑ i : Fin 64, f (sub i k) := by
  rw [Finset.sum_comm, ← Fintype.sum_prod_type' (fun (i : Fin 64) (k : Fin 8) => f (sub i k))]
  refine (Fintype.sum_equiv (finProdFinEquiv (m := 64) (n := 8)) _ _ fun p => congrArg f (Fin.ext ?_)).symm
  show p.1.val * 8 + p.2.val = p.2.val + 8 * p.1.val
  omega

theorem sum_eight (f : Fin 8192 → Fin 1024 → EReal) (j : Fin 1024) : ∑ k : Fin 8, eight f 15 k j = ∑ t, f t j := by
  unfold eight
  rw [Finset.sum_comm]
  refine Eq.trans (Finset.sum_congr rfl fun b _ => (sum_subs (fun r => f (pos b r) j)).symm) (sum_blocks (fun t => f t j)).symm

end Cert.Up

end

end
-- ==== Proof.UpHost.lean ====
/-
  What the host lines around the gradient of the up projection leave: before the grid the operands, after it the sums over the
  eight rows; and the operands by rows, of the arguments.
-/
module

public import proofs.«01_k».proof.Proof.UpArray
public import Idealize.ShloMosaic.Lib.Pipeline.Frame

@[expose] public section

set_option maxRecDepth 16384

noncomputable section

namespace Cert.Up

open Cert.Kernel2Ideal Cert.Kernel2Ideal.Gen Idealize.ShloMosaic.ValueIdx Idealize.ShloMosaic.TcCoe
open Idealize.ShloMosaic hiding ix1 ix2 ix3 ix4
open Idealize.ShloMosaic.StableHlo
open scoped BigOperators

section
variable {F : FTy → Type} [FloatOps F] (W : Valuation τ sig (Elt F))

def streamK (x m : FVec F S8192x1024 .f32) (g : FVec F S1x1024 .f32) : FVec F S8192x1024 .f32 :=
  addf x (mulf (broadcastInDim S8192x1024 ![0, 1] bcast_S1x1024_S8192x1024_0_1 g) m)
def foldK (a : FVec F S8x1024 .f32) : FVec F S1x1024 .f32 :=
  broadcastInDim S1x1024 ![1] bcast_S1024_S1x1024_1 (Host.reduceAdd a (constant S_ .f32 0x00000000#32) reducesTo_S8x1024_S1024_d0 h_S_)

theorem head_v2 : StableHlo.after hostOps0 W (Proc.devRef .tc main_v2)
    = streamK (W (Proc.devRef .tc main_arg0)) (W (Proc.devRef .tc main_arg1)) (W (Proc.devRef .tc main_arg2)) := by
  after_results_simp <;> rfl
theorem head_v4 : StableHlo.after hostOps0 W (Proc.devRef .tc main_v4)
    = truncf .bf16 (extractStridedSlice S8192x2816 ![0, 0] (W (Proc.devRef .tc main_arg7)) slices_S8192x5632_S8192x2816_0_0) bitsLt_bf16_f32 := by
  after_results_simp <;> rfl
theorem head_v6 : StableHlo.after hostOps0 W (Proc.devRef .tc main_v6)
    = truncf .bf16 (extractStridedSlice S8192x2816 ![0, 2816] (W (Proc.devRef .tc main_arg7)) slices_S8192x5632_S8192x2816_0_2816) bitsLt_bf16_f32 := by
  after_results_simp <;> rfl
theorem head_v7 : StableHlo.after hostOps0 W (Proc.devRef .tc main_v7) = truncf .bf16 (W (Proc.devRef .tc main_arg5)) bitsLt_bf16_f32 := by
  after_results_simp <;> rfl
theorem head_arg1 : StableHlo.after hostOps0 W (Proc.devRef .tc main_arg1) = W (Proc.devRef .tc main_arg1) := by
  after_results_simp <;> rfl
theorem head_arg2 : StableHlo.after hostOps0 W (Proc.devRef .tc main_arg2) = W (Proc.devRef .tc main_arg2) := by
  after_results_simp <;> rfl
theorem head_arg3 : StableHlo.after hostOps0 W (Proc.devRef .tc main_arg3) = W (Proc.devRef .tc main_arg3) := by
  after_results_simp <;> rfl
theorem head_arg4 : StableHlo.after hostOps0 W (Proc.devRef .tc main_arg4) = W (Proc.devRef .tc main_arg4) := by
  after_results_simp <;> rfl
theorem head_arg6 : StableHlo.after hostOps0 W (Proc.devRef .tc main_arg6) = W (Proc.devRef .tc main_arg6) := by
  after_results_simp <;> rfl

theorem tail_v10 : StableHlo.after hostOps1 W (Proc.devRef .tc main_v10) = foldK (W (Proc.devRef .tc main_v8_5)) := by
  after_results_simp <;> rfl
theorem tail_v12 : StableHlo.after hostOps1 W (Proc.devRef .tc main_v12) = foldK (W (Proc.devRef .tc main_v8_3)) := by
  after_results_simp <;> rfl
theorem tail_v14 : StableHlo.after hostOps1 W (Proc.devRef .tc main_v14) = foldK (W (Proc.devRef .tc main_v8_2)) := by
  after_results_simp <;> rfl
theorem tail_v16 : StableHlo.after hostOps1 W (Proc.devRef .tc main_v16) = foldK (W (Proc.devRef .tc main_v8_1)) := by
  after_results_simp <;> rfl

theorem flatten_one {α : Type} (x : List α) : List.flatten [x] = x := by
  rw [List.flatten_cons, List.flatten_nil, List.append_nil]

variable (m : (ℓ : Loc nD τ sig) → Buf (Elt F) ℓ) (c : Dev nD)

theorem operand (b : Ref sig .tc) : V m c b = StableHlo.after hostOps0 (fun b => m (c, b)) (Proc.devRef .tc b) :=
  congrArg (fun l => StableHlo.after l (fun b => m (c, b)) (Proc.devRef .tc b)) (flatten_one hostOps0)

end

/-! ### The operands by rows -/

variable (m : (ℓ : Loc nD τ sig) → Buf (Elt Ideal) ℓ) (c : Dev nD)
  (x x' y : FVec Ideal S8192x1024 .f32) (b g s : FVec Ideal S1x1024 .f32) (w : FVec Ideal S1024x5632 .f32) (u : FVec Ideal S8192x5632 .f32)
  (t : Fin 8192) (j : Fin 1024)

theorem streamK_apply : streamK x x' b (ix2 t j) = x (ix2 t j) + b (ix2 0 j) * x' (ix2 t j) := by
  pointwise [streamK]
  rfl

theorem low_apply (l : Fin 2816) : extractStridedSlice S8192x2816 ![0, 0] u slices_S8192x5632_S8192x2816_0_0 (ix2 t l) = u (ix2 t ⟨l.val, by omega⟩) :=
  congrArg u (funext fun a => Fin.ext (by fin_cases a <;> simp))

theorem high_apply (l : Fin 2816) : extractStridedSlice S8192x2816 ![0, 2816] u slices_S8192x5632_S8192x2816_0_2816 (ix2 t l) = u (ix2 t ⟨2816 + l.val, by omega⟩) :=
  congrArg u (funext fun a => Fin.ext (by fin_cases a <;> simp))

theorem foldK_apply (a : FVec Ideal S8x1024 .f32) : foldK a (ix2 0 j) = ∑ k : Fin 8, a (ix2 k j) := by
  pointwise [foldK]
  rfl

theorem fold_sums (f : Fin 8192 → Fin 1024 → EReal) : foldK (F := Ideal) (sumArr f) (ix2 0 j) = ∑ t, f t j :=
  (foldK_apply j _).trans (sum_eight f j)

section
variable (h7 : m ((c.tc : Thread nD τ).loc main_arg7) = u)
include h7
theorem gateR_eq (l : Fin 2816) : gateR m c t l = u (ix2 t ⟨l.val, by omega⟩) := by
  subst h7
  exact (congrFun ((operand m c main_v4).trans (head_v4 _)) (ix2 t l)).trans (low_apply _ t l)
theorem valR_eq (l : Fin 2816) : valR m c t l = u (ix2 t ⟨2816 + l.val, by omega⟩) := by
  subst h7
  exact (congrFun ((operand m c main_v6).trans (head_v6 _)) (ix2 t l)).trans (high_apply _ t l)
end

theorem wgtR_eq (h5 : m ((c.tc : Thread nD τ).loc main_arg5) = w) (l : Fin 5632) : wgtR m c j l = w (ix2 j l) := by
  subst h5
  exact congrFun ((operand m c main_v7).trans (head_v7 _)) (ix2 j l)
theorem strR_eq (h0 : m ((c.tc : Thread nD τ).loc main_arg0) = x) (h1 : m ((c.tc : Thread nD τ).loc main_arg1) = x') (h2 : m ((c.tc : Thread nD τ).loc main_arg2) = b) :
    strR m c t j = x (ix2 t j) + b (ix2 0 j) * x' (ix2 t j) := by
  subst h0 h1 h2
  exact (congrFun ((operand m c main_v2).trans (head_v2 _)) (ix2 t j)).trans (streamK_apply _ _ _ t j)
theorem mixR_eq (h1 : m ((c.tc : Thread nD τ).loc main_arg1) = x') : mixR m c t j = x' (ix2 t j) := by
  subst h1
  exact congrFun ((operand m c main_arg1).trans (head_arg1 _)) (ix2 t j)
theorem branchR_eq (h2 : m ((c.tc : Thread nD τ).loc main_arg2) = b) : branchR m c j = b (ix2 0 j) := by
  subst h2
  exact congrFun ((operand m c main_arg2).trans (head_arg2 _)) (ix2 0 j)
theorem normR_eq (h3 : m ((c.tc : Thread nD τ).loc main_arg3) = g) : normR m c j = g (ix2 0 j) := by
  subst h3
  exact congrFun ((operand m c main_arg3).trans (head_arg3 _)) (ix2 0 j)
theorem scaleR_eq (h4 : m ((c.tc : Thread nD τ).loc main_arg4) = s) : scaleR m c j = s (ix2 0 j) := by
  subst h4
  exact congrFun ((operand m c main_arg4).trans (head_arg4 _)) (ix2 0 j)
theorem gradR_eq (h6 : m ((c.tc : Thread nD τ).loc main_arg6) = y) : gradR m c t j = y (ix2 t j) := by
  subst h6
  exact congrFun ((operand m c main_arg6).trans (head_arg6 _)) (ix2 t j)

/-- The two halves make the product over all 5632. -/
theorem dhR_eq (h5 : m ((c.tc : Thread nD τ).loc main_arg5) = w) (h7 : m ((c.tc : Thread nD τ).loc main_arg7) = u) :
    dhR m c t j = ∑ l : Fin 5632, u (ix2 t l) * w (ix2 j l) := by
  refine Eq.trans ?_ (Fin.sum_univ_add (a := 2816) (b := 2816) (fun l : Fin 5632 => u (ix2 t l) * w (ix2 j l))).symm
  exact congrArg₂ (· + ·)
    (Finset.sum_congr rfl fun l _ => congrArg₂ (· * ·) (gateR_eq m c u t h7 l) (wgtR_eq m c w j h5 _))
    (Finset.sum_congr rfl fun l _ => congrArg₂ (· * ·) (valR_eq m c u t h7 l) (wgtR_eq m c w j h5 _))

end Cert.Up

end

end
-- ==== Proof.UpRef.lean ====
/-
  The results of the plain gradient of the norm and the up projection: as functions of the arguments, and at an index over the
  extended reals.
-/
module

public import proofs.«01_k».proof.Proof.UpTile
public import proofs.«01_k».proof.Proof.Gen.Reference2Ideal.Run

@[expose] public section

set_option maxRecDepth 16384

noncomputable section

namespace Cert.Up

open Cert.Reference2Ideal Cert.Reference2Ideal.Gen Idealize.ShloMosaic.ValueIdx Idealize.ShloMosaic.TcCoe
open Idealize.ShloMosaic hiding ix1 ix2 ix3 ix4
open scoped BigOperators

section
variable {F : FTy → Type} [FloatOps F]

def allT (g : FVec F S1x1024 .f32) : FVec F S8192x1024 .f32 := broadcastInDim S8192x1024 ![0, 1] bcast_S1x1024_S8192x1024_0_1 g
def sideT (r : FVec F S8192x1 .f32) : FVec F S8192x1024 .f32 := broadcastInDim S8192x1024 ![0, 1] bcast_S8192x1_S8192x1024_0_1 r
/-- The sum over all rows. -/
def downT (y : FVec F S8192x1024 .f32) : FVec F S1x1024 .f32 :=
  shapeCast _ (Host.reduceAdd y (constant S_ .f32 0x00000000#32) reducesTo_S8192x1024_S1024_d0 h_S_) shapeCasts_S1024_S1x1024
def streamT (x m : FVec F S8192x1024 .f32) (g : FVec F S1x1024 .f32) : FVec F S8192x1024 .f32 := addf x (mulf (allT g) m)
def levelT (x : FVec F S8192x1024 .f32) : FVec F S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
def slopeT (z : FVec F S8192x1 .f32) : FVec F S8192x1 .f32 :=
  mulf (broadcastInDim S8192x1 ![] bcast_S_S8192x1 (constant S_ .f32 0xBF000000#32)) (Host.divf (Host.rsqrt z) z)
def dhT (u : FVec F S8192x5632 .f32) (w : FVec F S1024x5632 .f32) : FVec F S8192x1024 .f32 :=
  Host.dotGeneral dot_S8192x5632_S1024x5632_S8192x1024_1_1_0_0_n_n none u w
def scaledT (d : FVec F S8192x1024 .f32) (s : FVec F S1x1024 .f32) : FVec F S8192x1024 .f32 :=
  mulf d (allT (addf (broadcastInDim S1x1024 ![] bcast_S_S1x1024 (constant S_ .f32 0x3F800000#32)) s))
def normT (x : FVec F S8192x1024 .f32) : FVec F S8192x1024 .f32 := mulf x (sideT (Host.rsqrt (levelT x)))
/-- The gradient through the norm's root. -/
def throughT (x d : FVec F S8192x1024 .f32) : FVec F S8192x1 .f32 :=
  Host.divf (mulf (shapeCast _ (Host.reduceAdd (mulf x d) (constant S_ .f32 0x00000000#32) reducesTo_S8192x1024_S8192_d1 h_S_) shapeCasts_S8192_S8192x1) (slopeT (levelT x)))
    (broadcastInDim S8192x1 ![] bcast_S_S8192x1 (constant S_ .f32 0x44800000#32))
def rowT (r : FVec F S8192x1 .f32) : FVec F S8192x1024 .f32 :=
  broadcastInDim S8192x1024 ![0] bcast_S8192_S8192x1024_0 (Host.reduceAdd r (constant S_ .f32 0x00000000#32) reducesTo_S8192x1_S8192_d1 h_S_)
def dxT (x y d : FVec F S8192x1024 .f32) : FVec F S8192x1024 .f32 :=
  addf (addf (addf y (mulf d (sideT (Host.rsqrt (levelT x))))) (mulf x (rowT (throughT x d)))) (mulf (rowT (throughT x d)) x)

/-- The gradient of the stream, of all arguments. -/
def streamGradT (x m : FVec F S8192x1024 .f32) (b g s : FVec F S1x1024 .f32) (w : FVec F S1024x5632 .f32) (y : FVec F S8192x1024 .f32) (u : FVec F S8192x5632 .f32) :
    FVec F S8192x1024 .f32 := dxT (streamT x m b) y (mulf (scaledT (dhT u w) s) (allT g))

variable (M : (ℓ : Loc nD τ sig) → Buf (Elt F) ℓ) (c : Dev nD)
  (x m : FVec F S8192x1024 .f32) (b g s : FVec F S1x1024 .f32) (w : FVec F S1024x5632 .f32) (y : FVec F S8192x1024 .f32) (u : FVec F S8192x5632 .f32)
  (h0 : M ((c.tc : Thread nD τ).loc main_arg0) = x) (h1 : M ((c.tc : Thread nD τ).loc main_arg1) = m) (h2 : M ((c.tc : Thread nD τ).loc main_arg2) = b)
  (h3 : M ((c.tc : Thread nD τ).loc main_arg3) = g) (h4 : M ((c.tc : Thread nD τ).loc main_arg4) = s) (h5 : M ((c.tc : Thread nD τ).loc main_arg5) = w)
  (h6 : M ((c.tc : Thread nD τ).loc main_arg6) = y) (h7 : M ((c.tc : Thread nD τ).loc main_arg7) = u)

include h0 h1 h2 h3 h4 h5 h6 h7

theorem res_dx : Cert.Reference2Ideal.Value.res_main_v53 M c = streamGradT x m b g s w y u := by
  subst h0 h1 h2 h3 h4 h5 h6 h7
  delta Cert.Reference2Ideal.Value.res_main_v53
  rfl

theorem res_dmix : Cert.Reference2Ideal.Value.res_main_v60 M c
    = truncf .bf16 (mulf (allT b) (shapeCast _ (streamGradT x m b g s w y u) shapeCasts_S8192x1024_S8192x1024)) bitsLt_bf16_f32 := by
  subst h0 h1 h2 h3 h4 h5 h6 h7
  delta Cert.Reference2Ideal.Value.res_main_v60
  rfl

theorem res_dg : Cert.Reference2Ideal.Value.res_main_v59 M c
    = downT (mulf (shapeCast _ (streamGradT x m b g s w y u) shapeCasts_S8192x1024_S8192x1024) m) := by
  subst h0 h1 h2 h3 h4 h5 h6 h7
  delta Cert.Reference2Ideal.Value.res_main_v59
  rfl

end

/-! ### At an index, over the extended reals -/

section
variable (x y d : FVec Ideal S8192x1024 .f32) (g s : FVec Ideal S1x1024 .f32) (w : FVec Ideal S1024x5632 .f32) (u : FVec Ideal S8192x5632 .f32)
  (r z : FVec Ideal S8192x1 .f32) (t : Fin 8192) (j : Fin 1024)

theorem allT_apply : allT g (ix2 t j) = g (ix2 0 j) := by
  pointwise [allT]
  rfl

theorem sideT_apply : sideT r (ix2 t j) = r (ix2 t 0) := by
  pointwise [sideT]
  rfl

theorem downT_apply : downT y (ix2 0 j) = ∑ t : Fin 8192, y (ix2 t j) := by
  pointwise [downT]
  rfl

theorem streamT_apply (m : FVec Ideal S8192x1024 .f32) : streamT x m g (ix2 t j) = x (ix2 t j) + g (ix2 0 j) * m (ix2 t j) :=
  congrArg (fun e => x (ix2 t j) + e * m (ix2 t j)) (allT_apply g t j)

/-- The mean square of a row, and a little. -/
def level (x : Fin 1024 → EReal) : EReal := Ideal.div (∑ l, x l * x l) width + eps

theorem levelT_apply : levelT x (ix2 t 0) = level fun l => x (ix2 t l) := by
  pointwise [levelT, level]
  rfl

/-- Minus one half. -/
abbrev mhalf : EReal := Ideal.ofBits .f32 0xBF000000#32

theorem slopeT_apply : slopeT z (ix2 t 0) = mhalf * Ideal.div (Ideal.rsqrt (z (ix2 t 0))) (z (ix2 t 0)) := by
  pointwise [slopeT]

theorem dhT_apply : dhT u w (ix2 t j) = ∑ l : Fin 5632, u (ix2 t l) * w (ix2 j l) := by
  pointwise [dhT]
  rfl

theorem scaledT_apply : scaledT d s (ix2 t j) = d (ix2 t j) * (unit + s (ix2 0 j)) := by
  pointwise [scaledT, allT]
  rfl

theorem rootT_apply : Host.rsqrt (levelT x) (ix2 t 0) = inv fun l => x (ix2 t l) := congrArg Ideal.rsqrt (levelT_apply x t)

theorem normT_apply : normT x (ix2 t j) = normed (fun l => x (ix2 t l)) j :=
  congrArg (x (ix2 t j) * ·) ((sideT_apply _ t j).trans (rootT_apply x t))

/-- The gradient through the norm's root, of a row. -/
def through (x d : Fin 1024 → EReal) : EReal :=
  Ideal.div ((∑ l, x l * d l) * (mhalf * Ideal.div (inv x) (level x))) width

theorem dotT_apply : shapeCast S8192x1 (Host.reduceAdd (mulf x d) (constant (F := Ideal) S_ .f32 0x00000000#32) reducesTo_S8192x1024_S8192_d1 h_S_) shapeCasts_S8192_S8192x1 (ix2 t 0)
    = ∑ l : Fin 1024, x (ix2 t l) * d (ix2 t l) := by
  pointwise []
  rfl

theorem widthT_apply : broadcastInDim S8192x1 ![] bcast_S_S8192x1 (constant (F := Ideal) S_ .f32 0x44800000#32) (ix2 t 0) = width := by
  pointwise []

theorem throughT_apply : throughT x d (ix2 t 0) = through (fun l => x (ix2 t l)) fun l => d (ix2 t l) :=
  congrArg₂ Ideal.div (congrArg₂ (· * ·) (dotT_apply x d t) ((slopeT_apply (levelT x) t).trans
    (congrArg₂ (fun a b => mhalf * Ideal.div a b) (rootT_apply x t) (levelT_apply x t)))) (widthT_apply t)

theorem rowT_apply : rowT r (ix2 t j) = r (ix2 t 0) := by
  pointwise [rowT]
  exact (Fin.sum_univ_one _).trans rfl

/-- The gradient of a row of the stream, in the reference's order. -/
def refRow (x y d : Fin 1024 → EReal) (j : Fin 1024) : EReal := y j + d j * inv x + x j * through x d + through x d * x j

theorem dxT_apply : dxT x y d (ix2 t j) = refRow (fun l => x (ix2 t l)) (fun l => y (ix2 t l)) (fun l => d (ix2 t l)) j :=
  congrArg₂ (· + ·) (congrArg₂ (· + ·) (congrArg (fun e => y (ix2 t j) + d (ix2 t j) * e) ((sideT_apply _ t j).trans (rootT_apply x t)))
      (congrArg (x (ix2 t j) * ·) ((rowT_apply _ t j).trans (throughT_apply x d t))))
    (congrArg (· * x (ix2 t j)) ((rowT_apply _ t j).trans (throughT_apply x d t)))

end

end Cert.Up

end

end
-- ==== Proof.UpValue.lean ====
/-
  The gradient of a row through the norm, in the kernel's order and in the reference's: equal over the extended reals.
-/
module

public import proofs.«01_k».proof.Proof.UpHost
public import proofs.«01_k».proof.Proof.UpRef

@[expose] public section

set_option maxRecDepth 16384

noncomputable section

namespace Cert.Up

open Idealize.ShloMosaic.ValueIdx
open Idealize.ShloMosaic hiding ix1 ix2 ix3 ix4
open Cert.Bwd (coe_sum div_coe)
open scoped BigOperators

theorem width_real : width = ((1024 : ℝ) : EReal) := by
  simp [Ideal.ofBits, Ideal.ieee, -EReal.coe_mul]; norm_num
theorem mhalf_real : mhalf = ((-(1 / 2) : ℝ) : EReal) := by
  simp [Ideal.ofBits, Ideal.ieee, -EReal.coe_mul, -EReal.coe_neg]; norm_num
theorem eps_real : ∃ e : ℝ, 0 < e ∧ eps = (e : EReal) := by
  refine ⟨(2 : ℝ) ^ (-20 : ℤ) * (1 + 407485 / 2 ^ 23), by positivity, ?_⟩
  simp [Ideal.ofBits, Ideal.ieee, -EReal.coe_mul]; norm_num

theorem rsqrt_real {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-- Over a width that is a number the quotient is a product. -/
theorem div_width (a : EReal) : Ideal.div a width = a * (((1 / 1024 : ℝ)) : EReal) := by
  rw [width_real]
  unfold Ideal.div
  rw [if_neg (by rw [← EReal.coe_zero, EReal.coe_eq_coe_iff]; norm_num), ← EReal.coe_inv, one_div]

theorem sum_scale {ι : Type} (s : Finset ι) (f : ι → EReal) {i : ℝ} (hi : 0 ≤ i) : ∑ l ∈ s, f l * (i : EReal) = (∑ l ∈ s, f l) * (i : EReal) := by
  classical
  induction s using Finset.induction_on with
  | empty => simp
  | insert a s h ih =>
    rw [Finset.sum_insert h, Finset.sum_insert h, ih,
      EReal.right_distrib_of_nonneg_of_ne_top (EReal.coe_nonneg.2 hi) (EReal.coe_ne_top i)]

/-- A row's level is infinite, or every element of the row is a number. -/
theorem level_cases (x : Fin 1024 → EReal) : level x = ⊤ ∨ ∀ l, ∃ r : ℝ, x l = r := by
  by_cases h : ∀ l, ∃ r : ℝ, x l = r
  · exact Or.inr h
  · refine Or.inl ?_
    push Not at h
    obtain ⟨l, hl⟩ := h
    have sq : ∀ a : EReal, 0 ≤ a * a := fun a => by
      induction a with
      | bot => simp
      | top => simp
      | coe r => exact_mod_cast mul_self_nonneg r
    have top : x l * x l = ⊤ := by
      generalize x l = a at hl
      induction a with
      | bot => simp
      | top => simp
      | coe r => exact absurd rfl (hl r)
    have sum : ∑ l, x l * x l = ⊤ := top_le_iff.1 (top ▸ Finset.single_le_sum (f := fun l => x l * x l) (fun l _ => sq _) (Finset.mem_univ l))
    obtain ⟨e, he, hE⟩ := eps_real
    unfold level
    rw [sum, div_width, hE, EReal.top_mul_coe_of_pos (by norm_num), EReal.top_add_coe]

/-- The two orders of the term through the root, `a` the product of the row's element with the row's sum, `k` the root's
    inverse to the third over the width. -/
theorem term_identity (a : EReal) {k : ℝ} (hk : 0 < k) : -a * (k : EReal) = a * ((-(1 / 2) * k : ℝ) : EReal) + a * ((-(1 / 2) * k : ℝ) : EReal) := by
  have hn : -(1 / 2) * k < 0 := by linarith
  induction a with
  | bot => rw [EReal.neg_bot, EReal.top_mul_coe_of_pos hk, EReal.bot_mul_coe_of_neg hn, EReal.top_add_top]
  | top => rw [EReal.neg_top, EReal.bot_mul_coe_of_pos hk, EReal.top_mul_coe_of_neg hn, EReal.bot_add]
  | coe r =>
    rw [← EReal.coe_neg, ← EReal.coe_mul, ← EReal.coe_mul, ← EReal.coe_add]
    exact congrArg _ (by ring)

theorem row_eq (x y p : Fin 1024 → EReal) (j : Fin 1024) :
    y j + inv x * (p j - normed x j * Ideal.div (∑ l, p l * normed x l) width) = refRow x y p j := by
  unfold refRow
  rcases level_cases x with hz | hx
  · have hi : inv x = 0 := (congrArg Ideal.rsqrt hz).trans Ideal.rsqrt_top
    have ht : through x p = 0 := by
      unfold through
      rw [hi, hz, div_width]
      have : Ideal.div 0 ⊤ = 0 := by unfold Ideal.div; simp
      rw [this, mul_zero, mul_zero, zero_mul]
    rw [hi, ht, zero_mul, mul_zero, mul_zero, zero_mul, add_zero, add_zero, add_zero]
  · choose X hX using hx
    obtain ⟨e, he, hE⟩ := eps_real
    have hz : 0 < (∑ l, X l * X l) / 1024 + e := add_pos_of_nonneg_of_pos (div_nonneg (Finset.sum_nonneg fun l _ => mul_self_nonneg _) (by norm_num)) he
    have hlevel : level x = (((∑ l, X l * X l) / 1024 + e : ℝ) : EReal) := by
      unfold level
      simp only [hX, ← EReal.coe_mul, coe_sum, width_real, hE, div_coe _ (by norm_num : (1024 : ℝ) ≠ 0), ← EReal.coe_add]
    generalize (∑ l, X l * X l) / 1024 + e = z at hz hlevel
    have hinv : inv x = (((Real.sqrt z)⁻¹ : ℝ) : EReal) := by
      show Ideal.rsqrt (level x) = _
      rw [hlevel, rsqrt_real hz]
    have hi : (Real.sqrt z)⁻¹ * (Real.sqrt z)⁻¹ = 1 / z := by
      rw [← mul_inv, Real.mul_self_sqrt hz.le, one_div]
    have hp : 0 < (Real.sqrt z)⁻¹ := inv_pos.2 (Real.sqrt_pos.2 hz)
    generalize (Real.sqrt z)⁻¹ = i at hinv hi hp
    have hsum : ∑ l, p l * normed x l = (∑ l, x l * p l) * (i : EReal) := by
      rw [← sum_scale _ _ hp.le]
      exact Finset.sum_congr rfl fun l _ => by unfold normed; rw [hinv, ← mul_assoc, mul_comm (p l)]
    have hthrough : x j * through x p = x j * (∑ l, x l * p l) * ((-(1 / 2) * (i * i * i / 1024) : ℝ) : EReal) := by
      unfold through
      rw [hinv, hlevel, div_coe _ hz.ne', mhalf_real, ← EReal.coe_mul, div_width, mul_assoc, ← EReal.coe_mul, ← mul_assoc]
      refine congrArg (fun r : ℝ => x j * (∑ l, x l * p l) * (r : EReal)) ?_
      rw [div_eq_mul_one_div i z, ← hi]
      ring
    have hterm : (i : EReal) * -(normed x j * Ideal.div (∑ l, p l * normed x l) width)
        = -(x j * ∑ l, x l * p l) * ((i * i * i / 1024 : ℝ) : EReal) := by
      have hk : ((i * i * i / 1024 : ℝ) : EReal) = (i : EReal) * (i : EReal) * (i : EReal) * ((1 / 1024 : ℝ) : EReal) := by
        rw [← EReal.coe_mul, ← EReal.coe_mul, ← EReal.coe_mul]
        exact congrArg _ (by ring)
      rw [hsum, div_width, hk]
      unfold normed
      rw [hinv, mul_neg, neg_mul]
      exact congrArg _ (by ac_rfl)
    rw [mul_comm (through x p), hthrough, add_assoc, add_assoc, ← term_identity _ (by positivity), ← hterm, hinv, sub_eq_add_neg,
      EReal.left_distrib_of_nonneg_of_ne_top (EReal.coe_nonneg.2 hp.le) (EReal.coe_ne_top i), mul_comm (p j)]

theorem dnorm_eq (d g s : Fin 1024 → EReal) : dnorm d g s = fun j => d j * (unit + s j) * g j :=
  funext fun j => (congrArg (d j * ·) (mul_comm _ _)).trans (mul_assoc _ _ _).symm

theorem drow_eq (d x y g s : Fin 1024 → EReal) (j : Fin 1024) : drow d x y g s j = refRow x y (fun j => d j * (unit + s j) * g j) j := by
  unfold drow
  rw [dnorm_eq]
  exact row_eq x y (fun j => d j * (unit + s j) * g j) j

/-! ### The results of the kernel are those of the reference -/

section
open Cert.Kernel2Ideal Cert.Kernel2Ideal.Gen Idealize.ShloMosaic.TcCoe
variable (m : (ℓ : Loc nD τ sig) → Buf (Elt Ideal) ℓ) (c : Dev nD)
  (x x' y : FVec Ideal S8192x1024 .f32) (b g s : FVec Ideal S1x1024 .f32) (w : FVec Ideal S1024x5632 .f32) (u : FVec Ideal S8192x5632 .f32)
  (h0 : m ((c.tc : Thread nD τ).loc main_arg0) = x) (h1 : m ((c.tc : Thread nD τ).loc main_arg1) = x') (h2 : m ((c.tc : Thread nD τ).loc main_arg2) = b)
  (h3 : m ((c.tc : Thread nD τ).loc main_arg3) = g) (h4 : m ((c.tc : Thread nD τ).loc main_arg4) = s) (h5 : m ((c.tc : Thread nD τ).loc main_arg5) = w)
  (h6 : m ((c.tc : Thread nD τ).loc main_arg6) = y) (h7 : m ((c.tc : Thread nD τ).loc main_arg7) = u)
  (t : Fin 8192) (j : Fin 1024)

include h5 h7 in
theorem dh_ref : dhR m c t j = dhT u w (ix2 t j) := (dhR_eq m c w u t j h5 h7).trans (dhT_apply w u t j).symm

include h0 h1 h2 in
theorem str_ref : strR m c t = fun l => streamT x x' b (ix2 t l) :=
  funext fun l => (strR_eq m c x x' b t l h0 h1 h2).trans (streamT_apply x b t l x').symm

include h0 h1 h2 in
theorem normed_ref : normed (strR m c t) j = normT (streamT x x' b) (ix2 t j) :=
  (congrArg (fun e => normed e j) (str_ref m c x x' b h0 h1 h2 t)).trans (normT_apply _ t j).symm

section
include h0 h1 h2 h3 h4 h5 h6 h7

theorem dx_ref : dxR m c t j = streamGradT x x' b g s w y u (ix2 t j) := by
  refine Eq.trans ?_ (dxT_apply (streamT x x' b) y _ t j).symm
  unfold dxR
  rw [drow_eq, str_ref m c x x' b h0 h1 h2 t, funext fun l => gradR_eq m c y t l h6]
  refine congrArg (fun e => refRow _ _ e j) (funext fun l => ?_)
  rw [dh_ref m c w u h5 h7 t l, scaleR_eq m c s l h4, normR_eq m c g l h3]
  exact (congrArg₂ (· * ·) (scaledT_apply (dhT u w) s t l) (allT_apply g t l)).symm

theorem out_dx : dxArr m c = streamGradT x x' b g s w y u := by
  funext i
  obtain ⟨t, j, rfl⟩ : ∃ (t : Fin 8192) (j : Fin 1024), i = ix2 t j := ⟨i 0, i 1, ValueIdx.eq_ix2 (n0 := 8192) (n1 := 1024) i⟩
  exact (dxArr_at m c t j).trans (dx_ref m c x x' y b g s w u h0 h1 h2 h3 h4 h5 h6 h7 t j)

theorem out_dmix : dmixArr m c = truncf (F := Ideal) .bf16 (mulf (allT b) (shapeCast _ (streamGradT x x' b g s w y u) Cert.Reference2Ideal.Gen.shapeCasts_S8192x1024_S8192x1024)) bitsLt_bf16_f32 := by
  rw [shapeCast_self]
  funext i
  obtain ⟨t, j, rfl⟩ : ∃ (t : Fin 8192) (j : Fin 1024), i = ix2 t j := ⟨i 0, i 1, ValueIdx.eq_ix2 (n0 := 8192) (n1 := 1024) i⟩
  refine (dmixArr_at m c t j).trans ((mul_comm _ _).trans ?_)
  exact congrArg₂ (· * ·) ((branchR_eq m c b j h2).trans (allT_apply b t j).symm)
    (dx_ref m c x x' y b g s w u h0 h1 h2 h3 h4 h5 h6 h7 t j)

theorem out_dg : foldK (F := Ideal) (sumArr (addg m c))
    = downT (mulf (shapeCast _ (streamGradT x x' b g s w y u) Cert.Reference2Ideal.Gen.shapeCasts_S8192x1024_S8192x1024) x') := by
  rw [shapeCast_self]
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  exact congrArg₂ (· * ·) (dx_ref m c x x' y b g s w u h0 h1 h2 h3 h4 h5 h6 h7 t j) (mixR_eq m c x' t j h1)

end

include h5 h7 in
theorem out_dsh : foldK (F := Ideal) (sumArr (addsh m c)) = downT (dhT u w) := by
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  exact dh_ref m c w u h5 h7 t j

include h0 h1 h2 h3 h5 h7 in
theorem out_dsc : foldK (F := Ideal) (sumArr (addsc m c)) = downT (mulf (mulf (normT (streamT x x' b)) (allT g)) (dhT u w)) := by
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  show dhR m c t j * normed (strR m c t) j * normR m c j = normT (streamT x x' b) (ix2 t j) * allT g (ix2 t j) * dhT u w (ix2 t j)
  rw [dh_ref m c w u h5 h7 t j, normed_ref m c x x' b h0 h1 h2 t j, normR_eq m c g j h3, allT_apply, mul_assoc, mul_comm]

include h0 h1 h2 h4 h5 h7 in
theorem out_dn : foldK (F := Ideal) (sumArr (addn m c)) = downT (mulf (normT (streamT x x' b)) (scaledT (dhT u w) s)) := by
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  show dhR m c t j * normed (strR m c t) j * (unit + scaleR m c j) = normT (streamT x x' b) (ix2 t j) * scaledT (dhT u w) s (ix2 t j)
  rw [dh_ref m c w u h5 h7 t j, normed_ref m c x x' b h0 h1 h2 t j, scaleR_eq m c s j h4, scaledT_apply, mul_comm (dhT u w (ix2 t j)), mul_assoc]

end

end Cert.Up

end

end
-- ==== Proof.UpFinish.lean ====
/-
  The gradient of the norm and the up projection: the two programs' results are equal.
-/
module

public import proofs.«01_k».proof.Proof.UpValue

@[expose] public section

set_option maxRecDepth 16384

noncomputable section

namespace Cert.Up

open Cert.Kernel2Ideal Cert.Kernel2Ideal.Gen Idealize.ShloMosaic.TcCoe
open Idealize.ShloMosaic Idealize.SL.Sem

/-! ### The arrays after the host's last lines -/

theorem arrays_inj : Function.Injective (Pipeline.arrRef spec0) := by decide

variable (m : (ℓ : Loc nD τ sig) → Buf (Elt Ideal) ℓ) (c : Dev nD)

/-- What the grid leaves, with its six arrays filled. -/
abbrev left : Valuation τ sig (Elt Ideal) :=
  Pipeline.withArrays (cfgs 0).spec c (V0 m c) fun w => (dats m 0 c).arrAt w cfg0.N

theorem left_1 : left m c (Proc.devRef .tc main_v8_1) = sumArr (addsh m c) := (Pipeline.withArrays_arr spec0 arrays_inj c _ _ 10).trans (arr10 m c)
theorem left_2 : left m c (Proc.devRef .tc main_v8_2) = sumArr (addsc m c) := (Pipeline.withArrays_arr spec0 arrays_inj c _ _ 11).trans (arr11 m c)
theorem left_3 : left m c (Proc.devRef .tc main_v8_3) = sumArr (addn m c) := (Pipeline.withArrays_arr spec0 arrays_inj c _ _ 12).trans (arr12 m c)
theorem left_5 : left m c (Proc.devRef .tc main_v8_5) = sumArr (addg m c) := (Pipeline.withArrays_arr spec0 arrays_inj c _ _ 14).trans (arr14 m c)

theorem tail_one (b : Ref sig .tc) : Pipeline.afterTail₀ cfgs (dats m) 0 (V0 m) [hostOps1] c b
    = StableHlo.after hostOps1 (left m c) (Proc.devRef .tc b) :=
  congrArg (fun l => StableHlo.after l (left m c) (Proc.devRef .tc b)) (flatten_one hostOps1)

theorem end_v10 : Pipeline.afterTail₀ cfgs (dats m) 0 (V0 m) [hostOps1] c main_v10 = foldK (F := Ideal) (sumArr (addg m c)) :=
  (tail_one m c main_v10).trans ((tail_v10 (left m c)).trans (congrArg (foldK (F := Ideal)) (left_5 m c)))
theorem end_v12 : Pipeline.afterTail₀ cfgs (dats m) 0 (V0 m) [hostOps1] c main_v12 = foldK (F := Ideal) (sumArr (addn m c)) :=
  (tail_one m c main_v12).trans ((tail_v12 (left m c)).trans (congrArg (foldK (F := Ideal)) (left_3 m c)))
theorem end_v14 : Pipeline.afterTail₀ cfgs (dats m) 0 (V0 m) [hostOps1] c main_v14 = foldK (F := Ideal) (sumArr (addsc m c)) :=
  (tail_one m c main_v14).trans ((tail_v14 (left m c)).trans (congrArg (foldK (F := Ideal)) (left_2 m c)))
theorem end_v16 : Pipeline.afterTail₀ cfgs (dats m) 0 (V0 m) [hostOps1] c main_v16 = foldK (F := Ideal) (sumArr (addsh m c)) :=
  (tail_one m c main_v16).trans ((tail_v16 (left m c)).trans (congrArg (foldK (F := Ideal)) (left_1 m c)))

/-- Both programs end with the same six gradients. -/
theorem algebraic : Cert.algebraic_Kernel2Ideal_Reference2Ideal := by
  intro m ρ m' ρ' _ hargs
  refine ⟨_, _, _, _, _, _, ?_, Cert.Reference2Ideal.Value.run (F := Ideal) m' ρ'⟩
  refine (θ_run defs _ _).mono (fun r h c => ?_) (θ_run_and (unchanged (F := Ideal) m ρ) (run_main (F := Ideal) m ρ))
  obtain ⟨e0, e1, e2, e3, e4, e5, e6, e7⟩ := hargs c
  have arrays := (h.2 c).1
  have rest := (h.2 c).2
  refine ⟨(arrays 9).trans ((arr9 m c).trans ((out_dx m c _ _ _ _ _ _ _ _ rfl rfl rfl rfl rfl rfl rfl rfl).trans
      (res_dx m' c _ _ _ _ _ _ _ _ e0 e1 e2 e3 e4 e5 e6 e7).symm)),
    (arrays 13).trans ((arr13 m c).trans ((out_dmix m c _ _ _ _ _ _ _ _ rfl rfl rfl rfl rfl rfl rfl rfl).trans
      (res_dmix m' c _ _ _ _ _ _ _ _ e0 e1 e2 e3 e4 e5 e6 e7).symm)),
    (rest main_v10 (Pipeline.mem_restRefs_of main_v10 (by decide) (by decide))).trans ((end_v10 m c).trans
      ((out_dg m c _ _ _ _ _ _ _ _ rfl rfl rfl rfl rfl rfl rfl rfl).trans
      (res_dg m' c _ _ _ _ _ _ _ _ e0 e1 e2 e3 e4 e5 e6 e7).symm)),
    (rest main_v12 (Pipeline.mem_restRefs_of main_v12 (by decide) (by decide))).trans ((end_v12 m c).trans
      ((out_dn m c _ _ _ _ _ _ e0.symm e1.symm e2.symm e4.symm e5.symm e7.symm).trans ?_)),
    (rest main_v14 (Pipeline.mem_restRefs_of main_v14 (by decide) (by decide))).trans ((end_v14 m c).trans
      ((out_dsc m c _ _ _ _ _ _ e0.symm e1.symm e2.symm e3.symm e5.symm e7.symm).trans ?_)),
    (rest main_v16 (Pipeline.mem_restRefs_of main_v16 (by decide) (by decide))).trans ((end_v16 m c).trans
      ((out_dsh m c _ _ e5.symm e7.symm).trans ?_)), h.1 c⟩
  · rfl
  · rfl
  · rfl

end Cert.Up

end

end
-- ==== Proof.ProductsWord.lean ====
/-
  The products' programs on words have the texts of those on extended reals, so their frames come from the same runs.
-/
module

public import proofs.«01_k».proof.Defs
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel11
public import proofs.«01_k».proof.Proof.Gen.Kernel11Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame

@[expose] public section

set_option maxRecDepth 16384

noncomputable section

namespace Cert.Mm

open Idealize.ShloMosaic Idealize.SL.Sem

variable {F : FTy → Type} [FloatOps F]

namespace P3

set_option smartUnfolding false in
theorem defs₀_eq : Cert.Kernel3.defs₀ (F := F) = Cert.Kernel3Ideal.defs₀ (F := F) := rfl

theorem defs_eq : Cert.Kernel3.defs (F := F) = Cert.Kernel3Ideal.defs (F := F) :=
  congrArg (Pipeline.defs (Cert.Kernel3Ideal.pcfgs (F := F))) defs₀_eq

theorem main_eq : Cert.Kernel3.main (F := F) = Cert.Kernel3Ideal.main (F := F) := rfl

theorem frame_of_eq (ds) (hd : ds = Cert.Kernel3Ideal.defs (F := F)) (mn) (hm : mn = Cert.Kernel3Ideal.main (F := F)) (m) (ρ) :
    θ_run ds (onTc (τ := Cert.Kernel3Ideal.τ) mn) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) := by
  subst hd hm
  exact Cert.Kernel3Ideal.Gen.frame m ρ

theorem frame_kernel : Cert.quiescent_Kernel3 (hKernel3 := Cert.Kernel3.Gen.facts) := fun m ρ _ => frame_of_eq _ defs_eq _ main_eq m ρ

end P3

namespace P4

set_option smartUnfolding false in
theorem defs₀_eq : Cert.Kernel4.defs₀ (F := F) = Cert.Kernel4Ideal.defs₀ (F := F) := rfl

theorem defs_eq : Cert.Kernel4.defs (F := F) = Cert.Kernel4Ideal.defs (F := F) :=
  congrArg (Pipeline.defs (Cert.Kernel4Ideal.pcfgs (F := F))) defs₀_eq

theorem main_eq : Cert.Kernel4.main (F := F) = Cert.Kernel4Ideal.main (F := F) := rfl

theorem frame_of_eq (ds) (hd : ds = Cert.Kernel4Ideal.defs (F := F)) (mn) (hm : mn = Cert.Kernel4Ideal.main (F := F)) (m) (ρ) :
    θ_run ds (onTc (τ := Cert.Kernel4Ideal.τ) mn) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0) := by
  subst hd hm
  exact Cert.Kernel4Ideal.Gen.frame m ρ

theorem frame_kernel : Cert.quiescent_Kernel4 (hKernel4 := Cert.Kernel4.Gen.facts) := fun m ρ _ => frame_of_eq _ defs_eq _ main_eq m ρ

end P4

namespace P5

set_option smartUnfolding false in
theorem defs₀_eq : Cert.Kernel5.defs₀ (F := F) = Cert.Kernel5Ideal.defs₀ (F := F) := rfl

theorem defs_eq : Cert.Kernel5.defs (F := F) = Cert.Kernel5Ideal.defs (F := F) :=
  congrArg (Pipeline.defs (Cert.Kernel5Ideal.pcfgs (F := F))) defs₀_eq

theorem main_eq : Cert.Kernel5.main (F := F) = Cert.Kernel5Ideal.main (F := F) := rfl

theorem frame_of_eq (ds) (hd : ds = Cert.Kernel5Ideal.defs (F := F)) (mn) (hm : mn = Cert.Kernel5Ideal.main (F := F)) (m) (ρ) :
    θ_run ds (onTc (τ := Cert.Kernel5Ideal.τ) mn) ⟨m, fun _ => 0, ρ⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0) := by
  subst hd hm
  exact Cert.Kernel5Ideal.Gen.frame m ρ

theorem frame_kernel : Cert.quiescent_Kernel5 (hKernel5 := Cert.Kernel5.Gen.facts) := fun m ρ _ => frame_of_eq _ defs_eq _ main_eq m ρ

end P5

namespace P6

set_option smartUnfolding false in
theorem defs₀_eq : Cert.Kernel6.defs₀ (F := F) = Cert.Kernel6Ideal.defs₀ (F := F) := rfl

theorem defs_eq : Cert.Kernel6.defs (F := F) = Cert.Kernel6Ideal.defs (F := F) :=
  congrArg (Pipeline.defs (Cert.Kernel6Ideal.pcfgs (F := F))) defs₀_eq

theorem main_eq : Cert.Kernel6.main (F := F) = Cert.Kernel6Ideal.main (F := F) := rfl

theorem frame_of_eq (ds) (hd : ds = Cert.Kernel6Ideal.defs (F := F)) (mn) (hm : mn = Cert.Kernel6Ideal.main (F := F)) (m) (ρ) :
    θ_run ds (onTc (τ := Cert.Kernel6Ideal.τ) mn) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0) := by
  subst hd hm
  exact Cert.Kernel6Ideal.Gen.frame m ρ

theorem frame_kernel : Cert.quiescent_Kernel6 (hKernel6 := Cert.Kernel6.Gen.facts) := fun m ρ _ => frame_of_eq _ defs_eq _ main_eq m ρ

end P6

namespace P7

set_option smartUnfolding false in
theorem defs₀_eq : Cert.Kernel7.defs₀ (F := F) = Cert.Kernel7Ideal.defs₀ (F := F) := rfl

theorem defs_eq : Cert.Kernel7.defs (F := F) = Cert.Kernel7Ideal.defs (F := F) :=
  congrArg (Pipeline.defs (Cert.Kernel7Ideal.pcfgs (F := F))) defs₀_eq

theorem main_eq : Cert.Kernel7.main (F := F) = Cert.Kernel7Ideal.main (F := F) := rfl

theorem frame_of_eq (ds) (hd : ds = Cert.Kernel7Ideal.defs (F := F)) (mn) (hm : mn = Cert.Kernel7Ideal.main (F := F)) (m) (ρ) :
    θ_run ds (onTc (τ := Cert.Kernel7Ideal.τ) mn) ⟨m, fun _ => 0, ρ⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0) := by
  subst hd hm
  exact Cert.Kernel7Ideal.Gen.frame m ρ

theorem frame_kernel : Cert.quiescent_Kernel7 (hKernel7 := Cert.Kernel7.Gen.facts) := fun m ρ _ => frame_of_eq _ defs_eq _ main_eq m ρ

end P7

namespace P8

set_option smartUnfolding false in
theorem defs₀_eq : Cert.Kernel8.defs₀ (F := F) = Cert.Kernel8Ideal.defs₀ (F := F) := rfl

theorem defs_eq : Cert.Kernel8.defs (F := F) = Cert.Kernel8Ideal.defs (F := F) :=
  congrArg (Pipeline.defs (Cert.Kernel8Ideal.pcfgs (F := F))) defs₀_eq

theorem main_eq : Cert.Kernel8.main (F := F) = Cert.Kernel8Ideal.main (F := F) := rfl

theorem frame_of_eq (ds) (hd : ds = Cert.Kernel8Ideal.defs (F := F)) (mn) (hm : mn = Cert.Kernel8Ideal.main (F := F)) (m) (ρ) :
    θ_run ds (onTc (τ := Cert.Kernel8Ideal.τ) mn) ⟨m, fun _ => 0, ρ⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0) := by
  subst hd hm
  exact Cert.Kernel8Ideal.Gen.frame m ρ

theorem frame_kernel : Cert.quiescent_Kernel8 (hKernel8 := Cert.Kernel8.Gen.facts) := fun m ρ _ => frame_of_eq _ defs_eq _ main_eq m ρ

end P8

namespace P9

set_option smartUnfolding false in
theorem defs₀_eq : Cert.Kernel9.defs₀ (F := F) = Cert.Kernel9Ideal.defs₀ (F := F) := rfl

theorem defs_eq : Cert.Kernel9.defs (F := F) = Cert.Kernel9Ideal.defs (F := F) :=
  congrArg (Pipeline.defs (Cert.Kernel9Ideal.pcfgs (F := F))) defs₀_eq

theorem main_eq : Cert.Kernel9.main (F := F) = Cert.Kernel9Ideal.main (F := F) := rfl

theorem frame_of_eq (ds) (hd : ds = Cert.Kernel9Ideal.defs (F := F)) (mn) (hm : mn = Cert.Kernel9Ideal.main (F := F)) (m) (ρ) :
    θ_run ds (onTc (τ := Cert.Kernel9Ideal.τ) mn) ⟨m, fun _ => 0, ρ⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0) := by
  subst hd hm
  exact Cert.Kernel9Ideal.Gen.frame m ρ

theorem frame_kernel : Cert.quiescent_Kernel9 (hKernel9 := Cert.Kernel9.Gen.facts) := fun m ρ _ => frame_of_eq _ defs_eq _ main_eq m ρ

end P9

namespace P10

set_option smartUnfolding false in
theorem defs₀_eq : Cert.Kernel10.defs₀ (F := F) = Cert.Kernel10Ideal.defs₀ (F := F) := rfl

theorem defs_eq : Cert.Kernel10.defs (F := F) = Cert.Kernel10Ideal.defs (F := F) :=
  congrArg (Pipeline.defs (Cert.Kernel10Ideal.pcfgs (F := F))) defs₀_eq

theorem main_eq : Cert.Kernel10.main (F := F) = Cert.Kernel10Ideal.main (F := F) := rfl

theorem frame_of_eq (ds) (hd : ds = Cert.Kernel10Ideal.defs (F := F)) (mn) (hm : mn = Cert.Kernel10Ideal.main (F := F)) (m) (ρ) :
    θ_run ds (onTc (τ := Cert.Kernel10Ideal.τ) mn) ⟨m, fun _ => 0, ρ⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0) := by
  subst hd hm
  exact Cert.Kernel10Ideal.Gen.frame m ρ

theorem frame_kernel : Cert.quiescent_Kernel10 (hKernel10 := Cert.Kernel10.Gen.facts) := fun m ρ _ => frame_of_eq _ defs_eq _ main_eq m ρ

end P10

namespace P11

set_option smartUnfolding false in
theorem defs₀_eq : Cert.Kernel11.defs₀ (F := F) = Cert.Kernel11Ideal.defs₀ (F := F) := rfl

theorem defs_eq : Cert.Kernel11.defs (F := F) = Cert.Kernel11Ideal.defs (F := F) :=
  congrArg (Pipeline.defs (Cert.Kernel11Ideal.pcfgs (F := F))) defs₀_eq

set_option maxHeartbeats 4000000 in
theorem main_eq : Cert.Kernel11.main (F := F) = Cert.Kernel11Ideal.main (F := F) := rfl

theorem frame_of_eq (ds) (hd : ds = Cert.Kernel11Ideal.defs (F := F)) (mn) (hm : mn = Cert.Kernel11Ideal.main (F := F)) (m) (ρ) :
    θ_run ds (onTc (τ := Cert.Kernel11Ideal.τ) mn) ⟨m, fun _ => 0, ρ⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0) := by
  subst hd hm
  exact Cert.Kernel11Ideal.Gen.frame m ρ

theorem frame_kernel : Cert.quiescent_Kernel11 (hKernel11 := Cert.Kernel11.Gen.facts) := fun m ρ _ => frame_of_eq _ defs_eq _ main_eq m ρ

end P11

namespace P12

set_option smartUnfolding false in
theorem defs₀_eq : Cert.Kernel12.defs₀ (F := F) = Cert.Kernel12Ideal.defs₀ (F := F) := rfl

theorem defs_eq : Cert.Kernel12.defs (F := F) = Cert.Kernel12Ideal.defs (F := F) :=
  congrArg (Pipeline.defs (Cert.Kernel12Ideal.pcfgs (F := F))) defs₀_eq

theorem main_eq : Cert.Kernel12.main (F := F) = Cert.Kernel12Ideal.main (F := F) := rfl

theorem frame_of_eq (ds) (hd : ds = Cert.Kernel12Ideal.defs (F := F)) (mn) (hm : mn = Cert.Kernel12Ideal.main (F := F)) (m) (ρ) :
    θ_run ds (onTc (τ := Cert.Kernel12Ideal.τ) mn) ⟨m, fun _ => 0, ρ⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0) := by
  subst hd hm
  exact Cert.Kernel12Ideal.Gen.frame m ρ

theorem frame_kernel : Cert.quiescent_Kernel12 (hKernel12 := Cert.Kernel12.Gen.facts) := fun m ρ _ => frame_of_eq _ defs_eq _ main_eq m ρ

end P12

namespace P13

set_option smartUnfolding false in
theorem defs₀_eq : Cert.Kernel13.defs₀ (F := F) = Cert.Kernel13Ideal.defs₀ (F := F) := rfl

theorem defs_eq : Cert.Kernel13.defs (F := F) = Cert.Kernel13Ideal.defs (F := F) :=
  congrArg (Pipeline.defs (Cert.Kernel13Ideal.pcfgs (F := F))) defs₀_eq

theorem main_eq : Cert.Kernel13.main (F := F) = Cert.Kernel13Ideal.main (F := F) := rfl

theorem frame_of_eq (ds) (hd : ds = Cert.Kernel13Ideal.defs (F := F)) (mn) (hm : mn = Cert.Kernel13Ideal.main (F := F)) (m) (ρ) :
    θ_run ds (onTc (τ := Cert.Kernel13Ideal.τ) mn) ⟨m, fun _ => 0, ρ⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0) := by
  subst hd hm
  exact Cert.Kernel13Ideal.Gen.frame m ρ

theorem frame_kernel : Cert.quiescent_Kernel13 (hKernel13 := Cert.Kernel13.Gen.facts) := fun m ρ _ => frame_of_eq _ defs_eq _ main_eq m ρ

end P13

end Cert.Mm

end

end
-- ==== Proof.Products.lean ====
/-
  What the three products of the backward pass share: the place of an element of a block in its array, and sums by four blocks
  of 2048 rows.
-/
module

public import proofs.«01_k».proof.Proof.UpFinish

@[expose] public section

set_option maxRecDepth 16384

noncomputable section

namespace Cert.Mm

open Idealize.ShloMosaic.ValueIdx
open Idealize.ShloMosaic hiding ix1 ix2 ix3 ix4
open scoped BigOperators

/-- The place in an axis of `N` of element `r` of its block `b` of `n`. -/
def slot (N n : ℕ) [NeZero N] (b : ℕ) (r : Fin n) : Fin N := Fin.ofNat N (b * n + r.val)

theorem slot_val {N n : ℕ} [NeZero N] {b : ℕ} (h : b * n + n ≤ N) (r : Fin n) : (slot N n b r).val = b * n + r.val :=
  Nat.mod_eq_of_lt (by have := r.isLt; omega)

theorem slot_whole {N : ℕ} [NeZero N] (r : Fin N) : slot N N 0 r = r :=
  Fin.ext ((slot_val (by omega) r).trans (by omega))

/-- The place of an element of a block of an array of two axes. -/
theorem place {A B a b : ℕ} [NeZero A] [NeZero B] {p q : ℕ} (I : Fin 2 → ℕ) (hI : I = ![p, q]) (hA : p * a + a ≤ A) (hB : q * b + b ≤ B)
    (r : Fin a) (l : Fin b) (i : (⟨2, ![A, B]⟩ : Shape).Idx)
    (h : ∀ x : Fin 2, (i x).val = I x * ![a, b] x + 1 * ((ix2 r l : (⟨2, ![a, b]⟩ : Shape).Idx) x).val) :
    i = ix2 (slot A a p r) (slot B b q l) := by
  subst hI
  refine funext fun x => Fin.ext ((h x).trans ?_)
  match x with
  | ⟨0, _⟩ =>
    show p * a + 1 * r.val = (slot A a p r).val
    rw [slot_val hA]; omega
  | ⟨1, _⟩ =>
    show q * b + 1 * l.val = (slot B b q l).val
    rw [slot_val hB]; omega

/-- A sum over the 8192 rows by four blocks. -/
theorem sum_four {M : Type*} [AddCommMonoid M] (f : Fin 8192 → M) :
    ∑ b ∈ Finset.range 4, ∑ r : Fin 2048, f (slot 8192 2048 b r) = ∑ t, f t := by
  rw [Finset.sum_range (fun b => ∑ r : Fin 2048, f (slot 8192 2048 b r)),
    ← Fintype.sum_prod_type' (f := fun (b : Fin 4) (r : Fin 2048) => f (slot 8192 2048 b.val r))]
  refine Fintype.sum_equiv (finProdFinEquiv (m := 4) (n := 2048)) _ _ fun p => congrArg f (Fin.ext ?_)
  have := p.1.isLt
  rw [slot_val (by omega)]
  show _ = p.2.val + 2048 * p.1.val
  omega

/-- A block of products added to those before it, over the points of the grid four by four. -/
theorem four_points {α : Type} (N : ℕ) (o : (n : ℕ) → n < N → α → EReal) (x : α) (p : ℕ → ℕ → EReal)
    (h0 : ∀ (n : ℕ) (h : n < N), n % 4 = 0 → o n h x = p (n / 4) 0)
    (hs : ∀ (n : ℕ) (h : n + 1 < N), ¬(n + 1) % 4 = 0 → o (n + 1) h x = o n (Nat.lt_of_succ_lt h) x + p ((n + 1) / 4) ((n + 1) % 4)) :
    ∀ (n : ℕ) (h : n < N), o n h x = ∑ b ∈ Finset.range (n % 4 + 1), p (n / 4) b := by
  intro n
  induction n with
  | zero => intro h; rw [h0 0 h rfl]; exact (Finset.sum_range_one (fun b => p 0 b)).symm
  | succ n ih =>
    intro h
    by_cases hm : (n + 1) % 4 = 0
    · rw [h0 _ h hm, hm, Finset.sum_range_one]
    · rw [hs n h hm, ih, show (n + 1) / 4 = n / 4 by omega, show (n + 1) % 4 = n % 4 + 1 by omega]
      exact (Finset.sum_range_succ (fun b => p (n / 4) b) (n % 4 + 1)).symm

end Cert.Mm

end

end
-- ==== Proof.DownDx.lean ====
/-
  The gradient of the down projection's operand: what the grid leaves, and the two programs' results are equal.
-/
module

public import proofs.«01_k».proof.Defs
public import proofs.«01_k».proof.Proof.Products
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Mm.P5

open Cert.Kernel5Ideal Cert.Kernel5Ideal.Gen Idealize.ShloMosaic.ValueIdx Idealize.ShloMosaic.TcCoe Idealize.SL.Sem
open Idealize.ShloMosaic hiding ix1 ix2 ix3 ix4
open scoped BigOperators

theorem nil2 : (![0, 0] : Fin 2 → Nat) = fun _ => 0 := funext fun a => by fin_cases a <;> rfl

theorem mm_nt (a : FVec Ideal S1024x1024 .bf16) (b : FVec Ideal S2816x1024 .bf16) (r : Fin 1024) (l : Fin 2816) :
    matmul dot_S1024x1024_S2816x1024_S1024x2816_1_1_0_0_n_n none a b (constant S1024x2816 .f32 0x00000000#32) (ix2 r l)
      = ∑ j : Fin 1024, a (ix2 r j) * b (ix2 l j) := by
  refine (Ideal.matmul_transposedRhs_apply (M := 1024) (K := 1024) (N := 2816) none a b _ r l).trans ?_
  rw [constant_apply, Ideal.ofBits_zero_f32, zero_add]

theorem pay_apply (a : FVec Ideal S1024x1024 .bf16) (b : FVec Ideal S2816x1024 .bf16) (r : Fin 1024) (l : Fin 2816) :
    k0_pay1 a b (ix2 r l) = ∑ j : Fin 1024, a (ix2 r j) * b (ix2 l j) := by
  refine Eq.trans ?_ (mm_nt a b r l)
  unfold k0_pay1
  rw [shapeCast_self, shapeCast_self]
  rfl

theorem out_eq {F : FTy → Type} [FloatOps F] (a : Vec F S1024x1024 .bf16) (b : Vec F S2816x1024 .bf16) : out0_2 a b = k0_pay1 a b := by
  unfold out0_2
  rw [View.canon_unit_zero (S := S1024x2816) nil2, View.ld_unit_zero (S := S1024x1024) nil2, View.ld_unit_zero (S := S2816x1024) nil2]

variable (m : (ℓ : Loc nD τ sig) → Buf (Elt Ideal) ℓ) (c : Dev nD)

def left (t : Fin 8192) (j : Fin 1024) : EReal := (V m c main_v0 : S8192x1024.Idx → EReal) (ix2 t j)
def right (l : Fin 2816) (j : Fin 1024) : EReal := (V m c main_v1 : S2816x1024.Idx → EReal) (ix2 l j)

theorem index_0 : ∀ t : Fin cfg0.N, cc0_transform_0 (grid0.coords t) = ![t.val, 0] := by decide +kernel
theorem index_1 : ∀ t : Fin cfg0.N, cc0_transform_1 (grid0.coords t) = ![0, 0] := by decide +kernel
theorem index_2 : ∀ t : Fin cfg0.N, cc0_transform_2 (grid0.coords t) = ![t.val, 0] := by decide +kernel

theorem lt_N (t : Fin cfg0.N) : t.val < 8 := t.isLt

theorem blk_0 (t : Fin cfg0.N) (r : Fin 1024) (j : Fin 1024) :
    (iblk m c 0 t : S1024x1024.Idx → EReal) (ix2 r j) = left m c (slot 8192 1024 t.val r) j := by
  refine (congrArg (V m c main_v0 : S8192x1024.Idx → EReal) (place (A := 8192) (B := 1024) _ (index_0 t)
    (by have := lt_N t; omega) (by omega) r j _ fun a => by fin_cases a <;> rfl)).trans ?_
  rw [slot_whole]
  rfl

theorem blk_1 (t : Fin cfg0.N) (l : Fin 2816) (j : Fin 1024) : (iblk m c 1 t : S2816x1024.Idx → EReal) (ix2 l j) = right m c l j := by
  refine (congrArg (V m c main_v1 : S2816x1024.Idx → EReal) (place (A := 2816) (B := 1024) _ (index_1 t)
    (by omega) (by omega) l j _ fun a => by fin_cases a <;> rfl)).trans ?_
  rw [slot_whole, slot_whole]
  rfl

def prod (t : Fin 8192) (l : Fin 2816) : EReal := ∑ j : Fin 1024, left m c t j * right m c l j
def arr : S8192x2816.Idx → EReal := fun i => prod m c (i 0) (i 1)

theorem arr_at (t : Fin 8192) (l : Fin 2816) : arr m c (ix2 t l) = prod m c t l := rfl

theorem at_2 (t : Fin cfg0.N) (r : Fin 1024) (l : Fin 2816) :
    out0_2 (F := Ideal) (iblk m c 0 t) (iblk m c 1 t) (ix2 r l) = prod m c (slot 8192 1024 t.val r) l := by
  rw [out_eq]
  refine (pay_apply _ _ r l).trans (Finset.sum_congr rfl fun j _ => congrArg₂ (· * ·) (blk_0 m c t r j) (blk_1 m c t l j))

theorem arr2 : (dats m 0 c).arrAt 2 cfg0.N = arr m c := by
  refine (dats m 0 c).arrAt_eq_of_covers 2 _ (by decide +kernel) fun t hf y => ?_
  obtain ⟨r, l, rfl⟩ : ∃ (r : Fin 1024) (l : Fin 2816), y = (ix2 r l : S1024x2816.Idx) := ⟨y 0, y 1, ValueIdx.eq_ix2 (n0 := 1024) (n1 := 2816) y⟩
  have hplace : (((cfg0.win 2).blk t).view.emb (ix2 r l : S1024x2816.Idx) : S8192x2816.Idx) = ix2 (slot 8192 1024 t.val r) l :=
    (place (A := 8192) (B := 2816) _ (index_2 t) (by have := lt_N t; omega) (by omega) r l _ fun a => by fin_cases a <;> rfl).trans
      (congrArg (fun x => ix2 (slot 8192 1024 t.val r) x) (slot_whole l))
  refine Eq.trans ?_ (congrArg (arr m c) hplace.symm)
  rw [arr_at, ← at_2 m c t r l]
  exact congrFun (after0_2 m c t) (ix2 r l)

theorem head_v0 {F : FTy → Type} [FloatOps F] (W : Valuation τ sig (Elt F)) :
    StableHlo.after hostOps0 W (Proc.devRef .tc main_v0) = truncf .bf16 (W (Proc.devRef .tc main_arg1)) bitsLt_bf16_f32 := by
  after_results_simp <;> rfl
theorem head_v1 {F : FTy → Type} [FloatOps F] (W : Valuation τ sig (Elt F)) :
    StableHlo.after hostOps0 W (Proc.devRef .tc main_v1) = truncf .bf16 (W (Proc.devRef .tc main_arg0)) bitsLt_bf16_f32 := by
  after_results_simp <;> rfl

theorem ref_apply (a : FVec Ideal S8192x1024 .f32) (b : FVec Ideal S2816x1024 .f32) (t : Fin 8192) (l : Fin 2816) :
    truncf .bf16 (Host.dotGeneral Cert.Reference5Ideal.dot_S8192x1024_S2816x1024_S8192x2816_1_1_0_0_n_n none a b) (by decide) (ix2 t l)
      = ∑ j : Fin 1024, a (ix2 t j) * b (ix2 l j) := by
  pointwise
  rfl

/-- Both programs end with the same gradient. -/
theorem algebraic : Cert.algebraic_Kernel5Ideal_Reference5Ideal := by
  intro m ρ m' ρ' _ hargs
  refine ⟨_, ?_, Cert.Reference5Ideal.Value.run (F := Ideal) m' ρ'⟩
  refine (θ_run defs _ _).mono (fun r h c => ?_) (Cert.Kernel5Ideal.Value.run_blocks (F := Ideal) m ρ)
  obtain ⟨e0, e1⟩ := hargs c
  refine ⟨(h c).1.trans ((arr2 m c).trans (funext fun i => ?_)), (h c).2⟩
  obtain ⟨t, l, rfl⟩ : ∃ (t : Fin 8192) (l : Fin 2816), i = (ix2 t l : S8192x2816.Idx) := ⟨i 0, i 1, ValueIdx.eq_ix2 (n0 := 8192) (n1 := 2816) i⟩
  rw [arr_at]
  refine Eq.trans ?_ (ref_apply _ _ t l).symm
  refine Finset.sum_congr rfl fun j _ => congrArg₂ (· * ·) ?_ ?_
  · exact (congrFun (head_v0 _) (ix2 t j)).trans (congrFun e1.symm (ix2 t j))
  · exact (congrFun (head_v1 _) (ix2 l j)).trans (congrFun e0.symm (ix2 l j))

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

end Cert.Mm.P5

end

end
-- ==== Proof.DownDw.lean ====
/-
  The gradient of the down projection's weights: what the grid leaves, and the two programs' results are equal.
-/
module

public import proofs.«01_k».proof.Proof.DownDx
public import proofs.«01_k».proof.Proof.Gen.Kernel4Ideal.Value
public import proofs.«01_k».proof.Proof.Gen.Reference4Ideal.Run

@[expose] public section

set_option maxRecDepth 16384

noncomputable section

namespace Cert.Mm.P4

open Cert.Kernel4Ideal Cert.Kernel4Ideal.Gen Idealize.ShloMosaic.ValueIdx Idealize.ShloMosaic.TcCoe Idealize.SL.Sem
open Idealize.ShloMosaic hiding ix1 ix2 ix3 ix4
open Cert.Mm.P5 (nil2)
open scoped BigOperators

/-! ### A point of the grid -/

section
variable {F : FTy → Type} [FloatOps F] (c : Dev nD) (i : grid0.Coords)
  (a3 : Memref sig .tc .vmem S2048x1408 .bf16) (h3 : a3.IsWhole)
  (a4 : Memref sig .tc .vmem S2048x1024 .bf16) (h4 : a4.IsWhole)
  (a5 : Memref sig .tc .vmem S1408x1024 .f32) (h5 : a5.IsWhole)
  (a6 : Memref sig .tc .vmem S1408x1024 .f32) (h6 : a6.IsWhole)
  (x0 : Vec F S2048x1408 .bf16) (x1 : Vec F S2048x1024 .bf16) (s : Vec F S1408x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1408x1024) nil2]
  simp only [View.readAt_eq_ld, h3.read_unread, h4.read_unread, View.ld_unit_zero (S := S2048x1408) nil2, View.ld_unit_zero (S := S2048x1024) nil2]

theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1408x1024) nil2]
  simp only [View.readAt_eq_ld, h3.read_unread, h4.read_unread, h6.read_unread, View.ld_unit_zero (S := S2048x1408) nil2, View.ld_unit_zero (S := S2048x1024) nil2,
    View.ld_unit_zero (S := S1408x1024) nil2]

theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero (S := S1408x1024) nil2]
  simp only [View.readAt_eq_ld, h3.read_unread, h4.read_unread, h6.read_unread, View.ld_unit_zero (S := S2048x1408) nil2, View.ld_unit_zero (S := S2048x1024) nil2,
    View.ld_unit_zero (S := S1408x1024) nil2]

theorem out_C (hc0 : ¬cond0_0 i) (hc1 : cond0_1 i) (hc2 : cond0_2 i) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1408x1024) nil2, View.readCov_unit_zero (S := S1408x1024) _ nil2]
  simp only [View.readAt_eq_ld, h3.read_unread, h4.read_unread, h6.read_unread, View.ld_unit_zero (S := S2048x1408) nil2, View.ld_unit_zero (S := S2048x1024) nil2,
    View.ld_unit_zero (S := S1408x1024) nil2]
  try rfl

end

section
variable {F : FTy → Type} [FloatOps F] (m : (ℓ : Loc nD τ sig) → Buf (Elt F) ℓ) (c : Dev nD) (t : Fin cfg0.N)

theorem first (h : t.val % 4 = 0) : (outsAt0 m c t.val t.isLt).2 = k0_pay2 (iblk m c 0 t) (iblk m c 1 t) := by
  rw [outsAt0_A m c t h (by omega) (by omega)]
  dsimp only
  rw [sout_A]

theorem later (h : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sout_C]
  · rw [outsAt0_B m c t h (by omega) h3]
    dsimp only
    rw [sout_B]

/-- What is written back is what is carried. -/
theorem written (h : t.val % 4 = 3) : (outsAt0 m c t.val t.isLt).1 = (outsAt0 m c t.val t.isLt).2 := by
  rw [outsAt0_C m c t (by omega) (by omega) h]
  dsimp only
  rw [sout_C, out_C]

end

/-! ### The products -/

theorem mm_tn (a : FVec Ideal S2048x1408 .bf16) (b : FVec Ideal S2048x1024 .bf16) (r : Fin 1408) (l : Fin 1024) :
    matmul dot_S2048x1408_S2048x1024_S1408x1024_0_0_1_1_n_n none a b (constant S1408x1024 .f32 0x00000000#32) (ix2 r l)
      = ∑ s : Fin 2048, a (ix2 s r) * b (ix2 s l) := by
  refine (Ideal.matmul_apply₁_of dot_S2048x1408_S2048x1024_S1408x1024_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem pay1_apply (a : FVec Ideal S2048x1408 .bf16) (b : FVec Ideal S2048x1024 .bf16) (r : Fin 1408) (l : Fin 1024) :
    k0_pay1 (F := Ideal) a b (ix2 r l) = ∑ s : Fin 2048, a (ix2 s r) * b (ix2 s l) := by
  refine Eq.trans ?_ (mm_tn a b r l)
  unfold k0_pay1
  rw [shapeCast_self, shapeCast_self]

theorem pay2_apply (a : FVec Ideal S2048x1408 .bf16) (b : FVec Ideal S2048x1024 .bf16) (r : Fin 1408) (l : Fin 1024) :
    k0_pay2 (F := Ideal) a b (ix2 r l) = ∑ s : Fin 2048, a (ix2 s r) * b (ix2 s l) := by
  refine Eq.trans ?_ (pay1_apply a b r l)
  unfold k0_pay2
  rw [shapeCast_self]

theorem pay3_apply (a : FVec Ideal S2048x1408 .bf16) (b : FVec Ideal S2048x1024 .bf16) (x : FVec Ideal S1408x1024 .f32) (r : Fin 1408) (l : Fin 1024) :
    k0_pay3 (F := Ideal) a b x (ix2 r l) = x (ix2 r l) + ∑ s : Fin 2048, a (ix2 s r) * b (ix2 s l) := by
  refine Eq.trans ?_ (congrArg (x (ix2 r l) + ·) (pay1_apply a b r l))
  unfold k0_pay3
  rw [shapeCast_self]
  rfl

variable (m : (ℓ : Loc nD τ sig) → Buf (Elt Ideal) ℓ) (c : Dev nD)

def left (t : Fin 8192) (f : Fin 2816) : EReal := (V m c main_v0 : S8192x2816.Idx → EReal) (ix2 t f)
def right (t : Fin 8192) (j : Fin 1024) : EReal := (V m c main_v1 : S8192x1024.Idx → EReal) (ix2 t j)

theorem index_0 : ∀ t : Fin cfg0.N, cc0_transform_0 (grid0.coords t) = ![t.val % 4, t.val / 4] := by decide +kernel
theorem index_1 : ∀ t : Fin cfg0.N, cc0_transform_1 (grid0.coords t) = ![t.val % 4, 0] := by decide +kernel
theorem index_2 : ∀ t : Fin cfg0.N, cc0_transform_2 (grid0.coords t) = ![t.val / 4, 0] := by decide +kernel

theorem lt_N (t : Fin cfg0.N) : t.val < 8 := t.isLt

theorem blk_0 (t : Fin cfg0.N) (s : Fin 2048) (r : Fin 1408) :
    (iblk m c 0 t : S2048x1408.Idx → EReal) (ix2 s r) = left m c (slot 8192 2048 (t.val % 4) s) (slot 2816 1408 (t.val / 4) r) :=
  congrArg (V m c main_v0 : S8192x2816.Idx → EReal) (place (A := 8192) (B := 2816) _ (index_0 t)
    (by have := lt_N t; omega) (by have := lt_N t; omega) s r _ fun a => by fin_cases a <;> rfl)

theorem blk_1 (t : Fin cfg0.N) (s : Fin 2048) (l : Fin 1024) :
    (iblk m c 1 t : S2048x1024.Idx → EReal) (ix2 s l) = right m c (slot 8192 2048 (t.val % 4) s) l := by
  refine (congrArg (V m c main_v1 : S8192x1024.Idx → EReal) (place (A := 8192) (B := 1024) _ (index_1 t)
    (by have := lt_N t; omega) (by omega) s l _ fun a => by fin_cases a <;> rfl)).trans ?_
  rw [slot_whole]
  rfl

/-- What a block of 2048 rows adds to an element. -/
def part (r : Fin 1408) (l : Fin 1024) (i k : ℕ) : EReal :=
  ∑ s : Fin 2048, left m c (slot 8192 2048 k s) (slot 2816 1408 i r) * right m c (slot 8192 2048 k s) l

theorem carried (r : Fin 1408) (l : Fin 1024) : ∀ (n : ℕ) (h : n < cfg0.N),
    (outsAt0 m c n h).2 (ix2 r l) = ∑ b ∈ Finset.range (n % 4 + 1), part m c r l (n / 4) b := by
  refine four_points (α := S1408x1024.Idx) cfg0.N (fun n h => (outsAt0 m c n h).2) (ix2 r l) (part m c r l) (fun n h hm => ?_) fun n h hm => ?_
  · refine (congrFun (first m c ⟨n, h⟩ hm) (ix2 r l)).trans ((pay2_apply _ _ r l).trans (Finset.sum_congr rfl fun s _ => ?_))
    refine congrArg₂ (· * ·) ((blk_0 m c ⟨n, h⟩ s r).trans ?_) ((blk_1 m c ⟨n, h⟩ s l).trans ?_)
    · show left m c (slot 8192 2048 (n % 4) s) _ = _
      rw [hm]
    · show right m c (slot 8192 2048 (n % 4) s) _ = _
      rw [hm]
  · refine (congrFun (later m c ⟨n + 1, h⟩ hm) (ix2 r l)).trans ((pay3_apply _ _ _ r l).trans ?_)
    exact congrArg₂ (· + ·) rfl (Finset.sum_congr rfl fun s _ => congrArg₂ (· * ·) (blk_0 m c ⟨n + 1, h⟩ s r) (blk_1 m c ⟨n + 1, h⟩ s l))

def prod (f : Fin 2816) (j : Fin 1024) : EReal := ∑ t : Fin 8192, left m c t f * right m c t j
def arr : S2816x1024.Idx → EReal := fun i => prod m c (i 0) (i 1)

theorem arr_at (f : Fin 2816) (j : Fin 1024) : arr m c (ix2 f j) = prod m c f j := rfl

theorem at_2 (t : Fin cfg0.N) (h : t.val % 4 = 3) (r : Fin 1408) (l : Fin 1024) :
    (outsAt0 m c t.val t.isLt).1 (ix2 r l) = prod m c (slot 2816 1408 (t.val / 4) r) l := by
  rw [written m c t h, carried m c r l t.val t.isLt, h]
  exact sum_four (fun t' => left m c t' (slot 2816 1408 (t.val / 4) r) * right m c t' l)

theorem arr2 : (dats m 0 c).arrAt 2 cfg0.N = arr m c := by
  refine (dats m 0 c).arrAt_eq_of_covers 2 _ (by decide +kernel) fun t hf y => ?_
  obtain ⟨r, l, rfl⟩ : ∃ (r : Fin 1408) (l : Fin 1024), y = (ix2 r l : S1408x1024.Idx) := ⟨y 0, y 1, ValueIdx.eq_ix2 (n0 := 1408) (n1 := 1024) y⟩
  have hplace : (((cfg0.win 2).blk t).view.emb (ix2 r l : S1408x1024.Idx) : S2816x1024.Idx) = ix2 (slot 2816 1408 (t.val / 4) r) l :=
    (place (A := 2816) (B := 1024) _ (index_2 t) (by have := lt_N t; omega) (by omega) r l _ fun a => by fin_cases a <;> rfl).trans
      (congrArg (fun x => ix2 (slot 2816 1408 (t.val / 4) r) x) (slot_whole l))
  refine Eq.trans ?_ (congrArg (arr m c) hplace.symm)
  rw [arr_at, ← at_2 m c t ((flush0_2 t).mp hf) r l]
  exact congrFun (after0_2 m c t) (ix2 r l)

/-! ### The host's lines, and the reference -/

theorem head_v0 {F : FTy → Type} [FloatOps F] (W : Valuation τ sig (Elt F)) :
    StableHlo.after hostOps0 W (Proc.devRef .tc main_v0) = truncf .bf16 (W (Proc.devRef .tc main_arg0)) bitsLt_bf16_f32 := by
  after_results_simp <;> rfl
theorem head_v1 {F : FTy → Type} [FloatOps F] (W : Valuation τ sig (Elt F)) :
    StableHlo.after hostOps0 W (Proc.devRef .tc main_v1) = truncf .bf16 (W (Proc.devRef .tc main_arg1)) bitsLt_bf16_f32 := by
  after_results_simp <;> rfl

theorem ref_apply (a : FVec Ideal S8192x2816 .f32) (b : FVec Ideal S8192x1024 .f32) (f : Fin 2816) (j : Fin 1024) :
    transpose Cert.Reference4Ideal.S2816x1024 [1, 0] (Host.dotGeneral Cert.Reference4Ideal.dot_S8192x1024_S8192x2816_S1024x2816_0_0_1_1_n_n none b a)
        Cert.Reference4Ideal.Gen.transposes_S1024x2816_S2816x1024_1_0 (ix2 f j)
      = ∑ t : Fin 8192, b (ix2 t j) * a (ix2 t f) := by
  pointwise
  rfl

/-- Both programs end with the same gradient. -/
theorem algebraic : Cert.algebraic_Kernel4Ideal_Reference4Ideal := by
  intro m ρ m' ρ' _ hargs
  refine ⟨_, ?_, Cert.Reference4Ideal.Value.run (F := Ideal) m' ρ'⟩
  refine (θ_run defs _ _).mono (fun r h c => ?_) (Cert.Kernel4Ideal.Value.run (F := Ideal) m ρ)
  obtain ⟨e0, e1⟩ := hargs c
  refine ⟨(h c).1.trans ((Cert.Kernel4Ideal.Value.final2 m c).symm.trans ((arr2 m c).trans (funext fun i => ?_))), (h c).2⟩
  obtain ⟨f, j, rfl⟩ : ∃ (f : Fin 2816) (j : Fin 1024), i = (ix2 f j : S2816x1024.Idx) := ⟨i 0, i 1, ValueIdx.eq_ix2 (n0 := 2816) (n1 := 1024) i⟩
  rw [arr_at]
  refine Eq.trans ?_ (ref_apply _ _ f j).symm
  refine Finset.sum_congr rfl fun t _ => (mul_comm _ _).trans (congrArg₂ (· * ·) ?_ ?_)
  · exact (congrFun (head_v1 _) (ix2 t j)).trans (congrFun e1.symm (ix2 t j))
  · exact (congrFun (head_v0 _) (ix2 t f)).trans (congrFun e0.symm (ix2 t f))

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)

end Cert.Mm.P4

end

end
-- ==== Proof.UpDw.lean ====
/-
  The gradient of one half of the up projection's weights: what the grid leaves, and the two programs' results are equal.
-/
module

public import proofs.«01_k».proof.Proof.DownDw
public import proofs.«01_k».proof.Proof.Gen.Kernel3Ideal.Value
public import proofs.«01_k».proof.Proof.Gen.Reference3Ideal.Run

@[expose] public section

set_option maxRecDepth 16384

noncomputable section

namespace Cert.Mm.P3

open Cert.Kernel3Ideal Cert.Kernel3Ideal.Gen Idealize.ShloMosaic.ValueIdx Idealize.ShloMosaic.TcCoe Idealize.SL.Sem
open Idealize.ShloMosaic hiding ix1 ix2 ix3 ix4
open Cert.Mm.P5 (nil2)
open scoped BigOperators

/-! ### A point of the grid -/

section
variable {F : FTy → Type} [FloatOps F] (c : Dev nD) (i : grid0.Coords)
  (a3 : Memref sig .tc .vmem S2048x1024 .bf16) (h3 : a3.IsWhole)
  (a4 : Memref sig .tc .vmem S2048x1408 .bf16) (h4 : a4.IsWhole)
  (a5 : Memref sig .tc .vmem S1024x1408 .f32) (h5 : a5.IsWhole)
  (a6 : Memref sig .tc .vmem S1024x1408 .f32) (h6 : a6.IsWhole)
  (x0 : Vec F S2048x1024 .bf16) (x1 : Vec F S2048x1408 .bf16) (s : Vec F S1024x1408 .f32)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1408) nil2]
  simp only [View.readAt_eq_ld, h3.read_unread, h4.read_unread, View.ld_unit_zero (S := S2048x1024) nil2, View.ld_unit_zero (S := S2048x1408) nil2]

theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1024x1408) nil2]
  simp only [View.readAt_eq_ld, h3.read_unread, h4.read_unread, h6.read_unread, View.ld_unit_zero (S := S2048x1024) nil2, View.ld_unit_zero (S := S2048x1408) nil2,
    View.ld_unit_zero (S := S1024x1408) nil2]

theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero (S := S1024x1408) nil2]
  simp only [View.readAt_eq_ld, h3.read_unread, h4.read_unread, h6.read_unread, View.ld_unit_zero (S := S2048x1024) nil2, View.ld_unit_zero (S := S2048x1408) nil2,
    View.ld_unit_zero (S := S1024x1408) nil2]

theorem out_C (hc0 : ¬cond0_0 i) (hc1 : cond0_1 i) (hc2 : cond0_2 i) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1024x1408) nil2, View.readCov_unit_zero (S := S1024x1408) _ nil2]
  simp only [View.readAt_eq_ld, h3.read_unread, h4.read_unread, h6.read_unread, View.ld_unit_zero (S := S2048x1024) nil2, View.ld_unit_zero (S := S2048x1408) nil2,
    View.ld_unit_zero (S := S1024x1408) nil2]
  try rfl

end

section
variable {F : FTy → Type} [FloatOps F] (m : (ℓ : Loc nD τ sig) → Buf (Elt F) ℓ) (c : Dev nD) (t : Fin cfg0.N)

theorem first (h : t.val % 4 = 0) : (outsAt0 m c t.val t.isLt).2 = k0_pay2 (iblk m c 0 t) (iblk m c 1 t) := by
  rw [outsAt0_A m c t h (by omega) (by omega)]
  dsimp only
  rw [sout_A]

theorem later (h : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sout_C]
  · rw [outsAt0_B m c t h (by omega) h3]
    dsimp only
    rw [sout_B]

/-- What is written back is what is carried. -/
theorem written (h : t.val % 4 = 3) : (outsAt0 m c t.val t.isLt).1 = (outsAt0 m c t.val t.isLt).2 := by
  rw [outsAt0_C m c t (by omega) (by omega) h]
  dsimp only
  rw [sout_C, out_C]

end

/-! ### The products -/

theorem mm_tn (a : FVec Ideal S2048x1024 .bf16) (b : FVec Ideal S2048x1408 .bf16) (r : Fin 1024) (l : Fin 1408) :
    matmul dot_S2048x1024_S2048x1408_S1024x1408_0_0_1_1_n_n none a b (constant S1024x1408 .f32 0x00000000#32) (ix2 r l)
      = ∑ s : Fin 2048, a (ix2 s r) * b (ix2 s l) := by
  refine (Ideal.matmul_apply₁_of dot_S2048x1024_S2048x1408_S1024x1408_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem pay1_apply (a : FVec Ideal S2048x1024 .bf16) (b : FVec Ideal S2048x1408 .bf16) (r : Fin 1024) (l : Fin 1408) :
    k0_pay1 (F := Ideal) a b (ix2 r l) = ∑ s : Fin 2048, a (ix2 s r) * b (ix2 s l) := by
  refine Eq.trans ?_ (mm_tn a b r l)
  unfold k0_pay1
  rw [shapeCast_self, shapeCast_self]

theorem pay2_apply (a : FVec Ideal S2048x1024 .bf16) (b : FVec Ideal S2048x1408 .bf16) (r : Fin 1024) (l : Fin 1408) :
    k0_pay2 (F := Ideal) a b (ix2 r l) = ∑ s : Fin 2048, a (ix2 s r) * b (ix2 s l) := by
  refine Eq.trans ?_ (pay1_apply a b r l)
  unfold k0_pay2
  rw [shapeCast_self]

theorem pay3_apply (a : FVec Ideal S2048x1024 .bf16) (b : FVec Ideal S2048x1408 .bf16) (x : FVec Ideal S1024x1408 .f32) (r : Fin 1024) (l : Fin 1408) :
    k0_pay3 (F := Ideal) a b x (ix2 r l) = x (ix2 r l) + ∑ s : Fin 2048, a (ix2 s r) * b (ix2 s l) := by
  refine Eq.trans ?_ (congrArg (x (ix2 r l) + ·) (pay1_apply a b r l))
  unfold k0_pay3
  rw [shapeCast_self]
  rfl

variable (m : (ℓ : Loc nD τ sig) → Buf (Elt Ideal) ℓ) (c : Dev nD)

def left (t : Fin 8192) (j : Fin 1024) : EReal := (V m c main_v18 : S8192x1024.Idx → EReal) (ix2 t j)
def right (t : Fin 8192) (f : Fin 2816) : EReal := (V m c main_v19 : S8192x2816.Idx → EReal) (ix2 t f)

theorem index_0 : ∀ t : Fin cfg0.N, cc0_transform_0 (grid0.coords t) = ![t.val % 4, 0] := by decide +kernel
theorem index_1 : ∀ t : Fin cfg0.N, cc0_transform_1 (grid0.coords t) = ![t.val % 4, t.val / 4] := by decide +kernel
theorem index_2 : ∀ t : Fin cfg0.N, cc0_transform_2 (grid0.coords t) = ![0, t.val / 4] := by decide +kernel

theorem lt_N (t : Fin cfg0.N) : t.val < 8 := t.isLt

theorem blk_0 (t : Fin cfg0.N) (s : Fin 2048) (r : Fin 1024) :
    (iblk m c 0 t : S2048x1024.Idx → EReal) (ix2 s r) = left m c (slot 8192 2048 (t.val % 4) s) r := by
  refine (congrArg (V m c main_v18 : S8192x1024.Idx → EReal) (place (A := 8192) (B := 1024) _ (index_0 t)
    (by have := lt_N t; omega) (by omega) s r _ fun a => by fin_cases a <;> rfl)).trans ?_
  rw [slot_whole]
  rfl

theorem blk_1 (t : Fin cfg0.N) (s : Fin 2048) (l : Fin 1408) :
    (iblk m c 1 t : S2048x1408.Idx → EReal) (ix2 s l) = right m c (slot 8192 2048 (t.val % 4) s) (slot 2816 1408 (t.val / 4) l) :=
  congrArg (V m c main_v19 : S8192x2816.Idx → EReal) (place (A := 8192) (B := 2816) _ (index_1 t)
    (by have := lt_N t; omega) (by have := lt_N t; omega) s l _ fun a => by fin_cases a <;> rfl)

/-- What a block of 2048 rows adds to an element. -/
def part (r : Fin 1024) (l : Fin 1408) (i k : ℕ) : EReal :=
  ∑ s : Fin 2048, left m c (slot 8192 2048 k s) r * right m c (slot 8192 2048 k s) (slot 2816 1408 i l)

theorem carried (r : Fin 1024) (l : Fin 1408) : ∀ (n : ℕ) (h : n < cfg0.N),
    (outsAt0 m c n h).2 (ix2 r l) = ∑ b ∈ Finset.range (n % 4 + 1), part m c r l (n / 4) b := by
  refine four_points (α := S1024x1408.Idx) cfg0.N (fun n h => (outsAt0 m c n h).2) (ix2 r l) (part m c r l) (fun n h hm => ?_) fun n h hm => ?_
  · refine (congrFun (first m c ⟨n, h⟩ hm) (ix2 r l)).trans ((pay2_apply _ _ r l).trans (Finset.sum_congr rfl fun s _ => ?_))
    refine congrArg₂ (· * ·) ((blk_0 m c ⟨n, h⟩ s r).trans ?_) ((blk_1 m c ⟨n, h⟩ s l).trans ?_)
    · show left m c (slot 8192 2048 (n % 4) s) _ = _
      rw [hm]
    · show right m c (slot 8192 2048 (n % 4) s) _ = _
      rw [hm]
  · refine (congrFun (later m c ⟨n + 1, h⟩ hm) (ix2 r l)).trans ((pay3_apply _ _ _ r l).trans ?_)
    exact congrArg₂ (· + ·) rfl (Finset.sum_congr rfl fun s _ => congrArg₂ (· * ·) (blk_0 m c ⟨n + 1, h⟩ s r) (blk_1 m c ⟨n + 1, h⟩ s l))

def prod (j : Fin 1024) (f : Fin 2816) : EReal := ∑ t : Fin 8192, left m c t j * right m c t f
def arr : S1024x2816.Idx → EReal := fun i => prod m c (i 0) (i 1)

theorem arr_at (j : Fin 1024) (f : Fin 2816) : arr m c (ix2 j f) = prod m c j f := rfl

theorem at_2 (t : Fin cfg0.N) (h : t.val % 4 = 3) (r : Fin 1024) (l : Fin 1408) :
    (outsAt0 m c t.val t.isLt).1 (ix2 r l) = prod m c r (slot 2816 1408 (t.val / 4) l) := by
  rw [written m c t h, carried m c r l t.val t.isLt, h]
  exact sum_four (fun t' => left m c t' r * right m c t' (slot 2816 1408 (t.val / 4) l))

theorem arr2 : (dats m 0 c).arrAt 2 cfg0.N = arr m c := by
  refine (dats m 0 c).arrAt_eq_of_covers 2 _ (by decide +kernel) fun t hf y => ?_
  obtain ⟨r, l, rfl⟩ : ∃ (r : Fin 1024) (l : Fin 1408), y = (ix2 r l : S1024x1408.Idx) := ⟨y 0, y 1, ValueIdx.eq_ix2 (n0 := 1024) (n1 := 1408) y⟩
  have hplace : (((cfg0.win 2).blk t).view.emb (ix2 r l : S1024x1408.Idx) : S1024x2816.Idx) = ix2 r (slot 2816 1408 (t.val / 4) l) :=
    (place (A := 1024) (B := 2816) _ (index_2 t) (by omega) (by have := lt_N t; omega) r l _ fun a => by fin_cases a <;> rfl).trans
      (congrArg (fun x => ix2 x (slot 2816 1408 (t.val / 4) l)) (slot_whole r))
  refine Eq.trans ?_ (congrArg (arr m c) hplace.symm)
  rw [arr_at, ← at_2 m c t ((flush0_2 t).mp hf) r l]
  exact congrFun (after0_2 m c t) (ix2 r l)

/-! ### The host's lines, and the reference -/

/-- The modulated norm, as the host's lines have it. -/
def hidden {F : FTy → Type} [FloatOps F] (x : FVec F S8192x1024 .f32) (g s b : FVec F S1x1024 .f32) : FVec F S8192x1024 .f32 :=
  addf (mulf (mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 g))
    (broadcastInDim S8192x1024 ![0, 1] bcast_S1x1024_S8192x1024_0_1 (addf (broadcastInDim S1x1024 ![] bcast_S_S1x1024 (constant S_ .f32 0x3F800000#32)) s)))
    (broadcastInDim S8192x1024 ![0, 1] bcast_S1x1024_S8192x1024_0_1 b)

theorem head_v18 {F : FTy → Type} [FloatOps F] (W : Valuation τ sig (Elt F)) : StableHlo.after hostOps0 W (Proc.devRef .tc main_v18)
    = truncf .bf16 (hidden (W (Proc.devRef .tc main_arg0)) (W (Proc.devRef .tc main_arg1)) (W (Proc.devRef .tc main_arg2)) (W (Proc.devRef .tc main_arg3))) bitsLt_bf16_f32 := by
  after_results_simp <;> rfl
theorem head_v19 {F : FTy → Type} [FloatOps F] (W : Valuation τ sig (Elt F)) :
    StableHlo.after hostOps0 W (Proc.devRef .tc main_v19) = truncf .bf16 (W (Proc.devRef .tc main_arg4)) bitsLt_bf16_f32 := by
  after_results_simp <;> rfl

theorem ref_apply (a : FVec Ideal S8192x1024 .f32) (b : FVec Ideal S8192x2816 .f32) (j : Fin 1024) (f : Fin 2816) :
    transpose Cert.Reference3Ideal.S1024x2816 [1, 0] (Host.dotGeneral Cert.Reference3Ideal.dot_S8192x2816_S8192x1024_S2816x1024_0_0_1_1_n_n none b a)
        Cert.Reference3Ideal.Gen.transposes_S2816x1024_S1024x2816_1_0 (ix2 j f)
      = ∑ t : Fin 8192, b (ix2 t f) * a (ix2 t j) := by
  pointwise
  rfl

/-- Both programs end with the same gradient. -/
theorem algebraic : Cert.algebraic_Kernel3Ideal_Reference3Ideal := by
  intro m ρ m' ρ' _ hargs
  refine ⟨_, ?_, Cert.Reference3Ideal.Value.run (F := Ideal) m' ρ'⟩
  refine (θ_run defs _ _).mono (fun r h c => ?_) (Cert.Kernel3Ideal.Value.run (F := Ideal) m ρ)
  obtain ⟨e0, e1, e2, e3, e4⟩ := hargs c
  refine ⟨(h c).1.trans ((Cert.Kernel3Ideal.Value.final2 m c).symm.trans ((arr2 m c).trans (funext fun i => ?_))), (h c).2⟩
  obtain ⟨j, f, rfl⟩ : ∃ (j : Fin 1024) (f : Fin 2816), i = (ix2 j f : S1024x2816.Idx) := ⟨i 0, i 1, ValueIdx.eq_ix2 (n0 := 1024) (n1 := 2816) i⟩
  rw [arr_at]
  refine Eq.trans ?_ (ref_apply _ _ j f).symm
  refine Finset.sum_congr rfl fun t _ => (mul_comm _ _).trans (congrArg₂ (· * ·) ?_ ?_)
  · exact (congrFun (head_v19 _) (ix2 t f)).trans (congrFun e4.symm (ix2 t f))
  · refine (congrFun (head_v18 _) (ix2 t j)).trans ?_
    rw [e0, e1, e2, e3]
    rfl

theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)

end Cert.Mm.P3

end

end
-- ==== Proof.OutDw.lean ====
/-
  The gradient of the output projection's weights: what the grid leaves, and the two programs' results are equal.
-/
module

public import proofs.«01_k».proof.Proof.UpDw
public import proofs.«01_k».proof.Proof.Gen.Kernel8Ideal.Value
public import proofs.«01_k».proof.Proof.Gen.Reference8Ideal.Run

@[expose] public section

set_option maxRecDepth 16384

noncomputable section

namespace Cert.Mm.P8

open Cert.Kernel8Ideal Cert.Kernel8Ideal.Gen Idealize.ShloMosaic.ValueIdx Idealize.ShloMosaic.TcCoe Idealize.SL.Sem
open Idealize.ShloMosaic hiding ix1 ix2 ix3 ix4
open Cert.Mm.P5 (nil2)
open scoped BigOperators

/-! ### A point of the grid -/

section
variable {F : FTy → Type} [FloatOps F] (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .f32) (h5 : a5.IsWhole)
  (a6 : Memref sig .tc .vmem S1024x1024 .f32) (h6 : a6.IsWhole)
  (x0 : Vec F S2048x1024 .bf16) (x1 : Vec F S2048x1024 .bf16) (s : Vec F S1024x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) nil2]
  simp only [View.readAt_eq_ld, h3.read_unread, h4.read_unread, View.ld_unit_zero (S := S2048x1024) nil2]

theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S1024x1024) nil2]
  simp only [View.readAt_eq_ld, h3.read_unread, h4.read_unread, h6.read_unread, View.ld_unit_zero (S := S2048x1024) nil2,
    View.ld_unit_zero (S := S1024x1024) nil2]

theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero (S := S1024x1024) nil2]
  simp only [View.readAt_eq_ld, h3.read_unread, h4.read_unread, h6.read_unread, View.ld_unit_zero (S := S2048x1024) nil2,
    View.ld_unit_zero (S := S1024x1024) nil2]

theorem out_C (hc0 : ¬cond0_0 i) (hc1 : cond0_1 i) (hc2 : cond0_2 i) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S1024x1024) nil2, View.readCov_unit_zero (S := S1024x1024) _ nil2]
  simp only [View.readAt_eq_ld, h3.read_unread, h4.read_unread, h6.read_unread, View.ld_unit_zero (S := S2048x1024) nil2,
    View.ld_unit_zero (S := S1024x1024) nil2]
  try rfl

end

section
variable {F : FTy → Type} [FloatOps F] (m : (ℓ : Loc nD τ sig) → Buf (Elt F) ℓ) (c : Dev nD) (t : Fin cfg0.N)

theorem lt_N : t.val < 4 := t.isLt

theorem first (h : t.val % 4 = 0) : (outsAt0 m c t.val t.isLt).2 = k0_pay2 (iblk m c 0 t) (iblk m c 1 t) := by
  have := lt_N t
  rw [outsAt0_A m c t h (by omega) (by omega)]
  dsimp only
  rw [sout_A]

theorem later (h : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sout_C]
  · rw [outsAt0_B m c t h (by omega) h3]
    dsimp only
    rw [sout_B]

/-- What is written back is what is carried. -/
theorem written (h : t.val % 4 = 3) : (outsAt0 m c t.val t.isLt).1 = (outsAt0 m c t.val t.isLt).2 := by
  rw [outsAt0_C m c t (by omega) (by omega) h]
  dsimp only
  rw [sout_C, out_C]

end

/-! ### The products -/

theorem mm_tn (a : FVec Ideal S2048x1024 .bf16) (b : FVec Ideal S2048x1024 .bf16) (r : Fin 1024) (l : Fin 1024) :
    matmul dot_S2048x1024_S2048x1024_S1024x1024_0_0_1_1_n_n none a b (constant S1024x1024 .f32 0x00000000#32) (ix2 r l)
      = ∑ s : Fin 2048, a (ix2 s r) * b (ix2 s l) := by
  refine (Ideal.matmul_apply₁_of dot_S2048x1024_S2048x1024_S1024x1024_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem pay1_apply (a : FVec Ideal S2048x1024 .bf16) (b : FVec Ideal S2048x1024 .bf16) (r : Fin 1024) (l : Fin 1024) :
    k0_pay1 (F := Ideal) a b (ix2 r l) = ∑ s : Fin 2048, a (ix2 s r) * b (ix2 s l) := by
  refine Eq.trans ?_ (mm_tn a b r l)
  unfold k0_pay1
  rw [shapeCast_self, shapeCast_self]

theorem pay2_apply (a : FVec Ideal S2048x1024 .bf16) (b : FVec Ideal S2048x1024 .bf16) (r : Fin 1024) (l : Fin 1024) :
    k0_pay2 (F := Ideal) a b (ix2 r l) = ∑ s : Fin 2048, a (ix2 s r) * b (ix2 s l) := by
  refine Eq.trans ?_ (pay1_apply a b r l)
  unfold k0_pay2
  rw [shapeCast_self]

theorem pay3_apply (a : FVec Ideal S2048x1024 .bf16) (b : FVec Ideal S2048x1024 .bf16) (x : FVec Ideal S1024x1024 .f32) (r : Fin 1024) (l : Fin 1024) :
    k0_pay3 (F := Ideal) a b x (ix2 r l) = x (ix2 r l) + ∑ s : Fin 2048, a (ix2 s r) * b (ix2 s l) := by
  refine Eq.trans ?_ (congrArg (x (ix2 r l) + ·) (pay1_apply a b r l))
  unfold k0_pay3
  rw [shapeCast_self]
  rfl

variable (m : (ℓ : Loc nD τ sig) → Buf (Elt Ideal) ℓ) (c : Dev nD)

def left (t : Fin 8192) (f : Fin 1024) : EReal := (V m c main_v0 : S8192x1024.Idx → EReal) (ix2 t f)
def right (t : Fin 8192) (j : Fin 1024) : EReal := (V m c main_v1 : S8192x1024.Idx → EReal) (ix2 t j)

theorem index_0 : ∀ t : Fin cfg0.N, cc0_transform_0 (grid0.coords t) = ![t.val % 4, t.val / 4] := by decide +kernel
theorem index_1 : ∀ t : Fin cfg0.N, cc0_transform_1 (grid0.coords t) = ![t.val % 4, 0] := by decide +kernel
theorem index_2 : ∀ t : Fin cfg0.N, cc0_transform_2 (grid0.coords t) = ![t.val / 4, 0] := by decide +kernel

theorem blk_0 (t : Fin cfg0.N) (s : Fin 2048) (r : Fin 1024) :
    (iblk m c 0 t : S2048x1024.Idx → EReal) (ix2 s r) = left m c (slot 8192 2048 (t.val % 4) s) (slot 1024 1024 (t.val / 4) r) :=
  congrArg (V m c main_v0 : S8192x1024.Idx → EReal) (place (A := 8192) (B := 1024) _ (index_0 t)
    (by have := lt_N t; omega) (by have := lt_N t; omega) s r _ fun a => by fin_cases a <;> rfl)

theorem blk_1 (t : Fin cfg0.N) (s : Fin 2048) (l : Fin 1024) :
    (iblk m c 1 t : S2048x1024.Idx → EReal) (ix2 s l) = right m c (slot 8192 2048 (t.val % 4) s) l := by
  refine (congrArg (V m c main_v1 : S8192x1024.Idx → EReal) (place (A := 8192) (B := 1024) _ (index_1 t)
    (by have := lt_N t; omega) (by omega) s l _ fun a => by fin_cases a <;> rfl)).trans ?_
  rw [slot_whole]
  rfl

/-- What a block of 2048 rows adds to an element. -/
def part (r : Fin 1024) (l : Fin 1024) (i k : ℕ) : EReal :=
  ∑ s : Fin 2048, left m c (slot 8192 2048 k s) (slot 1024 1024 i r) * right m c (slot 8192 2048 k s) l

theorem carried (r : Fin 1024) (l : Fin 1024) : ∀ (n : ℕ) (h : n < cfg0.N),
    (outsAt0 m c n h).2 (ix2 r l) = ∑ b ∈ Finset.range (n % 4 + 1), part m c r l (n / 4) b := by
  refine four_points (α := S1024x1024.Idx) cfg0.N (fun n h => (outsAt0 m c n h).2) (ix2 r l) (part m c r l) (fun n h hm => ?_) fun n h hm => ?_
  · refine (congrFun (first m c ⟨n, h⟩ hm) (ix2 r l)).trans ((pay2_apply _ _ r l).trans (Finset.sum_congr rfl fun s _ => ?_))
    refine congrArg₂ (· * ·) ((blk_0 m c ⟨n, h⟩ s r).trans ?_) ((blk_1 m c ⟨n, h⟩ s l).trans ?_)
    · show left m c (slot 8192 2048 (n % 4) s) _ = _
      rw [hm]
    · show right m c (slot 8192 2048 (n % 4) s) _ = _
      rw [hm]
  · refine (congrFun (later m c ⟨n + 1, h⟩ hm) (ix2 r l)).trans ((pay3_apply _ _ _ r l).trans ?_)
    exact congrArg₂ (· + ·) rfl (Finset.sum_congr rfl fun s _ => congrArg₂ (· * ·) (blk_0 m c ⟨n + 1, h⟩ s r) (blk_1 m c ⟨n + 1, h⟩ s l))

def prod (f : Fin 1024) (j : Fin 1024) : EReal := ∑ t : Fin 8192, left m c t f * right m c t j
def arr : S1024x1024.Idx → EReal := fun i => prod m c (i 0) (i 1)

theorem arr_at (f : Fin 1024) (j : Fin 1024) : arr m c (ix2 f j) = prod m c f j := rfl

theorem at_2 (t : Fin cfg0.N) (h : t.val % 4 = 3) (r : Fin 1024) (l : Fin 1024) :
    (outsAt0 m c t.val t.isLt).1 (ix2 r l) = prod m c (slot 1024 1024 (t.val / 4) r) l := by
  rw [written m c t h, carried m c r l t.val t.isLt, h]
  exact sum_four (fun t' => left m c t' (slot 1024 1024 (t.val / 4) r) * right m c t' l)

theorem arr2 : (dats m 0 c).arrAt 2 cfg0.N = arr m c := by
  refine (dats m 0 c).arrAt_eq_of_covers 2 _ (by decide +kernel) fun t hf y => ?_
  obtain ⟨r, l, rfl⟩ : ∃ (r : Fin 1024) (l : Fin 1024), y = (ix2 r l : S1024x1024.Idx) := ⟨y 0, y 1, ValueIdx.eq_ix2 (n0 := 1024) (n1 := 1024) y⟩
  have hplace : (((cfg0.win 2).blk t).view.emb (ix2 r l : S1024x1024.Idx) : S1024x1024.Idx) = ix2 (slot 1024 1024 (t.val / 4) r) l :=
    (place (A := 1024) (B := 1024) _ (index_2 t) (by have := lt_N t; omega) (by omega) r l _ fun a => by fin_cases a <;> rfl).trans
      (congrArg (fun x => ix2 (slot 1024 1024 (t.val / 4) r) x) (slot_whole l))
  refine Eq.trans ?_ (congrArg (arr m c) hplace.symm)
  rw [arr_at, ← at_2 m c t ((flush0_2 t).mp hf) r l]
  exact congrFun (after0_2 m c t) (ix2 r l)

/-! ### The host's lines, and the reference -/

theorem head_v0 {F : FTy → Type} [FloatOps F] (W : Valuation τ sig (Elt F)) :
    StableHlo.after hostOps0 W (Proc.devRef .tc main_v0) = truncf .bf16 (W (Proc.devRef .tc main_arg0)) bitsLt_bf16_f32 := by
  after_results_simp <;> rfl
theorem head_v1 {F : FTy → Type} [FloatOps F] (W : Valuation τ sig (Elt F)) :
    StableHlo.after hostOps0 W (Proc.devRef .tc main_v1) = truncf .bf16 (W (Proc.devRef .tc main_arg1)) bitsLt_bf16_f32 := by
  after_results_simp <;> rfl

theorem ref_apply (a : FVec Ideal S8192x1024 .f32) (b : FVec Ideal S8192x1024 .f32) (f : Fin 1024) (j : Fin 1024) :
    transpose Cert.Reference8Ideal.S1024x1024 [1, 0] (Host.dotGeneral Cert.Reference8Ideal.dot_S8192x1024_S8192x1024_S1024x1024_0_0_1_1_n_n none b a)
        Cert.Reference8Ideal.Gen.transposes_S1024x1024_S1024x1024_1_0 (ix2 f j)
      = ∑ t : Fin 8192, b (ix2 t j) * a (ix2 t f) := by
  pointwise
  rfl

/-- Both programs end with the same gradient. -/
theorem algebraic : Cert.algebraic_Kernel8Ideal_Reference8Ideal := by
  intro m ρ m' ρ' _ hargs
  refine ⟨_, ?_, Cert.Reference8Ideal.Value.run (F := Ideal) m' ρ'⟩
  refine (θ_run defs _ _).mono (fun r h c => ?_) (Cert.Kernel8Ideal.Value.run_blocks (F := Ideal) m ρ)
  obtain ⟨e0, e1⟩ := hargs c
  refine ⟨(h c).1.trans ((arr2 m c).trans (funext fun i => ?_)), (h c).2⟩
  obtain ⟨f, j, rfl⟩ : ∃ (f : Fin 1024) (j : Fin 1024), i = (ix2 f j : S1024x1024.Idx) := ⟨i 0, i 1, ValueIdx.eq_ix2 (n0 := 1024) (n1 := 1024) i⟩
  rw [arr_at]
  refine Eq.trans ?_ (ref_apply _ _ f j).symm
  refine Finset.sum_congr rfl fun t _ => (mul_comm _ _).trans (congrArg₂ (· * ·) ?_ ?_)
  · exact (congrFun (head_v1 _) (ix2 t j)).trans (congrFun e1.symm (ix2 t j))
  · exact (congrFun (head_v0 _) (ix2 t f)).trans (congrFun e0.symm (ix2 t f))

theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run (F := Ideal) m ρ)

end Cert.Mm.P8

end

end
-- ==== Proof.UpFwd.lean ====
/-
  The up projection of the forward pass: what the grid leaves, and the two programs' results are equal.
-/
module

public import proofs.«01_k».proof.Proof.OutDw
public import proofs.«01_k».proof.Proof.Gen.Kernel9Ideal.Value
public import proofs.«01_k».proof.Proof.Gen.Reference9Ideal.Run

@[expose] public section

set_option maxRecDepth 16384

noncomputable section

namespace Cert.Mm.P9

open Cert.Kernel9Ideal Cert.Kernel9Ideal.Gen Idealize.ShloMosaic.ValueIdx Idealize.ShloMosaic.TcCoe Idealize.SL.Sem
open Idealize.ShloMosaic hiding ix1 ix2 ix3 ix4
open Cert.Mm.P5 (nil2)
open Cert.Mm.P3 (hidden)
open scoped BigOperators

theorem mm_nn (a : FVec Ideal S1024x1024 .bf16) (b : FVec Ideal S1024x2816 .bf16) (r : Fin 1024) (l : Fin 2816) :
    matmul dot_S1024x1024_S1024x2816_S1024x2816_1_0_0_1_n_n none a b (constant S1024x2816 .f32 0x00000000#32) (ix2 r l)
      = ∑ j : Fin 1024, a (ix2 r j) * b (ix2 j l) := by
  refine (Ideal.matmul_apply₁_of dot_S1024x1024_S1024x2816_S1024x2816_1_0_0_1_n_n (a := 1) rfl (K := 1024) rfl a b _ _
    (fun j => ix2 r j) (fun j => ix2 j l) (fun j => ?_) (fun j => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem pay_apply (a : FVec Ideal S1024x1024 .bf16) (b : FVec Ideal S1024x2816 .bf16) (r : Fin 1024) (l : Fin 2816) :
    k0_pay1 (F := Ideal) a b (ix2 r l) = ∑ j : Fin 1024, a (ix2 r j) * b (ix2 j l) := by
  refine Eq.trans ?_ (mm_nn a b r l)
  unfold k0_pay1
  rw [shapeCast_self, shapeCast_self]

theorem out_eq {F : FTy → Type} [FloatOps F] (a : Vec F S1024x1024 .bf16) (b : Vec F S1024x2816 .bf16) : out0_2 a b = k0_pay1 a b := by
  unfold out0_2
  rw [View.canon_unit_zero (S := S1024x2816) nil2, View.ld_unit_zero (S := S1024x1024) nil2, View.ld_unit_zero (S := S1024x2816) nil2]

variable (m : (ℓ : Loc nD τ sig) → Buf (Elt Ideal) ℓ) (c : Dev nD)

def left (t : Fin 8192) (j : Fin 1024) : EReal := (V m c main_v18 : S8192x1024.Idx → EReal) (ix2 t j)
def right (j : Fin 1024) (f : Fin 5632) : EReal := (V m c main_v19 : S1024x5632.Idx → EReal) (ix2 j f)

theorem index_0 : ∀ t : Fin cfg0.N, cc0_transform_0 (grid0.coords t) = ![t.val % 8, 0] := by decide +kernel
theorem index_1 : ∀ t : Fin cfg0.N, cc0_transform_1 (grid0.coords t) = ![0, t.val / 8] := by decide +kernel
theorem index_2 : ∀ t : Fin cfg0.N, cc0_transform_2 (grid0.coords t) = ![t.val % 8, t.val / 8] := by decide +kernel

theorem lt_N (t : Fin cfg0.N) : t.val < 16 := t.isLt

theorem blk_0 (t : Fin cfg0.N) (r : Fin 1024) (j : Fin 1024) :
    (iblk m c 0 t : S1024x1024.Idx → EReal) (ix2 r j) = left m c (slot 8192 1024 (t.val % 8) r) j := by
  refine (congrArg (V m c main_v18 : S8192x1024.Idx → EReal) (place (A := 8192) (B := 1024) _ (index_0 t)
    (by have := lt_N t; omega) (by omega) r j _ fun a => by fin_cases a <;> rfl)).trans ?_
  rw [slot_whole]
  rfl

theorem blk_1 (t : Fin cfg0.N) (j : Fin 1024) (l : Fin 2816) :
    (iblk m c 1 t : S1024x2816.Idx → EReal) (ix2 j l) = right m c j (slot 5632 2816 (t.val / 8) l) := by
  refine (congrArg (V m c main_v19 : S1024x5632.Idx → EReal) (place (A := 1024) (B := 5632) _ (index_1 t)
    (by omega) (by have := lt_N t; omega) j l _ fun a => by fin_cases a <;> rfl)).trans ?_
  rw [slot_whole]
  rfl

def prod (t : Fin 8192) (f : Fin 5632) : EReal := ∑ j : Fin 1024, left m c t j * right m c j f
def arr : S8192x5632.Idx → EReal := fun i => prod m c (i 0) (i 1)

theorem arr_at (t : Fin 8192) (f : Fin 5632) : arr m c (ix2 t f) = prod m c t f := rfl

theorem at_2 (t : Fin cfg0.N) (r : Fin 1024) (l : Fin 2816) :
    out0_2 (F := Ideal) (iblk m c 0 t) (iblk m c 1 t) (ix2 r l) = prod m c (slot 8192 1024 (t.val % 8) r) (slot 5632 2816 (t.val / 8) l) := by
  rw [out_eq]
  refine (pay_apply _ _ r l).trans (Finset.sum_congr rfl fun j _ => congrArg₂ (· * ·) (blk_0 m c t r j) (blk_1 m c t j l))

theorem arr2 : (dats m 0 c).arrAt 2 cfg0.N = arr m c := by
  refine (dats m 0 c).arrAt_eq_of_covers 2 _ (by decide +kernel) fun t hf y => ?_
  obtain ⟨r, l, rfl⟩ : ∃ (r : Fin 1024) (l : Fin 2816), y = (ix2 r l : S1024x2816.Idx) := ⟨y 0, y 1, ValueIdx.eq_ix2 (n0 := 1024) (n1 := 2816) y⟩
  have hplace : (((cfg0.win 2).blk t).view.emb (ix2 r l : S1024x2816.Idx) : S8192x5632.Idx) = ix2 (slot 8192 1024 (t.val % 8) r) (slot 5632 2816 (t.val / 8) l) :=
    place (A := 8192) (B := 5632) _ (index_2 t) (by have := lt_N t; omega) (by have := lt_N t; omega) r l _ fun a => by fin_cases a <;> rfl
  refine Eq.trans ?_ (congrArg (arr m c) hplace.symm)
  rw [arr_at, ← at_2 m c t r l]
  exact congrFun (after0_2 m c t) (ix2 r l)

theorem head_v18 {F : FTy → Type} [FloatOps F] (W : Valuation τ sig (Elt F)) : StableHlo.after hostOps0 W (Proc.devRef .tc main_v18)
    = truncf .bf16 (hidden (W (Proc.devRef .tc main_arg0)) (W (Proc.devRef .tc main_arg1)) (W (Proc.devRef .tc main_arg2)) (W (Proc.devRef .tc main_arg3))) bitsLt_bf16_f32 := by
  after_results_simp <;> rfl
theorem head_v19 {F : FTy → Type} [FloatOps F] (W : Valuation τ sig (Elt F)) :
    StableHlo.after hostOps0 W (Proc.devRef .tc main_v19) = truncf .bf16 (W (Proc.devRef .tc main_arg4)) bitsLt_bf16_f32 := by
  after_results_simp <;> rfl

theorem ref_apply (a : FVec Ideal S8192x1024 .f32) (b : FVec Ideal S1024x5632 .f32) (t : Fin 8192) (f : Fin 5632) :
    Host.dotGeneral Cert.Reference9Ideal.dot_S8192x1024_S1024x5632_S8192x5632_1_0_0_1_n_n none a b (ix2 t f)
      = ∑ j : Fin 1024, a (ix2 t j) * b (ix2 j f) := by
  pointwise
  rfl

/-- Both programs end with the same product. -/
theorem algebraic : Cert.algebraic_Kernel9Ideal_Reference9Ideal := by
  intro m ρ m' ρ' _ hargs
  refine ⟨_, ?_, Cert.Reference9Ideal.Value.run (F := Ideal) m' ρ'⟩
  refine (θ_run defs _ _).mono (fun r h c => ?_) (Cert.Kernel9Ideal.Value.run_blocks (F := Ideal) m ρ)
  obtain ⟨e0, e1, e2, e3, e4⟩ := hargs c
  refine ⟨(h c).1.trans ((arr2 m c).trans (funext fun i => ?_)), (h c).2⟩
  obtain ⟨t, f, rfl⟩ : ∃ (t : Fin 8192) (f : Fin 5632), i = (ix2 t f : S8192x5632.Idx) := ⟨i 0, i 1, ValueIdx.eq_ix2 (n0 := 8192) (n1 := 5632) i⟩
  rw [arr_at]
  refine Eq.trans ?_ (ref_apply _ _ t f).symm
  refine Finset.sum_congr rfl fun j _ => congrArg₂ (· * ·) ?_ ?_
  · refine (congrFun (head_v18 _) (ix2 t j)).trans ?_
    rw [e0, e1, e2, e3]
    rfl
  · exact (congrFun (head_v19 _) (ix2 j f)).trans (congrFun e4.symm (ix2 j f))

theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩) (Cert.Reference9Ideal.Value.run (F := Ideal) m ρ)

end Cert.Mm.P9

end

end
-- ==== Proof.InFwd.lean ====
/-
  The input projection of the forward pass: what the grid leaves, and the two programs' results are equal.
-/
module

public import proofs.«01_k».proof.Proof.UpFwd
public import proofs.«01_k».proof.Proof.Gen.Kernel10Ideal.Value
public import proofs.«01_k».proof.Proof.Gen.Reference10Ideal.Run

@[expose] public section

set_option maxRecDepth 16384

noncomputable section

namespace Cert.Mm.P10

open Cert.Kernel10Ideal Cert.Kernel10Ideal.Gen Idealize.ShloMosaic.ValueIdx Idealize.ShloMosaic.TcCoe Idealize.SL.Sem
open Idealize.ShloMosaic hiding ix1 ix2 ix3 ix4
open Cert.Mm.P5 (nil2)
open Cert.Mm.P3 (hidden)
open scoped BigOperators

theorem mm_nn (a : FVec Ideal S1024x1024 .bf16) (b : FVec Ideal S1024x2688 .bf16) (r : Fin 1024) (l : Fin 2688) :
    matmul dot_S1024x1024_S1024x2688_S1024x2688_1_0_0_1_n_n none a b (constant S1024x2688 .f32 0x00000000#32) (ix2 r l)
      = ∑ j : Fin 1024, a (ix2 r j) * b (ix2 j l) := by
  refine (Ideal.matmul_apply₁_of dot_S1024x1024_S1024x2688_S1024x2688_1_0_0_1_n_n (a := 1) rfl (K := 1024) rfl a b _ _
    (fun j => ix2 r j) (fun j => ix2 j l) (fun j => ?_) (fun j => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem pay_apply (a : FVec Ideal S1024x1024 .bf16) (b : FVec Ideal S1024x2688 .bf16) (r : Fin 1024) (l : Fin 2688) :
    k0_pay1 (F := Ideal) a b (ix2 r l) = ∑ j : Fin 1024, a (ix2 r j) * b (ix2 j l) := by
  refine Eq.trans ?_ (mm_nn a b r l)
  unfold k0_pay1
  rw [shapeCast_self, shapeCast_self]

theorem out_eq {F : FTy → Type} [FloatOps F] (a : Vec F S1024x1024 .bf16) (b : Vec F S1024x2688 .bf16) : out0_2 a b = k0_pay1 a b := by
  unfold out0_2
  rw [View.canon_unit_zero (S := S1024x2688) nil2, View.ld_unit_zero (S := S1024x1024) nil2, View.ld_unit_zero (S := S1024x2688) nil2]

variable (m : (ℓ : Loc nD τ sig) → Buf (Elt Ideal) ℓ) (c : Dev nD)

def left (t : Fin 8192) (j : Fin 1024) : EReal := (V m c main_v18 : S8192x1024.Idx → EReal) (ix2 t j)
def right (j : Fin 1024) (f : Fin 5376) : EReal := (V m c main_v19 : S1024x5376.Idx → EReal) (ix2 j f)

theorem index_0 : ∀ t : Fin cfg0.N, cc0_transform_0 (grid0.coords t) = ![t.val % 8, 0] := by decide +kernel
theorem index_1 : ∀ t : Fin cfg0.N, cc0_transform_1 (grid0.coords t) = ![0, t.val / 8] := by decide +kernel
theorem index_2 : ∀ t : Fin cfg0.N, cc0_transform_2 (grid0.coords t) = ![t.val % 8, t.val / 8] := by decide +kernel

theorem lt_N (t : Fin cfg0.N) : t.val < 16 := t.isLt

theorem blk_0 (t : Fin cfg0.N) (r : Fin 1024) (j : Fin 1024) :
    (iblk m c 0 t : S1024x1024.Idx → EReal) (ix2 r j) = left m c (slot 8192 1024 (t.val % 8) r) j := by
  refine (congrArg (V m c main_v18 : S8192x1024.Idx → EReal) (place (A := 8192) (B := 1024) _ (index_0 t)
    (by have := lt_N t; omega) (by omega) r j _ fun a => by fin_cases a <;> rfl)).trans ?_
  rw [slot_whole]
  rfl

theorem blk_1 (t : Fin cfg0.N) (j : Fin 1024) (l : Fin 2688) :
    (iblk m c 1 t : S1024x2688.Idx → EReal) (ix2 j l) = right m c j (slot 5376 2688 (t.val / 8) l) := by
  refine (congrArg (V m c main_v19 : S1024x5376.Idx → EReal) (place (A := 1024) (B := 5376) _ (index_1 t)
    (by omega) (by have := lt_N t; omega) j l _ fun a => by fin_cases a <;> rfl)).trans ?_
  rw [slot_whole]
  rfl

def prod (t : Fin 8192) (f : Fin 5376) : EReal := ∑ j : Fin 1024, left m c t j * right m c j f
def arr : S8192x5376.Idx → EReal := fun i => prod m c (i 0) (i 1)

theorem arr_at (t : Fin 8192) (f : Fin 5376) : arr m c (ix2 t f) = prod m c t f := rfl

theorem at_2 (t : Fin cfg0.N) (r : Fin 1024) (l : Fin 2688) :
    out0_2 (F := Ideal) (iblk m c 0 t) (iblk m c 1 t) (ix2 r l) = prod m c (slot 8192 1024 (t.val % 8) r) (slot 5376 2688 (t.val / 8) l) := by
  rw [out_eq]
  refine (pay_apply _ _ r l).trans (Finset.sum_congr rfl fun j _ => congrArg₂ (· * ·) (blk_0 m c t r j) (blk_1 m c t j l))

theorem arr2 : (dats m 0 c).arrAt 2 cfg0.N = arr m c := by
  refine (dats m 0 c).arrAt_eq_of_covers 2 _ (by decide +kernel) fun t hf y => ?_
  obtain ⟨r, l, rfl⟩ : ∃ (r : Fin 1024) (l : Fin 2688), y = (ix2 r l : S1024x2688.Idx) := ⟨y 0, y 1, ValueIdx.eq_ix2 (n0 := 1024) (n1 := 2688) y⟩
  have hplace : (((cfg0.win 2).blk t).view.emb (ix2 r l : S1024x2688.Idx) : S8192x5376.Idx) = ix2 (slot 8192 1024 (t.val % 8) r) (slot 5376 2688 (t.val / 8) l) :=
    place (A := 8192) (B := 5376) _ (index_2 t) (by have := lt_N t; omega) (by have := lt_N t; omega) r l _ fun a => by fin_cases a <;> rfl
  refine Eq.trans ?_ (congrArg (arr m c) hplace.symm)
  rw [arr_at, ← at_2 m c t r l]
  exact congrFun (after0_2 m c t) (ix2 r l)

theorem head_v18 {F : FTy → Type} [FloatOps F] (W : Valuation τ sig (Elt F)) : StableHlo.after hostOps0 W (Proc.devRef .tc main_v18)
    = truncf .bf16 (hidden (W (Proc.devRef .tc main_arg0)) (W (Proc.devRef .tc main_arg1)) (W (Proc.devRef .tc main_arg2)) (W (Proc.devRef .tc main_arg3))) bitsLt_bf16_f32 := by
  after_results_simp <;> rfl
theorem head_v19 {F : FTy → Type} [FloatOps F] (W : Valuation τ sig (Elt F)) :
    StableHlo.after hostOps0 W (Proc.devRef .tc main_v19) = truncf .bf16 (W (Proc.devRef .tc main_arg4)) bitsLt_bf16_f32 := by
  after_results_simp <;> rfl

theorem ref_apply (a : FVec Ideal S8192x1024 .f32) (b : FVec Ideal S1024x5376 .f32) (t : Fin 8192) (f : Fin 5376) :
    Host.dotGeneral Cert.Reference10Ideal.dot_S8192x1024_S1024x5376_S8192x5376_1_0_0_1_n_n none a b (ix2 t f)
      = ∑ j : Fin 1024, a (ix2 t j) * b (ix2 j f) := by
  pointwise
  rfl

/-- Both programs end with the same product. -/
theorem algebraic : Cert.algebraic_Kernel10Ideal_Reference10Ideal := by
  intro m ρ m' ρ' _ hargs
  refine ⟨_, ?_, Cert.Reference10Ideal.Value.run (F := Ideal) m' ρ'⟩
  refine (θ_run defs _ _).mono (fun r h c => ?_) (Cert.Kernel10Ideal.Value.run_blocks (F := Ideal) m ρ)
  obtain ⟨e0, e1, e2, e3, e4⟩ := hargs c
  refine ⟨(h c).1.trans ((arr2 m c).trans (funext fun i => ?_)), (h c).2⟩
  obtain ⟨t, f, rfl⟩ : ∃ (t : Fin 8192) (f : Fin 5376), i = (ix2 t f : S8192x5376.Idx) := ⟨i 0, i 1, ValueIdx.eq_ix2 (n0 := 8192) (n1 := 5376) i⟩
  rw [arr_at]
  refine Eq.trans ?_ (ref_apply _ _ t f).symm
  refine Finset.sum_congr rfl fun j _ => congrArg₂ (· * ·) ?_ ?_
  · refine (congrFun (head_v18 _) (ix2 t j)).trans ?_
    rw [e0, e1, e2, e3]
    rfl
  · exact (congrFun (head_v19 _) (ix2 j f)).trans (congrFun e4.symm (ix2 j f))

theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩) (Cert.Reference10Ideal.Value.run (F := Ideal) m ρ)

end Cert.Mm.P10

end

end
-- ==== Proof.Blocks.lean ====
/-
  Sums over the rows of an array by its blocks, and what is added up over all points of a grid.
-/
module

public import proofs.«01_k».proof.Proof.InFwd

@[expose] public section

set_option maxRecDepth 16384

noncomputable section

namespace Cert.Mm

open Idealize.ShloMosaic
open scoped BigOperators

/-- A sum over all rows, by blocks of `n` rows. -/
theorem sum_blocks {M : Type*} [AddCommMonoid M] {N n : ℕ} [NeZero N] (k : ℕ) (h : k * n = N) (f : Fin N → M) :
    ∑ b ∈ Finset.range k, ∑ r : Fin n, f (slot N n b r) = ∑ t, f t := by
  rw [Finset.sum_range (fun b => ∑ r : Fin n, f (slot N n b r)),
    ← Fintype.sum_prod_type' (f := fun (b : Fin k) (r : Fin n) => f (slot N n b.val r))]
  refine Fintype.sum_equiv ((finProdFinEquiv (m := k) (n := n)).trans (finCongr h)) _ _ fun p => congrArg f (Fin.ext ?_)
  have hb : p.1.val * n + n ≤ N := by
    have := Nat.mul_le_mul_right n p.1.isLt
    rw [Nat.succ_mul, h] at this
    exact this
  rw [slot_val hb]
  show _ = p.2.val + n * p.1.val
  rw [Nat.mul_comm, Nat.add_comm]

/-- What is added up over all points of a grid. -/
theorem points {α : Type} (N : ℕ) (o : (n : ℕ) → n < N → α → EReal) (x : α) (p : ℕ → EReal)
    (h0 : ∀ h : 0 < N, o 0 h x = p 0) (hs : ∀ (n : ℕ) (h : n + 1 < N), o (n + 1) h x = o n (Nat.lt_of_succ_lt h) x + p (n + 1)) :
    ∀ (n : ℕ) (h : n < N), o n h x = ∑ b ∈ Finset.range (n + 1), p b := by
  intro n
  induction n with
  | zero => intro h; rw [h0 h]; exact (Finset.sum_range_one p).symm
  | succ n ih => intro h; rw [hs n h, ih]; exact (Finset.sum_range_succ p (n + 1)).symm

end Cert.Mm

end

end
-- ==== Proof.InNarrow.lean ====
/-
  The gradient of the input projection's weights, in the columns of the convolution and of queries, keys and values.
-/
module

public import proofs.«01_k».proof.Proof.Blocks
public import proofs.«01_k».proof.Proof.Gen.Kernel6Ideal.Value
public import proofs.«01_k».proof.Proof.Gen.Reference6Ideal.Run

@[expose] public section

set_option maxRecDepth 16384

noncomputable section

namespace Cert.Mm.P6

open Cert.Kernel6Ideal Cert.Kernel6Ideal.Gen Idealize.ShloMosaic.ValueIdx Idealize.ShloMosaic.TcCoe Idealize.SL.Sem
open Idealize.ShloMosaic hiding ix1 ix2 ix3 ix4
open Cert.Mm.P5 (nil2)
open Cert.Mm.P3 (hidden)
open scoped BigOperators

/-! ### A point of the grid -/

section
variable {F : FTy → Type} [FloatOps F] (c : Dev nD) (i : grid0.Coords)
  (a1 : Memref sig .tc .vmem S1024x1024 .bf16) (h1 : a1.IsWhole)
  (a2 : Memref sig .tc .vmem S1024x1536 .bf16) (h2 : a2.IsWhole)
  (a3 : Memref sig .tc .vmem S1024x1024 .bf16) (h3 : a3.IsWhole)
  (a4 : Memref sig .tc .vmem S1024x512 .bf16) (h4 : a4.IsWhole)
  (a5 : Memref sig .tc .vmem S1024x1536 .f32) (h5 : a5.IsWhole)
  (a6 : Memref sig .tc .vmem S1024x1024 .f32) (h6 : a6.IsWhole)
  (a7 : Memref sig .tc .vmem S1024x512 .f32) (h7 : a7.IsWhole)
  (x0 : Vec F S1024x1024 .bf16) (x1 : Vec F S1024x1536 .bf16) (x2 : Vec F S1024x1024 .bf16) (x3 : Vec F S1024x512 .bf16)
  (s1 : Vec F S1024x1536 .f32) (s2 : Vec F S1024x1024 .f32) (s3 : Vec F S1024x512 .f32)

theorem out_A_1 (hc0 : cond0_0 i) (hc1 : ¬cond0_1 i) (hc2 : cond0_2 i) (hc3 : ¬cond0_3 i) (hc4 : cond0_4 i) (hc5 : ¬cond0_5 i) :
    out0_A_4 c i a1 h1 a2 h2 a3 h3 a4 h4 a5 h5 a6 h6 a7 h7 hc0 hc1 hc2 hc3 hc4 hc5 x0 x1 x2 x3 = k0_pay2 x0 x1 := by
  unfold out0_A_4
  rw [View.read_writes_eq_canon _ _ _ (cover0_A_4 c i a1 h1 a2 h2 a3 h3 a4 h4 a5 h5 a6 h6 a7 h7 hc0 hc1 hc2 hc3 hc4 hc5 x0 x1 x2 x3)]
  unfold kernelRun0_A
  dsimp only
  sl_unfold_words
  rw [View.canon_unit_zero (S := S1024x1536) nil2]
  simp only [View.readAt_eq_ld, h1.read_unread, h2.read_unread, h3.read_unread, h4.read_unread, h5.read_unread, h6.read_unread, h7.read_unread,
    View.ld_unit_zero (S := S1024x1024) nil2, View.ld_unit_zero (S := S1024x1536) nil2, View.ld_unit_zero (S := S1024x512) nil2]

theorem out_A_2 (hc0 : cond0_0 i) (hc1 : ¬cond0_1 i) (hc2 : cond0_2 i) (hc3 : ¬cond0_3 i) (hc4 : cond0_4 i) (hc5 : ¬cond0_5 i) :
    out0_A_5 c i a1 h1 a2 h2 a3 h3 a4 h4 a5 h5 a6 h6 a7 h7 hc0 hc1 hc2 hc3 hc4 hc5 x0 x1 x2 x3 = k0_pay4 x0 x2 := by
  unfold out0_A_5
  rw [View.read_writes_eq_canon _ _ _ (cover0_A_5 c i a1 h1 a2 h2 a3 h3 a4 h4 a5 h5 a6 h6 a7 h7 hc0 hc1 hc2 hc3 hc4 hc5 x0 x1 x2 x3)]
  unfold kernelRun0_A
  dsimp only
  sl_unfold_words
  rw [View.canon_unit_zero (S := S1024x1024) nil2]
  simp only [View.readAt_eq_ld, h1.read_unread, h2.read_unread, h3.read_unread, h4.read_unread, h5.read_unread, h6.read_unread, h7.read_unread,
    View.ld_unit_zero (S := S1024x1024) nil2, View.ld_unit_zero (S := S1024x1536) nil2, View.ld_unit_zero (S := S1024x512) nil2]

theorem out_A_3 (hc0 : cond0_0 i) (hc1 : ¬cond0_1 i) (hc2 : cond0_2 i) (hc3 : ¬cond0_3 i) (hc4 : cond0_4 i) (hc5 : ¬cond0_5 i) :
    out0_A_6 c i a1 h1 a2 h2 a3 h3 a4 h4 a5 h5 a6 h6 a7 h7 hc0 hc1 hc2 hc3 hc4 hc5 x0 x1 x2 x3 = k0_pay6 x0 x3 := by
  unfold out0_A_6
  rw [View.read_writes_eq_canon _ _ _ (cover0_A_6 c i a1 h1 a2 h2 a3 h3 a4 h4 a5 h5 a6 h6 a7 h7 hc0 hc1 hc2 hc3 hc4 hc5 x0 x1 x2 x3)]
  unfold kernelRun0_A
  dsimp only
  sl_unfold_words
  rw [View.canon_unit_zero (S := S1024x512) nil2]
  simp only [View.readAt_eq_ld, h1.read_unread, h2.read_unread, h3.read_unread, h4.read_unread, h5.read_unread, h6.read_unread, h7.read_unread,
    View.ld_unit_zero (S := S1024x1024) nil2, View.ld_unit_zero (S := S1024x1536) nil2, View.ld_unit_zero (S := S1024x512) nil2]

theorem out_B_1 (hc0 : ¬cond0_0 i) (hc1 : cond0_1 i) (hc2 : ¬cond0_2 i) (hc3 : cond0_3 i) (hc4 : ¬cond0_4 i) (hc5 : cond0_5 i) :
    out0_B_4 c i a1 h1 a2 h2 a3 h3 a4 h4 a5 h5 a6 h6 a7 h7 hc0 hc1 hc2 hc3 hc4 hc5 x0 x1 x2 x3 s1 s2 s3 = k0_pay3 x0 x1 s1 := by
  unfold out0_B_4
  rw [View.read_writes_eq_canon _ _ _ (cover0_B_4 c i a1 h1 a2 h2 a3 h3 a4 h4 a5 h5 a6 h6 a7 h7 hc0 hc1 hc2 hc3 hc4 hc5 x0 x1 x2 x3 s1 s2 s3)]
  unfold kernelRun0_B
  dsimp only
  sl_unfold_words
  rw [View.canon_unit_zero (S := S1024x1536) nil2]
  simp only [View.readAt_eq_ld, h1.read_unread, h2.read_unread, h3.read_unread, h4.read_unread, h5.read_unread, h6.read_unread, h7.read_unread,
    View.ld_unit_zero (S := S1024x1024) nil2, View.ld_unit_zero (S := S1024x1536) nil2, View.ld_unit_zero (S := S1024x512) nil2]

theorem out_B_2 (hc0 : ¬cond0_0 i) (hc1 : cond0_1 i) (hc2 : ¬cond0_2 i) (hc3 : cond0_3 i) (hc4 : ¬cond0_4 i) (hc5 : cond0_5 i) :
    out0_B_5 c i a1 h1 a2 h2 a3 h3 a4 h4 a5 h5 a6 h6 a7 h7 hc0 hc1 hc2 hc3 hc4 hc5 x0 x1 x2 x3 s1 s2 s3 = k0_pay5 x0 x2 s2 := by
  unfold out0_B_5
  rw [View.read_writes_eq_canon _ _ _ (cover0_B_5 c i a1 h1 a2 h2 a3 h3 a4 h4 a5 h5 a6 h6 a7 h7 hc0 hc1 hc2 hc3 hc4 hc5 x0 x1 x2 x3 s1 s2 s3)]
  unfold kernelRun0_B
  dsimp only
  sl_unfold_words
  rw [View.canon_unit_zero (S := S1024x1024) nil2]
  simp only [View.readAt_eq_ld, h1.read_unread, h2.read_unread, h3.read_unread, h4.read_unread, h5.read_unread, h6.read_unread, h7.read_unread,
    View.ld_unit_zero (S := S1024x1024) nil2, View.ld_unit_zero (S := S1024x1536) nil2, View.ld_unit_zero (S := S1024x512) nil2]

theorem out_B_3 (hc0 : ¬cond0_0 i) (hc1 : cond0_1 i) (hc2 : ¬cond0_2 i) (hc3 : cond0_3 i) (hc4 : ¬cond0_4 i) (hc5 : cond0_5 i) :
    out0_B_6 c i a1 h1 a2 h2 a3 h3 a4 h4 a5 h5 a6 h6 a7 h7 hc0 hc1 hc2 hc3 hc4 hc5 x0 x1 x2 x3 s1 s2 s3 = k0_pay7 x0 x3 s3 := by
  unfold out0_B_6
  rw [View.read_writes_eq_canon _ _ _ (cover0_B_6 c i a1 h1 a2 h2 a3 h3 a4 h4 a5 h5 a6 h6 a7 h7 hc0 hc1 hc2 hc3 hc4 hc5 x0 x1 x2 x3 s1 s2 s3)]
  unfold kernelRun0_B
  dsimp only
  sl_unfold_words
  rw [View.canon_unit_zero (S := S1024x512) nil2]
  simp only [View.readAt_eq_ld, h1.read_unread, h2.read_unread, h3.read_unread, h4.read_unread, h5.read_unread, h6.read_unread, h7.read_unread,
    View.ld_unit_zero (S := S1024x1024) nil2, View.ld_unit_zero (S := S1024x1536) nil2, View.ld_unit_zero (S := S1024x512) nil2]

end

section
variable {F : FTy → Type} [FloatOps F] (m : (ℓ : Loc nD τ sig) → Buf (Elt F) ℓ) (c : Dev nD) (t : Fin cfg0.N)

theorem lt_N : t.val < 8 := t.isLt

theorem first (h : t.val = 0) : outsAt0 m c t.val t.isLt
    = (k0_pay2 (iblk m c 0 t) (iblk m c 1 t), k0_pay4 (iblk m c 0 t) (iblk m c 2 t), k0_pay6 (iblk m c 0 t) (iblk m c 3 t)) :=
  (outsAt0_A m c t (by omega) (by omega) (by omega) (by omega) (by omega) (by omega)).trans
    (congrArg₂ Prod.mk (out_A_1 ..) (congrArg₂ Prod.mk (out_A_2 ..) (out_A_3 ..)))

theorem later (h : 1 ≤ t.val) : outsAt0 m c t.val t.isLt
    = (k0_pay3 (iblk m c 0 t) (iblk m c 1 t) (outsAt0 m c (t.val - 1) (Nat.lt_of_le_of_lt (Nat.sub_le _ _) t.isLt)).1,
      k0_pay5 (iblk m c 0 t) (iblk m c 2 t) (outsAt0 m c (t.val - 1) (Nat.lt_of_le_of_lt (Nat.sub_le _ _) t.isLt)).2.1,
      k0_pay7 (iblk m c 0 t) (iblk m c 3 t) (outsAt0 m c (t.val - 1) (Nat.lt_of_le_of_lt (Nat.sub_le _ _) t.isLt)).2.2) := by
  have hm : ¬t.val % 8 = 0 := by have := lt_N t; omega
  exact (outsAt0_B m c t hm h hm h hm h).trans (congrArg₂ Prod.mk (out_B_1 ..) (congrArg₂ Prod.mk (out_B_2 ..) (out_B_3 ..)))

end

/-! ### The products -/

theorem mm_1 (a : FVec Ideal S1024x1024 .bf16) (b : FVec Ideal S1024x1536 .bf16) (r : Fin 1024) (l : Fin 1536) :
    matmul dot_S1024x1024_S1024x1536_S1024x1536_0_0_1_1_n_n none a b (constant S1024x1536 .f32 0x00000000#32) (ix2 r l)
      = ∑ s : Fin 1024, a (ix2 s r) * b (ix2 s l) := by
  refine (Ideal.matmul_apply₁_of dot_S1024x1024_S1024x1536_S1024x1536_0_0_1_1_n_n (a := 0) rfl (K := 1024) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem new_1 (a : FVec Ideal S1024x1024 .bf16) (b : FVec Ideal S1024x1536 .bf16) (r : Fin 1024) (l : Fin 1536) :
    k0_pay2 (F := Ideal) a b (ix2 r l) = ∑ s : Fin 1024, a (ix2 s r) * b (ix2 s l) := by
  refine Eq.trans ?_ (mm_1 a b r l)
  unfold k0_pay2 k0_pay1
  rw [shapeCast_self, shapeCast_self]

theorem add_1 (a : FVec Ideal S1024x1024 .bf16) (b : FVec Ideal S1024x1536 .bf16) (x : FVec Ideal S1024x1536 .f32) (r : Fin 1024) (l : Fin 1536) :
    k0_pay3 (F := Ideal) a b x (ix2 r l) = x (ix2 r l) + ∑ s : Fin 1024, a (ix2 s r) * b (ix2 s l) := by
  refine Eq.trans ?_ (congrArg (x (ix2 r l) + ·) (new_1 a b r l))
  unfold k0_pay3
  rw [shapeCast_self]
  rfl

theorem mm_2 (a : FVec Ideal S1024x1024 .bf16) (b : FVec Ideal S1024x1024 .bf16) (r : Fin 1024) (l : Fin 1024) :
    matmul dot_S1024x1024_S1024x1024_S1024x1024_0_0_1_1_n_n none a b (constant S1024x1024 .f32 0x00000000#32) (ix2 r l)
      = ∑ s : Fin 1024, a (ix2 s r) * b (ix2 s l) := by
  refine (Ideal.matmul_apply₁_of dot_S1024x1024_S1024x1024_S1024x1024_0_0_1_1_n_n (a := 0) rfl (K := 1024) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem new_2 (a : FVec Ideal S1024x1024 .bf16) (b : FVec Ideal S1024x1024 .bf16) (r : Fin 1024) (l : Fin 1024) :
    k0_pay4 (F := Ideal) a b (ix2 r l) = ∑ s : Fin 1024, a (ix2 s r) * b (ix2 s l) := by
  refine Eq.trans ?_ (mm_2 a b r l)
  unfold k0_pay4 k0_pay1
  rw [shapeCast_self, shapeCast_self]

theorem add_2 (a : FVec Ideal S1024x1024 .bf16) (b : FVec Ideal S1024x1024 .bf16) (x : FVec Ideal S1024x1024 .f32) (r : Fin 1024) (l : Fin 1024) :
    k0_pay5 (F := Ideal) a b x (ix2 r l) = x (ix2 r l) + ∑ s : Fin 1024, a (ix2 s r) * b (ix2 s l) := by
  refine Eq.trans ?_ (congrArg (x (ix2 r l) + ·) (new_2 a b r l))
  unfold k0_pay5
  rw [shapeCast_self]
  rfl

theorem mm_3 (a : FVec Ideal S1024x1024 .bf16) (b : FVec Ideal S1024x512 .bf16) (r : Fin 1024) (l : Fin 512) :
    matmul dot_S1024x1024_S1024x512_S1024x512_0_0_1_1_n_n none a b (constant S1024x512 .f32 0x00000000#32) (ix2 r l)
      = ∑ s : Fin 1024, a (ix2 s r) * b (ix2 s l) := by
  refine (Ideal.matmul_apply₁_of dot_S1024x1024_S1024x512_S1024x512_0_0_1_1_n_n (a := 0) rfl (K := 1024) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem new_3 (a : FVec Ideal S1024x1024 .bf16) (b : FVec Ideal S1024x512 .bf16) (r : Fin 1024) (l : Fin 512) :
    k0_pay6 (F := Ideal) a b (ix2 r l) = ∑ s : Fin 1024, a (ix2 s r) * b (ix2 s l) := by
  refine Eq.trans ?_ (mm_3 a b r l)
  unfold k0_pay6 k0_pay1
  rw [shapeCast_self, shapeCast_self]

theorem add_3 (a : FVec Ideal S1024x1024 .bf16) (b : FVec Ideal S1024x512 .bf16) (x : FVec Ideal S1024x512 .f32) (r : Fin 1024) (l : Fin 512) :
    k0_pay7 (F := Ideal) a b x (ix2 r l) = x (ix2 r l) + ∑ s : Fin 1024, a (ix2 s r) * b (ix2 s l) := by
  refine Eq.trans ?_ (congrArg (x (ix2 r l) + ·) (new_3 a b r l))
  unfold k0_pay7
  rw [shapeCast_self]
  rfl

variable (m : (ℓ : Loc nD τ sig) → Buf (Elt Ideal) ℓ) (c : Dev nD)

def left (t : Fin 8192) (j : Fin 1024) : EReal := (V m c main_v18 : S8192x1024.Idx → EReal) (ix2 t j)
def right_1 (t : Fin 8192) (f : Fin 1536) : EReal := (V m c main_v19 : S8192x1536.Idx → EReal) (ix2 t f)
def right_2 (t : Fin 8192) (f : Fin 1024) : EReal := (V m c main_v20 : S8192x1024.Idx → EReal) (ix2 t f)
def right_3 (t : Fin 8192) (f : Fin 512) : EReal := (V m c main_v21 : S8192x512.Idx → EReal) (ix2 t f)

theorem index_0 : ∀ t : Fin cfg0.N, cc0_transform_0 (grid0.coords t) = ![t.val, 0] := by decide +kernel
theorem index_1 : ∀ t : Fin cfg0.N, cc0_transform_1 (grid0.coords t) = ![t.val, 0] := by decide +kernel
theorem index_2 : ∀ t : Fin cfg0.N, cc0_transform_2 (grid0.coords t) = ![t.val, 0] := by decide +kernel
theorem index_3 : ∀ t : Fin cfg0.N, cc0_transform_3 (grid0.coords t) = ![t.val, 0] := by decide +kernel
theorem index_4 : ∀ t : Fin cfg0.N, cc0_transform_4 (grid0.coords t) = ![0, 0] := by decide +kernel
theorem index_5 : ∀ t : Fin cfg0.N, cc0_transform_5 (grid0.coords t) = ![0, 0] := by decide +kernel
theorem index_6 : ∀ t : Fin cfg0.N, cc0_transform_6 (grid0.coords t) = ![0, 0] := by decide +kernel

theorem blk_0 (t : Fin cfg0.N) (s : Fin 1024) (r : Fin 1024) :
    (iblk m c 0 t : S1024x1024.Idx → EReal) (ix2 s r) = left m c (slot 8192 1024 t.val s) r := by
  refine (congrArg (V m c main_v18 : S8192x1024.Idx → EReal) (place (A := 8192) (B := 1024) _ (index_0 t)
    (by have := lt_N t; omega) (by omega) s r _ fun a => by fin_cases a <;> rfl)).trans ?_
  rw [slot_whole]
  rfl

theorem blk_1 (t : Fin cfg0.N) (s : Fin 1024) (r : Fin 1536) :
    (iblk m c 1 t : S1024x1536.Idx → EReal) (ix2 s r) = right_1 m c (slot 8192 1024 t.val s) r := by
  refine (congrArg (V m c main_v19 : S8192x1536.Idx → EReal) (place (A := 8192) (B := 1536) _ (index_1 t)
    (by have := lt_N t; omega) (by omega) s r _ fun a => by fin_cases a <;> rfl)).trans ?_
  rw [slot_whole]
  rfl

theorem blk_2 (t : Fin cfg0.N) (s : Fin 1024) (r : Fin 1024) :
    (iblk m c 2 t : S1024x1024.Idx → EReal) (ix2 s r) = right_2 m c (slot 8192 1024 t.val s) r := by
  refine (congrArg (V m c main_v20 : S8192x1024.Idx → EReal) (place (A := 8192) (B := 1024) _ (index_2 t)
    (by have := lt_N t; omega) (by omega) s r _ fun a => by fin_cases a <;> rfl)).trans ?_
  rw [slot_whole]
  rfl

theorem blk_3 (t : Fin cfg0.N) (s : Fin 1024) (r : Fin 512) :
    (iblk m c 3 t : S1024x512.Idx → EReal) (ix2 s r) = right_3 m c (slot 8192 1024 t.val s) r := by
  refine (congrArg (V m c main_v21 : S8192x512.Idx → EReal) (place (A := 8192) (B := 512) _ (index_3 t)
    (by have := lt_N t; omega) (by omega) s r _ fun a => by fin_cases a <;> rfl)).trans ?_
  rw [slot_whole]
  rfl

/-! ### Piece 1 -/

/-- What a block of 1024 rows adds to an element. -/
def part_1 (r : Fin 1024) (l : Fin 1536) (b : ℕ) : EReal :=
  ∑ s : Fin 1024, left m c (slot 8192 1024 b s) r * right_1 m c (slot 8192 1024 b s) l

theorem carried_1 (r : Fin 1024) (l : Fin 1536) : ∀ (n : ℕ) (h : n < cfg0.N),
    (outsAt0 m c n h).1 (ix2 r l) = ∑ b ∈ Finset.range (n + 1), part_1 m c r l b := by
  refine points (α := S1024x1536.Idx) cfg0.N (fun n h => (outsAt0 m c n h).1) (ix2 r l) (part_1 m c r l) (fun h => ?_) fun n h => ?_
  · refine (congrFun (congrArg (fun o => o.1) (first m c ⟨0, h⟩ rfl)) (ix2 r l)).trans ((new_1 _ _ r l).trans (Finset.sum_congr rfl fun s _ => ?_))
    exact congrArg₂ (· * ·) (blk_0 m c ⟨0, h⟩ s r) (blk_1 m c ⟨0, h⟩ s l)
  · refine (congrFun (congrArg (fun o => o.1) (later m c ⟨n + 1, h⟩ (Nat.le_add_left 1 n))) (ix2 r l)).trans ((add_1 _ _ _ r l).trans ?_)
    exact congrArg₂ (· + ·) rfl (Finset.sum_congr rfl fun s _ => congrArg₂ (· * ·) (blk_0 m c ⟨n + 1, h⟩ s r) (blk_1 m c ⟨n + 1, h⟩ s l))

def prod_1 (j : Fin 1024) (f : Fin 1536) : EReal := ∑ t : Fin 8192, left m c t j * right_1 m c t f
def arr_1 : S1024x1536.Idx → EReal := fun i => prod_1 m c (i 0) (i 1)

theorem arr_1_at (j : Fin 1024) (f : Fin 1536) : arr_1 m c (ix2 j f) = prod_1 m c j f := rfl

theorem last_1 (t : Fin cfg0.N) (h : t.val % 8 = 7) (r : Fin 1024) (l : Fin 1536) :
    (outsAt0 m c t.val t.isLt).1 (ix2 r l) = prod_1 m c r l := by
  rw [carried_1 m c r l t.val t.isLt, show t.val + 1 = 8 by have := lt_N t; omega]
  exact sum_blocks 8 (by norm_num) (fun t' => left m c t' r * right_1 m c t' l)

theorem array_1 : (dats m 0 c).arrAt 4 cfg0.N = arr_1 m c := by
  refine (dats m 0 c).arrAt_eq_of_covers 4 _ (by decide +kernel) fun t hf y => ?_
  obtain ⟨r, l, rfl⟩ : ∃ (r : Fin 1024) (l : Fin 1536), y = (ix2 r l : S1024x1536.Idx) := ⟨y 0, y 1, ValueIdx.eq_ix2 (n0 := 1024) (n1 := 1536) y⟩
  have hplace : (((cfg0.win 4).blk t).view.emb (ix2 r l : S1024x1536.Idx) : S1024x1536.Idx) = ix2 r l :=
    (place (A := 1024) (B := 1536) _ (index_4 t) (by omega) (by omega) r l _ fun a => by fin_cases a <;> rfl).trans
      (congrArg₂ (fun x y => ix2 x y) (slot_whole r) (slot_whole l))
  refine Eq.trans ?_ (congrArg (arr_1 m c) hplace.symm)
  rw [arr_1_at, ← last_1 m c t ((flush0_4 t).mp hf) r l]
  exact congrFun (after0_4 m c t) (ix2 r l)

theorem ref_1 (a : FVec Ideal S8192x1024 .f32) (b : FVec Ideal S8192x1536 .f32) (j : Fin 1024) (f : Fin 1536) :
    transpose Cert.Reference6Ideal.S1024x1536 [1, 0] (Host.dotGeneral Cert.Reference6Ideal.dot_S8192x1536_S8192x1024_S1536x1024_0_0_1_1_n_n none b a)
        Cert.Reference6Ideal.Gen.transposes_S1536x1024_S1024x1536_1_0 (ix2 j f)
      = ∑ t : Fin 8192, b (ix2 t f) * a (ix2 t j) := by
  pointwise
  rfl

/-! ### Piece 2 -/

/-- What a block of 1024 rows adds to an element. -/
def part_2 (r : Fin 1024) (l : Fin 1024) (b : ℕ) : EReal :=
  ∑ s : Fin 1024, left m c (slot 8192 1024 b s) r * right_2 m c (slot 8192 1024 b s) l

theorem carried_2 (r : Fin 1024) (l : Fin 1024) : ∀ (n : ℕ) (h : n < cfg0.N),
    (outsAt0 m c n h).2.1 (ix2 r l) = ∑ b ∈ Finset.range (n + 1), part_2 m c r l b := by
  refine points (α := S1024x1024.Idx) cfg0.N (fun n h => (outsAt0 m c n h).2.1) (ix2 r l) (part_2 m c r l) (fun h => ?_) fun n h => ?_
  · refine (congrFun (congrArg (fun o => o.2.1) (first m c ⟨0, h⟩ rfl)) (ix2 r l)).trans ((new_2 _ _ r l).trans (Finset.sum_congr rfl fun s _ => ?_))
    exact congrArg₂ (· * ·) (blk_0 m c ⟨0, h⟩ s r) (blk_2 m c ⟨0, h⟩ s l)
  · refine (congrFun (congrArg (fun o => o.2.1) (later m c ⟨n + 1, h⟩ (Nat.le_add_left 1 n))) (ix2 r l)).trans ((add_2 _ _ _ r l).trans ?_)
    exact congrArg₂ (· + ·) rfl (Finset.sum_congr rfl fun s _ => congrArg₂ (· * ·) (blk_0 m c ⟨n + 1, h⟩ s r) (blk_2 m c ⟨n + 1, h⟩ s l))

def prod_2 (j : Fin 1024) (f : Fin 1024) : EReal := ∑ t : Fin 8192, left m c t j * right_2 m c t f
def arr_2 : S1024x1024.Idx → EReal := fun i => prod_2 m c (i 0) (i 1)

theorem arr_2_at (j : Fin 1024) (f : Fin 1024) : arr_2 m c (ix2 j f) = prod_2 m c j f := rfl

theorem last_2 (t : Fin cfg0.N) (h : t.val % 8 = 7) (r : Fin 1024) (l : Fin 1024) :
    (outsAt0 m c t.val t.isLt).2.1 (ix2 r l) = prod_2 m c r l := by
  rw [carried_2 m c r l t.val t.isLt, show t.val + 1 = 8 by have := lt_N t; omega]
  exact sum_blocks 8 (by norm_num) (fun t' => left m c t' r * right_2 m c t' l)

theorem array_2 : (dats m 0 c).arrAt 5 cfg0.N = arr_2 m c := by
  refine (dats m 0 c).arrAt_eq_of_covers 5 _ (by decide +kernel) fun t hf y => ?_
  obtain ⟨r, l, rfl⟩ : ∃ (r : Fin 1024) (l : Fin 1024), y = (ix2 r l : S1024x1024.Idx) := ⟨y 0, y 1, ValueIdx.eq_ix2 (n0 := 1024) (n1 := 1024) y⟩
  have hplace : (((cfg0.win 5).blk t).view.emb (ix2 r l : S1024x1024.Idx) : S1024x1024.Idx) = ix2 r l :=
    (place (A := 1024) (B := 1024) _ (index_5 t) (by omega) (by omega) r l _ fun a => by fin_cases a <;> rfl).trans
      (congrArg₂ (fun x y => ix2 x y) (slot_whole r) (slot_whole l))
  refine Eq.trans ?_ (congrArg (arr_2 m c) hplace.symm)
  rw [arr_2_at, ← last_2 m c t ((flush0_5 t).mp hf) r l]
  exact congrFun (after0_5 m c t) (ix2 r l)

theorem ref_2 (a : FVec Ideal S8192x1024 .f32) (b : FVec Ideal S8192x1024 .f32) (j : Fin 1024) (f : Fin 1024) :
    transpose Cert.Reference6Ideal.S1024x1024 [1, 0] (Host.dotGeneral Cert.Reference6Ideal.dot_S8192x1024_S8192x1024_S1024x1024_0_0_1_1_n_n none b a)
        Cert.Reference6Ideal.Gen.transposes_S1024x1024_S1024x1024_1_0 (ix2 j f)
      = ∑ t : Fin 8192, b (ix2 t f) * a (ix2 t j) := by
  pointwise
  rfl

/-! ### Piece 3 -/

/-- What a block of 1024 rows adds to an element. -/
def part_3 (r : Fin 1024) (l : Fin 512) (b : ℕ) : EReal :=
  ∑ s : Fin 1024, left m c (slot 8192 1024 b s) r * right_3 m c (slot 8192 1024 b s) l

theorem carried_3 (r : Fin 1024) (l : Fin 512) : ∀ (n : ℕ) (h : n < cfg0.N),
    (outsAt0 m c n h).2.2 (ix2 r l) = ∑ b ∈ Finset.range (n + 1), part_3 m c r l b := by
  refine points (α := S1024x512.Idx) cfg0.N (fun n h => (outsAt0 m c n h).2.2) (ix2 r l) (part_3 m c r l) (fun h => ?_) fun n h => ?_
  · refine (congrFun (congrArg (fun o => o.2.2) (first m c ⟨0, h⟩ rfl)) (ix2 r l)).trans ((new_3 _ _ r l).trans (Finset.sum_congr rfl fun s _ => ?_))
    exact congrArg₂ (· * ·) (blk_0 m c ⟨0, h⟩ s r) (blk_3 m c ⟨0, h⟩ s l)
  · refine (congrFun (congrArg (fun o => o.2.2) (later m c ⟨n + 1, h⟩ (Nat.le_add_left 1 n))) (ix2 r l)).trans ((add_3 _ _ _ r l).trans ?_)
    exact congrArg₂ (· + ·) rfl (Finset.sum_congr rfl fun s _ => congrArg₂ (· * ·) (blk_0 m c ⟨n + 1, h⟩ s r) (blk_3 m c ⟨n + 1, h⟩ s l))

def prod_3 (j : Fin 1024) (f : Fin 512) : EReal := ∑ t : Fin 8192, left m c t j * right_3 m c t f
def arr_3 : S1024x512.Idx → EReal := fun i => prod_3 m c (i 0) (i 1)

theorem arr_3_at (j : Fin 1024) (f : Fin 512) : arr_3 m c (ix2 j f) = prod_3 m c j f := rfl

theorem last_3 (t : Fin cfg0.N) (h : t.val % 8 = 7) (r : Fin 1024) (l : Fin 512) :
    (outsAt0 m c t.val t.isLt).2.2 (ix2 r l) = prod_3 m c r l := by
  rw [carried_3 m c r l t.val t.isLt, show t.val + 1 = 8 by have := lt_N t; omega]
  exact sum_blocks 8 (by norm_num) (fun t' => left m c t' r * right_3 m c t' l)

theorem array_3 : (dats m 0 c).arrAt 6 cfg0.N = arr_3 m c := by
  refine (dats m 0 c).arrAt_eq_of_covers 6 _ (by decide +kernel) fun t hf y => ?_
  obtain ⟨r, l, rfl⟩ : ∃ (r : Fin 1024) (l : Fin 512), y = (ix2 r l : S1024x512.Idx) := ⟨y 0, y 1, ValueIdx.eq_ix2 (n0 := 1024) (n1 := 512) y⟩
  have hplace : (((cfg0.win 6).blk t).view.emb (ix2 r l : S1024x512.Idx) : S1024x512.Idx) = ix2 r l :=
    (place (A := 1024) (B := 512) _ (index_6 t) (by omega) (by omega) r l _ fun a => by fin_cases a <;> rfl).trans
      (congrArg₂ (fun x y => ix2 x y) (slot_whole r) (slot_whole l))
  refine Eq.trans ?_ (congrArg (arr_3 m c) hplace.symm)
  rw [arr_3_at, ← last_3 m c t ((flush0_6 t).mp hf) r l]
  exact congrFun (after0_6 m c t) (ix2 r l)

theorem ref_3 (a : FVec Ideal S8192x1024 .f32) (b : FVec Ideal S8192x512 .f32) (j : Fin 1024) (f : Fin 512) :
    transpose Cert.Reference6Ideal.S1024x512 [1, 0] (Host.dotGeneral Cert.Reference6Ideal.dot_S8192x512_S8192x1024_S512x1024_0_0_1_1_n_n none b a)
        Cert.Reference6Ideal.Gen.transposes_S512x1024_S1024x512_1_0 (ix2 j f)
      = ∑ t : Fin 8192, b (ix2 t f) * a (ix2 t j) := by
  pointwise
  rfl

/-! ### The host's lines, and the reference -/

theorem head_v18 {F : FTy → Type} [FloatOps F] (W : Valuation τ sig (Elt F)) : StableHlo.after hostOps0 W (Proc.devRef .tc main_v18)
    = truncf .bf16 (hidden (W (Proc.devRef .tc main_arg0)) (W (Proc.devRef .tc main_arg1)) (W (Proc.devRef .tc main_arg2)) (W (Proc.devRef .tc main_arg3))) bitsLt_bf16_f32 := by
  after_results_simp <;> rfl
theorem head_v19 {F : FTy → Type} [FloatOps F] (W : Valuation τ sig (Elt F)) :
    StableHlo.after hostOps0 W (Proc.devRef .tc main_v19) = truncf .bf16 (W (Proc.devRef .tc main_arg4)) bitsLt_bf16_f32 := by
  after_results_simp <;> rfl
theorem head_v20 {F : FTy → Type} [FloatOps F] (W : Valuation τ sig (Elt F)) :
    StableHlo.after hostOps0 W (Proc.devRef .tc main_v20) = truncf .bf16 (W (Proc.devRef .tc main_arg5)) bitsLt_bf16_f32 := by
  after_results_simp <;> rfl
theorem head_v21 {F : FTy → Type} [FloatOps F] (W : Valuation τ sig (Elt F)) :
    StableHlo.after hostOps0 W (Proc.devRef .tc main_v21) = truncf .bf16 (W (Proc.devRef .tc main_arg6)) bitsLt_bf16_f32 := by
  after_results_simp <;> rfl

/-- Both programs end with the same three gradients. -/
theorem algebraic : Cert.algebraic_Kernel6Ideal_Reference6Ideal := by
  intro m ρ m' ρ' _ hargs
  refine ⟨_, _, _, ?_, Cert.Reference6Ideal.Value.run (F := Ideal) m' ρ'⟩
  refine (θ_run defs _ _).mono (fun r h c => ?_) (Cert.Kernel6Ideal.Value.run_blocks (F := Ideal) m ρ)
  obtain ⟨e0, e1, e2, e3, e4, e5, e6⟩ := hargs c
  refine ⟨(h c).1.trans ((array_1 m c).trans (funext fun i => ?_)), (h c).2.1.trans ((array_2 m c).trans (funext fun i => ?_)),
    (h c).2.2.1.trans ((array_3 m c).trans (funext fun i => ?_)), (h c).2.2.2⟩
  · obtain ⟨j, f, rfl⟩ : ∃ (j : Fin 1024) (f : Fin 1536), i = (ix2 j f : S1024x1536.Idx) := ⟨i 0, i 1, ValueIdx.eq_ix2 (n0 := 1024) (n1 := 1536) i⟩
    rw [arr_1_at]
    refine Eq.trans ?_ (ref_1 _ _ j f).symm
    refine Finset.sum_congr rfl fun t _ => (mul_comm _ _).trans (congrArg₂ (· * ·) ?_ ?_)
    · exact (congrFun (head_v19 _) (ix2 t f)).trans (congrFun e4.symm (ix2 t f))
    · refine (congrFun (head_v18 _) (ix2 t j)).trans ?_
      rw [e0, e1, e2, e3]
      rfl
  · obtain ⟨j, f, rfl⟩ : ∃ (j : Fin 1024) (f : Fin 1024), i = (ix2 j f : S1024x1024.Idx) := ⟨i 0, i 1, ValueIdx.eq_ix2 (n0 := 1024) (n1 := 1024) i⟩
    rw [arr_2_at]
    refine Eq.trans ?_ (ref_2 _ _ j f).symm
    refine Finset.sum_congr rfl fun t _ => (mul_comm _ _).trans (congrArg₂ (· * ·) ?_ ?_)
    · exact (congrFun (head_v20 _) (ix2 t f)).trans (congrFun e5.symm (ix2 t f))
    · refine (congrFun (head_v18 _) (ix2 t j)).trans ?_
      rw [e0, e1, e2, e3]
      rfl
  · obtain ⟨j, f, rfl⟩ : ∃ (j : Fin 1024) (f : Fin 512), i = (ix2 j f : S1024x512.Idx) := ⟨i 0, i 1, ValueIdx.eq_ix2 (n0 := 1024) (n1 := 512) i⟩
    rw [arr_3_at]
    refine Eq.trans ?_ (ref_3 _ _ j f).symm
    refine Finset.sum_congr rfl fun t _ => (mul_comm _ _).trans (congrArg₂ (· * ·) ?_ ?_)
    · exact (congrFun (head_v21 _) (ix2 t f)).trans (congrFun e6.symm (ix2 t f))
    · refine (congrFun (head_v18 _) (ix2 t j)).trans ?_
      rw [e0, e1, e2, e3]
      rfl

theorem frame_reference : Cert.quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩) (Cert.Reference6Ideal.Value.run (F := Ideal) m ρ)

end Cert.Mm.P6

end

end
-- ==== Proof.InWide.lean ====
/-
  The gradient of the input projection's weights, in the columns of the two gates and of the forgetting gate.
-/
module

public import proofs.«01_k».proof.Proof.InNarrow
public import proofs.«01_k».proof.Proof.Gen.Kernel7Ideal.Value
public import proofs.«01_k».proof.Proof.Gen.Reference7Ideal.Run

@[expose] public section

set_option maxRecDepth 16384

noncomputable section

namespace Cert.Mm.P7

open Cert.Kernel7Ideal Cert.Kernel7Ideal.Gen Idealize.ShloMosaic.ValueIdx Idealize.ShloMosaic.TcCoe Idealize.SL.Sem
open Idealize.ShloMosaic hiding ix1 ix2 ix3 ix4
open Cert.Mm.P5 (nil2)
open Cert.Mm.P3 (hidden)
open scoped BigOperators

/-! ### A point of the grid -/

section
variable {F : FTy → Type} [FloatOps F] (c : Dev nD) (i : grid0.Coords)
  (a1 : Memref sig .tc .vmem S2048x1024 .bf16) (h1 : a1.IsWhole)
  (a2 : Memref sig .tc .vmem S2048x1024 .bf16) (h2 : a2.IsWhole)
  (a3 : Memref sig .tc .vmem S2048x1024 .bf16) (h3 : a3.IsWhole)
  (a4 : Memref sig .tc .vmem S2048x128 .bf16) (h4 : a4.IsWhole)
  (a5 : Memref sig .tc .vmem S1024x1024 .f32) (h5 : a5.IsWhole)
  (a6 : Memref sig .tc .vmem S1024x1024 .f32) (h6 : a6.IsWhole)
  (a7 : Memref sig .tc .vmem S1024x128 .f32) (h7 : a7.IsWhole)
  (x0 : Vec F S2048x1024 .bf16) (x1 : Vec F S2048x1024 .bf16) (x2 : Vec F S2048x1024 .bf16) (x3 : Vec F S2048x128 .bf16)
  (s1 : Vec F S1024x1024 .f32) (s2 : Vec F S1024x1024 .f32) (s3 : Vec F S1024x128 .f32)

theorem out_A_1 (hc0 : cond0_0 i) (hc1 : ¬cond0_1 i) (hc2 : cond0_2 i) (hc3 : ¬cond0_3 i) (hc4 : cond0_4 i) (hc5 : ¬cond0_5 i) :
    out0_A_4 c i a1 h1 a2 h2 a3 h3 a4 h4 a5 h5 a6 h6 a7 h7 hc0 hc1 hc2 hc3 hc4 hc5 x0 x1 x2 x3 = k0_pay2 x0 x1 := by
  unfold out0_A_4
  rw [View.read_writes_eq_canon _ _ _ (cover0_A_4 c i a1 h1 a2 h2 a3 h3 a4 h4 a5 h5 a6 h6 a7 h7 hc0 hc1 hc2 hc3 hc4 hc5 x0 x1 x2 x3)]
  unfold kernelRun0_A
  dsimp only
  sl_unfold_words
  rw [View.canon_unit_zero (S := S1024x1024) nil2]
  simp only [View.readAt_eq_ld, h1.read_unread, h2.read_unread, h3.read_unread, h4.read_unread, h5.read_unread, h6.read_unread, h7.read_unread,
    View.ld_unit_zero (S := S2048x1024) nil2, View.ld_unit_zero (S := S2048x128) nil2, View.ld_unit_zero (S := S1024x1024) nil2, View.ld_unit_zero (S := S1024x128) nil2]

theorem out_A_2 (hc0 : cond0_0 i) (hc1 : ¬cond0_1 i) (hc2 : cond0_2 i) (hc3 : ¬cond0_3 i) (hc4 : cond0_4 i) (hc5 : ¬cond0_5 i) :
    out0_A_5 c i a1 h1 a2 h2 a3 h3 a4 h4 a5 h5 a6 h6 a7 h7 hc0 hc1 hc2 hc3 hc4 hc5 x0 x1 x2 x3 = k0_pay4 x0 x2 := by
  unfold out0_A_5
  rw [View.read_writes_eq_canon _ _ _ (cover0_A_5 c i a1 h1 a2 h2 a3 h3 a4 h4 a5 h5 a6 h6 a7 h7 hc0 hc1 hc2 hc3 hc4 hc5 x0 x1 x2 x3)]
  unfold kernelRun0_A
  dsimp only
  sl_unfold_words
  rw [View.canon_unit_zero (S := S1024x1024) nil2]
  simp only [View.readAt_eq_ld, h1.read_unread, h2.read_unread, h3.read_unread, h4.read_unread, h5.read_unread, h6.read_unread, h7.read_unread,
    View.ld_unit_zero (S := S2048x1024) nil2, View.ld_unit_zero (S := S2048x128) nil2, View.ld_unit_zero (S := S1024x1024) nil2, View.ld_unit_zero (S := S1024x128) nil2]

theorem out_A_3 (hc0 : cond0_0 i) (hc1 : ¬cond0_1 i) (hc2 : cond0_2 i) (hc3 : ¬cond0_3 i) (hc4 : cond0_4 i) (hc5 : ¬cond0_5 i) :
    out0_A_6 c i a1 h1 a2 h2 a3 h3 a4 h4 a5 h5 a6 h6 a7 h7 hc0 hc1 hc2 hc3 hc4 hc5 x0 x1 x2 x3 = k0_pay6 x0 x3 := by
  unfold out0_A_6
  rw [View.read_writes_eq_canon _ _ _ (cover0_A_6 c i a1 h1 a2 h2 a3 h3 a4 h4 a5 h5 a6 h6 a7 h7 hc0 hc1 hc2 hc3 hc4 hc5 x0 x1 x2 x3)]
  unfold kernelRun0_A
  dsimp only
  sl_unfold_words
  rw [View.canon_unit_zero (S := S1024x128) nil2]
  simp only [View.readAt_eq_ld, h1.read_unread, h2.read_unread, h3.read_unread, h4.read_unread, h5.read_unread, h6.read_unread, h7.read_unread,
    View.ld_unit_zero (S := S2048x1024) nil2, View.ld_unit_zero (S := S2048x128) nil2, View.ld_unit_zero (S := S1024x1024) nil2, View.ld_unit_zero (S := S1024x128) nil2]

theorem out_B_1 (hc0 : ¬cond0_0 i) (hc1 : cond0_1 i) (hc2 : ¬cond0_2 i) (hc3 : cond0_3 i) (hc4 : ¬cond0_4 i) (hc5 : cond0_5 i) :
    out0_B_4 c i a1 h1 a2 h2 a3 h3 a4 h4 a5 h5 a6 h6 a7 h7 hc0 hc1 hc2 hc3 hc4 hc5 x0 x1 x2 x3 s1 s2 s3 = k0_pay3 x0 x1 s1 := by
  unfold out0_B_4
  rw [View.read_writes_eq_canon _ _ _ (cover0_B_4 c i a1 h1 a2 h2 a3 h3 a4 h4 a5 h5 a6 h6 a7 h7 hc0 hc1 hc2 hc3 hc4 hc5 x0 x1 x2 x3 s1 s2 s3)]
  unfold kernelRun0_B
  dsimp only
  sl_unfold_words
  rw [View.canon_unit_zero (S := S1024x1024) nil2]
  simp only [View.readAt_eq_ld, h1.read_unread, h2.read_unread, h3.read_unread, h4.read_unread, h5.read_unread, h6.read_unread, h7.read_unread,
    View.ld_unit_zero (S := S2048x1024) nil2, View.ld_unit_zero (S := S2048x128) nil2, View.ld_unit_zero (S := S1024x1024) nil2, View.ld_unit_zero (S := S1024x128) nil2]

theorem out_B_2 (hc0 : ¬cond0_0 i) (hc1 : cond0_1 i) (hc2 : ¬cond0_2 i) (hc3 : cond0_3 i) (hc4 : ¬cond0_4 i) (hc5 : cond0_5 i) :
    out0_B_5 c i a1 h1 a2 h2 a3 h3 a4 h4 a5 h5 a6 h6 a7 h7 hc0 hc1 hc2 hc3 hc4 hc5 x0 x1 x2 x3 s1 s2 s3 = k0_pay5 x0 x2 s2 := by
  unfold out0_B_5
  rw [View.read_writes_eq_canon _ _ _ (cover0_B_5 c i a1 h1 a2 h2 a3 h3 a4 h4 a5 h5 a6 h6 a7 h7 hc0 hc1 hc2 hc3 hc4 hc5 x0 x1 x2 x3 s1 s2 s3)]
  unfold kernelRun0_B
  dsimp only
  sl_unfold_words
  rw [View.canon_unit_zero (S := S1024x1024) nil2]
  simp only [View.readAt_eq_ld, h1.read_unread, h2.read_unread, h3.read_unread, h4.read_unread, h5.read_unread, h6.read_unread, h7.read_unread,
    View.ld_unit_zero (S := S2048x1024) nil2, View.ld_unit_zero (S := S2048x128) nil2, View.ld_unit_zero (S := S1024x1024) nil2, View.ld_unit_zero (S := S1024x128) nil2]

theorem out_B_3 (hc0 : ¬cond0_0 i) (hc1 : cond0_1 i) (hc2 : ¬cond0_2 i) (hc3 : cond0_3 i) (hc4 : ¬cond0_4 i) (hc5 : cond0_5 i) :
    out0_B_6 c i a1 h1 a2 h2 a3 h3 a4 h4 a5 h5 a6 h6 a7 h7 hc0 hc1 hc2 hc3 hc4 hc5 x0 x1 x2 x3 s1 s2 s3 = k0_pay7 x0 x3 s3 := by
  unfold out0_B_6
  rw [View.read_writes_eq_canon _ _ _ (cover0_B_6 c i a1 h1 a2 h2 a3 h3 a4 h4 a5 h5 a6 h6 a7 h7 hc0 hc1 hc2 hc3 hc4 hc5 x0 x1 x2 x3 s1 s2 s3)]
  unfold kernelRun0_B
  dsimp only
  sl_unfold_words
  rw [View.canon_unit_zero (S := S1024x128) nil2]
  simp only [View.readAt_eq_ld, h1.read_unread, h2.read_unread, h3.read_unread, h4.read_unread, h5.read_unread, h6.read_unread, h7.read_unread,
    View.ld_unit_zero (S := S2048x1024) nil2, View.ld_unit_zero (S := S2048x128) nil2, View.ld_unit_zero (S := S1024x1024) nil2, View.ld_unit_zero (S := S1024x128) nil2]

end

section
variable {F : FTy → Type} [FloatOps F] (m : (ℓ : Loc nD τ sig) → Buf (Elt F) ℓ) (c : Dev nD) (t : Fin cfg0.N)

theorem lt_N : t.val < 4 := t.isLt

theorem first (h : t.val = 0) : outsAt0 m c t.val t.isLt
    = (k0_pay2 (iblk m c 0 t) (iblk m c 1 t), k0_pay4 (iblk m c 0 t) (iblk m c 2 t), k0_pay6 (iblk m c 0 t) (iblk m c 3 t)) :=
  (outsAt0_A m c t (by omega) (by omega) (by omega) (by omega) (by omega) (by omega)).trans
    (congrArg₂ Prod.mk (out_A_1 ..) (congrArg₂ Prod.mk (out_A_2 ..) (out_A_3 ..)))

theorem later (h : 1 ≤ t.val) : outsAt0 m c t.val t.isLt
    = (k0_pay3 (iblk m c 0 t) (iblk m c 1 t) (outsAt0 m c (t.val - 1) (Nat.lt_of_le_of_lt (Nat.sub_le _ _) t.isLt)).1,
      k0_pay5 (iblk m c 0 t) (iblk m c 2 t) (outsAt0 m c (t.val - 1) (Nat.lt_of_le_of_lt (Nat.sub_le _ _) t.isLt)).2.1,
      k0_pay7 (iblk m c 0 t) (iblk m c 3 t) (outsAt0 m c (t.val - 1) (Nat.lt_of_le_of_lt (Nat.sub_le _ _) t.isLt)).2.2) := by
  have hm : ¬t.val % 4 = 0 := by have := lt_N t; omega
  exact (outsAt0_B m c t hm h hm h hm h).trans (congrArg₂ Prod.mk (out_B_1 ..) (congrArg₂ Prod.mk (out_B_2 ..) (out_B_3 ..)))

end

/-! ### The products -/

theorem mm_1 (a : FVec Ideal S2048x1024 .bf16) (b : FVec Ideal S2048x1024 .bf16) (r : Fin 1024) (l : Fin 1024) :
    matmul dot_S2048x1024_S2048x1024_S1024x1024_0_0_1_1_n_n none a b (constant S1024x1024 .f32 0x00000000#32) (ix2 r l)
      = ∑ s : Fin 2048, a (ix2 s r) * b (ix2 s l) := by
  refine (Ideal.matmul_apply₁_of dot_S2048x1024_S2048x1024_S1024x1024_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem new_1 (a : FVec Ideal S2048x1024 .bf16) (b : FVec Ideal S2048x1024 .bf16) (r : Fin 1024) (l : Fin 1024) :
    k0_pay2 (F := Ideal) a b (ix2 r l) = ∑ s : Fin 2048, a (ix2 s r) * b (ix2 s l) := by
  refine Eq.trans ?_ (mm_1 a b r l)
  unfold k0_pay2 k0_pay1
  rw [shapeCast_self, shapeCast_self]

theorem add_1 (a : FVec Ideal S2048x1024 .bf16) (b : FVec Ideal S2048x1024 .bf16) (x : FVec Ideal S1024x1024 .f32) (r : Fin 1024) (l : Fin 1024) :
    k0_pay3 (F := Ideal) a b x (ix2 r l) = x (ix2 r l) + ∑ s : Fin 2048, a (ix2 s r) * b (ix2 s l) := by
  refine Eq.trans ?_ (congrArg (x (ix2 r l) + ·) (new_1 a b r l))
  unfold k0_pay3
  rw [shapeCast_self]
  rfl

theorem mm_2 (a : FVec Ideal S2048x1024 .bf16) (b : FVec Ideal S2048x1024 .bf16) (r : Fin 1024) (l : Fin 1024) :
    matmul dot_S2048x1024_S2048x1024_S1024x1024_0_0_1_1_n_n none a b (constant S1024x1024 .f32 0x00000000#32) (ix2 r l)
      = ∑ s : Fin 2048, a (ix2 s r) * b (ix2 s l) := by
  refine (Ideal.matmul_apply₁_of dot_S2048x1024_S2048x1024_S1024x1024_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem new_2 (a : FVec Ideal S2048x1024 .bf16) (b : FVec Ideal S2048x1024 .bf16) (r : Fin 1024) (l : Fin 1024) :
    k0_pay4 (F := Ideal) a b (ix2 r l) = ∑ s : Fin 2048, a (ix2 s r) * b (ix2 s l) := by
  refine Eq.trans ?_ (mm_2 a b r l)
  unfold k0_pay4 k0_pay1
  rw [shapeCast_self, shapeCast_self]

theorem add_2 (a : FVec Ideal S2048x1024 .bf16) (b : FVec Ideal S2048x1024 .bf16) (x : FVec Ideal S1024x1024 .f32) (r : Fin 1024) (l : Fin 1024) :
    k0_pay5 (F := Ideal) a b x (ix2 r l) = x (ix2 r l) + ∑ s : Fin 2048, a (ix2 s r) * b (ix2 s l) := by
  refine Eq.trans ?_ (congrArg (x (ix2 r l) + ·) (new_2 a b r l))
  unfold k0_pay5
  rw [shapeCast_self]
  rfl

theorem mm_3 (a : FVec Ideal S2048x1024 .bf16) (b : FVec Ideal S2048x128 .bf16) (r : Fin 1024) (l : Fin 128) :
    matmul dot_S2048x1024_S2048x128_S1024x128_0_0_1_1_n_n none a b (constant S1024x128 .f32 0x00000000#32) (ix2 r l)
      = ∑ s : Fin 2048, a (ix2 s r) * b (ix2 s l) := by
  refine (Ideal.matmul_apply₁_of dot_S2048x1024_S2048x128_S1024x128_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem new_3 (a : FVec Ideal S2048x1024 .bf16) (b : FVec Ideal S2048x128 .bf16) (r : Fin 1024) (l : Fin 128) :
    k0_pay6 (F := Ideal) a b (ix2 r l) = ∑ s : Fin 2048, a (ix2 s r) * b (ix2 s l) := by
  refine Eq.trans ?_ (mm_3 a b r l)
  unfold k0_pay6 k0_pay1
  rw [shapeCast_self, shapeCast_self]

theorem add_3 (a : FVec Ideal S2048x1024 .bf16) (b : FVec Ideal S2048x128 .bf16) (x : FVec Ideal S1024x128 .f32) (r : Fin 1024) (l : Fin 128) :
    k0_pay7 (F := Ideal) a b x (ix2 r l) = x (ix2 r l) + ∑ s : Fin 2048, a (ix2 s r) * b (ix2 s l) := by
  refine Eq.trans ?_ (congrArg (x (ix2 r l) + ·) (new_3 a b r l))
  unfold k0_pay7
  rw [shapeCast_self]
  rfl

variable (m : (ℓ : Loc nD τ sig) → Buf (Elt Ideal) ℓ) (c : Dev nD)

def left (t : Fin 8192) (j : Fin 1024) : EReal := (V m c main_v18 : S8192x1024.Idx → EReal) (ix2 t j)
def right_1 (t : Fin 8192) (f : Fin 1024) : EReal := (V m c main_v19 : S8192x1024.Idx → EReal) (ix2 t f)
def right_2 (t : Fin 8192) (f : Fin 1024) : EReal := (V m c main_v20 : S8192x1024.Idx → EReal) (ix2 t f)
def right_3 (t : Fin 8192) (f : Fin 128) : EReal := (V m c main_v21 : S8192x128.Idx → EReal) (ix2 t f)

theorem index_0 : ∀ t : Fin cfg0.N, cc0_transform_0 (grid0.coords t) = ![t.val, 0] := by decide +kernel
theorem index_1 : ∀ t : Fin cfg0.N, cc0_transform_1 (grid0.coords t) = ![t.val, 0] := by decide +kernel
theorem index_2 : ∀ t : Fin cfg0.N, cc0_transform_2 (grid0.coords t) = ![t.val, 0] := by decide +kernel
theorem index_3 : ∀ t : Fin cfg0.N, cc0_transform_3 (grid0.coords t) = ![t.val, 0] := by decide +kernel
theorem index_4 : ∀ t : Fin cfg0.N, cc0_transform_4 (grid0.coords t) = ![0, 0] := by decide +kernel
theorem index_5 : ∀ t : Fin cfg0.N, cc0_transform_5 (grid0.coords t) = ![0, 0] := by decide +kernel
theorem index_6 : ∀ t : Fin cfg0.N, cc0_transform_6 (grid0.coords t) = ![0, 0] := by decide +kernel

theorem blk_0 (t : Fin cfg0.N) (s : Fin 2048) (r : Fin 1024) :
    (iblk m c 0 t : S2048x1024.Idx → EReal) (ix2 s r) = left m c (slot 8192 2048 t.val s) r := by
  refine (congrArg (V m c main_v18 : S8192x1024.Idx → EReal) (place (A := 8192) (B := 1024) _ (index_0 t)
    (by have := lt_N t; omega) (by omega) s r _ fun a => by fin_cases a <;> rfl)).trans ?_
  rw [slot_whole]
  rfl

theorem blk_1 (t : Fin cfg0.N) (s : Fin 2048) (r : Fin 1024) :
    (iblk m c 1 t : S2048x1024.Idx → EReal) (ix2 s r) = right_1 m c (slot 8192 2048 t.val s) r := by
  refine (congrArg (V m c main_v19 : S8192x1024.Idx → EReal) (place (A := 8192) (B := 1024) _ (index_1 t)
    (by have := lt_N t; omega) (by omega) s r _ fun a => by fin_cases a <;> rfl)).trans ?_
  rw [slot_whole]
  rfl

theorem blk_2 (t : Fin cfg0.N) (s : Fin 2048) (r : Fin 1024) :
    (iblk m c 2 t : S2048x1024.Idx → EReal) (ix2 s r) = right_2 m c (slot 8192 2048 t.val s) r := by
  refine (congrArg (V m c main_v20 : S8192x1024.Idx → EReal) (place (A := 8192) (B := 1024) _ (index_2 t)
    (by have := lt_N t; omega) (by omega) s r _ fun a => by fin_cases a <;> rfl)).trans ?_
  rw [slot_whole]
  rfl

theorem blk_3 (t : Fin cfg0.N) (s : Fin 2048) (r : Fin 128) :
    (iblk m c 3 t : S2048x128.Idx → EReal) (ix2 s r) = right_3 m c (slot 8192 2048 t.val s) r := by
  refine (congrArg (V m c main_v21 : S8192x128.Idx → EReal) (place (A := 8192) (B := 128) _ (index_3 t)
    (by have := lt_N t; omega) (by omega) s r _ fun a => by fin_cases a <;> rfl)).trans ?_
  rw [slot_whole]
  rfl

/-! ### Piece 1 -/

/-- What a block of 2048 rows adds to an element. -/
def part_1 (r : Fin 1024) (l : Fin 1024) (b : ℕ) : EReal :=
  ∑ s : Fin 2048, left m c (slot 8192 2048 b s) r * right_1 m c (slot 8192 2048 b s) l

theorem carried_1 (r : Fin 1024) (l : Fin 1024) : ∀ (n : ℕ) (h : n < cfg0.N),
    (outsAt0 m c n h).1 (ix2 r l) = ∑ b ∈ Finset.range (n + 1), part_1 m c r l b := by
  refine points (α := S1024x1024.Idx) cfg0.N (fun n h => (outsAt0 m c n h).1) (ix2 r l) (part_1 m c r l) (fun h => ?_) fun n h => ?_
  · refine (congrFun (congrArg (fun o => o.1) (first m c ⟨0, h⟩ rfl)) (ix2 r l)).trans ((new_1 _ _ r l).trans (Finset.sum_congr rfl fun s _ => ?_))
    exact congrArg₂ (· * ·) (blk_0 m c ⟨0, h⟩ s r) (blk_1 m c ⟨0, h⟩ s l)
  · refine (congrFun (congrArg (fun o => o.1) (later m c ⟨n + 1, h⟩ (Nat.le_add_left 1 n))) (ix2 r l)).trans ((add_1 _ _ _ r l).trans ?_)
    exact congrArg₂ (· + ·) rfl (Finset.sum_congr rfl fun s _ => congrArg₂ (· * ·) (blk_0 m c ⟨n + 1, h⟩ s r) (blk_1 m c ⟨n + 1, h⟩ s l))

def prod_1 (j : Fin 1024) (f : Fin 1024) : EReal := ∑ t : Fin 8192, left m c t j * right_1 m c t f
def arr_1 : S1024x1024.Idx → EReal := fun i => prod_1 m c (i 0) (i 1)

theorem arr_1_at (j : Fin 1024) (f : Fin 1024) : arr_1 m c (ix2 j f) = prod_1 m c j f := rfl

theorem last_1 (t : Fin cfg0.N) (h : t.val % 4 = 3) (r : Fin 1024) (l : Fin 1024) :
    (outsAt0 m c t.val t.isLt).1 (ix2 r l) = prod_1 m c r l := by
  rw [carried_1 m c r l t.val t.isLt, show t.val + 1 = 4 by have := lt_N t; omega]
  exact sum_blocks 4 (by norm_num) (fun t' => left m c t' r * right_1 m c t' l)

theorem array_1 : (dats m 0 c).arrAt 4 cfg0.N = arr_1 m c := by
  refine (dats m 0 c).arrAt_eq_of_covers 4 _ (by decide +kernel) fun t hf y => ?_
  obtain ⟨r, l, rfl⟩ : ∃ (r : Fin 1024) (l : Fin 1024), y = (ix2 r l : S1024x1024.Idx) := ⟨y 0, y 1, ValueIdx.eq_ix2 (n0 := 1024) (n1 := 1024) y⟩
  have hplace : (((cfg0.win 4).blk t).view.emb (ix2 r l : S1024x1024.Idx) : S1024x1024.Idx) = ix2 r l :=
    (place (A := 1024) (B := 1024) _ (index_4 t) (by omega) (by omega) r l _ fun a => by fin_cases a <;> rfl).trans
      (congrArg₂ (fun x y => ix2 x y) (slot_whole r) (slot_whole l))
  refine Eq.trans ?_ (congrArg (arr_1 m c) hplace.symm)
  rw [arr_1_at, ← last_1 m c t ((flush0_4 t).mp hf) r l]
  exact congrFun (after0_4 m c t) (ix2 r l)

theorem ref_1 (a : FVec Ideal S8192x1024 .f32) (b : FVec Ideal S8192x1024 .f32) (j : Fin 1024) (f : Fin 1024) :
    transpose Cert.Reference7Ideal.S1024x1024 [1, 0] (Host.dotGeneral Cert.Reference7Ideal.dot_S8192x1024_S8192x1024_S1024x1024_0_0_1_1_n_n none b a)
        Cert.Reference7Ideal.Gen.transposes_S1024x1024_S1024x1024_1_0 (ix2 j f)
      = ∑ t : Fin 8192, b (ix2 t f) * a (ix2 t j) := by
  pointwise
  rfl

/-! ### Piece 2 -/

/-- What a block of 2048 rows adds to an element. -/
def part_2 (r : Fin 1024) (l : Fin 1024) (b : ℕ) : EReal :=
  ∑ s : Fin 2048, left m c (slot 8192 2048 b s) r * right_2 m c (slot 8192 2048 b s) l

theorem carried_2 (r : Fin 1024) (l : Fin 1024) : ∀ (n : ℕ) (h : n < cfg0.N),
    (outsAt0 m c n h).2.1 (ix2 r l) = ∑ b ∈ Finset.range (n + 1), part_2 m c r l b := by
  refine points (α := S1024x1024.Idx) cfg0.N (fun n h => (outsAt0 m c n h).2.1) (ix2 r l) (part_2 m c r l) (fun h => ?_) fun n h => ?_
  · refine (congrFun (congrArg (fun o => o.2.1) (first m c ⟨0, h⟩ rfl)) (ix2 r l)).trans ((new_2 _ _ r l).trans (Finset.sum_congr rfl fun s _ => ?_))
    exact congrArg₂ (· * ·) (blk_0 m c ⟨0, h⟩ s r) (blk_2 m c ⟨0, h⟩ s l)
  · refine (congrFun (congrArg (fun o => o.2.1) (later m c ⟨n + 1, h⟩ (Nat.le_add_left 1 n))) (ix2 r l)).trans ((add_2 _ _ _ r l).trans ?_)
    exact congrArg₂ (· + ·) rfl (Finset.sum_congr rfl fun s _ => congrArg₂ (· * ·) (blk_0 m c ⟨n + 1, h⟩ s r) (blk_2 m c ⟨n + 1, h⟩ s l))

def prod_2 (j : Fin 1024) (f : Fin 1024) : EReal := ∑ t : Fin 8192, left m c t j * right_2 m c t f
def arr_2 : S1024x1024.Idx → EReal := fun i => prod_2 m c (i 0) (i 1)

theorem arr_2_at (j : Fin 1024) (f : Fin 1024) : arr_2 m c (ix2 j f) = prod_2 m c j f := rfl

theorem last_2 (t : Fin cfg0.N) (h : t.val % 4 = 3) (r : Fin 1024) (l : Fin 1024) :
    (outsAt0 m c t.val t.isLt).2.1 (ix2 r l) = prod_2 m c r l := by
  rw [carried_2 m c r l t.val t.isLt, show t.val + 1 = 4 by have := lt_N t; omega]
  exact sum_blocks 4 (by norm_num) (fun t' => left m c t' r * right_2 m c t' l)

theorem array_2 : (dats m 0 c).arrAt 5 cfg0.N = arr_2 m c := by
  refine (dats m 0 c).arrAt_eq_of_covers 5 _ (by decide +kernel) fun t hf y => ?_
  obtain ⟨r, l, rfl⟩ : ∃ (r : Fin 1024) (l : Fin 1024), y = (ix2 r l : S1024x1024.Idx) := ⟨y 0, y 1, ValueIdx.eq_ix2 (n0 := 1024) (n1 := 1024) y⟩
  have hplace : (((cfg0.win 5).blk t).view.emb (ix2 r l : S1024x1024.Idx) : S1024x1024.Idx) = ix2 r l :=
    (place (A := 1024) (B := 1024) _ (index_5 t) (by omega) (by omega) r l _ fun a => by fin_cases a <;> rfl).trans
      (congrArg₂ (fun x y => ix2 x y) (slot_whole r) (slot_whole l))
  refine Eq.trans ?_ (congrArg (arr_2 m c) hplace.symm)
  rw [arr_2_at, ← last_2 m c t ((flush0_5 t).mp hf) r l]
  exact congrFun (after0_5 m c t) (ix2 r l)

theorem ref_2 (a : FVec Ideal S8192x1024 .f32) (b : FVec Ideal S8192x1024 .f32) (j : Fin 1024) (f : Fin 1024) :
    transpose Cert.Reference7Ideal.S1024x1024 [1, 0] (Host.dotGeneral Cert.Reference7Ideal.dot_S8192x1024_S8192x1024_S1024x1024_0_0_1_1_n_n none b a)
        Cert.Reference7Ideal.Gen.transposes_S1024x1024_S1024x1024_1_0 (ix2 j f)
      = ∑ t : Fin 8192, b (ix2 t f) * a (ix2 t j) := by
  pointwise
  rfl

/-! ### Piece 3 -/

/-- What a block of 2048 rows adds to an element. -/
def part_3 (r : Fin 1024) (l : Fin 128) (b : ℕ) : EReal :=
  ∑ s : Fin 2048, left m c (slot 8192 2048 b s) r * right_3 m c (slot 8192 2048 b s) l

theorem carried_3 (r : Fin 1024) (l : Fin 128) : ∀ (n : ℕ) (h : n < cfg0.N),
    (outsAt0 m c n h).2.2 (ix2 r l) = ∑ b ∈ Finset.range (n + 1), part_3 m c r l b := by
  refine points (α := S1024x128.Idx) cfg0.N (fun n h => (outsAt0 m c n h).2.2) (ix2 r l) (part_3 m c r l) (fun h => ?_) fun n h => ?_
  · refine (congrFun (congrArg (fun o => o.2.2) (first m c ⟨0, h⟩ rfl)) (ix2 r l)).trans ((new_3 _ _ r l).trans (Finset.sum_congr rfl fun s _ => ?_))
    exact congrArg₂ (· * ·) (blk_0 m c ⟨0, h⟩ s r) (blk_3 m c ⟨0, h⟩ s l)
  · refine (congrFun (congrArg (fun o => o.2.2) (later m c ⟨n + 1, h⟩ (Nat.le_add_left 1 n))) (ix2 r l)).trans ((add_3 _ _ _ r l).trans ?_)
    exact congrArg₂ (· + ·) rfl (Finset.sum_congr rfl fun s _ => congrArg₂ (· * ·) (blk_0 m c ⟨n + 1, h⟩ s r) (blk_3 m c ⟨n + 1, h⟩ s l))

def prod_3 (j : Fin 1024) (f : Fin 128) : EReal := ∑ t : Fin 8192, left m c t j * right_3 m c t f
def arr_3 : S1024x128.Idx → EReal := fun i => prod_3 m c (i 0) (i 1)

theorem arr_3_at (j : Fin 1024) (f : Fin 128) : arr_3 m c (ix2 j f) = prod_3 m c j f := rfl

theorem last_3 (t : Fin cfg0.N) (h : t.val % 4 = 3) (r : Fin 1024) (l : Fin 128) :
    (outsAt0 m c t.val t.isLt).2.2 (ix2 r l) = prod_3 m c r l := by
  rw [carried_3 m c r l t.val t.isLt, show t.val + 1 = 4 by have := lt_N t; omega]
  exact sum_blocks 4 (by norm_num) (fun t' => left m c t' r * right_3 m c t' l)

theorem array_3 : (dats m 0 c).arrAt 6 cfg0.N = arr_3 m c := by
  refine (dats m 0 c).arrAt_eq_of_covers 6 _ (by decide +kernel) fun t hf y => ?_
  obtain ⟨r, l, rfl⟩ : ∃ (r : Fin 1024) (l : Fin 128), y = (ix2 r l : S1024x128.Idx) := ⟨y 0, y 1, ValueIdx.eq_ix2 (n0 := 1024) (n1 := 128) y⟩
  have hplace : (((cfg0.win 6).blk t).view.emb (ix2 r l : S1024x128.Idx) : S1024x128.Idx) = ix2 r l :=
    (place (A := 1024) (B := 128) _ (index_6 t) (by omega) (by omega) r l _ fun a => by fin_cases a <;> rfl).trans
      (congrArg₂ (fun x y => ix2 x y) (slot_whole r) (slot_whole l))
  refine Eq.trans ?_ (congrArg (arr_3 m c) hplace.symm)
  rw [arr_3_at, ← last_3 m c t ((flush0_6 t).mp hf) r l]
  exact congrFun (after0_6 m c t) (ix2 r l)

theorem ref_3 (a : FVec Ideal S8192x1024 .f32) (b : FVec Ideal S8192x128 .f32) (j : Fin 1024) (f : Fin 128) :
    transpose Cert.Reference7Ideal.S1024x128 [1, 0] (Host.dotGeneral Cert.Reference7Ideal.dot_S8192x128_S8192x1024_S128x1024_0_0_1_1_n_n none b a)
        Cert.Reference7Ideal.Gen.transposes_S128x1024_S1024x128_1_0 (ix2 j f)
      = ∑ t : Fin 8192, b (ix2 t f) * a (ix2 t j) := by
  pointwise
  rfl

/-! ### The host's lines, and the reference -/

theorem head_v18 {F : FTy → Type} [FloatOps F] (W : Valuation τ sig (Elt F)) : StableHlo.after hostOps0 W (Proc.devRef .tc main_v18)
    = truncf .bf16 (hidden (W (Proc.devRef .tc main_arg0)) (W (Proc.devRef .tc main_arg1)) (W (Proc.devRef .tc main_arg2)) (W (Proc.devRef .tc main_arg3))) bitsLt_bf16_f32 := by
  after_results_simp <;> rfl
theorem head_v19 {F : FTy → Type} [FloatOps F] (W : Valuation τ sig (Elt F)) :
    StableHlo.after hostOps0 W (Proc.devRef .tc main_v19) = truncf .bf16 (W (Proc.devRef .tc main_arg4)) bitsLt_bf16_f32 := by
  after_results_simp <;> rfl
theorem head_v20 {F : FTy → Type} [FloatOps F] (W : Valuation τ sig (Elt F)) :
    StableHlo.after hostOps0 W (Proc.devRef .tc main_v20) = truncf .bf16 (W (Proc.devRef .tc main_arg5)) bitsLt_bf16_f32 := by
  after_results_simp <;> rfl
theorem head_v21 {F : FTy → Type} [FloatOps F] (W : Valuation τ sig (Elt F)) :
    StableHlo.after hostOps0 W (Proc.devRef .tc main_v21) = truncf .bf16 (W (Proc.devRef .tc main_arg6)) bitsLt_bf16_f32 := by
  after_results_simp <;> rfl

/-- Both programs end with the same three gradients. -/
theorem algebraic : Cert.algebraic_Kernel7Ideal_Reference7Ideal := by
  intro m ρ m' ρ' _ hargs
  refine ⟨_, _, _, ?_, Cert.Reference7Ideal.Value.run (F := Ideal) m' ρ'⟩
  refine (θ_run defs _ _).mono (fun r h c => ?_) (Cert.Kernel7Ideal.Value.run_blocks (F := Ideal) m ρ)
  obtain ⟨e0, e1, e2, e3, e4, e5, e6⟩ := hargs c
  refine ⟨(h c).1.trans ((array_1 m c).trans (funext fun i => ?_)), (h c).2.1.trans ((array_2 m c).trans (funext fun i => ?_)),
    (h c).2.2.1.trans ((array_3 m c).trans (funext fun i => ?_)), (h c).2.2.2⟩
  · obtain ⟨j, f, rfl⟩ : ∃ (j : Fin 1024) (f : Fin 1024), i = (ix2 j f : S1024x1024.Idx) := ⟨i 0, i 1, ValueIdx.eq_ix2 (n0 := 1024) (n1 := 1024) i⟩
    rw [arr_1_at]
    refine Eq.trans ?_ (ref_1 _ _ j f).symm
    refine Finset.sum_congr rfl fun t _ => (mul_comm _ _).trans (congrArg₂ (· * ·) ?_ ?_)
    · exact (congrFun (head_v19 _) (ix2 t f)).trans (congrFun e4.symm (ix2 t f))
    · refine (congrFun (head_v18 _) (ix2 t j)).trans ?_
      rw [e0, e1, e2, e3]
      rfl
  · obtain ⟨j, f, rfl⟩ : ∃ (j : Fin 1024) (f : Fin 1024), i = (ix2 j f : S1024x1024.Idx) := ⟨i 0, i 1, ValueIdx.eq_ix2 (n0 := 1024) (n1 := 1024) i⟩
    rw [arr_2_at]
    refine Eq.trans ?_ (ref_2 _ _ j f).symm
    refine Finset.sum_congr rfl fun t _ => (mul_comm _ _).trans (congrArg₂ (· * ·) ?_ ?_)
    · exact (congrFun (head_v20 _) (ix2 t f)).trans (congrFun e5.symm (ix2 t f))
    · refine (congrFun (head_v18 _) (ix2 t j)).trans ?_
      rw [e0, e1, e2, e3]
      rfl
  · obtain ⟨j, f, rfl⟩ : ∃ (j : Fin 1024) (f : Fin 128), i = (ix2 j f : S1024x128.Idx) := ⟨i 0, i 1, ValueIdx.eq_ix2 (n0 := 1024) (n1 := 128) i⟩
    rw [arr_3_at]
    refine Eq.trans ?_ (ref_3 _ _ j f).symm
    refine Finset.sum_congr rfl fun t _ => (mul_comm _ _).trans (congrArg₂ (· * ·) ?_ ?_)
    · exact (congrFun (head_v21 _) (ix2 t f)).trans (congrFun e6.symm (ix2 t f))
    · refine (congrFun (head_v18 _) (ix2 t j)).trans ?_
      rw [e0, e1, e2, e3]
      rfl

theorem frame_reference : Cert.quiescent_Reference7Ideal (hReference7Ideal := Cert.Reference7Ideal.Gen.facts) := fun m ρ _ =>
  (θ_run Cert.Reference7Ideal.defs _ _).mono (fun r h => ⟨fun c => (h c).2.2.2, sem_eq_zero_of_no_sems (by decide) r.2⟩) (Cert.Reference7Ideal.Value.run (F := Ideal) m ρ)

end Cert.Mm.P7

end

end
-- ==== Proof.BranchDx.lean ====
/-
  The gradient of the first branch projection's operand: what the grid leaves, and the two programs' results are equal.
-/
module

public import proofs.«01_k».proof.Proof.InWide
public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

namespace Cert.Mm.P12

open Cert.Kernel12Ideal Cert.Kernel12Ideal.Gen Idealize.ShloMosaic.ValueIdx Idealize.ShloMosaic.TcCoe Idealize.SL.Sem
open Idealize.ShloMosaic hiding ix1 ix2 ix3 ix4
open Cert.Mm.P5 (nil2)
open scoped BigOperators

theorem mm_nt (a : FVec Ideal S1024x1024 .bf16) (b : FVec Ideal S512x1024 .bf16) (r : Fin 1024) (l : Fin 512) :
    matmul dot_S1024x1024_S512x1024_S1024x512_1_1_0_0_n_n none a b (constant S1024x512 .f32 0x00000000#32) (ix2 r l)
      = ∑ j : Fin 1024, a (ix2 r j) * b (ix2 l j) := by
  refine (Ideal.matmul_transposedRhs_apply (M := 1024) (K := 1024) (N := 512) none a b _ r l).trans ?_
  rw [constant_apply, Ideal.ofBits_zero_f32, zero_add]

theorem pay_apply (a : FVec Ideal S1024x1024 .bf16) (b : FVec Ideal S512x1024 .bf16) (r : Fin 1024) (l : Fin 512) :
    k0_pay1 (F := Ideal) a b (ix2 r l) = ∑ j : Fin 1024, a (ix2 r j) * b (ix2 l j) := by
  refine Eq.trans ?_ (mm_nt a b r l)
  unfold k0_pay1
  rw [shapeCast_self, shapeCast_self]

theorem out_eq {F : FTy → Type} [FloatOps F] (a : Vec F S1024x1024 .bf16) (b : Vec F S512x1024 .bf16) : out0_2 a b = k0_pay1 a b := by
  unfold out0_2
  rw [View.canon_unit_zero (S := S1024x512) nil2, View.ld_unit_zero (S := S1024x1024) nil2, View.ld_unit_zero (S := S512x1024) nil2]

variable (m : (ℓ : Loc nD τ sig) → Buf (Elt Ideal) ℓ) (c : Dev nD)

def left (t : Fin 8192) (j : Fin 1024) : EReal := (V m c main_v0 : S8192x1024.Idx → EReal) (ix2 t j)
def right (l : Fin 512) (j : Fin 1024) : EReal := (V m c main_v1 : S512x1024.Idx → EReal) (ix2 l j)

theorem index_0 : ∀ t : Fin cfg0.N, cc0_transform_0 (grid0.coords t) = ![t.val, 0] := by decide +kernel
theorem index_1 : ∀ t : Fin cfg0.N, cc0_transform_1 (grid0.coords t) = ![0, 0] := by decide +kernel
theorem index_2 : ∀ t : Fin cfg0.N, cc0_transform_2 (grid0.coords t) = ![t.val, 0] := by decide +kernel

theorem lt_N (t : Fin cfg0.N) : t.val < 8 := t.isLt

theorem blk_0 (t : Fin cfg0.N) (r : Fin 1024) (j : Fin 1024) :
    (iblk m c 0 t : S1024x1024.Idx → EReal) (ix2 r j) = left m c (slot 8192 1024 t.val r) j := by
  refine (congrArg (V m c main_v0 : S8192x1024.Idx → EReal) (place (A := 8192) (B := 1024) _ (index_0 t)
    (by have := lt_N t; omega) (by omega) r j _ fun a => by fin_cases a <;> rfl)).trans ?_
  rw [slot_whole]
  rfl

theorem blk_1 (t : Fin cfg0.N) (l : Fin 512) (j : Fin 1024) : (iblk m c 1 t : S512x1024.Idx → EReal) (ix2 l j) = right m c l j := by
  refine (congrArg (V m c main_v1 : S512x1024.Idx → EReal) (place (A := 512) (B := 1024) _ (index_1 t)
    (by omega) (by omega) l j _ fun a => by fin_cases a <;> rfl)).trans ?_
  rw [slot_whole, slot_whole]
  rfl

def prod (t : Fin 8192) (l : Fin 512) : EReal := ∑ j : Fin 1024, left m c t j * right m c l j
def arr : S8192x512.Idx → EReal := fun i => prod m c (i 0) (i 1)

theorem arr_at (t : Fin 8192) (l : Fin 512) : arr m c (ix2 t l) = prod m c t l := rfl

theorem at_2 (t : Fin cfg0.N) (r : Fin 1024) (l : Fin 512) :
    out0_2 (F := Ideal) (iblk m c 0 t) (iblk m c 1 t) (ix2 r l) = prod m c (slot 8192 1024 t.val r) l := by
  rw [out_eq]
  refine (pay_apply _ _ r l).trans (Finset.sum_congr rfl fun j _ => congrArg₂ (· * ·) (blk_0 m c t r j) (blk_1 m c t l j))

theorem arr2 : (dats m 0 c).arrAt 2 cfg0.N = arr m c := by
  refine (dats m 0 c).arrAt_eq_of_covers 2 _ (by decide +kernel) fun t hf y => ?_
  obtain ⟨r, l, rfl⟩ : ∃ (r : Fin 1024) (l : Fin 512), y = (ix2 r l : S1024x512.Idx) := ⟨y 0, y 1, ValueIdx.eq_ix2 (n0 := 1024) (n1 := 512) y⟩
  have hplace : (((cfg0.win 2).blk t).view.emb (ix2 r l : S1024x512.Idx) : S8192x512.Idx) = ix2 (slot 8192 1024 t.val r) l :=
    (place (A := 8192) (B := 512) _ (index_2 t) (by have := lt_N t; omega) (by omega) r l _ fun a => by fin_cases a <;> rfl).trans
      (congrArg (fun x => ix2 (slot 8192 1024 t.val r) x) (slot_whole l))
  refine Eq.trans ?_ (congrArg (arr m c) hplace.symm)
  rw [arr_at, ← at_2 m c t r l]
  exact congrFun (after0_2 m c t) (ix2 r l)

theorem head_v0 {F : FTy → Type} [FloatOps F] (W : Valuation τ sig (Elt F)) :
    StableHlo.after hostOps0 W (Proc.devRef .tc main_v0) = truncf .bf16 (W (Proc.devRef .tc main_arg1)) bitsLt_bf16_f32 := by
  after_results_simp <;> rfl
theorem head_v1 {F : FTy → Type} [FloatOps F] (W : Valuation τ sig (Elt F)) :
    StableHlo.after hostOps0 W (Proc.devRef .tc main_v1) = truncf .bf16 (W (Proc.devRef .tc main_arg0)) bitsLt_bf16_f32 := by
  after_results_simp <;> rfl

theorem ref_apply (a : FVec Ideal S8192x1024 .f32) (b : FVec Ideal S512x1024 .f32) (t : Fin 8192) (l : Fin 512) :
    Host.dotGeneral Cert.Reference12Ideal.dot_S8192x1024_S512x1024_S8192x512_1_1_0_0_n_n none a b (ix2 t l)
      = ∑ j : Fin 1024, a (ix2 t j) * b (ix2 l j) := by
  pointwise
  rfl

/-- Both programs end with the same gradient. -/
theorem algebraic : Cert.algebraic_Kernel12Ideal_Reference12Ideal := by
  intro m ρ m' ρ' _ hargs
  refine ⟨_, ?_, Cert.Reference12Ideal.Value.run (F := Ideal) m' ρ'⟩
  refine (θ_run defs _ _).mono (fun r h c => ?_) (Cert.Kernel12Ideal.Value.run_blocks (F := Ideal) m ρ)
  obtain ⟨e0, e1⟩ := hargs c
  refine ⟨(h c).1.trans ((arr2 m c).trans (funext fun i => ?_)), (h c).2⟩
  obtain ⟨t, l, rfl⟩ : ∃ (t : Fin 8192) (l : Fin 512), i = (ix2 t l : S8192x512.Idx) := ⟨i 0, i 1, ValueIdx.eq_ix2 (n0 := 8192) (n1 := 512) i⟩
  rw [arr_at]
  refine Eq.trans ?_ (ref_apply _ _ t l).symm
  refine Finset.sum_congr rfl fun j _ => congrArg₂ (· * ·) ?_ ?_
  · exact (congrFun (head_v0 _) (ix2 t j)).trans (congrFun e1.symm (ix2 t j))
  · exact (congrFun (head_v1 _) (ix2 l j)).trans (congrFun e0.symm (ix2 l j))

theorem frame_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩) (Cert.Reference12Ideal.Value.run (F := Ideal) m ρ)

end Cert.Mm.P12

end

end
-- ==== Proof.BranchDw.lean ====
/-
  The gradient of the first branch projection's weights: what the grid leaves, and the two programs' results are equal.
-/
module

public import proofs.«01_k».proof.Proof.BranchDx
public import proofs.«01_k».proof.Proof.Gen.Kernel13Ideal.Value
public import proofs.«01_k».proof.Proof.Gen.Reference13Ideal.Run

@[expose] public section

set_option maxRecDepth 16384

noncomputable section

namespace Cert.Mm.P13

open Cert.Kernel13Ideal Cert.Kernel13Ideal.Gen Idealize.ShloMosaic.ValueIdx Idealize.ShloMosaic.TcCoe Idealize.SL.Sem
open Idealize.ShloMosaic hiding ix1 ix2 ix3 ix4
open Cert.Mm.P5 (nil2)
open scoped BigOperators

/-! ### A point of the grid -/

section
variable {F : FTy → Type} [FloatOps F] (c : Dev nD) (i : grid0.Coords)
  (a3 : Memref sig .tc .vmem S2048x512 .bf16) (h3 : a3.IsWhole)
  (a4 : Memref sig .tc .vmem S2048x1024 .bf16) (h4 : a4.IsWhole)
  (a5 : Memref sig .tc .vmem S512x1024 .f32) (h5 : a5.IsWhole)
  (a6 : Memref sig .tc .vmem S512x1024 .f32) (h6 : a6.IsWhole)
  (x0 : Vec F S2048x512 .bf16) (x1 : Vec F S2048x1024 .bf16) (s : Vec F S512x1024 .f32)

theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S512x1024) nil2]
  simp only [View.readAt_eq_ld, h3.read_unread, h4.read_unread, View.ld_unit_zero (S := S2048x512) nil2, View.ld_unit_zero (S := S2048x1024) nil2]

theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero (S := S512x1024) nil2]
  simp only [View.readAt_eq_ld, h3.read_unread, h4.read_unread, h6.read_unread, View.ld_unit_zero (S := S2048x512) nil2, View.ld_unit_zero (S := S2048x1024) nil2,
    View.ld_unit_zero (S := S512x1024) nil2]

theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero (S := S512x1024) nil2]
  simp only [View.readAt_eq_ld, h3.read_unread, h4.read_unread, h6.read_unread, View.ld_unit_zero (S := S2048x512) nil2, View.ld_unit_zero (S := S2048x1024) nil2,
    View.ld_unit_zero (S := S512x1024) nil2]

theorem out_C (hc0 : ¬cond0_0 i) (hc1 : cond0_1 i) (hc2 : cond0_2 i) :
    out0_C_2 c i a3 h3 a4 h4 a5 h5 a6 h6 hc0 hc1 hc2 x0 x1 s = k0_pay3 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero (S := S512x1024) nil2, View.readCov_unit_zero (S := S512x1024) _ nil2]
  simp only [View.readAt_eq_ld, h3.read_unread, h4.read_unread, h6.read_unread, View.ld_unit_zero (S := S2048x512) nil2, View.ld_unit_zero (S := S2048x1024) nil2,
    View.ld_unit_zero (S := S512x1024) nil2]
  try rfl

end

section
variable {F : FTy → Type} [FloatOps F] (m : (ℓ : Loc nD τ sig) → Buf (Elt F) ℓ) (c : Dev nD) (t : Fin cfg0.N)

theorem lt_N : t.val < 4 := t.isLt

theorem first (h : t.val % 4 = 0) : (outsAt0 m c t.val t.isLt).2 = k0_pay2 (iblk m c 0 t) (iblk m c 1 t) := by
  have := lt_N t
  rw [outsAt0_A m c t h (by omega) (by omega)]
  dsimp only
  rw [sout_A]

theorem later (h : ¬t.val % 4 = 0) :
    (outsAt0 m c t.val t.isLt).2 = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    rw [sout_C]
  · rw [outsAt0_B m c t h (by omega) h3]
    dsimp only
    rw [sout_B]

/-- What is written back is what is carried. -/
theorem written (h : t.val % 4 = 3) : (outsAt0 m c t.val t.isLt).1 = (outsAt0 m c t.val t.isLt).2 := by
  rw [outsAt0_C m c t (by omega) (by omega) h]
  dsimp only
  rw [sout_C, out_C]

end

/-! ### The products -/

theorem mm_tn (a : FVec Ideal S2048x512 .bf16) (b : FVec Ideal S2048x1024 .bf16) (r : Fin 512) (l : Fin 1024) :
    matmul dot_S2048x512_S2048x1024_S512x1024_0_0_1_1_n_n none a b (constant S512x1024 .f32 0x00000000#32) (ix2 r l)
      = ∑ s : Fin 2048, a (ix2 s r) * b (ix2 s l) := by
  refine (Ideal.matmul_apply₁_of dot_S2048x512_S2048x1024_S512x1024_0_0_1_1_n_n (a := 0) rfl (K := 2048) rfl a b _ _
    (fun s => ix2 s r) (fun s => ix2 s l) (fun s => ?_) (fun s => ?_)).trans ?_
  · rw [Shape.Idx.norm_def]
    funext i
    match i with
    | ⟨0, _⟩ => rfl
    | ⟨1, _⟩ => rfl
  · rw [Shape.Idx.norm_def]
    funext i
    match i with
    | ⟨0, _⟩ => rfl
    | ⟨1, _⟩ => rfl
  · rw [constant_apply, Ideal.ofBits_zero_f32, zero_add]

theorem pay1_apply (a : FVec Ideal S2048x512 .bf16) (b : FVec Ideal S2048x1024 .bf16) (r : Fin 512) (l : Fin 1024) :
    k0_pay1 (F := Ideal) a b (ix2 r l) = ∑ s : Fin 2048, a (ix2 s r) * b (ix2 s l) := by
  refine Eq.trans ?_ (mm_tn a b r l)
  unfold k0_pay1
  rw [shapeCast_self, shapeCast_self]

theorem pay2_apply (a : FVec Ideal S2048x512 .bf16) (b : FVec Ideal S2048x1024 .bf16) (r : Fin 512) (l : Fin 1024) :
    k0_pay2 (F := Ideal) a b (ix2 r l) = ∑ s : Fin 2048, a (ix2 s r) * b (ix2 s l) := by
  refine Eq.trans ?_ (pay1_apply a b r l)
  unfold k0_pay2
  rw [shapeCast_self]

theorem pay3_apply (a : FVec Ideal S2048x512 .bf16) (b : FVec Ideal S2048x1024 .bf16) (x : FVec Ideal S512x1024 .f32) (r : Fin 512) (l : Fin 1024) :
    k0_pay3 (F := Ideal) a b x (ix2 r l) = x (ix2 r l) + ∑ s : Fin 2048, a (ix2 s r) * b (ix2 s l) := by
  refine Eq.trans ?_ (congrArg (x (ix2 r l) + ·) (pay1_apply a b r l))
  unfold k0_pay3
  rw [shapeCast_self]
  rfl

variable (m : (ℓ : Loc nD τ sig) → Buf (Elt Ideal) ℓ) (c : Dev nD)

def left (t : Fin 8192) (f : Fin 512) : EReal := (V m c main_v0 : S8192x512.Idx → EReal) (ix2 t f)
def right (t : Fin 8192) (j : Fin 1024) : EReal := (V m c main_v1 : S8192x1024.Idx → EReal) (ix2 t j)

theorem index_0 : ∀ t : Fin cfg0.N, cc0_transform_0 (grid0.coords t) = ![t.val % 4, t.val / 4] := by decide +kernel
theorem index_1 : ∀ t : Fin cfg0.N, cc0_transform_1 (grid0.coords t) = ![t.val % 4, 0] := by decide +kernel
theorem index_2 : ∀ t : Fin cfg0.N, cc0_transform_2 (grid0.coords t) = ![t.val / 4, 0] := by decide +kernel

theorem blk_0 (t : Fin cfg0.N) (s : Fin 2048) (r : Fin 512) :
    (iblk m c 0 t : S2048x512.Idx → EReal) (ix2 s r) = left m c (slot 8192 2048 (t.val % 4) s) (slot 512 512 (t.val / 4) r) :=
  congrArg (V m c main_v0 : S8192x512.Idx → EReal) (place (A := 8192) (B := 512) _ (index_0 t)
    (by have := lt_N t; omega) (by have := lt_N t; omega) s r _ fun a => by fin_cases a <;> rfl)

theorem blk_1 (t : Fin cfg0.N) (s : Fin 2048) (l : Fin 1024) :
    (iblk m c 1 t : S2048x1024.Idx → EReal) (ix2 s l) = right m c (slot 8192 2048 (t.val % 4) s) l := by
  refine (congrArg (V m c main_v1 : S8192x1024.Idx → EReal) (place (A := 8192) (B := 1024) _ (index_1 t)
    (by have := lt_N t; omega) (by omega) s l _ fun a => by fin_cases a <;> rfl)).trans ?_
  rw [slot_whole]
  rfl

/-- What a block of 2048 rows adds to an element. -/
def part (r : Fin 512) (l : Fin 1024) (i k : ℕ) : EReal :=
  ∑ s : Fin 2048, left m c (slot 8192 2048 k s) (slot 512 512 i r) * right m c (slot 8192 2048 k s) l

theorem carried (r : Fin 512) (l : Fin 1024) : ∀ (n : ℕ) (h : n < cfg0.N),
    (outsAt0 m c n h).2 (ix2 r l) = ∑ b ∈ Finset.range (n % 4 + 1), part m c r l (n / 4) b := by
  refine four_points (α := S512x1024.Idx) cfg0.N (fun n h => (outsAt0 m c n h).2) (ix2 r l) (part m c r l) (fun n h hm => ?_) fun n h hm => ?_
  · refine (congrFun (first m c ⟨n, h⟩ hm) (ix2 r l)).trans ((pay2_apply _ _ r l).trans (Finset.sum_congr rfl fun s _ => ?_))
    refine congrArg₂ (· * ·) ((blk_0 m c ⟨n, h⟩ s r).trans ?_) ((blk_1 m c ⟨n, h⟩ s l).trans ?_)
    · show left m c (slot 8192 2048 (n % 4) s) _ = _
      rw [hm]
    · show right m c (slot 8192 2048 (n % 4) s) _ = _
      rw [hm]
  · refine (congrFun (later m c ⟨n + 1, h⟩ hm) (ix2 r l)).trans ((pay3_apply _ _ _ r l).trans ?_)
    exact congrArg₂ (· + ·) rfl (Finset.sum_congr rfl fun s _ => congrArg₂ (· * ·) (blk_0 m c ⟨n + 1, h⟩ s r) (blk_1 m c ⟨n + 1, h⟩ s l))

def prod (f : Fin 512) (j : Fin 1024) : EReal := ∑ t : Fin 8192, left m c t f * right m c t j
def arr : S512x1024.Idx → EReal := fun i => prod m c (i 0) (i 1)

theorem arr_at (f : Fin 512) (j : Fin 1024) : arr m c (ix2 f j) = prod m c f j := rfl

theorem at_2 (t : Fin cfg0.N) (h : t.val % 4 = 3) (r : Fin 512) (l : Fin 1024) :
    (outsAt0 m c t.val t.isLt).1 (ix2 r l) = prod m c (slot 512 512 (t.val / 4) r) l := by
  rw [written m c t h, carried m c r l t.val t.isLt, h]
  exact sum_four (fun t' => left m c t' (slot 512 512 (t.val / 4) r) * right m c t' l)

theorem arr2 : (dats m 0 c).arrAt 2 cfg0.N = arr m c := by
  refine (dats m 0 c).arrAt_eq_of_covers 2 _ (by decide +kernel) fun t hf y => ?_
  obtain ⟨r, l, rfl⟩ : ∃ (r : Fin 512) (l : Fin 1024), y = (ix2 r l : S512x1024.Idx) := ⟨y 0, y 1, ValueIdx.eq_ix2 (n0 := 512) (n1 := 1024) y⟩
  have hplace : (((cfg0.win 2).blk t).view.emb (ix2 r l : S512x1024.Idx) : S512x1024.Idx) = ix2 (slot 512 512 (t.val / 4) r) l :=
    (place (A := 512) (B := 1024) _ (index_2 t) (by have := lt_N t; omega) (by omega) r l _ fun a => by fin_cases a <;> rfl).trans
      (congrArg (fun x => ix2 (slot 512 512 (t.val / 4) r) x) (slot_whole l))
  refine Eq.trans ?_ (congrArg (arr m c) hplace.symm)
  rw [arr_at, ← at_2 m c t ((flush0_2 t).mp hf) r l]
  exact congrFun (after0_2 m c t) (ix2 r l)

/-! ### The host's lines, and the reference -/

theorem head_v0 {F : FTy → Type} [FloatOps F] (W : Valuation τ sig (Elt F)) :
    StableHlo.after hostOps0 W (Proc.devRef .tc main_v0) = truncf .bf16 (W (Proc.devRef .tc main_arg0)) bitsLt_bf16_f32 := by
  after_results_simp <;> rfl
theorem head_v1 {F : FTy → Type} [FloatOps F] (W : Valuation τ sig (Elt F)) :
    StableHlo.after hostOps0 W (Proc.devRef .tc main_v1) = truncf .bf16 (W (Proc.devRef .tc main_arg1)) bitsLt_bf16_f32 := by
  after_results_simp <;> rfl

theorem ref_apply (a : FVec Ideal S8192x512 .f32) (b : FVec Ideal S8192x1024 .f32) (f : Fin 512) (j : Fin 1024) :
    transpose Cert.Reference13Ideal.S512x1024 [1, 0] (Host.dotGeneral Cert.Reference13Ideal.dot_S8192x1024_S8192x512_S1024x512_0_0_1_1_n_n none b a)
        Cert.Reference13Ideal.Gen.transposes_S1024x512_S512x1024_1_0 (ix2 f j)
      = ∑ t : Fin 8192, b (ix2 t j) * a (ix2 t f) := by
  pointwise
  rfl

/-- Both programs end with the same gradient. -/
theorem algebraic : Cert.algebraic_Kernel13Ideal_Reference13Ideal := by
  intro m ρ m' ρ' _ hargs
  refine ⟨_, ?_, Cert.Reference13Ideal.Value.run (F := Ideal) m' ρ'⟩
  refine (θ_run defs _ _).mono (fun r h c => ?_) (Cert.Kernel13Ideal.Value.run_blocks (F := Ideal) m ρ)
  obtain ⟨e0, e1⟩ := hargs c
  refine ⟨(h c).1.trans ((arr2 m c).trans (funext fun i => ?_)), (h c).2⟩
  obtain ⟨f, j, rfl⟩ : ∃ (f : Fin 512) (j : Fin 1024), i = (ix2 f j : S512x1024.Idx) := ⟨i 0, i 1, ValueIdx.eq_ix2 (n0 := 512) (n1 := 1024) i⟩
  rw [arr_at]
  refine Eq.trans ?_ (ref_apply _ _ f j).symm
  refine Finset.sum_congr rfl fun t _ => (mul_comm _ _).trans (congrArg₂ (· * ·) ?_ ?_)
  · exact (congrFun (head_v1 _) (ix2 t j)).trans (congrFun e1.symm (ix2 t j))
  · exact (congrFun (head_v0 _) (ix2 t f)).trans (congrFun e0.symm (ix2 t f))

theorem frame_reference : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩) (Cert.Reference13Ideal.Value.run (F := Ideal) m ρ)

end Cert.Mm.P13

end

end
-- ==== Proof.InDxBody.lean ====
/-
  What the body of the gradient of the norm and the input projection leaves in its four blocks at a point of the grid: at the
  first point from zero, at a later one from the sums so far.
-/
module

public import proofs.«01_k».proof.Proof.BranchDw
public import proofs.«01_k».proof.Proof.Gen.Kernel11Ideal.Frame

@[expose] public section

set_option maxRecDepth 16384

noncomputable section

namespace Cert.InDx

open Cert.Kernel11Ideal Cert.Kernel11Ideal.Gen Idealize.ShloMosaic Idealize.ShloMosaic.TcCoe
open Cert.Up (nil2)

variable {F : FTy → Type} [FloatOps F]

/-- The columns of the weights that each of the six gradients meets. -/
abbrev w0 (w : Vec F S1024x5376 .bf16) : Vec F S1024x1536 .bf16 :=
  View.ld w (Rect.unit (s := S1024x5376) ![0, 0] S1024x1536.size inb_S1024x5376_S1024x1536_0_0)
abbrev w1 (w : Vec F S1024x5376 .bf16) : Vec F S1024x1024 .bf16 :=
  View.ld w (Rect.unit (s := S1024x5376) ![0, 1536] S1024x1024.size inb_S1024x5376_S1024x1024_0_1536)
abbrev w2 (w : Vec F S1024x5376 .bf16) : Vec F S1024x512 .bf16 :=
  View.ld w (Rect.unit (s := S1024x5376) ![0, 2560] S1024x512.size inb_S1024x5376_S1024x512_0_2560)
abbrev w3 (w : Vec F S1024x5376 .bf16) : Vec F S1024x1024 .bf16 :=
  View.ld w (Rect.unit (s := S1024x5376) ![0, 3072] S1024x1024.size inb_S1024x5376_S1024x1024_0_3072)
abbrev w4 (w : Vec F S1024x5376 .bf16) : Vec F S1024x1024 .bf16 :=
  View.ld w (Rect.unit (s := S1024x5376) ![0, 4096] S1024x1024.size inb_S1024x5376_S1024x1024_0_4096)
abbrev w5 (w : Vec F S1024x5376 .bf16) : Vec F S1024x128 .bf16 :=
  View.ld w (Rect.unit (s := S1024x5376) ![0, 5120] S1024x128.size inb_S1024x5376_S1024x128_0_5120)

/-- The gradient of the modulated norm, and of the stream, in a block of 512 rows. -/
abbrev dhB (p0 : Vec F S512x1536 .bf16) (p1 : Vec F S512x1024 .bf16) (p2 : Vec F S512x512 .bf16) (p3 : Vec F S512x1024 .bf16) (p4 : Vec F S512x1024 .bf16) (p5 : Vec F S512x128 .bf16) (w : Vec F S1024x5376 .bf16) : Vec F S512x1024 .f32 :=
  k0_pay7 (k0_pay5 p0 (w0 w) p1 (w1 w) p2 (w2 w) p3 (w3 w) p4 (w4 w)) (k0_pay6 p5) (w5 w)
abbrev dxB (p0 : Vec F S512x1536 .bf16) (p1 : Vec F S512x1024 .bf16) (p2 : Vec F S512x512 .bf16) (p3 : Vec F S512x1024 .bf16) (p4 : Vec F S512x1024 .bf16) (p5 : Vec F S512x128 .bf16) (w : Vec F S1024x5376 .bf16)
    (x y : Vec F S512x1024 .f32) (g s : Vec F S1x1024 .f32) : Vec F S512x1024 .f32 :=
  k0_pay14 (k0_pay5 p0 (w0 w) p1 (w1 w) p2 (w2 w) p3 (w3 w) p4 (w4 w)) (k0_pay6 p5) (w5 w) x g s y

section
variable (c : Dev nD) (i : grid0.Coords)
  (a1 : Memref sig .tc .vmem S512x1536 .bf16) (h1 : a1.IsWhole)
  (a2 : Memref sig .tc .vmem S512x1024 .bf16) (h2 : a2.IsWhole)
  (a3 : Memref sig .tc .vmem S512x512 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S512x128 .bf16) (h6 : a6.IsWhole)
  (a7 : Memref sig .tc .vmem S1024x5376 .bf16) (h7 : a7.IsWhole)
  (a8 : Memref sig .tc .vmem S512x1024 .f32) (h8 : a8.IsWhole)
  (a9 : Memref sig .tc .vmem S512x1024 .f32) (h9 : a9.IsWhole)
  (a10 : Memref sig .tc .vmem S1x1024 .f32) (h10 : a10.IsWhole)
  (a11 : Memref sig .tc .vmem S1x1024 .f32) (h11 : a11.IsWhole)
  (a12 : Memref sig .tc .vmem S512x1024 .f32) (h12 : a12.IsWhole)
  (a13 : Memref sig .tc .vmem S8x1024 .f32) (h13 : a13.IsWhole)
  (a14 : Memref sig .tc .vmem S8x1024 .f32) (h14 : a14.IsWhole)
  (a15 : Memref sig .tc .vmem S8x1024 .f32) (h15 : a15.IsWhole)
  (x0 : Vec F S512x1536 .bf16) (x1 : Vec F S512x1024 .bf16) (x2 : Vec F S512x512 .bf16) (x3 : Vec F S512x1024 .bf16) (x4 : Vec F S512x1024 .bf16) (x5 : Vec F S512x128 .bf16) (x6 : Vec F S1024x5376 .bf16) (x7 : Vec F S512x1024 .f32) (x8 : Vec F S512x1024 .f32) (x9 : Vec F S1x1024 .f32) (x10 : Vec F S1x1024 .f32) (y12 y13 y14 : Vec F S8x1024 .f32)

theorem out_A_11 (hc : cond0_0 i) : out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = dxB x0 x1 x2 x3 x4 x5 x6 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_unit_zero (S := S512x1024) nil2]
  simp only [View.readAt_eq_ld, h1.read_unread, h2.read_unread, h3.read_unread, h4.read_unread, h5.read_unread, h6.read_unread, h7.read_unread, h8.read_unread, h9.read_unread, h10.read_unread, h11.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_A_12 (hc : cond0_0 i) : out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k0_pay2 (dhB x0 x1 x2 x3 x4 x5 x6) k0_pay8 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, h10.read_unread, h11.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_A_13 (hc : cond0_0 i) : out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k0_pay3 (dhB x0 x1 x2 x3 x4 x5 x6) x9 (k0_pay13 x7) k0_pay9 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, h10.read_unread, h11.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_A_14 (hc : cond0_0 i) : out0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 = k0_pay4 (dhB x0 x1 x2 x3 x4 x5 x6) (k0_pay11 x10) (k0_pay13 x7) k0_pay10 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10)]
  unfold kernelRun0_A
  dsimp only
  sl_unfold_words
  rw [View.canon_cons_unit_zero (S := S8x1024) nil2, View.readCov_unit_zero (S := S8x1024) _ nil2]
  simp only [View.readAt_eq_ld, h1.read_unread, h2.read_unread, h3.read_unread, h4.read_unread, h5.read_unread, h6.read_unread, h7.read_unread, h8.read_unread, h9.read_unread, h10.read_unread, h11.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_B_11 (hc : ¬cond0_0 i) : out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14 = dxB x0 x1 x2 x3 x4 x5 x6 x7 x8 x9 x10 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14)]
  unfold kernelRun0_B
  dsimp only
  sl_unfold_words
  rw [View.canon_unit_zero (S := S512x1024) nil2]
  simp only [View.readAt_eq_ld, h1.read_unread, h2.read_unread, h3.read_unread, h4.read_unread, h5.read_unread, h6.read_unread, h7.read_unread, h8.read_unread, h9.read_unread, h10.read_unread, h11.read_unread, h13.read_unread, h14.read_unread, h15.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_B_12 (hc : ¬cond0_0 i) : out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14 = k0_pay2 (dhB x0 x1 x2 x3 x4 x5 x6) y12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h10.read_unread, h11.read_unread, h13.read_unread, h14.read_unread, h15.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_B_13 (hc : ¬cond0_0 i) : out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14 = k0_pay3 (dhB x0 x1 x2 x3 x4 x5 x6) x9 (k0_pay13 x7) y13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h10.read_unread, h11.read_unread, h13.read_unread, h14.read_unread, h15.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

theorem out_B_14 (hc : ¬cond0_0 i) : out0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14 = k0_pay4 (dhB x0 x1 x2 x3 x4 x5 x6) (k0_pay11 x10) (k0_pay13 x7) y14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 x10 y12 y13 y14)]
  unfold kernelRun0_B
  dsimp only
  sl_unfold_words
  rw [View.canon_unit_zero (S := S8x1024) nil2]
  simp only [View.readAt_eq_ld, h1.read_unread, h2.read_unread, h3.read_unread, h4.read_unread, h5.read_unread, h6.read_unread, h7.read_unread, h8.read_unread, h9.read_unread, h10.read_unread, h11.read_unread, h13.read_unread, h14.read_unread, h15.read_unread, View.ld_unit_zero (S := S512x1536) nil2, View.ld_unit_zero (S := S512x1024) nil2,
    View.ld_unit_zero (S := S512x512) nil2, View.ld_unit_zero (S := S512x128) nil2, View.ld_unit_zero (S := S1x1024) nil2, View.ld_unit_zero (S := S8x1024) nil2]

end

end Cert.InDx

end

end
-- ==== Proof.InDxPoint.lean ====
/-
  What the grid's points leave in the four blocks of the gradient of the norm and the input projection, over any float values.
-/
module

public import proofs.«01_k».proof.Proof.InDxBody

@[expose] public section

set_option maxRecDepth 16384

noncomputable section

namespace Cert.InDx

open Cert.Kernel11Ideal Cert.Kernel11Ideal.Gen Idealize.ShloMosaic Idealize.ShloMosaic.TcCoe

variable {F : FTy → Type} [FloatOps F] (m : (ℓ : Loc nD τ sig) → Buf (Elt F) ℓ) (c : Dev nD) (t : Fin cfg0.N)

/-- The gradients in the block of a point. -/
abbrev dhP : Vec F S512x1024 .f32 := dhB (iblk m c 0 t) (iblk m c 1 t) (iblk m c 2 t) (iblk m c 3 t) (iblk m c 4 t) (iblk m c 5 t) (iblk m c 6 t)
abbrev dxP : Vec F S512x1024 .f32 := dxB (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem point_A (h0 : t.val % 16 = 0) : outsAt0 m c t.val t.isLt
    = (dxP m c t,
      k0_pay2 (dhP m c t) k0_pay8,
      k0_pay3 (dhP m c t) (iblk m c 9 t) (k0_pay13 (iblk m c 7 t)) k0_pay9,
      k0_pay4 (dhP m c t) (k0_pay11 (iblk m c 10 t)) (k0_pay13 (iblk m c 7 t)) k0_pay10) :=
  (outsAt0_A m c t h0).trans (congrArg₂ Prod.mk (out_A_11 ..) (congrArg₂ Prod.mk (out_A_12 ..) (congrArg₂ Prod.mk (out_A_13 ..) (out_A_14 ..))))

theorem point_B (h0 : ¬t.val % 16 = 0) : outsAt0 m c t.val t.isLt
    = (dxP m c t,
      k0_pay2 (dhP m c t) (outsAt0 m c (t.val - 1) (Nat.lt_of_le_of_lt (Nat.sub_le _ _) t.isLt)).2.1,
      k0_pay3 (dhP m c t) (iblk m c 9 t) (k0_pay13 (iblk m c 7 t)) (outsAt0 m c (t.val - 1) (Nat.lt_of_le_of_lt (Nat.sub_le _ _) t.isLt)).2.2.1,
      k0_pay4 (dhP m c t) (k0_pay11 (iblk m c 10 t)) (k0_pay13 (iblk m c 7 t)) (outsAt0 m c (t.val - 1) (Nat.lt_of_le_of_lt (Nat.sub_le _ _) t.isLt)).2.2.2) :=
  (outsAt0_B m c t h0).trans (congrArg₂ Prod.mk (out_B_11 ..) (congrArg₂ Prod.mk (out_B_12 ..) (congrArg₂ Prod.mk (out_B_13 ..) (out_B_14 ..))))

theorem point_11 : (outsAt0 m c t.val t.isLt).1 = dxP m c t := by
  by_cases h0 : t.val % 16 = 0
  · rw [point_A m c t h0]
  · rw [point_B m c t h0]

theorem first_12 (h0 : t.val % 16 = 0) : (outsAt0 m c t.val t.isLt).2.1 = k0_pay2 (dhP m c t) k0_pay8 := by
  rw [point_A m c t h0]

theorem later_12 (h0 : ¬t.val % 16 = 0) : (outsAt0 m c t.val t.isLt).2.1 = k0_pay2 (dhP m c t) (outsAt0 m c (t.val - 1) (Nat.lt_of_le_of_lt (Nat.sub_le _ _) t.isLt)).2.1 := by
  rw [point_B m c t h0]

theorem first_13 (h0 : t.val % 16 = 0) : (outsAt0 m c t.val t.isLt).2.2.1 = k0_pay3 (dhP m c t) (iblk m c 9 t) (k0_pay13 (iblk m c 7 t)) k0_pay9 := by
  rw [point_A m c t h0]

theorem later_13 (h0 : ¬t.val % 16 = 0) : (outsAt0 m c t.val t.isLt).2.2.1 = k0_pay3 (dhP m c t) (iblk m c 9 t) (k0_pay13 (iblk m c 7 t)) (outsAt0 m c (t.val - 1) (Nat.lt_of_le_of_lt (Nat.sub_le _ _) t.isLt)).2.2.1 := by
  rw [point_B m c t h0]

theorem first_14 (h0 : t.val % 16 = 0) : (outsAt0 m c t.val t.isLt).2.2.2 = k0_pay4 (dhP m c t) (k0_pay11 (iblk m c 10 t)) (k0_pay13 (iblk m c 7 t)) k0_pay10 := by
  rw [point_A m c t h0]

theorem later_14 (h0 : ¬t.val % 16 = 0) : (outsAt0 m c t.val t.isLt).2.2.2 = k0_pay4 (dhP m c t) (k0_pay11 (iblk m c 10 t)) (k0_pay13 (iblk m c 7 t)) (outsAt0 m c (t.val - 1) (Nat.lt_of_le_of_lt (Nat.sub_le _ _) t.isLt)).2.2.2 := by
  rw [point_B m c t h0]

end Cert.InDx

end

end
-- ==== Proof.InDxTile.lean ====
/-
  What the body of the gradient of the norm and the input projection computes of a row, over the extended reals.
-/
module

public import proofs.«01_k».proof.Proof.InDxBody

@[expose] public section

set_option maxRecDepth 16384

noncomputable section

namespace Cert.InDx

open Cert.Kernel11Ideal Cert.Kernel11Ideal.Gen Idealize.ShloMosaic.ValueIdx Idealize.ShloMosaic.TcCoe
open Idealize.ShloMosaic hiding ix1 ix2 ix3 ix4
open Cert.Up (inv normed dnorm drow rowOf lineOf sub groups_apply meansq_apply col_apply lane_apply)
open scoped BigOperators

/-- A gradient's product with the columns of the weights from `o` on. -/
def part {n : ℕ} (o : ℕ) (ho : o + n ≤ 5376) (a : Fin n → EReal) (w : Fin 1024 → Fin 5376 → EReal) (j : Fin 1024) : EReal :=
  ∑ l : Fin n, a l * w j ⟨o + l.val, by omega⟩

/-- The row's gradient of the modulated norm, from the gradients of the six projections. -/
def dh (p0 : Fin 1536 → EReal) (p1 : Fin 1024 → EReal) (p2 : Fin 512 → EReal) (p3 : Fin 1024 → EReal) (p4 : Fin 1024 → EReal) (p5 : Fin 128 → EReal) (w : Fin 1024 → Fin 5376 → EReal) (j : Fin 1024) : EReal :=
  part 0 (by decide) p0 w j + part 1536 (by decide) p1 w j + part 2560 (by decide) p2 w j + part 3072 (by decide) p3 w j + part 4096 (by decide) p4 w j + part 5120 (by decide) p5 w j

theorem mm_1536 (a : FVec Ideal S512x1536 .bf16) (b : FVec Ideal S1024x1536 .bf16) (r : Fin 512) (c : Fin 1024) :
    matmul dot_S512x1536_S1024x1536_S512x1024_1_1_0_0_n_n none a b (constant S512x1024 .f32 0x00000000#32) (ix2 r c)
      = ∑ l : Fin 1536, a (ix2 r l) * b (ix2 c l) := by
  refine (Ideal.matmul_transposedRhs_apply (M := 512) (K := 1536) (N := 1024) none a b _ r c).trans ?_
  rw [constant_apply, Ideal.ofBits_zero_f32, zero_add]

theorem mm_1024 (a : FVec Ideal S512x1024 .bf16) (b : FVec Ideal S1024x1024 .bf16) (r : Fin 512) (c : Fin 1024) :
    matmul dot_S512x1024_S1024x1024_S512x1024_1_1_0_0_n_n none a b (constant S512x1024 .f32 0x00000000#32) (ix2 r c)
      = ∑ l : Fin 1024, a (ix2 r l) * b (ix2 c l) := by
  refine (Ideal.matmul_transposedRhs_apply (M := 512) (K := 1024) (N := 1024) none a b _ r c).trans ?_
  rw [constant_apply, Ideal.ofBits_zero_f32, zero_add]

theorem mm_512 (a : FVec Ideal S512x512 .bf16) (b : FVec Ideal S1024x512 .bf16) (r : Fin 512) (c : Fin 1024) :
    matmul dot_S512x512_S1024x512_S512x1024_1_1_0_0_n_n none a b (constant S512x1024 .f32 0x00000000#32) (ix2 r c)
      = ∑ l : Fin 512, a (ix2 r l) * b (ix2 c l) := by
  refine (Ideal.matmul_transposedRhs_apply (M := 512) (K := 512) (N := 1024) none a b _ r c).trans ?_
  rw [constant_apply, Ideal.ofBits_zero_f32, zero_add]

theorem mm_128 (a : FVec Ideal S512x128 .bf16) (b : FVec Ideal S1024x128 .bf16) (r : Fin 512) (c : Fin 1024) :
    matmul dot_S512x128_S1024x128_S512x1024_1_1_0_0_n_n none a b (constant S512x1024 .f32 0x00000000#32) (ix2 r c)
      = ∑ l : Fin 128, a (ix2 r l) * b (ix2 c l) := by
  refine (Ideal.matmul_transposedRhs_apply (M := 512) (K := 128) (N := 1024) none a b _ r c).trans ?_
  rw [constant_apply, Ideal.ofBits_zero_f32, zero_add]

theorem w0_apply (w : Vec Ideal S1024x5376 .bf16) (j : Fin 1024) (l : Fin 1536) : w0 w (ix2 j l) = w (ix2 j ⟨0 + l.val, by omega⟩) := by
  refine congrArg w (funext fun a => Fin.ext ?_)
  match a with
  | ⟨0, _⟩ => show 0 + 1 * j.val = j.val; omega
  | ⟨1, _⟩ => show 0 + 1 * l.val = 0 + l.val; omega

theorem w1_apply (w : Vec Ideal S1024x5376 .bf16) (j : Fin 1024) (l : Fin 1024) : w1 w (ix2 j l) = w (ix2 j ⟨1536 + l.val, by omega⟩) := by
  refine congrArg w (funext fun a => Fin.ext ?_)
  match a with
  | ⟨0, _⟩ => show 0 + 1 * j.val = j.val; omega
  | ⟨1, _⟩ => show 1536 + 1 * l.val = 1536 + l.val; omega

theorem w2_apply (w : Vec Ideal S1024x5376 .bf16) (j : Fin 1024) (l : Fin 512) : w2 w (ix2 j l) = w (ix2 j ⟨2560 + l.val, by omega⟩) := by
  refine congrArg w (funext fun a => Fin.ext ?_)
  match a with
  | ⟨0, _⟩ => show 0 + 1 * j.val = j.val; omega
  | ⟨1, _⟩ => show 2560 + 1 * l.val = 2560 + l.val; omega

theorem w3_apply (w : Vec Ideal S1024x5376 .bf16) (j : Fin 1024) (l : Fin 1024) : w3 w (ix2 j l) = w (ix2 j ⟨3072 + l.val, by omega⟩) := by
  refine congrArg w (funext fun a => Fin.ext ?_)
  match a with
  | ⟨0, _⟩ => show 0 + 1 * j.val = j.val; omega
  | ⟨1, _⟩ => show 3072 + 1 * l.val = 3072 + l.val; omega

theorem w4_apply (w : Vec Ideal S1024x5376 .bf16) (j : Fin 1024) (l : Fin 1024) : w4 w (ix2 j l) = w (ix2 j ⟨4096 + l.val, by omega⟩) := by
  refine congrArg w (funext fun a => Fin.ext ?_)
  match a with
  | ⟨0, _⟩ => show 0 + 1 * j.val = j.val; omega
  | ⟨1, _⟩ => show 4096 + 1 * l.val = 4096 + l.val; omega

theorem w5_apply (w : Vec Ideal S1024x5376 .bf16) (j : Fin 1024) (l : Fin 128) : w5 w (ix2 j l) = w (ix2 j ⟨5120 + l.val, by omega⟩) := by
  refine congrArg w (funext fun a => Fin.ext ?_)
  match a with
  | ⟨0, _⟩ => show 0 + 1 * j.val = j.val; omega
  | ⟨1, _⟩ => show 5120 + 1 * l.val = 5120 + l.val; omega

theorem dhB_apply (p0 : Vec Ideal S512x1536 .bf16) (p1 : Vec Ideal S512x1024 .bf16) (p2 : Vec Ideal S512x512 .bf16) (p3 : Vec Ideal S512x1024 .bf16) (p4 : Vec Ideal S512x1024 .bf16) (p5 : Vec Ideal S512x128 .bf16) (w : Vec Ideal S1024x5376 .bf16)
    (r : Fin 512) (j : Fin 1024) : dhB p0 p1 p2 p3 p4 p5 w (ix2 r j) = dh (rowOf p0 r) (rowOf p1 r) (rowOf p2 r) (rowOf p3 r) (rowOf p4 r) (rowOf p5 r) (fun i l => w (ix2 i l)) j := by
  unfold dhB k0_pay7 k0_pay5 k0_pay6 dh
  simp only [shapeCast_self]
  have e0 := (mm_1536 p0 (w0 w) r j).trans (Finset.sum_congr rfl fun l _ => congrArg (p0 (ix2 r l) * ·) (w0_apply w j l))
  have e1 := (mm_1024 p1 (w1 w) r j).trans (Finset.sum_congr rfl fun l _ => congrArg (p1 (ix2 r l) * ·) (w1_apply w j l))
  have e2 := (mm_512 p2 (w2 w) r j).trans (Finset.sum_congr rfl fun l _ => congrArg (p2 (ix2 r l) * ·) (w2_apply w j l))
  have e3 := (mm_1024 p3 (w3 w) r j).trans (Finset.sum_congr rfl fun l _ => congrArg (p3 (ix2 r l) * ·) (w3_apply w j l))
  have e4 := (mm_1024 p4 (w4 w) r j).trans (Finset.sum_congr rfl fun l _ => congrArg (p4 (ix2 r l) * ·) (w4_apply w j l))
  have e5 := (mm_128 p5 (w5 w) r j).trans (Finset.sum_congr rfl fun l _ => congrArg (p5 (ix2 r l) * ·) (w5_apply w j l))
  exact congrArg₂ (· + ·) (congrArg₂ (· + ·) (congrArg₂ (· + ·) (congrArg₂ (· + ·) (congrArg₂ (· + ·) (e0) (e1)) (e2)) (e3)) (e4)) (e5)

/-! ### The norm -/

theorem pay12_apply (x : Vec Ideal S512x1024 .f32) (r : Fin 512) : k0_pay12 (F := Ideal) x (ix2 r 0) = Cert.Up.inv (rowOf x r) := by
  have e := meansq_apply (mulf (F := Ideal) (φ := .f32) x x) r
  unfold Cert.Up.inv
  exact congrArg (fun a => Ideal.rsqrt (Ideal.div a Cert.Up.width + Cert.Up.eps)) e

theorem pay13_apply (x : Vec Ideal S512x1024 .f32) (r : Fin 512) (j : Fin 1024) :
    k0_pay13 (F := Ideal) x (ix2 r j) = normed (rowOf x r) j :=
  congrArg (x (ix2 r j) * ·) ((col_apply _ r j).trans (pay12_apply x r))

/-- The block's gradient of the norm, times the norm's weights. -/
abbrev dnV (d : FVec Ideal S512x1024 .f32) (g s : Vec Ideal S1x1024 .f32) : FVec Ideal S512x1024 .f32 :=
  mulf d (broadcastTo S512x1024 (mulf g (k0_pay11 s)) broadcasts_S1x1024_S512x1024)

theorem dxB_apply (p0 : Vec Ideal S512x1536 .bf16) (p1 : Vec Ideal S512x1024 .bf16) (p2 : Vec Ideal S512x512 .bf16) (p3 : Vec Ideal S512x1024 .bf16) (p4 : Vec Ideal S512x1024 .bf16) (p5 : Vec Ideal S512x128 .bf16) (w : Vec Ideal S1024x5376 .bf16)
    (x y : Vec Ideal S512x1024 .f32) (g s : Vec Ideal S1x1024 .f32) (r : Fin 512) (j : Fin 1024) :
    dxB p0 p1 p2 p3 p4 p5 w x y g s (ix2 r j)
      = drow (dh (rowOf p0 r) (rowOf p1 r) (rowOf p2 r) (rowOf p3 r) (rowOf p4 r) (rowOf p5 r) fun i l => w (ix2 i l)) (rowOf x r) (rowOf y r) (lineOf g) (lineOf s) j := by
  have hd : ∀ l : Fin 1024, dnV (dhB p0 p1 p2 p3 p4 p5 w) g s (ix2 r l)
      = dnorm (dh (rowOf p0 r) (rowOf p1 r) (rowOf p2 r) (rowOf p3 r) (rowOf p4 r) (rowOf p5 r) fun i l => w (ix2 i l)) (lineOf g) (lineOf s) l :=
    fun l => congrArg₂ (· * ·) (dhB_apply p0 p1 p2 p3 p4 p5 w r l) (lane_apply _ r l)
  have hx := pay13_apply x r
  have hm := (meansq_apply (mulf (dnV (dhB p0 p1 p2 p3 p4 p5 w) g s) (k0_pay13 (F := Ideal) x)) r).trans
    (Finset.sum_congr rfl fun l _ => congrArg₂ (· * ·) (hd l) (hx l))
  have hq := congrArg (fun a => Ideal.div a Cert.Up.width) hm
  have hi := (col_apply (k0_pay12 (F := Ideal) x) r j).trans (pay12_apply x r)
  unfold dxB k0_pay14 drow
  exact congrArg (y (ix2 r j) + ·) (congrArg₂ (· * ·) hi (congrArg₂ (· - ·) (hd j) (congrArg₂ (· * ·) (hx j) ((col_apply _ r j).trans hq))))

/-! ### The sums of eight rows -/

theorem pay2_apply (d : FVec Ideal S512x1024 .f32) (z : Vec Ideal S8x1024 .f32) (k : Fin 8) (j : Fin 1024) :
    k0_pay2 (F := Ideal) d z (ix2 k j) = z (ix2 k j) + ∑ i : Fin 64, d (ix2 (sub i k) j) := by
  unfold k0_pay2
  simp only [shapeCast_self]
  exact congrArg (z (ix2 k j) + ·) (groups_apply _ k j)

theorem pay3_apply (d u : FVec Ideal S512x1024 .f32) (g : Vec Ideal S1x1024 .f32) (z : Vec Ideal S8x1024 .f32) (k : Fin 8) (j : Fin 1024) :
    k0_pay3 (F := Ideal) d g u z (ix2 k j) = z (ix2 k j) + ∑ i : Fin 64, d (ix2 (sub i k) j) * u (ix2 (sub i k) j) * g (ix2 0 j) := by
  unfold k0_pay3
  simp only [shapeCast_self]
  exact congrArg (z (ix2 k j) + ·) ((groups_apply _ k j).trans (Finset.sum_congr rfl fun i _ => congrArg (d (ix2 (sub i k) j) * u (ix2 (sub i k) j) * ·) (lane_apply g _ j)))

theorem pay4_apply (d u : FVec Ideal S512x1024 .f32) (g : FVec Ideal S1x1024 .f32) (z : Vec Ideal S8x1024 .f32) (k : Fin 8) (j : Fin 1024) :
    k0_pay4 (F := Ideal) d g u z (ix2 k j) = z (ix2 k j) + ∑ i : Fin 64, d (ix2 (sub i k) j) * u (ix2 (sub i k) j) * g (ix2 0 j) := by
  unfold k0_pay4
  simp only [shapeCast_self]
  exact congrArg (z (ix2 k j) + ·) ((groups_apply _ k j).trans (Finset.sum_congr rfl fun i _ => congrArg (d (ix2 (sub i k) j) * u (ix2 (sub i k) j) * ·) (lane_apply g _ j)))

theorem zero_apply (y : S8x1024.Idx) : k0_pay8 (F := Ideal) y = 0 := Ideal.ofBits_zero_f32

end Cert.InDx

end

end
-- ==== Proof.InDxArray.lean ====
/-
  The four arrays the gradient of the norm and the input projection leaves, as functions of its operands.
-/
module

public import proofs.«01_k».proof.Proof.InDxPoint
public import proofs.«01_k».proof.Proof.InDxTile

@[expose] public section

set_option maxRecDepth 16384

noncomputable section

namespace Cert.InDx

open Cert.Kernel11Ideal Cert.Kernel11Ideal.Gen Idealize.ShloMosaic.ValueIdx Idealize.ShloMosaic.TcCoe
open Idealize.ShloMosaic hiding ix1 ix2 ix3 ix4
open Cert.Bwd (pos pos_val)
open Cert.Up (inv normed dnorm drow rowOf lineOf sub eight sumArr sumArr_at unit)
open scoped BigOperators

variable (m : (ℓ : Loc nD τ sig) → Buf (Elt Ideal) ℓ) (c : Dev nD)

/-- The operands by rows: the gradients of the six projections, the weights, the stream, its gradient, and the weights of the
    norm and its scale. -/
def p0R (t : Fin 8192) (l : Fin 1536) : EReal := (V m c main_v0 : S8192x1536.Idx → EReal) (ix2 t l)
def p1R (t : Fin 8192) (l : Fin 1024) : EReal := (V m c main_v1 : S8192x1024.Idx → EReal) (ix2 t l)
def p2R (t : Fin 8192) (l : Fin 512) : EReal := (V m c main_v2 : S8192x512.Idx → EReal) (ix2 t l)
def p3R (t : Fin 8192) (l : Fin 1024) : EReal := (V m c main_v3 : S8192x1024.Idx → EReal) (ix2 t l)
def p4R (t : Fin 8192) (l : Fin 1024) : EReal := (V m c main_v4 : S8192x1024.Idx → EReal) (ix2 t l)
def p5R (t : Fin 8192) (l : Fin 128) : EReal := (V m c main_v5 : S8192x128.Idx → EReal) (ix2 t l)
def wgtR (j : Fin 1024) (l : Fin 5376) : EReal := (V m c main_v6 : S1024x5376.Idx → EReal) (ix2 j l)
def strR (t : Fin 8192) (j : Fin 1024) : EReal := (V m c main_arg0 : S8192x1024.Idx → EReal) (ix2 t j)
def gradR (t : Fin 8192) (j : Fin 1024) : EReal := (V m c main_arg4 : S8192x1024.Idx → EReal) (ix2 t j)
def normR (j : Fin 1024) : EReal := (V m c main_arg1 : S1x1024.Idx → EReal) (ix2 0 j)
def scaleR (j : Fin 1024) : EReal := (V m c main_arg2 : S1x1024.Idx → EReal) (ix2 0 j)

theorem index_row : ∀ t : Fin cfg0.N, cc0_transform_0 (grid0.coords t) = ![t.val, 0] := by decide +kernel
theorem index_all : ∀ t : Fin cfg0.N, cc0_transform_6 (grid0.coords t) = ![0, 0] := by decide +kernel

/-- The place of an element of a block of 512 rows. -/
theorem row_place {n : ℕ} (t : Fin cfg0.N) (r : Fin 512) (l : Fin n) (i : (⟨2, ![8192, n]⟩ : Shape).Idx)
    (h : ∀ a : Fin 2, (i a).val = cc0_transform_0 (grid0.coords t) a * ![512, n] a + 1 * ((ix2 r l : (⟨2, ![512, n]⟩ : Shape).Idx) a).val) :
    i = ix2 (pos t.val r) l := by
  have hp := pos_val (show t.val < 16 from t.isLt) r
  have e := index_row t
  refine funext fun a => Fin.ext ((h a).trans ?_)
  match a with
  | ⟨0, _⟩ =>
    show cc0_transform_0 (grid0.coords t) 0 * 512 + 1 * r.val = (pos t.val r).val
    rw [e, hp]; show t.val * 512 + 1 * r.val = _; omega
  | ⟨1, _⟩ =>
    show cc0_transform_0 (grid0.coords t) 1 * n + 1 * l.val = l.val
    rw [e]; show 0 * n + 1 * l.val = _; omega

/-- The place of an element of an array taken whole. -/
theorem all_place {n k : ℕ} (t : Fin cfg0.N) (r : Fin k) (l : Fin n) (i : (⟨2, ![k, n]⟩ : Shape).Idx)
    (h : ∀ a : Fin 2, (i a).val = cc0_transform_6 (grid0.coords t) a * ![k, n] a + 1 * ((ix2 r l : (⟨2, ![k, n]⟩ : Shape).Idx) a).val) :
    i = ix2 r l := by
  have e := index_all t
  refine funext fun a => Fin.ext ((h a).trans ?_)
  match a with
  | ⟨0, _⟩ =>
    show cc0_transform_6 (grid0.coords t) 0 * k + 1 * r.val = r.val
    rw [e]; show 0 * k + 1 * r.val = _; omega
  | ⟨1, _⟩ =>
    show cc0_transform_6 (grid0.coords t) 1 * n + 1 * l.val = l.val
    rw [e]; show 0 * n + 1 * l.val = _; omega

variable (t : Fin cfg0.N) (r : Fin 512)

theorem blk_0 : rowOf (n := 1536) (iblk m c 0 t) r = p0R m c (pos t.val r) :=
  funext fun l => congrArg (V m c main_v0 : S8192x1536.Idx → EReal) (row_place t r l _ fun a => by fin_cases a <;> rfl)
theorem blk_1 : rowOf (n := 1024) (iblk m c 1 t) r = p1R m c (pos t.val r) :=
  funext fun l => congrArg (V m c main_v1 : S8192x1024.Idx → EReal) (row_place t r l _ fun a => by fin_cases a <;> rfl)
theorem blk_2 : rowOf (n := 512) (iblk m c 2 t) r = p2R m c (pos t.val r) :=
  funext fun l => congrArg (V m c main_v2 : S8192x512.Idx → EReal) (row_place t r l _ fun a => by fin_cases a <;> rfl)
theorem blk_3 : rowOf (n := 1024) (iblk m c 3 t) r = p3R m c (pos t.val r) :=
  funext fun l => congrArg (V m c main_v3 : S8192x1024.Idx → EReal) (row_place t r l _ fun a => by fin_cases a <;> rfl)
theorem blk_4 : rowOf (n := 1024) (iblk m c 4 t) r = p4R m c (pos t.val r) :=
  funext fun l => congrArg (V m c main_v4 : S8192x1024.Idx → EReal) (row_place t r l _ fun a => by fin_cases a <;> rfl)
theorem blk_5 : rowOf (n := 128) (iblk m c 5 t) r = p5R m c (pos t.val r) :=
  funext fun l => congrArg (V m c main_v5 : S8192x128.Idx → EReal) (row_place t r l _ fun a => by fin_cases a <;> rfl)
theorem blk_6 : (fun i l => (iblk m c 6 t : S1024x5376.Idx → EReal) (ix2 i l)) = wgtR m c :=
  funext fun i => funext fun l => congrArg (V m c main_v6 : S1024x5376.Idx → EReal) (all_place t i l _ fun a => by fin_cases a <;> rfl)
theorem blk_7 : rowOf (n := 1024) (iblk m c 7 t) r = strR m c (pos t.val r) :=
  funext fun l => congrArg (V m c main_arg0 : S8192x1024.Idx → EReal) (row_place t r l _ fun a => by fin_cases a <;> rfl)
theorem blk_8 : rowOf (n := 1024) (iblk m c 8 t) r = gradR m c (pos t.val r) :=
  funext fun l => congrArg (V m c main_arg4 : S8192x1024.Idx → EReal) (row_place t r l _ fun a => by fin_cases a <;> rfl)
theorem blk_9 : lineOf (n := 1024) (iblk m c 9 t) = normR m c :=
  funext fun l => congrArg (V m c main_arg1 : S1x1024.Idx → EReal) (all_place t 0 l _ fun a => by fin_cases a <;> rfl)
theorem blk_10 : lineOf (n := 1024) (iblk m c 10 t) = scaleR m c :=
  funext fun l => congrArg (V m c main_arg2 : S1x1024.Idx → EReal) (all_place t 0 l _ fun a => by fin_cases a <;> rfl)

/-- By rows: the gradient of the modulated norm, and of the stream. -/
def dhR (t : Fin 8192) : Fin 1024 → EReal := dh (p0R m c t) (p1R m c t) (p2R m c t) (p3R m c t) (p4R m c t) (p5R m c t) (wgtR m c)
def dxR (t : Fin 8192) : Fin 1024 → EReal := drow (dhR m c t) (strR m c t) (gradR m c t) (normR m c) (scaleR m c)

theorem dh_at (j : Fin 1024) : dhP m c t (ix2 r j) = dhR m c (pos t.val r) j := by
  refine (dhB_apply _ _ _ _ _ _ _ r j).trans ?_
  rw [blk_0, blk_1, blk_2, blk_3, blk_4, blk_5, blk_6]
  rfl

theorem dx_at (j : Fin 1024) : dxP m c t (ix2 r j) = dxR m c (pos t.val r) j := by
  refine (dxB_apply _ _ _ _ _ _ _ _ _ _ _ r j).trans ?_
  rw [blk_0, blk_1, blk_2, blk_3, blk_4, blk_5, blk_6, blk_7, blk_8, blk_9, blk_10]
  rfl

theorem normed_at (j : Fin 1024) : k0_pay13 (F := Ideal) (iblk m c 7 t) (ix2 r j) = normed (strR m c (pos t.val r)) j :=
  (pay13_apply _ r j).trans (congrArg (fun x => normed x j) (blk_7 m c t r))

/-! ### The blocks at a point -/

/-- What a row adds to the three sums. -/
def addsh (t : Fin 8192) (j : Fin 1024) : EReal := dhR m c t j
def addsc (t : Fin 8192) (j : Fin 1024) : EReal := dhR m c t j * normed (strR m c t) j * normR m c j
def addn (t : Fin 8192) (j : Fin 1024) : EReal := dhR m c t j * normed (strR m c t) j * (unit + scaleR m c j)

theorem at_11 (j : Fin 1024) : (outsAt0 m c t.val t.isLt).1 (ix2 r j) = dxR m c (pos t.val r) j := by
  rw [point_11 m c t]
  exact dx_at m c t r j

variable (n : ℕ) (hn : n < cfg0.N) (k : Fin 8) (j : Fin 1024)

/-- A sum carried over the points of the grid. -/
theorem point_carried (o : (n : ℕ) → n < cfg0.N → Vec Ideal S8x1024 .f32) (f : Fin 8192 → Fin 1024 → EReal)
    (h0 : o 0 (by decide) (ix2 k j) = 0 + ∑ i : Fin 64, f (pos 0 (sub i k)) j)
    (hs : ∀ (n : ℕ) (h : n + 1 < cfg0.N), o (n + 1) h (ix2 k j) = o n (Nat.lt_of_succ_lt h) (ix2 k j) + ∑ i : Fin 64, f (pos (n + 1) (sub i k)) j) :
    o n hn (ix2 k j) = eight f n k j := by
  induction n with
  | zero => rw [h0, zero_add]; exact (Finset.sum_range_one (fun b => ∑ i : Fin 64, f (pos b (sub i k)) j)).symm
  | succ n ih =>
    rw [hs n hn, ih (Nat.lt_of_succ_lt hn)]
    exact (Finset.sum_range_succ (fun b => ∑ i : Fin 64, f (pos b (sub i k)) j) (n + 1)).symm

theorem later {n : ℕ} (h : n + 1 < cfg0.N) : ¬(⟨n + 1, h⟩ : Fin cfg0.N).val % 16 = 0 := by
  have : n + 1 < 16 := h
  show ¬(n + 1) % 16 = 0
  omega

theorem step_12 (t : Fin cfg0.N) (z : Vec Ideal S8x1024 .f32) : k0_pay2 (dhP m c t) z (ix2 k j)
    = z (ix2 k j) + ∑ i : Fin 64, addsh m c (pos t.val (sub i k)) j :=
  (pay2_apply _ _ k j).trans (congrArg (z (ix2 k j) + ·) (Finset.sum_congr rfl fun i _ =>
    dh_at m c t (sub i k) j))

theorem at_12 : (outsAt0 m c n hn).2.1 (ix2 k j) = eight (addsh m c) n k j := by
  refine point_carried n hn k j (fun n h => (outsAt0 m c n h).2.1) (addsh m c) ?_ fun n h => ?_
  · show (outsAt0 m c 0 _).2.1 (ix2 k j) = _
    rw [first_12 m c ⟨0, by decide⟩ rfl, step_12 m c k j ⟨0, by decide⟩]
    exact congrArg (· + _) (zero_apply _)
  · show (outsAt0 m c (n + 1) _).2.1 (ix2 k j) = (outsAt0 m c n _).2.1 (ix2 k j) + _
    rw [later_12 m c ⟨n + 1, h⟩ (later h), step_12 m c k j ⟨n + 1, h⟩]
    rfl

theorem step_13 (t : Fin cfg0.N) (z : Vec Ideal S8x1024 .f32) : k0_pay3 (dhP m c t) (iblk m c 9 t) (k0_pay13 (iblk m c 7 t)) z (ix2 k j)
    = z (ix2 k j) + ∑ i : Fin 64, addsc m c (pos t.val (sub i k)) j :=
  (pay3_apply _ _ _ _ k j).trans (congrArg (z (ix2 k j) + ·) (Finset.sum_congr rfl fun i _ =>
    congrArg₂ (· * ·) (congrArg₂ (· * ·) (dh_at m c t (sub i k) j) (normed_at m c t (sub i k) j)) (congrFun (blk_9 m c t) j)))

theorem at_13 : (outsAt0 m c n hn).2.2.1 (ix2 k j) = eight (addsc m c) n k j := by
  refine point_carried n hn k j (fun n h => (outsAt0 m c n h).2.2.1) (addsc m c) ?_ fun n h => ?_
  · show (outsAt0 m c 0 _).2.2.1 (ix2 k j) = _
    rw [first_13 m c ⟨0, by decide⟩ rfl, step_13 m c k j ⟨0, by decide⟩]
    exact congrArg (· + _) (zero_apply _)
  · show (outsAt0 m c (n + 1) _).2.2.1 (ix2 k j) = (outsAt0 m c n _).2.2.1 (ix2 k j) + _
    rw [later_13 m c ⟨n + 1, h⟩ (later h), step_13 m c k j ⟨n + 1, h⟩]
    rfl

theorem step_14 (t : Fin cfg0.N) (z : Vec Ideal S8x1024 .f32) : k0_pay4 (dhP m c t) (k0_pay11 (iblk m c 10 t)) (k0_pay13 (iblk m c 7 t)) z (ix2 k j)
    = z (ix2 k j) + ∑ i : Fin 64, addn m c (pos t.val (sub i k)) j :=
  (pay4_apply _ _ _ _ k j).trans (congrArg (z (ix2 k j) + ·) (Finset.sum_congr rfl fun i _ =>
    congrArg₂ (· * ·) (congrArg₂ (· * ·) (dh_at m c t (sub i k) j) (normed_at m c t (sub i k) j)) (congrArg (unit + ·) (congrFun (blk_10 m c t) j))))

theorem at_14 : (outsAt0 m c n hn).2.2.2 (ix2 k j) = eight (addn m c) n k j := by
  refine point_carried n hn k j (fun n h => (outsAt0 m c n h).2.2.2) (addn m c) ?_ fun n h => ?_
  · show (outsAt0 m c 0 _).2.2.2 (ix2 k j) = _
    rw [first_14 m c ⟨0, by decide⟩ rfl, step_14 m c k j ⟨0, by decide⟩]
    exact congrArg (· + _) (zero_apply _)
  · show (outsAt0 m c (n + 1) _).2.2.2 (ix2 k j) = (outsAt0 m c n _).2.2.2 (ix2 k j) + _
    rw [later_14 m c ⟨n + 1, h⟩ (later h), step_14 m c k j ⟨n + 1, h⟩]
    rfl

/-! ### The arrays -/

def dxArr : S8192x1024.Idx → EReal := fun i => dxR m c (i 0) (i 1)

theorem last {t : Fin cfg0.N} (h : t.val % 16 = 15) : t.val = 15 := by
  have : t.val < 16 := t.isLt
  omega

theorem dxArr_at (t : Fin 8192) (j : Fin 1024) : dxArr m c (ix2 t j) = dxR m c t j := rfl

theorem arr11 : (dats m 0 c).arrAt 11 cfg0.N = dxArr m c := by
  refine (dats m 0 c).arrAt_eq_of_covers 11 _ (by decide +kernel) fun t hf y => ?_
  obtain ⟨r, l, rfl⟩ : ∃ (r : Fin 512) (l : Fin 1024), y = (ix2 r l : S512x1024.Idx) := ⟨y 0, y 1, ValueIdx.eq_ix2 (n0 := 512) (n1 := 1024) y⟩
  have hplace : (((cfg0.win 11).blk t).view.emb (ix2 r l : S512x1024.Idx) : S8192x1024.Idx) = ix2 (pos t.val r) l :=
    row_place t r l _ fun a => by fin_cases a <;> rfl
  refine Eq.trans ?_ (congrArg (dxArr m c) hplace.symm)
  rw [dxArr_at, ← at_11 m c t r l]
  exact congrFun (after0_11 m c t) (ix2 r l)

theorem arr12 : (dats m 0 c).arrAt 12 cfg0.N = sumArr (addsh m c) := by
  refine (dats m 0 c).arrAt_eq_of_covers 12 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 12).blk t).view.emb (ix2 k l : S8x1024.Idx) : S8x1024.Idx) = ix2 k l := all_place t k l _ fun a => by fin_cases a <;> rfl
  have h15 : t.val = 15 := last ((flush0_12 t).mp hf)
  refine Eq.trans ?_ (congrArg (sumArr (addsh m c)) hplace.symm)
  rw [sumArr_at, ← h15, ← at_12 m c t.val t.isLt k l]
  exact congrFun (after0_12 m c t) (ix2 k l)

theorem arr13 : (dats m 0 c).arrAt 13 cfg0.N = sumArr (addsc m c) := by
  refine (dats m 0 c).arrAt_eq_of_covers 13 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 13).blk t).view.emb (ix2 k l : S8x1024.Idx) : S8x1024.Idx) = ix2 k l := all_place t k l _ fun a => by fin_cases a <;> rfl
  have h15 : t.val = 15 := last ((flush0_13 t).mp hf)
  refine Eq.trans ?_ (congrArg (sumArr (addsc m c)) hplace.symm)
  rw [sumArr_at, ← h15, ← at_13 m c t.val t.isLt k l]
  exact congrFun (after0_13 m c t) (ix2 k l)

theorem arr14 : (dats m 0 c).arrAt 14 cfg0.N = sumArr (addn m c) := by
  refine (dats m 0 c).arrAt_eq_of_covers 14 _ (by decide +kernel) fun t hf y => ?_
  obtain ⟨k, l, rfl⟩ : ∃ (k : Fin 8) (l : Fin 1024), y = (ix2 k l : S8x1024.Idx) := ⟨y 0, y 1, ValueIdx.eq_ix2 (n0 := 8) (n1 := 1024) y⟩
  have hplace : (((cfg0.win 14).blk t).view.emb (ix2 k l : S8x1024.Idx) : S8x1024.Idx) = ix2 k l := all_place t k l _ fun a => by fin_cases a <;> rfl
  have h15 : t.val = 15 := last ((flush0_14 t).mp hf)
  refine Eq.trans ?_ (congrArg (sumArr (addn m c)) hplace.symm)
  rw [sumArr_at, ← h15, ← at_14 m c t.val t.isLt k l]
  exact congrFun (after0_14 m c t) (ix2 k l)

end Cert.InDx

end

end
-- ==== Proof.InDxRef.lean ====
/-
  The results of the plain gradient of the norm and the input projection: the gradient of the modulated norm at an index.
-/
module

public import proofs.«01_k».proof.Proof.InDxTile
public import proofs.«01_k».proof.Proof.Gen.Reference11Ideal.Run

@[expose] public section

set_option maxRecDepth 16384

noncomputable section

namespace Cert.InDx

open Cert.Reference11Ideal Cert.Reference11Ideal.Gen Idealize.ShloMosaic.ValueIdx Idealize.ShloMosaic.TcCoe
open Idealize.ShloMosaic hiding ix1 ix2 ix3 ix4
open Cert.Up (allT scaledT normT dxT)
open scoped BigOperators

section
variable {F : FTy → Type} [FloatOps F]

/-- A projection's gradient times its columns of the weights. -/
def prod0 (p0 : FVec F S8192x1536 .f32) (w : FVec F S1024x5376 .f32) : FVec F S8192x1024 .f32 :=
  Host.dotGeneral dot_S8192x1536_S1024x1536_S8192x1024_1_1_0_0_n_n none p0 (extractStridedSlice S1024x1536 ![0, 0] w slices_S1024x5376_S1024x1536_0_0)
def prod1 (p1 : FVec F S8192x1024 .f32) (w : FVec F S1024x5376 .f32) : FVec F S8192x1024 .f32 :=
  Host.dotGeneral dot_S8192x1024_S1024x1024_S8192x1024_1_1_0_0_n_n none p1 (extractStridedSlice S1024x1024 ![0, 1536] w slices_S1024x5376_S1024x1024_0_1536)
def prod2 (p2 : FVec F S8192x512 .f32) (w : FVec F S1024x5376 .f32) : FVec F S8192x1024 .f32 :=
  Host.dotGeneral dot_S8192x512_S1024x512_S8192x1024_1_1_0_0_n_n none p2 (extractStridedSlice S1024x512 ![0, 2560] w slices_S1024x5376_S1024x512_0_2560)
def prod3 (p3 : FVec F S8192x1024 .f32) (w : FVec F S1024x5376 .f32) : FVec F S8192x1024 .f32 :=
  Host.dotGeneral dot_S8192x1024_S1024x1024_S8192x1024_1_1_0_0_n_n none p3 (extractStridedSlice S1024x1024 ![0, 3072] w slices_S1024x5376_S1024x1024_0_3072)
def prod4 (p4 : FVec F S8192x1024 .f32) (w : FVec F S1024x5376 .f32) : FVec F S8192x1024 .f32 :=
  Host.dotGeneral dot_S8192x1024_S1024x1024_S8192x1024_1_1_0_0_n_n none p4 (extractStridedSlice S1024x1024 ![0, 4096] w slices_S1024x5376_S1024x1024_0_4096)
def prod5 (p5 : FVec F S8192x128 .f32) (w : FVec F S1024x5376 .f32) : FVec F S8192x1024 .f32 :=
  Host.dotGeneral dot_S8192x128_S1024x128_S8192x1024_1_1_0_0_n_n none p5 (extractStridedSlice S1024x128 ![0, 5120] w slices_S1024x5376_S1024x128_0_5120)
/-- Their sum. -/
def dhT (p0 : FVec F S8192x1536 .f32) (p1 : FVec F S8192x1024 .f32) (p2 : FVec F S8192x512 .f32) (p3 : FVec F S8192x1024 .f32) (p4 : FVec F S8192x1024 .f32) (p5 : FVec F S8192x128 .f32) (w : FVec F S1024x5376 .f32) : FVec F S8192x1024 .f32 :=
  addf (addf (addf (addf (addf (prod5 p5 w) (prod4 p4 w)) (prod3 p3 w)) (prod2 p2 w)) (prod1 p1 w)) (prod0 p0 w)
/-- The gradient of the stream, of all arguments. -/
def streamGradT (x : FVec F S8192x1024 .f32) (g s : FVec F S1x1024 .f32) (w : FVec F S1024x5376 .f32) (y : FVec F S8192x1024 .f32) (p0 : FVec F S8192x1536 .f32) (p1 : FVec F S8192x1024 .f32) (p2 : FVec F S8192x512 .f32) (p3 : FVec F S8192x1024 .f32) (p4 : FVec F S8192x1024 .f32) (p5 : FVec F S8192x128 .f32) :
    FVec F S8192x1024 .f32 := dxT x y (mulf (scaledT (dhT p0 p1 p2 p3 p4 p5 w) s) (allT g))

variable (M : (ℓ : Loc nD τ sig) → Buf (Elt F) ℓ) (c : Dev nD)
  (x : FVec F S8192x1024 .f32) (g s : FVec F S1x1024 .f32) (w : FVec F S1024x5376 .f32) (y : FVec F S8192x1024 .f32) (p0 : FVec F S8192x1536 .f32) (p1 : FVec F S8192x1024 .f32) (p2 : FVec F S8192x512 .f32) (p3 : FVec F S8192x1024 .f32) (p4 : FVec F S8192x1024 .f32) (p5 : FVec F S8192x128 .f32)
  (h0 : M ((c.tc : Thread nD τ).loc main_arg0) = x) (h1 : M ((c.tc : Thread nD τ).loc main_arg1) = g) (h2 : M ((c.tc : Thread nD τ).loc main_arg2) = s) (h3 : M ((c.tc : Thread nD τ).loc main_arg3) = w)
  (h4 : M ((c.tc : Thread nD τ).loc main_arg4) = y) (h5 : M ((c.tc : Thread nD τ).loc main_arg5) = p0) (h6 : M ((c.tc : Thread nD τ).loc main_arg6) = p1) (h7 : M ((c.tc : Thread nD τ).loc main_arg7) = p2)
  (h8 : M ((c.tc : Thread nD τ).loc main_arg8) = p3) (h9 : M ((c.tc : Thread nD τ).loc main_arg9) = p4) (h10 : M ((c.tc : Thread nD τ).loc main_arg10) = p5)

include h0 h1 h2 h3 h4 h5 h6 h7 h8 h9 h10

theorem res_dx : Cert.Reference11Ideal.Value.res_main_v72 M c = streamGradT x g s w y p0 p1 p2 p3 p4 p5 := by
  subst h0 h1 h2 h3 h4 h5 h6 h7 h8 h9 h10
  delta Cert.Reference11Ideal.Value.res_main_v72
  rfl

end

/-! ### At an index, over the extended reals -/

section
variable (p0 : FVec Ideal S8192x1536 .f32) (p1 : FVec Ideal S8192x1024 .f32) (p2 : FVec Ideal S8192x512 .f32) (p3 : FVec Ideal S8192x1024 .f32) (p4 : FVec Ideal S8192x1024 .f32) (p5 : FVec Ideal S8192x128 .f32) (w : FVec Ideal S1024x5376 .f32)
  (t : Fin 8192) (j : Fin 1024)

theorem dot_1536 (u : FVec Ideal S8192x1536 .f32) (v : FVec Ideal S1024x1536 .f32) :
    Host.dotGeneral dot_S8192x1536_S1024x1536_S8192x1024_1_1_0_0_n_n none u v (ix2 t j) = ∑ l : Fin 1536, u (ix2 t l) * v (ix2 j l) := by
  pointwise []
  rfl

theorem dot_1024 (u : FVec Ideal S8192x1024 .f32) (v : FVec Ideal S1024x1024 .f32) :
    Host.dotGeneral dot_S8192x1024_S1024x1024_S8192x1024_1_1_0_0_n_n none u v (ix2 t j) = ∑ l : Fin 1024, u (ix2 t l) * v (ix2 j l) := by
  pointwise []
  rfl

theorem dot_512 (u : FVec Ideal S8192x512 .f32) (v : FVec Ideal S1024x512 .f32) :
    Host.dotGeneral dot_S8192x512_S1024x512_S8192x1024_1_1_0_0_n_n none u v (ix2 t j) = ∑ l : Fin 512, u (ix2 t l) * v (ix2 j l) := by
  pointwise []
  rfl

theorem dot_128 (u : FVec Ideal S8192x128 .f32) (v : FVec Ideal S1024x128 .f32) :
    Host.dotGeneral dot_S8192x128_S1024x128_S8192x1024_1_1_0_0_n_n none u v (ix2 t j) = ∑ l : Fin 128, u (ix2 t l) * v (ix2 j l) := by
  pointwise []
  rfl

theorem cols0_apply (l : Fin 1536) : extractStridedSlice S1024x1536 ![0, 0] w slices_S1024x5376_S1024x1536_0_0 (ix2 j l) = w (ix2 j ⟨0 + l.val, by omega⟩) :=
  congrArg w (funext fun a => Fin.ext (by fin_cases a <;> simp))

theorem prod0_apply : prod0 p0 w (ix2 t j) = part 0 (by decide) (fun l => p0 (ix2 t l)) (fun i l => w (ix2 i l)) j :=
  (dot_1536 t j p0 _).trans (Finset.sum_congr rfl fun l _ => congrArg (p0 (ix2 t l) * ·) (cols0_apply w j l))

theorem cols1_apply (l : Fin 1024) : extractStridedSlice S1024x1024 ![0, 1536] w slices_S1024x5376_S1024x1024_0_1536 (ix2 j l) = w (ix2 j ⟨1536 + l.val, by omega⟩) :=
  congrArg w (funext fun a => Fin.ext (by fin_cases a <;> simp))

theorem prod1_apply : prod1 p1 w (ix2 t j) = part 1536 (by decide) (fun l => p1 (ix2 t l)) (fun i l => w (ix2 i l)) j :=
  (dot_1024 t j p1 _).trans (Finset.sum_congr rfl fun l _ => congrArg (p1 (ix2 t l) * ·) (cols1_apply w j l))

theorem cols2_apply (l : Fin 512) : extractStridedSlice S1024x512 ![0, 2560] w slices_S1024x5376_S1024x512_0_2560 (ix2 j l) = w (ix2 j ⟨2560 + l.val, by omega⟩) :=
  congrArg w (funext fun a => Fin.ext (by fin_cases a <;> simp))

theorem prod2_apply : prod2 p2 w (ix2 t j) = part 2560 (by decide) (fun l => p2 (ix2 t l)) (fun i l => w (ix2 i l)) j :=
  (dot_512 t j p2 _).trans (Finset.sum_congr rfl fun l _ => congrArg (p2 (ix2 t l) * ·) (cols2_apply w j l))

theorem cols3_apply (l : Fin 1024) : extractStridedSlice S1024x1024 ![0, 3072] w slices_S1024x5376_S1024x1024_0_3072 (ix2 j l) = w (ix2 j ⟨3072 + l.val, by omega⟩) :=
  congrArg w (funext fun a => Fin.ext (by fin_cases a <;> simp))

theorem prod3_apply : prod3 p3 w (ix2 t j) = part 3072 (by decide) (fun l => p3 (ix2 t l)) (fun i l => w (ix2 i l)) j :=
  (dot_1024 t j p3 _).trans (Finset.sum_congr rfl fun l _ => congrArg (p3 (ix2 t l) * ·) (cols3_apply w j l))

theorem cols4_apply (l : Fin 1024) : extractStridedSlice S1024x1024 ![0, 4096] w slices_S1024x5376_S1024x1024_0_4096 (ix2 j l) = w (ix2 j ⟨4096 + l.val, by omega⟩) :=
  congrArg w (funext fun a => Fin.ext (by fin_cases a <;> simp))

theorem prod4_apply : prod4 p4 w (ix2 t j) = part 4096 (by decide) (fun l => p4 (ix2 t l)) (fun i l => w (ix2 i l)) j :=
  (dot_1024 t j p4 _).trans (Finset.sum_congr rfl fun l _ => congrArg (p4 (ix2 t l) * ·) (cols4_apply w j l))

theorem cols5_apply (l : Fin 128) : extractStridedSlice S1024x128 ![0, 5120] w slices_S1024x5376_S1024x128_0_5120 (ix2 j l) = w (ix2 j ⟨5120 + l.val, by omega⟩) :=
  congrArg w (funext fun a => Fin.ext (by fin_cases a <;> simp))

theorem prod5_apply : prod5 p5 w (ix2 t j) = part 5120 (by decide) (fun l => p5 (ix2 t l)) (fun i l => w (ix2 i l)) j :=
  (dot_128 t j p5 _).trans (Finset.sum_congr rfl fun l _ => congrArg (p5 (ix2 t l) * ·) (cols5_apply w j l))

theorem turned (a b c d e f : EReal) : a + b + c + d + e + f = f + e + d + c + b + a := by ac_rfl

theorem dhT_apply : dhT p0 p1 p2 p3 p4 p5 w (ix2 t j)
    = dh (fun l => p0 (ix2 t l)) (fun l => p1 (ix2 t l)) (fun l => p2 (ix2 t l)) (fun l => p3 (ix2 t l)) (fun l => p4 (ix2 t l)) (fun l => p5 (ix2 t l)) (fun i l => w (ix2 i l)) j :=
  (congrArg₂ (· + ·) (congrArg₂ (· + ·) (congrArg₂ (· + ·) (congrArg₂ (· + ·) (congrArg₂ (· + ·) (prod5_apply p5 w t j) (prod4_apply p4 w t j)) (prod3_apply p3 w t j)) (prod2_apply p2 w t j)) (prod1_apply p1 w t j)) (prod0_apply p0 w t j)).trans (turned _ _ _ _ _ _)

end

end Cert.InDx

end

end
-- ==== Proof.InDx.lean ====
/-
  The gradient of the norm and the input projection: the two programs' results are equal.
-/
module

public import proofs.«01_k».proof.Proof.InDxArray
public import proofs.«01_k».proof.Proof.InDxRef
public import Idealize.ShloMosaic.Lib.Pipeline.Frame

@[expose] public section

set_option maxRecDepth 16384

noncomputable section

namespace Cert.InDx

open Cert.Kernel11Ideal Cert.Kernel11Ideal.Gen Idealize.ShloMosaic.ValueIdx Idealize.ShloMosaic.TcCoe
open Idealize.ShloMosaic hiding ix1 ix2 ix3 ix4
open Idealize.ShloMosaic.StableHlo Idealize.SL.Sem
open Cert.Up (normed drow drow_eq refRow eight sumArr foldK fold_sums flatten_one unit allT downT scaledT normT dxT allT_apply downT_apply scaledT_apply normT_apply dxT_apply)
open scoped BigOperators

section
variable {F : FTy → Type} [FloatOps F] (W : Valuation τ sig (Elt F))

theorem head_v0 : StableHlo.after hostOps0 W (Proc.devRef .tc main_v0) = truncf .bf16 (W (Proc.devRef .tc main_arg5)) bitsLt_bf16_f32 := by
  after_results_simp <;> rfl
theorem head_v1 : StableHlo.after hostOps0 W (Proc.devRef .tc main_v1) = truncf .bf16 (W (Proc.devRef .tc main_arg6)) bitsLt_bf16_f32 := by
  after_results_simp <;> rfl
theorem head_v2 : StableHlo.after hostOps0 W (Proc.devRef .tc main_v2) = truncf .bf16 (W (Proc.devRef .tc main_arg7)) bitsLt_bf16_f32 := by
  after_results_simp <;> rfl
theorem head_v3 : StableHlo.after hostOps0 W (Proc.devRef .tc main_v3) = truncf .bf16 (W (Proc.devRef .tc main_arg8)) bitsLt_bf16_f32 := by
  after_results_simp <;> rfl
theorem head_v4 : StableHlo.after hostOps0 W (Proc.devRef .tc main_v4) = truncf .bf16 (W (Proc.devRef .tc main_arg9)) bitsLt_bf16_f32 := by
  after_results_simp <;> rfl
theorem head_v5 : StableHlo.after hostOps0 W (Proc.devRef .tc main_v5) = truncf .bf16 (W (Proc.devRef .tc main_arg10)) bitsLt_bf16_f32 := by
  after_results_simp <;> rfl
theorem head_v6 : StableHlo.after hostOps0 W (Proc.devRef .tc main_v6) = truncf .bf16 (W (Proc.devRef .tc main_arg3)) bitsLt_bf16_f32 := by
  after_results_simp <;> rfl
theorem head_arg0 : StableHlo.after hostOps0 W (Proc.devRef .tc main_arg0) = W (Proc.devRef .tc main_arg0) := by
  after_results_simp <;> rfl
theorem head_arg1 : StableHlo.after hostOps0 W (Proc.devRef .tc main_arg1) = W (Proc.devRef .tc main_arg1) := by
  after_results_simp <;> rfl
theorem head_arg2 : StableHlo.after hostOps0 W (Proc.devRef .tc main_arg2) = W (Proc.devRef .tc main_arg2) := by
  after_results_simp <;> rfl
theorem head_arg4 : StableHlo.after hostOps0 W (Proc.devRef .tc main_arg4) = W (Proc.devRef .tc main_arg4) := by
  after_results_simp <;> rfl

theorem tail_v9 : StableHlo.after hostOps1 W (Proc.devRef .tc main_v9) = foldK (W (Proc.devRef .tc main_v7_3)) := by
  after_results_simp <;> rfl
theorem tail_v11 : StableHlo.after hostOps1 W (Proc.devRef .tc main_v11) = foldK (W (Proc.devRef .tc main_v7_2)) := by
  after_results_simp <;> rfl
theorem tail_v13 : StableHlo.after hostOps1 W (Proc.devRef .tc main_v13) = foldK (W (Proc.devRef .tc main_v7_1)) := by
  after_results_simp <;> rfl

variable (m : (ℓ : Loc nD τ sig) → Buf (Elt F) ℓ) (c : Dev nD)

theorem operand (b : Ref sig .tc) : V m c b = StableHlo.after hostOps0 (fun b => m (c, b)) (Proc.devRef .tc b) :=
  congrArg (fun l => StableHlo.after l (fun b => m (c, b)) (Proc.devRef .tc b)) (flatten_one hostOps0)

end

/-! ### The operands by rows -/

variable (m : (ℓ : Loc nD τ sig) → Buf (Elt Ideal) ℓ) (c : Dev nD)
  (x y : FVec Ideal S8192x1024 .f32) (g s : FVec Ideal S1x1024 .f32) (w : FVec Ideal S1024x5376 .f32) (p0 : FVec Ideal S8192x1536 .f32) (p1 : FVec Ideal S8192x1024 .f32) (p2 : FVec Ideal S8192x512 .f32) (p3 : FVec Ideal S8192x1024 .f32) (p4 : FVec Ideal S8192x1024 .f32) (p5 : FVec Ideal S8192x128 .f32)
  (h0 : m ((c.tc : Thread nD τ).loc main_arg0) = x) (h1 : m ((c.tc : Thread nD τ).loc main_arg1) = g) (h2 : m ((c.tc : Thread nD τ).loc main_arg2) = s) (h3 : m ((c.tc : Thread nD τ).loc main_arg3) = w)
  (h4 : m ((c.tc : Thread nD τ).loc main_arg4) = y) (h5 : m ((c.tc : Thread nD τ).loc main_arg5) = p0) (h6 : m ((c.tc : Thread nD τ).loc main_arg6) = p1) (h7 : m ((c.tc : Thread nD τ).loc main_arg7) = p2)
  (h8 : m ((c.tc : Thread nD τ).loc main_arg8) = p3) (h9 : m ((c.tc : Thread nD τ).loc main_arg9) = p4) (h10 : m ((c.tc : Thread nD τ).loc main_arg10) = p5)
  (t : Fin 8192) (j : Fin 1024)

include h5 in
theorem p0R_eq : p0R m c t = fun l => p0 (ix2 t l) := by
  subst h5
  exact funext fun l => congrFun ((operand m c main_v0).trans (head_v0 _)) (ix2 t l)

include h6 in
theorem p1R_eq : p1R m c t = fun l => p1 (ix2 t l) := by
  subst h6
  exact funext fun l => congrFun ((operand m c main_v1).trans (head_v1 _)) (ix2 t l)

include h7 in
theorem p2R_eq : p2R m c t = fun l => p2 (ix2 t l) := by
  subst h7
  exact funext fun l => congrFun ((operand m c main_v2).trans (head_v2 _)) (ix2 t l)

include h8 in
theorem p3R_eq : p3R m c t = fun l => p3 (ix2 t l) := by
  subst h8
  exact funext fun l => congrFun ((operand m c main_v3).trans (head_v3 _)) (ix2 t l)

include h9 in
theorem p4R_eq : p4R m c t = fun l => p4 (ix2 t l) := by
  subst h9
  exact funext fun l => congrFun ((operand m c main_v4).trans (head_v4 _)) (ix2 t l)

include h10 in
theorem p5R_eq : p5R m c t = fun l => p5 (ix2 t l) := by
  subst h10
  exact funext fun l => congrFun ((operand m c main_v5).trans (head_v5 _)) (ix2 t l)

include h3 in
theorem wgtR_eq : wgtR m c = fun i l => w (ix2 i l) := by
  subst h3
  exact funext fun i => funext fun l => congrFun ((operand m c main_v6).trans (head_v6 _)) (ix2 i l)

include h0 in
theorem strR_eq : strR m c t = fun l => x (ix2 t l) := by
  subst h0
  exact funext fun l => congrFun ((operand m c main_arg0).trans (head_arg0 _)) (ix2 t l)

include h4 in
theorem gradR_eq : gradR m c t = fun l => y (ix2 t l) := by
  subst h4
  exact funext fun l => congrFun ((operand m c main_arg4).trans (head_arg4 _)) (ix2 t l)

include h1 in
theorem normR_eq : normR m c j = g (ix2 0 j) := by
  subst h1
  exact congrFun ((operand m c main_arg1).trans (head_arg1 _)) (ix2 0 j)

include h2 in
theorem scaleR_eq : scaleR m c j = s (ix2 0 j) := by
  subst h2
  exact congrFun ((operand m c main_arg2).trans (head_arg2 _)) (ix2 0 j)

include h3 h5 h6 h7 h8 h9 h10 in
theorem dh_ref : dhR m c t j = dhT p0 p1 p2 p3 p4 p5 w (ix2 t j) := by
  refine Eq.trans ?_ (dhT_apply p0 p1 p2 p3 p4 p5 w t j).symm
  unfold dhR
  rw [p0R_eq m c p0 h5 t, p1R_eq m c p1 h6 t, p2R_eq m c p2 h7 t, p3R_eq m c p3 h8 t, p4R_eq m c p4 h9 t, p5R_eq m c p5 h10 t, wgtR_eq m c w h3]

include h0 in
theorem normed_ref : normed (strR m c t) j = normT x (ix2 t j) :=
  (congrArg (fun e => normed e j) (strR_eq m c x h0 t)).trans (normT_apply x t j).symm

/-! ### The results of the kernel are those of the reference -/

section
include h0 h1 h2 h3 h4 h5 h6 h7 h8 h9 h10

theorem dx_ref : dxR m c t j = streamGradT x g s w y p0 p1 p2 p3 p4 p5 (ix2 t j) := by
  refine Eq.trans ?_ (dxT_apply x y _ t j).symm
  unfold dxR
  rw [drow_eq, strR_eq m c x h0 t, gradR_eq m c y h4 t]
  refine congrArg (fun e => refRow _ _ e j) (funext fun l => ?_)
  rw [dh_ref m c w p0 p1 p2 p3 p4 p5 h3 h5 h6 h7 h8 h9 h10 t l, scaleR_eq m c s h2 l, normR_eq m c g h1 l]
  exact (congrArg₂ (· * ·) (scaledT_apply (dhT p0 p1 p2 p3 p4 p5 w) s t l) (allT_apply g t l)).symm

theorem out_dx : dxArr m c = streamGradT x g s w y p0 p1 p2 p3 p4 p5 := by
  funext i
  obtain ⟨t, j, rfl⟩ : ∃ (t : Fin 8192) (j : Fin 1024), i = ix2 t j := ⟨i 0, i 1, ValueIdx.eq_ix2 (n0 := 8192) (n1 := 1024) i⟩
  exact (dxArr_at m c t j).trans (dx_ref m c x y g s w p0 p1 p2 p3 p4 p5 h0 h1 h2 h3 h4 h5 h6 h7 h8 h9 h10 t j)

end

include h3 h5 h6 h7 h8 h9 h10 in
theorem out_dsh : foldK (F := Ideal) (sumArr (addsh m c)) = downT (dhT p0 p1 p2 p3 p4 p5 w) := by
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  exact dh_ref m c w p0 p1 p2 p3 p4 p5 h3 h5 h6 h7 h8 h9 h10 t j

include h0 h1 h3 h5 h6 h7 h8 h9 h10 in
theorem out_dsc : foldK (F := Ideal) (sumArr (addsc m c)) = downT (mulf (mulf (normT x) (allT g)) (dhT p0 p1 p2 p3 p4 p5 w)) := by
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  show dhR m c t j * normed (strR m c t) j * normR m c j = normT x (ix2 t j) * allT g (ix2 t j) * dhT p0 p1 p2 p3 p4 p5 w (ix2 t j)
  rw [dh_ref m c w p0 p1 p2 p3 p4 p5 h3 h5 h6 h7 h8 h9 h10 t j, normed_ref m c x h0 t j, normR_eq m c g h1 j, allT_apply, mul_assoc, mul_comm]

include h0 h2 h3 h5 h6 h7 h8 h9 h10 in
theorem out_dn : foldK (F := Ideal) (sumArr (addn m c)) = downT (mulf (normT x) (scaledT (dhT p0 p1 p2 p3 p4 p5 w) s)) := by
  funext i
  obtain ⟨j, rfl⟩ : ∃ j : Fin 1024, i = ix2 0 j :=
    ⟨i 1, (ValueIdx.eq_ix2 (n0 := 1) (n1 := 1024) i).trans (congrArg (ix2 · (i 1)) (Fin.ext (Nat.lt_one_iff.mp (i 0).isLt)))⟩
  refine (fold_sums j _).trans (Eq.trans (Finset.sum_congr rfl fun t _ => ?_) (downT_apply _ j).symm)
  show dhR m c t j * normed (strR m c t) j * (unit + scaleR m c j) = normT x (ix2 t j) * scaledT (dhT p0 p1 p2 p3 p4 p5 w) s (ix2 t j)
  rw [dh_ref m c w p0 p1 p2 p3 p4 p5 h3 h5 h6 h7 h8 h9 h10 t j, normed_ref m c x h0 t j, scaleR_eq m c s h2 j, scaledT_apply, mul_comm (dhT p0 p1 p2 p3 p4 p5 w (ix2 t j)), mul_assoc]

/-! ### The arrays after the host's last lines -/

theorem arrays_inj : Function.Injective (Pipeline.arrRef spec0) := by decide

/-- What the grid leaves, with its four arrays filled. -/
abbrev left : Valuation τ sig (Elt Ideal) :=
  Pipeline.withArrays (cfgs 0).spec c (V0 m c) fun w => (dats m 0 c).arrAt w cfg0.N

theorem left_1 : left m c (Proc.devRef .tc main_v7_1) = sumArr (addsh m c) := (Pipeline.withArrays_arr spec0 arrays_inj c _ _ 12).trans (arr12 m c)
theorem left_2 : left m c (Proc.devRef .tc main_v7_2) = sumArr (addsc m c) := (Pipeline.withArrays_arr spec0 arrays_inj c _ _ 13).trans (arr13 m c)
theorem left_3 : left m c (Proc.devRef .tc main_v7_3) = sumArr (addn m c) := (Pipeline.withArrays_arr spec0 arrays_inj c _ _ 14).trans (arr14 m c)

theorem tail_one (b : Ref sig .tc) : Pipeline.afterTail₀ cfgs (dats m) 0 (V0 m) [hostOps1] c b
    = StableHlo.after hostOps1 (left m c) (Proc.devRef .tc b) :=
  congrArg (fun l => StableHlo.after l (left m c) (Proc.devRef .tc b)) (flatten_one hostOps1)

theorem end_v9 : Pipeline.afterTail₀ cfgs (dats m) 0 (V0 m) [hostOps1] c main_v9 = foldK (F := Ideal) (sumArr (addn m c)) :=
  (tail_one m c main_v9).trans ((tail_v9 (left m c)).trans (congrArg (foldK (F := Ideal)) (left_3 m c)))
theorem end_v11 : Pipeline.afterTail₀ cfgs (dats m) 0 (V0 m) [hostOps1] c main_v11 = foldK (F := Ideal) (sumArr (addsc m c)) :=
  (tail_one m c main_v11).trans ((tail_v11 (left m c)).trans (congrArg (foldK (F := Ideal)) (left_2 m c)))
theorem end_v13 : Pipeline.afterTail₀ cfgs (dats m) 0 (V0 m) [hostOps1] c main_v13 = foldK (F := Ideal) (sumArr (addsh m c)) :=
  (tail_one m c main_v13).trans ((tail_v13 (left m c)).trans (congrArg (foldK (F := Ideal)) (left_1 m c)))

/-- Both programs end with the same four gradients. -/
theorem algebraic : Cert.algebraic_Kernel11Ideal_Reference11Ideal := by
  intro m ρ m' ρ' _ hargs
  refine ⟨_, _, _, _, ?_, Cert.Reference11Ideal.Value.run (F := Ideal) m' ρ'⟩
  refine (θ_run defs _ _).mono (fun r h c => ?_) (θ_run_and (unchanged (F := Ideal) m ρ) (run_main (F := Ideal) m ρ))
  obtain ⟨e0, e1, e2, e3, e4, e5, e6, e7, e8, e9, e10⟩ := hargs c
  have arrays := (h.2 c).1
  have rest := (h.2 c).2
  refine ⟨(arrays 11).trans ((arr11 m c).trans ((out_dx m c _ _ _ _ _ _ _ _ _ _ _ rfl rfl rfl rfl rfl rfl rfl rfl rfl rfl rfl).trans (res_dx m' c _ _ _ _ _ _ _ _ _ _ _ e0 e1 e2 e3 e4 e5 e6 e7 e8 e9 e10).symm)),
    (rest main_v9 (Pipeline.mem_restRefs_of main_v9 (by decide) (by decide))).trans ((end_v9 m c).trans
      ((out_dn m c _ _ _ _ _ _ _ _ _ e0.symm e2.symm e3.symm e5.symm e6.symm e7.symm e8.symm e9.symm e10.symm).trans ?_)),
    (rest main_v11 (Pipeline.mem_restRefs_of main_v11 (by decide) (by decide))).trans ((end_v11 m c).trans
      ((out_dsc m c _ _ _ _ _ _ _ _ _ e0.symm e1.symm e3.symm e5.symm e6.symm e7.symm e8.symm e9.symm e10.symm).trans ?_)),
    (rest main_v13 (Pipeline.mem_restRefs_of main_v13 (by decide) (by decide))).trans ((end_v13 m c).trans
      ((out_dsh m c _ _ _ _ _ _ _ e3.symm e5.symm e6.symm e7.symm e8.symm e9.symm e10.symm).trans ?_)), h.1 c⟩
  · rfl
  · rfl
  · rfl

end Cert.InDx

end

end
-- ==== Proof.lean ====
/-
  The proof of `Cert.Claim`: the gradient of the forgetting attention, of the norm with the up and with the input projection,
  and ten products of the training step, each for the kernel's program over words and over the extended reals, and for the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Word
public import proofs.«01_k».proof.Proof.Finish
public import proofs.«01_k».proof.Proof.UpWord
public import proofs.«01_k».proof.Proof.UpFinish
public import proofs.«01_k».proof.Proof.ProductsWord
public import proofs.«01_k».proof.Proof.UpDw
public import proofs.«01_k».proof.Proof.InDx

@[expose] public section

noncomputable section

namespace Cert.Proof

open Idealize.ShloMosaic Idealize.SL.Sem

/-- The kernel over the extended reals and the reference keep their arguments and their counters, with the precondition and without. -/
theorem frame_ideal : Cert.quiescent_KernelIdeal := fun m ρ _ => Cert.Bwd.frame (F := Ideal) m ρ
theorem frame_ideal_finite [Cert.Pre_finite.Facts] : Cert.quiescent_KernelIdeal_pre_finite := fun m ρ _ => Cert.Bwd.frame (F := Ideal) m ρ
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_reference_finite [Cert.Pre_finite.Facts] : Cert.quiescent_ReferenceIdeal_pre_finite := fun m ρ _ => frame_reference m ρ trivial

theorem frame_ideal2 : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem frame_ideal3 : Cert.quiescent_Kernel3Ideal := fun m ρ _ => Cert.Kernel3Ideal.Gen.frame (F := Ideal) m ρ
theorem frame_ideal4 : Cert.quiescent_Kernel4Ideal := fun m ρ _ => Cert.Kernel4Ideal.Gen.frame (F := Ideal) m ρ
theorem frame_ideal5 : Cert.quiescent_Kernel5Ideal := fun m ρ _ => Cert.Kernel5Ideal.Gen.frame (F := Ideal) m ρ
theorem frame_ideal6 : Cert.quiescent_Kernel6Ideal := fun m ρ _ => Cert.Kernel6Ideal.Gen.frame (F := Ideal) m ρ
theorem frame_ideal7 : Cert.quiescent_Kernel7Ideal := fun m ρ _ => Cert.Kernel7Ideal.Gen.frame (F := Ideal) m ρ
theorem frame_ideal8 : Cert.quiescent_Kernel8Ideal := fun m ρ _ => Cert.Kernel8Ideal.Gen.frame (F := Ideal) m ρ
theorem frame_ideal9 : Cert.quiescent_Kernel9Ideal := fun m ρ _ => Cert.Kernel9Ideal.Gen.frame (F := Ideal) m ρ
theorem frame_ideal10 : Cert.quiescent_Kernel10Ideal := fun m ρ _ => Cert.Kernel10Ideal.Gen.frame (F := Ideal) m ρ
theorem frame_ideal11 : Cert.quiescent_Kernel11Ideal := fun m ρ _ => Cert.Kernel11Ideal.Gen.frame (F := Ideal) m ρ
theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)
theorem frame_ideal12 : Cert.quiescent_Kernel12Ideal := fun m ρ _ => Cert.Kernel12Ideal.Gen.frame (F := Ideal) m ρ
theorem frame_ideal13 : Cert.quiescent_Kernel13Ideal := fun m ρ _ => Cert.Kernel13Ideal.Gen.frame (F := Ideal) m ρ

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Bwd.facts_finite,
    Cert.Bwd.frame_kernel, frame_ideal, @frame_ideal_finite Cert.Bwd.facts_finite, frame_reference, @frame_reference_finite Cert.Bwd.facts_finite,
    Cert.Up.frame_kernel, frame_ideal2, frame_reference2,
    Cert.Mm.P3.frame_kernel, frame_ideal3, Cert.Mm.P3.frame_reference,
    Cert.Mm.P4.frame_kernel, frame_ideal4, Cert.Mm.P4.frame_reference,
    Cert.Mm.P5.frame_kernel, frame_ideal5, Cert.Mm.P5.frame_reference,
    Cert.Mm.P6.frame_kernel, frame_ideal6, Cert.Mm.P6.frame_reference,
    Cert.Mm.P7.frame_kernel, frame_ideal7, Cert.Mm.P7.frame_reference,
    Cert.Mm.P8.frame_kernel, frame_ideal8, Cert.Mm.P8.frame_reference,
    Cert.Mm.P9.frame_kernel, frame_ideal9, Cert.Mm.P9.frame_reference,
    Cert.Mm.P10.frame_kernel, frame_ideal10, Cert.Mm.P10.frame_reference,
    Cert.Mm.P11.frame_kernel, frame_ideal11, frame_reference11,
    Cert.Mm.P12.frame_kernel, frame_ideal12, Cert.Mm.P12.frame_reference,
    Cert.Mm.P13.frame_kernel, frame_ideal13, Cert.Mm.P13.frame_reference,
    trivial, Cert.Bwd.algebraic (hF := Cert.Bwd.facts_finite), trivial, Cert.Up.algebraic,
    trivial, Cert.Mm.P3.algebraic, trivial, Cert.Mm.P4.algebraic, trivial, Cert.Mm.P5.algebraic,
    trivial, Cert.Mm.P6.algebraic, trivial, Cert.Mm.P7.algebraic, trivial, Cert.Mm.P8.algebraic, trivial, Cert.Mm.P9.algebraic, trivial, Cert.Mm.P10.algebraic,
    trivial, Cert.InDx.algebraic, trivial, Cert.Mm.P12.algebraic, trivial, Cert.Mm.P13.algebraic⟩

end Cert.Proof

end

end
